-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_RefIdeal (m : (ℓ : Loc Cert.RefIdeal.nD Cert.RefIdeal.τ Cert.RefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_RefIdeal [hRefIdeal : Cert.RefIdeal.Facts] : Prop :=
  ∀ (m : (ℓ : Loc Cert.RefIdeal.nD Cert.RefIdeal.τ Cert.RefIdeal.sig) → Buf (Elt Ideal) ℓ) (g : Dev Cert.RefIdeal.nD → PrngReg), Pre_RefIdeal m →
    θ_run (Cert.RefIdeal.defs (F := Ideal)) (onTc (τ := Cert.RefIdeal.τ) (Cert.RefIdeal.main (F := Ideal))) ⟨m, fun _ => 0, g⟩ (fun r => (∀ c : Dev Cert.RefIdeal.nD,
      r.2.mem ((c.tc : Thread Cert.RefIdeal.nD Cert.RefIdeal.τ).loc Cert.RefIdeal.main_arg0) = m ((c.tc : Thread Cert.RefIdeal.nD Cert.RefIdeal.τ).loc Cert.RefIdeal.main_arg0)
      ∧ r.2.mem ((c.tc : Thread Cert.RefIdeal.nD Cert.RefIdeal.τ).loc Cert.RefIdeal.main_arg1) = m ((c.tc : Thread Cert.RefIdeal.nD Cert.RefIdeal.τ).loc Cert.RefIdeal.main_arg1)
      ∧ r.2.mem ((c.tc : Thread Cert.RefIdeal.nD Cert.RefIdeal.τ).loc Cert.RefIdeal.main_arg2) = m ((c.tc : Thread Cert.RefIdeal.nD Cert.RefIdeal.τ).loc Cert.RefIdeal.main_arg2)
      ∧ r.2.mem ((c.tc : Thread Cert.RefIdeal.nD Cert.RefIdeal.τ).loc Cert.RefIdeal.main_arg3) = m ((c.tc : Thread Cert.RefIdeal.nD Cert.RefIdeal.τ).loc Cert.RefIdeal.main_arg3)
      ∧ r.2.mem ((c.tc : Thread Cert.RefIdeal.nD Cert.RefIdeal.τ).loc Cert.RefIdeal.main_arg4) = m ((c.tc : Thread Cert.RefIdeal.nD Cert.RefIdeal.τ).loc Cert.RefIdeal.main_arg4)
      ∧ r.2.mem ((c.tc : Thread Cert.RefIdeal.nD Cert.RefIdeal.τ).loc Cert.RefIdeal.main_arg5) = m ((c.tc : Thread Cert.RefIdeal.nD Cert.RefIdeal.τ).loc Cert.RefIdeal.main_arg5)
      ∧ r.2.mem ((c.tc : Thread Cert.RefIdeal.nD Cert.RefIdeal.τ).loc Cert.RefIdeal.main_arg6) = m ((c.tc : Thread Cert.RefIdeal.nD Cert.RefIdeal.τ).loc Cert.RefIdeal.main_arg6)
      ∧ r.2.mem ((c.tc : Thread Cert.RefIdeal.nD Cert.RefIdeal.τ).loc Cert.RefIdeal.main_arg7) = m ((c.tc : Thread Cert.RefIdeal.nD Cert.RefIdeal.τ).loc Cert.RefIdeal.main_arg7)
      ∧ r.2.mem ((c.tc : Thread Cert.RefIdeal.nD Cert.RefIdeal.τ).loc Cert.RefIdeal.main_arg8) = m ((c.tc : Thread Cert.RefIdeal.nD Cert.RefIdeal.τ).loc Cert.RefIdeal.main_arg8)
      ∧ r.2.mem ((c.tc : Thread Cert.RefIdeal.nD Cert.RefIdeal.τ).loc Cert.RefIdeal.main_arg9) = m ((c.tc : Thread Cert.RefIdeal.nD Cert.RefIdeal.τ).loc Cert.RefIdeal.main_arg9))
      ∧ r.2.sem = fun _ => 0)

def preserves_Kernel_KernelIdeal : Prop :=
  True

def algebraic_KernelIdeal_RefIdeal [hKernelIdeal : Cert.KernelIdeal.Facts] [hRefIdeal : Cert.RefIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.RefIdeal.nD Cert.RefIdeal.τ Cert.RefIdeal.sig) → Buf (Elt Ideal) ℓ) (g' : Dev Cert.RefIdeal.nD → PrngReg), Pre_KernelIdeal m →
    (∀ c : Dev Cert.KernelIdeal.nD,
      m' ((c.tc : Thread Cert.RefIdeal.nD Cert.RefIdeal.τ).loc Cert.RefIdeal.main_arg0) = m ((c.tc : Thread Cert.KernelIdeal.nD Cert.KernelIdeal.τ).loc Cert.KernelIdeal.main_arg0)
      ∧ m' ((c.tc : Thread Cert.RefIdeal.nD Cert.RefIdeal.τ).loc Cert.RefIdeal.main_arg1) = m ((c.tc : Thread Cert.KernelIdeal.nD Cert.KernelIdeal.τ).loc Cert.KernelIdeal.main_arg1)
      ∧ m' ((c.tc : Thread Cert.RefIdeal.nD Cert.RefIdeal.τ).loc Cert.RefIdeal.main_arg2) = m ((c.tc : Thread Cert.KernelIdeal.nD Cert.KernelIdeal.τ).loc Cert.KernelIdeal.main_arg2)
      ∧ m' ((c.tc : Thread Cert.RefIdeal.nD Cert.RefIdeal.τ).loc Cert.RefIdeal.main_arg3) = m ((c.tc : Thread Cert.KernelIdeal.nD Cert.KernelIdeal.τ).loc Cert.KernelIdeal.main_arg3)
      ∧ m' ((c.tc : Thread Cert.RefIdeal.nD Cert.RefIdeal.τ).loc Cert.RefIdeal.main_arg4) = m ((c.tc : Thread Cert.KernelIdeal.nD Cert.KernelIdeal.τ).loc Cert.KernelIdeal.main_arg4)
      ∧ m' ((c.tc : Thread Cert.RefIdeal.nD Cert.RefIdeal.τ).loc Cert.RefIdeal.main_arg5) = m ((c.tc : Thread Cert.KernelIdeal.nD Cert.KernelIdeal.τ).loc Cert.KernelIdeal.main_arg5)
      ∧ m' ((c.tc : Thread Cert.RefIdeal.nD Cert.RefIdeal.τ).loc Cert.RefIdeal.main_arg6) = m ((c.tc : Thread Cert.KernelIdeal.nD Cert.KernelIdeal.τ).loc Cert.KernelIdeal.main_arg6)
      ∧ m' ((c.tc : Thread Cert.RefIdeal.nD Cert.RefIdeal.τ).loc Cert.RefIdeal.main_arg7) = m ((c.tc : Thread Cert.KernelIdeal.nD Cert.KernelIdeal.τ).loc Cert.KernelIdeal.main_arg7)
      ∧ m' ((c.tc : Thread Cert.RefIdeal.nD Cert.RefIdeal.τ).loc Cert.RefIdeal.main_arg8) = m ((c.tc : Thread Cert.KernelIdeal.nD Cert.KernelIdeal.τ).loc Cert.KernelIdeal.main_arg8)
      ∧ m' ((c.tc : Thread Cert.RefIdeal.nD Cert.RefIdeal.τ).loc Cert.RefIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v14)) (v1 : (c : Dev Cert.KernelIdeal.nD) → Buf (Elt Ideal) ((c.tc : Thread Cert.KernelIdeal.nD Cert.KernelIdeal.τ).loc Cert.KernelIdeal.main_v13)) (v2 : (c : Dev Cert.KernelIdeal.nD) → Buf (Elt Ideal) ((c.tc : Thread Cert.KernelIdeal.nD Cert.KernelIdeal.τ).loc Cert.KernelIdeal.main_v10)) (v3 : (c : Dev Cert.KernelIdeal.nD) → Buf (Elt Ideal) ((c.tc : Thread Cert.KernelIdeal.nD Cert.KernelIdeal.τ).loc Cert.KernelIdeal.main_v15)) (v4 : (c : Dev Cert.KernelIdeal.nD) → Buf (Elt Ideal) ((c.tc : Thread Cert.KernelIdeal.nD Cert.KernelIdeal.τ).loc Cert.KernelIdeal.main_v16)) (v5 : (c : Dev Cert.KernelIdeal.nD) → Buf (Elt Ideal) ((c.tc : Thread Cert.KernelIdeal.nD Cert.KernelIdeal.τ).loc Cert.KernelIdeal.main_v17)) (v6 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_v13) = v1 c
          ∧ r.2.mem ((c.tc : Thread Cert.KernelIdeal.nD Cert.KernelIdeal.τ).loc Cert.KernelIdeal.main_v10) = v2 c
          ∧ r.2.mem ((c.tc : Thread Cert.KernelIdeal.nD Cert.KernelIdeal.τ).loc Cert.KernelIdeal.main_v15) = v3 c
          ∧ r.2.mem ((c.tc : Thread Cert.KernelIdeal.nD Cert.KernelIdeal.τ).loc Cert.KernelIdeal.main_v16) = v4 c
          ∧ r.2.mem ((c.tc : Thread Cert.KernelIdeal.nD Cert.KernelIdeal.τ).loc Cert.KernelIdeal.main_v17) = v5 c
          ∧ r.2.mem ((c.tc : Thread Cert.KernelIdeal.nD Cert.KernelIdeal.τ).loc Cert.KernelIdeal.main_v18) = v6 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.RefIdeal.defs (F := Ideal)) (onTc (τ := Cert.RefIdeal.τ) (Cert.RefIdeal.main (F := Ideal))) ⟨m', fun _ => 0, g'⟩ (fun r => ∀ c : Dev Cert.RefIdeal.nD,
          r.2.mem ((c.tc : Thread Cert.RefIdeal.nD Cert.RefIdeal.τ).loc Cert.RefIdeal.main_v9) = v0 c
          ∧ r.2.mem ((c.tc : Thread Cert.RefIdeal.nD Cert.RefIdeal.τ).loc Cert.RefIdeal.main_v8_1) = v1 c
          ∧ r.2.mem ((c.tc : Thread Cert.RefIdeal.nD Cert.RefIdeal.τ).loc Cert.RefIdeal.main_v8_2) = v2 c
          ∧ r.2.mem ((c.tc : Thread Cert.RefIdeal.nD Cert.RefIdeal.τ).loc Cert.RefIdeal.main_v10) = v3 c
          ∧ r.2.mem ((c.tc : Thread Cert.RefIdeal.nD Cert.RefIdeal.τ).loc Cert.RefIdeal.main_v11) = v4 c
          ∧ r.2.mem ((c.tc : Thread Cert.RefIdeal.nD Cert.RefIdeal.τ).loc Cert.RefIdeal.main_v12) = v5 c
          ∧ r.2.mem ((c.tc : Thread Cert.RefIdeal.nD Cert.RefIdeal.τ).loc Cert.RefIdeal.main_v13) = v6 c
          ∧ r.2.mem ((c.tc : Thread Cert.RefIdeal.nD Cert.RefIdeal.τ).loc Cert.RefIdeal.main_arg0) = m' ((c.tc : Thread Cert.RefIdeal.nD Cert.RefIdeal.τ).loc Cert.RefIdeal.main_arg0)
          ∧ r.2.mem ((c.tc : Thread Cert.RefIdeal.nD Cert.RefIdeal.τ).loc Cert.RefIdeal.main_arg1) = m' ((c.tc : Thread Cert.RefIdeal.nD Cert.RefIdeal.τ).loc Cert.RefIdeal.main_arg1)
          ∧ r.2.mem ((c.tc : Thread Cert.RefIdeal.nD Cert.RefIdeal.τ).loc Cert.RefIdeal.main_arg2) = m' ((c.tc : Thread Cert.RefIdeal.nD Cert.RefIdeal.τ).loc Cert.RefIdeal.main_arg2)
          ∧ r.2.mem ((c.tc : Thread Cert.RefIdeal.nD Cert.RefIdeal.τ).loc Cert.RefIdeal.main_arg3) = m' ((c.tc : Thread Cert.RefIdeal.nD Cert.RefIdeal.τ).loc Cert.RefIdeal.main_arg3)
          ∧ r.2.mem ((c.tc : Thread Cert.RefIdeal.nD Cert.RefIdeal.τ).loc Cert.RefIdeal.main_arg4) = m' ((c.tc : Thread Cert.RefIdeal.nD Cert.RefIdeal.τ).loc Cert.RefIdeal.main_arg4)
          ∧ r.2.mem ((c.tc : Thread Cert.RefIdeal.nD Cert.RefIdeal.τ).loc Cert.RefIdeal.main_arg5) = m' ((c.tc : Thread Cert.RefIdeal.nD Cert.RefIdeal.τ).loc Cert.RefIdeal.main_arg5)
          ∧ r.2.mem ((c.tc : Thread Cert.RefIdeal.nD Cert.RefIdeal.τ).loc Cert.RefIdeal.main_arg6) = m' ((c.tc : Thread Cert.RefIdeal.nD Cert.RefIdeal.τ).loc Cert.RefIdeal.main_arg6)
          ∧ r.2.mem ((c.tc : Thread Cert.RefIdeal.nD Cert.RefIdeal.τ).loc Cert.RefIdeal.main_arg7) = m' ((c.tc : Thread Cert.RefIdeal.nD Cert.RefIdeal.τ).loc Cert.RefIdeal.main_arg7)
          ∧ r.2.mem ((c.tc : Thread Cert.RefIdeal.nD Cert.RefIdeal.τ).loc Cert.RefIdeal.main_arg8) = m' ((c.tc : Thread Cert.RefIdeal.nD Cert.RefIdeal.τ).loc Cert.RefIdeal.main_arg8)
          ∧ r.2.mem ((c.tc : Thread Cert.RefIdeal.nD Cert.RefIdeal.τ).loc Cert.RefIdeal.main_arg9) = m' ((c.tc : Thread Cert.RefIdeal.nD Cert.RefIdeal.τ).loc Cert.RefIdeal.main_arg9))

def Claim : Prop :=
  ∃ (hKernel : Cert.Kernel.Facts) (hKernelIdeal : Cert.KernelIdeal.Facts) (hRefIdeal : Cert.RefIdeal.Facts),
    quiescent_Kernel (hKernel := hKernel)
    ∧ quiescent_KernelIdeal (hKernelIdeal := hKernelIdeal)
    ∧ quiescent_RefIdeal (hRefIdeal := hRefIdeal)
    ∧ preserves_Kernel_KernelIdeal
    ∧ algebraic_KernelIdeal_RefIdeal (hKernelIdeal := hKernelIdeal) (hRefIdeal := hRefIdeal)
-- ==== Kernel.lean ====
abbrev S8x1024x7168 : Shape := ⟨3, ![8, 1024, 7168]⟩
abbrev S8x1024x10240 : Shape := ⟨3, ![8, 1024, 10240]⟩
abbrev S_ : Shape := ⟨0, ![]⟩
abbrev S8x1024x5120 : Shape := ⟨3, ![8, 1024, 5120]⟩
abbrev S7168x10240 : Shape := ⟨2, ![7168, 10240]⟩
abbrev S5120x7168 : Shape := ⟨2, ![5120, 7168]⟩
abbrev S1x1 : Shape := ⟨2, ![1, 1]⟩
abbrev S8192x10240 : Shape := ⟨2, ![8192, 10240]⟩
abbrev S8192x7168 : Shape := ⟨2, ![8192, 7168]⟩
abbrev S8192x5120 : Shape := ⟨2, ![8192, 5120]⟩
abbrev S256x7168 : Shape := ⟨2, ![256, 7168]⟩
abbrev S8x7168 : Shape := ⟨2, ![8, 7168]⟩
abbrev S8x128 : Shape := ⟨2, ![8, 128]⟩
abbrev S32x8x7168 : Shape := ⟨3, ![32, 8, 7168]⟩
abbrev S1x8x7168 : Shape := ⟨3, ![1, 8, 7168]⟩
abbrev S1 : Shape := ⟨1, ![1]⟩
abbrev S1x1x1 : Shape := ⟨3, ![1, 1, 1]⟩
abbrev S1x8x128 : Shape := ⟨3, ![1, 8, 128]⟩
abbrev S1024x7168 : Shape := ⟨2, ![1024, 7168]⟩
abbrev S512x7168 : Shape := ⟨2, ![512, 7168]⟩
abbrev S1024x512 : Shape := ⟨2, ![1024, 512]⟩
abbrev S8x512 : Shape := ⟨2, ![8, 512]⟩
abbrev S128x8x512 : Shape := ⟨3, ![128, 8, 512]⟩
abbrev S1x8x512 : Shape := ⟨3, ![1, 8, 512]⟩
abbrev S8192x1024 : Shape := ⟨2, ![8192, 1024]⟩
abbrev S8192x512 : Shape := ⟨2, ![8192, 512]⟩
abbrev S1024x8192 : Shape := ⟨2, ![1024, 8192]⟩
abbrev S256x5120 : Shape := ⟨2, ![256, 5120]⟩
abbrev S256x10240 : Shape := ⟨2, ![256, 10240]⟩
abbrev S1024x10240 : Shape := ⟨2, ![1024, 10240]⟩
abbrev S512x10240 : Shape := ⟨2, ![512, 10240]⟩

abbrev nBuf : Space → Nat
  | .hbm => 32
  | .vmem => 45
  | .smem => 11
  | _ => 0

abbrev bufTy : (tb : Table) → Fin (tcTables nBuf tb) → BufTy
  | .hbm, ⟨0, _⟩ => ⟨S8x1024x7168, .bf16⟩
  | .hbm, ⟨1, _⟩ => ⟨S8x1024x10240, .bf16⟩
  | .hbm, ⟨2, _⟩ => ⟨S8x1024x7168, .fp8e4m3⟩
  | .hbm, ⟨3, _⟩ => ⟨S_, .f32⟩
  | .hbm, ⟨4, _⟩ => ⟨S8x1024x5120, .fp8e4m3⟩
  | .hbm, ⟨5, _⟩ => ⟨S_, .f32⟩
  | .hbm, ⟨6, _⟩ => ⟨S7168x10240, .fp8e4m3⟩
  | .hbm, ⟨7, _⟩ => ⟨S_, .f32⟩
  | .hbm, ⟨8, _⟩ => ⟨S5120x7168, .fp8e4m3⟩
  | .hbm, ⟨9, _⟩ => ⟨S_, .f32⟩
  | .hbm, ⟨10, _⟩ => ⟨S1x1, .f32⟩
  | .hbm, ⟨11, _⟩ => ⟨S1x1, .f32⟩
  | .hbm, ⟨12, _⟩ => ⟨S1x1, .f32⟩
  | .hbm, ⟨13, _⟩ => ⟨S1x1, .f32⟩
  | .hbm, ⟨14, _⟩ => ⟨S8192x10240, .bf16⟩
  | .hbm, ⟨15, _⟩ => ⟨S8192x7168, .fp8e4m3⟩
  | .hbm, ⟨16, _⟩ => ⟨S8192x5120, .fp8e4m3⟩
  | .hbm, ⟨17, _⟩ => ⟨S8192x7168, .bf16⟩
  | .hbm, ⟨18, _⟩ => ⟨S8192x7168, .fp8e5m2⟩
  | .hbm, ⟨19, _⟩ => ⟨S1x1, .f32⟩
  | .hbm, ⟨20, _⟩ => ⟨S8192x5120, .f32⟩
  | .hbm, ⟨21, _⟩ => ⟨S8192x5120, .f32⟩
  | .hbm, ⟨22, _⟩ => ⟨S1x1, .f32⟩
  | .hbm, ⟨23, _⟩ => ⟨S5120x7168, .bf16⟩
  | .hbm, ⟨24, _⟩ => ⟨S8192x10240, .fp8e5m2⟩
  | .hbm, ⟨25, _⟩ => ⟨S8192x7168, .bf16⟩
  | .hbm, ⟨26, _⟩ => ⟨S7168x10240, .bf16⟩
  | .hbm, ⟨27, _⟩ => ⟨S8x1024x7168, .bf16⟩
  | .hbm, ⟨28, _⟩ => ⟨S8x1024x7168, .fp8e5m2⟩
  | .hbm, ⟨29, _⟩ => ⟨S_, .f32⟩
  | .hbm, ⟨30, _⟩ => ⟨S8x1024x10240, .fp8e5m2⟩
  | .hbm, ⟨31, _⟩ => ⟨S_, .f32⟩
  | .local _ .vmem, ⟨0, _⟩ => ⟨S256x7168, .bf16⟩
  | .local _ .vmem, ⟨1, _⟩ => ⟨S256x7168, .bf16⟩
  | .local _ .vmem, ⟨2, _⟩ => ⟨S256x7168, .fp8e5m2⟩
  | .local _ .vmem, ⟨3, _⟩ => ⟨S256x7168, .fp8e5m2⟩
  | .local _ .vmem, ⟨4, _⟩ => ⟨S8x7168, .f32⟩
  | .local _ .vmem, ⟨5, _⟩ => ⟨S8x128, .f32⟩
  | .local _ .vmem, ⟨6, _⟩ => ⟨S1024x7168, .fp8e5m2⟩
  | .local _ .vmem, ⟨7, _⟩ => ⟨S1024x7168, .fp8e5m2⟩
  | .local _ .vmem, ⟨8, _⟩ => ⟨S512x7168, .fp8e4m3⟩
  | .local _ .vmem, ⟨9, _⟩ => ⟨S512x7168, .fp8e4m3⟩
  | .local _ .vmem, ⟨10, _⟩ => ⟨S1024x512, .bf16⟩
  | .local _ .vmem, ⟨11, _⟩ => ⟨S1024x512, .bf16⟩
  | .local _ .vmem, ⟨12, _⟩ => ⟨S1024x512, .bf16⟩
  | .local _ .vmem, ⟨13, _⟩ => ⟨S1024x512, .bf16⟩
  | .local _ .vmem, ⟨14, _⟩ => ⟨S1024x512, .f32⟩
  | .local _ .vmem, ⟨15, _⟩ => ⟨S1024x512, .f32⟩
  | .local _ .vmem, ⟨16, _⟩ => ⟨S1024x512, .f32⟩
  | .local _ .vmem, ⟨17, _⟩ => ⟨S1024x512, .f32⟩
  | .local _ .vmem, ⟨18, _⟩ => ⟨S8x512, .f32⟩
  | .local _ .vmem, ⟨19, _⟩ => ⟨S8192x1024, .fp8e4m3⟩
  | .local _ .vmem, ⟨20, _⟩ => ⟨S8192x1024, .fp8e4m3⟩
  | .local _ .vmem, ⟨21, _⟩ => ⟨S8192x512, .fp8e5m2⟩
  | .local _ .vmem, ⟨22, _⟩ => ⟨S8192x512, .fp8e5m2⟩
  | .local _ .vmem, ⟨23, _⟩ => ⟨S1024x512, .bf16⟩
  | .local _ .vmem, ⟨24, _⟩ => ⟨S1024x512, .bf16⟩
  | .local _ .vmem, ⟨25, _⟩ => ⟨S1024x8192, .fp8e4m3⟩
  | .local _ .vmem, ⟨26, _⟩ => ⟨S256x5120, .f32⟩
  | .local _ .vmem, ⟨27, _⟩ => ⟨S256x5120, .f32⟩
  | .local _ .vmem, ⟨28, _⟩ => ⟨S256x5120, .f32⟩
  | .local _ .vmem, ⟨29, _⟩ => ⟨S256x5120, .f32⟩
  | .local _ .vmem, ⟨30, _⟩ => ⟨S256x10240, .fp8e5m2⟩
  | .local _ .vmem, ⟨31, _⟩ => ⟨S256x10240, .fp8e5m2⟩
  | .local _ .vmem, ⟨32, _⟩ => ⟨S1024x10240, .fp8e5m2⟩
  | .local _ .vmem, ⟨33, _⟩ => ⟨S1024x10240, .fp8e5m2⟩
  | .local _ .vmem, ⟨34, _⟩ => ⟨S512x10240, .fp8e4m3⟩
  | .local _ .vmem, ⟨35, _⟩ => ⟨S512x10240, .fp8e4m3⟩
  | .local _ .vmem, ⟨36, _⟩ => ⟨S1024x512, .bf16⟩
  | .local _ .vmem, ⟨37, _⟩ => ⟨S1024x512, .bf16⟩
  | .local _ .vmem, ⟨38, _⟩ => ⟨S8192x1024, .fp8e4m3⟩
  | .local _ .vmem, ⟨39, _⟩ => ⟨S8192x1024, .fp8e4m3⟩
  | .local _ .vmem, ⟨40, _⟩ => ⟨S8192x512, .fp8e5m2⟩
  | .local _ .vmem, ⟨41, _⟩ => ⟨S8192x512, .fp8e5m2⟩
  | .local _ .vmem, ⟨42, _⟩ => ⟨S1024x512, .bf16⟩
  | .local _ .vmem, ⟨43, _⟩ => ⟨S1024x512, .bf16⟩
  | .local _ .vmem, ⟨44, _⟩ => ⟨S1024x8192, .fp8e4m3⟩
  | .local _ .smem, ⟨0, _⟩ => ⟨S1x1, .f32⟩
  | .local _ .smem, ⟨1, _⟩ => ⟨S1x1, .f32⟩
  | .local _ .smem, ⟨2, _⟩ => ⟨S1x1, .f32⟩
  | .local _ .smem, ⟨3, _⟩ => ⟨S1x1, .f32⟩
  | .local _ .smem, ⟨4, _⟩ => ⟨S1x1, .f32⟩
  | .local _ .smem, ⟨5, _⟩ => ⟨S1x1, .f32⟩
  | .local _ .smem, ⟨6, _⟩ => ⟨S1x1, .f32⟩
  | .local _ .smem, ⟨7, _⟩ => ⟨S1x1, .f32⟩
  | .local _ .smem, ⟨8, _⟩ => ⟨S1x1, .f32⟩
  | .local _ .smem, ⟨9, _⟩ => ⟨S1x1, .f32⟩
  | .local _ .smem, ⟨10, _⟩ => ⟨S1x1, .f32⟩
  | _, _ => ⟨S8x1024x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .smem, ⟨0, _⟩ => true
  | .smem, ⟨1, _⟩ => true
  | .smem, ⟨2, _⟩ => true
  | .smem, ⟨3, _⟩ => true
  | .smem, ⟨4, _⟩ => true
  | .smem, ⟨5, _⟩ => true
  | .smem, ⟨6, _⟩ => true
  | .smem, ⟨7, _⟩ => true
  | .smem, ⟨8, _⟩ => true
  | .smem, ⟨9, _⟩ => true
  | .smem, ⟨10, _⟩ => true
  | _, _ => false

abbrev semScoped : Fin 0 → Bool
  | ⟨_, h⟩ => absurd h (Nat.not_lt_zero _)

abbrev dmaSemScoped : Fin 51 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | _ => false

abbrev sig : RefSig :=
  ofTc nBuf bufTy 0 51 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8_0 : Ref sig .tc := ⟨.hbm, 18, rfl⟩
abbrev main_v8_1 : Ref sig .tc := ⟨.hbm, 19, rfl⟩
abbrev main_v9_0 : Ref sig .tc := ⟨.hbm, 20, rfl⟩
abbrev main_v9_1 : Ref sig .tc := ⟨.hbm, 21, rfl⟩
abbrev main_v9_2 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_scratch1 : Ref sig .tc := ⟨.vmem, 5, rfl⟩
abbrev cc1_stg2_0 : Ref sig .tc := ⟨.vmem, 6, rfl⟩
abbrev cc1_stg2_1 : Ref sig .tc := ⟨.vmem, 7, rfl⟩
abbrev cc1_stg3_0 : Ref sig .tc := ⟨.vmem, 8, rfl⟩
abbrev cc1_stg3_1 : Ref sig .tc := ⟨.vmem, 9, rfl⟩
abbrev cc1_stg4_0 : Ref sig .tc := ⟨.vmem, 10, rfl⟩
abbrev cc1_stg4_1 : Ref sig .tc := ⟨.vmem, 11, rfl⟩
abbrev cc1_stg5_0 : Ref sig .tc := ⟨.vmem, 12, rfl⟩
abbrev cc1_stg5_1 : Ref sig .tc := ⟨.vmem, 13, rfl⟩
abbrev cc1_stg6_0 : Ref sig .tc := ⟨.vmem, 14, rfl⟩
abbrev cc1_stg6_1 : Ref sig .tc := ⟨.vmem, 15, rfl⟩
abbrev cc1_stg7_0 : Ref sig .tc := ⟨.vmem, 16, rfl⟩
abbrev cc1_stg7_1 : Ref sig .tc := ⟨.vmem, 17, rfl⟩
abbrev cc1_scratch0 : Ref sig .tc := ⟨.vmem, 18, rfl⟩
abbrev cc2_stg2_0 : Ref sig .tc := ⟨.vmem, 19, rfl⟩
abbrev cc2_stg2_1 : Ref sig .tc := ⟨.vmem, 20, rfl⟩
abbrev cc2_stg3_0 : Ref sig .tc := ⟨.vmem, 21, rfl⟩
abbrev cc2_stg3_1 : Ref sig .tc := ⟨.vmem, 22, rfl⟩
abbrev cc2_stg4_0 : Ref sig .tc := ⟨.vmem, 23, rfl⟩
abbrev cc2_stg4_1 : Ref sig .tc := ⟨.vmem, 24, rfl⟩
abbrev cc2_scratch0 : Ref sig .tc := ⟨.vmem, 25, rfl⟩
abbrev cc3_stg1_0 : Ref sig .tc := ⟨.vmem, 26, rfl⟩
abbrev cc3_stg1_1 : Ref sig .tc := ⟨.vmem, 27, rfl⟩
abbrev cc3_stg2_0 : Ref sig .tc := ⟨.vmem, 28, rfl⟩
abbrev cc3_stg2_1 : Ref sig .tc := ⟨.vmem, 29, rfl⟩
abbrev cc3_stg3_0 : Ref sig .tc := ⟨.vmem, 30, rfl⟩
abbrev cc3_stg3_1 : Ref sig .tc := ⟨.vmem, 31, rfl⟩
abbrev cc4_stg2_0 : Ref sig .tc := ⟨.vmem, 32, rfl⟩
abbrev cc4_stg2_1 : Ref sig .tc := ⟨.vmem, 33, rfl⟩
abbrev cc4_stg3_0 : Ref sig .tc := ⟨.vmem, 34, rfl⟩
abbrev cc4_stg3_1 : Ref sig .tc := ⟨.vmem, 35, rfl⟩
abbrev cc4_stg4_0 : Ref sig .tc := ⟨.vmem, 36, rfl⟩
abbrev cc4_stg4_1 : Ref sig .tc := ⟨.vmem, 37, rfl⟩
abbrev cc5_stg2_0 : Ref sig .tc := ⟨.vmem, 38, rfl⟩
abbrev cc5_stg2_1 : Ref sig .tc := ⟨.vmem, 39, rfl⟩
abbrev cc5_stg3_0 : Ref sig .tc := ⟨.vmem, 40, rfl⟩
abbrev cc5_stg3_1 : Ref sig .tc := ⟨.vmem, 41, rfl⟩
abbrev cc5_stg4_0 : Ref sig .tc := ⟨.vmem, 42, rfl⟩
abbrev cc5_stg4_1 : Ref sig .tc := ⟨.vmem, 43, rfl⟩
abbrev cc5_scratch0 : Ref sig .tc := ⟨.vmem, 44, rfl⟩
abbrev cc0_stg2_0 : Ref sig .tc := ⟨.smem, 0, rfl⟩
abbrev cc1_stg0_0 : Ref sig .tc := ⟨.smem, 1, rfl⟩
abbrev cc1_stg1_0 : Ref sig .tc := ⟨.smem, 2, rfl⟩
abbrev cc1_stg8_0 : Ref sig .tc := ⟨.smem, 3, rfl⟩
abbrev cc2_stg0_0 : Ref sig .tc := ⟨.smem, 4, rfl⟩
abbrev cc2_stg1_0 : Ref sig .tc := ⟨.smem, 5, rfl⟩
abbrev cc3_stg0_0 : Ref sig .tc := ⟨.smem, 6, rfl⟩
abbrev cc4_stg0_0 : Ref sig .tc := ⟨.smem, 7, rfl⟩
abbrev cc4_stg1_0 : Ref sig .tc := ⟨.smem, 8, rfl⟩
abbrev cc5_stg0_0 : Ref sig .tc := ⟨.smem, 9, rfl⟩
abbrev cc5_stg1_0 : Ref sig .tc := ⟨.smem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc1_sem0_0 : DmaSem sig := 5
abbrev cc1_sem1_0 : DmaSem sig := 6
abbrev cc1_sem2_0 : DmaSem sig := 7
abbrev cc1_sem2_1 : DmaSem sig := 8
abbrev cc1_sem3_0 : DmaSem sig := 9
abbrev cc1_sem3_1 : DmaSem sig := 10
abbrev cc1_sem4_0 : DmaSem sig := 11
abbrev cc1_sem4_1 : DmaSem sig := 12
abbrev cc1_sem5_0 : DmaSem sig := 13
abbrev cc1_sem5_1 : DmaSem sig := 14
abbrev cc1_sem6_0 : DmaSem sig := 15
abbrev cc1_sem6_1 : DmaSem sig := 16
abbrev cc1_sem7_0 : DmaSem sig := 17
abbrev cc1_sem7_1 : DmaSem sig := 18
abbrev cc1_sem8_0 : DmaSem sig := 19
abbrev cc2_sem0_0 : DmaSem sig := 20
abbrev cc2_sem1_0 : DmaSem sig := 21
abbrev cc2_sem2_0 : DmaSem sig := 22
abbrev cc2_sem2_1 : DmaSem sig := 23
abbrev cc2_sem3_0 : DmaSem sig := 24
abbrev cc2_sem3_1 : DmaSem sig := 25
abbrev cc2_sem4_0 : DmaSem sig := 26
abbrev cc2_sem4_1 : DmaSem sig := 27
abbrev cc3_sem0_0 : DmaSem sig := 28
abbrev cc3_sem1_0 : DmaSem sig := 29
abbrev cc3_sem1_1 : DmaSem sig := 30
abbrev cc3_sem2_0 : DmaSem sig := 31
abbrev cc3_sem2_1 : DmaSem sig := 32
abbrev cc3_sem3_0 : DmaSem sig := 33
abbrev cc3_sem3_1 : DmaSem sig := 34
abbrev cc4_sem0_0 : DmaSem sig := 35
abbrev cc4_sem1_0 : DmaSem sig := 36
abbrev cc4_sem2_0 : DmaSem sig := 37
abbrev cc4_sem2_1 : DmaSem sig := 38
abbrev cc4_sem3_0 : DmaSem sig := 39
abbrev cc4_sem3_1 : DmaSem sig := 40
abbrev cc4_sem4_0 : DmaSem sig := 41
abbrev cc4_sem4_1 : DmaSem sig := 42
abbrev cc5_sem0_0 : DmaSem sig := 43
abbrev cc5_sem1_0 : DmaSem sig := 44
abbrev cc5_sem2_0 : DmaSem sig := 45
abbrev cc5_sem2_1 : DmaSem sig := 46
abbrev cc5_sem3_0 : DmaSem sig := 47
abbrev cc5_sem3_1 : DmaSem sig := 48
abbrev cc5_sem4_0 : DmaSem sig := 49
abbrev cc5_sem4_1 : DmaSem sig := 50

abbrev nD : Nat := 1
abbrev τ : Topo := Topo.v7x

variable {F : FTy → Type} [FloatOps F]

abbrev grid0 : Pipeline.Grid := ⟨2, ![2, 32], ![false, false]⟩

def k0_cond3 (i : grid0.Coords) : BitVec 1 :=
  let arg0 : BitVec 32 := BitVec.ofNat 32 (i 0).val
  let c1_i32_3 : BitVec 32 := 1#32
  let v8 : BitVec 1 := Scalar.cmpi .eq arg0 c1_i32_3
  let v9 : BitVec 32 := Scalar.extui v8
  let c0_i32_4 : BitVec 32 := 0#32
  let v10 : BitVec 1 := Scalar.cmpi .ne v9 c0_i32_4
  v10

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let arg1 : BitVec 32 := BitVec.ofNat 32 (i 1).val
  let c0_i32_1 : BitVec 32 := 0#32
  let v4 : BitVec 1 := Scalar.cmpi .eq arg1 c0_i32_1
  let v5 : BitVec 1 := Scalar.andi v3 v4
  let v6 : BitVec 32 := Scalar.extui v5
  let c0_i32_2 : BitVec 32 := 0#32
  let v7 : BitVec 1 := Scalar.cmpi .ne v6 c0_i32_2
  v7

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let v0 : BitVec 32 := Scalar.muli arg1 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x7168 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S256x7168 .fp8e5m2 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .smem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev grid1 : Pipeline.Grid := ⟨2, ![8, 10], ![false, false]⟩

def k1_cond1 (i : grid1.Coords) : BitVec 1 :=
  let arg0 : BitVec 32 := BitVec.ofNat 32 (i 0).val
  let c7_i32 : BitVec 32 := 7#32
  let v45 : BitVec 1 := Scalar.cmpi .eq arg0 c7_i32
  let arg1 : BitVec 32 := BitVec.ofNat 32 (i 1).val
  let c9_i32 : BitVec 32 := 9#32
  let v46 : BitVec 1 := Scalar.cmpi .eq arg1 c9_i32
  let v47 : BitVec 1 := Scalar.andi v45 v46
  let v48 : BitVec 32 := Scalar.extui v47
  let c0_i32_25 : BitVec 32 := 0#32
  let v49 : BitVec 1 := Scalar.cmpi .ne v48 c0_i32_25
  v49

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_5 (i : grid1.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.addi arg1 c10_i32
  let c0_i32 : BitVec 32 := 0#32
  ![arg0.toNat, v0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_8 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .smem S1x1 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false, false]

abbrev stage1_1 : Fin 1 → Memref sig .tc .smem S1x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 2 → Memref sig .tc .vmem S1024x7168 .fp8e5m2 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S512x7168 .fp8e4m3 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 2 → Memref sig .tc .vmem S1024x512 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S1024x512 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S1024x512 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev stage1_7 : Fin 2 → Memref sig .tc .vmem S1024x512 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]

abbrev stage1_8 : Fin 1 → Memref sig .tc .smem S1x1 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false, false]

abbrev grid2 : Pipeline.Grid := ⟨2, ![5, 14], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 1 → Memref sig .tc .smem S1x1 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false, false]

abbrev stage2_1 : Fin 1 → Memref sig .tc .smem S1x1 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, false]

abbrev stage2_2 : Fin 2 → Memref sig .tc .vmem S8192x1024 .fp8e4m3 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev stage2_3 : Fin 2 → Memref sig .tc .vmem S8192x512 .fp8e5m2 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![false, true]

abbrev stage2_4 : Fin 2 → Memref sig .tc .vmem S1024x512 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true]

abbrev grid3 : Pipeline.Grid := ⟨1, ![32], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 1 → Memref sig .tc .smem S1x1 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 2 → Memref sig .tc .vmem S256x5120 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S256x5120 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S256x10240 .fp8e5m2 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨2, ![8, 14], ![false, false]⟩

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc4_transform_4 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage4_0 : Fin 1 → Memref sig .tc .smem S1x1 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![false, false]

abbrev stage4_1 : Fin 1 → Memref sig .tc .smem S1x1 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false, false]

abbrev stage4_2 : Fin 2 → Memref sig .tc .vmem S1024x10240 .fp8e5m2 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, false]

abbrev stage4_3 : Fin 2 → Memref sig .tc .vmem S512x10240 .fp8e4m3 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![false, true]

abbrev stage4_4 : Fin 2 → Memref sig .tc .vmem S1024x512 .bf16 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true, true]

abbrev grid5 : Pipeline.Grid := ⟨2, ![7, 20], ![false, false]⟩

def cc5_transform_0 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc5_transform_1 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc5_transform_3 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc5_transform_4 (i : grid5.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage5_0 : Fin 1 → Memref sig .tc .smem S1x1 .f32 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))
abbrev reads5_0 : Fin grid5.rank → Bool := ![false, false]

abbrev stage5_1 : Fin 1 → Memref sig .tc .smem S1x1 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false, false]

abbrev stage5_2 : Fin 2 → Memref sig .tc .vmem S8192x1024 .fp8e4m3 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, false]

abbrev stage5_3 : Fin 2 → Memref sig .tc .vmem S8192x512 .fp8e5m2 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![false, true]

abbrev stage5_4 : Fin 2 → Memref sig .tc .vmem S1024x512 .bf16 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true, true]
-- ==== RefIdeal.lean ====
abbrev S8x1024x7168 : Shape := ⟨3, ![8, 1024, 7168]⟩
abbrev S8x1024x10240 : Shape := ⟨3, ![8, 1024, 10240]⟩
abbrev S_ : Shape := ⟨0, ![]⟩
abbrev S8x1024x5120 : Shape := ⟨3, ![8, 1024, 5120]⟩
abbrev S7168x10240 : Shape := ⟨2, ![7168, 10240]⟩
abbrev S5120x7168 : Shape := ⟨2, ![5120, 7168]⟩
abbrev S8192x7168 : Shape := ⟨2, ![8192, 7168]⟩
abbrev S8192x10240 : Shape := ⟨2, ![8192, 10240]⟩
abbrev S1x1 : Shape := ⟨2, ![1, 1]⟩
abbrev S8192x5120 : Shape := ⟨2, ![8192, 5120]⟩
abbrev S1x8192x7168 : Shape := ⟨3, ![1, 8192, 7168]⟩
abbrev S1 : Shape := ⟨1, ![1]⟩
abbrev S1x1x1 : Shape := ⟨3, ![1, 1, 1]⟩
abbrev S8x128 : Shape := ⟨2, ![8, 128]⟩
abbrev S1x8x128 : Shape := ⟨3, ![1, 8, 128]⟩
abbrev S1x8192x10240 : Shape := ⟨3, ![1, 8192, 10240]⟩

abbrev nBuf : Space → Nat
  | .hbm => 30
  | .vmem => 17
  | .smem => 0
  | _ => 0

abbrev bufTy : (tb : Table) → Fin (tcTables nBuf tb) → BufTy
  | .hbm, ⟨0, _⟩ => ⟨S8x1024x7168, .bf16⟩
  | .hbm, ⟨1, _⟩ => ⟨S8x1024x10240, .bf16⟩
  | .hbm, ⟨2, _⟩ => ⟨S8x1024x7168, .fp8e4m3⟩
  | .hbm, ⟨3, _⟩ => ⟨S_, .f32⟩
  | .hbm, ⟨4, _⟩ => ⟨S8x1024x5120, .fp8e4m3⟩
  | .hbm, ⟨5, _⟩ => ⟨S_, .f32⟩
  | .hbm, ⟨6, _⟩ => ⟨S7168x10240, .fp8e4m3⟩
  | .hbm, ⟨7, _⟩ => ⟨S_, .f32⟩
  | .hbm, ⟨8, _⟩ => ⟨S5120x7168, .fp8e4m3⟩
  | .hbm, ⟨9, _⟩ => ⟨S_, .f32⟩
  | .hbm, ⟨10, _⟩ => ⟨S8192x7168, .bf16⟩
  | .hbm, ⟨11, _⟩ => ⟨S8192x10240, .bf16⟩
  | .hbm, ⟨12, _⟩ => ⟨S8192x7168, .fp8e4m3⟩
  | .hbm, ⟨13, _⟩ => ⟨S1x1, .f32⟩
  | .hbm, ⟨14, _⟩ => ⟨S8192x5120, .fp8e4m3⟩
  | .hbm, ⟨15, _⟩ => ⟨S1x1, .f32⟩
  | .hbm, ⟨16, _⟩ => ⟨S1x1, .f32⟩
  | .hbm, ⟨17, _⟩ => ⟨S1x1, .f32⟩
  | .hbm, ⟨18, _⟩ => ⟨S8192x7168, .bf16⟩
  | .hbm, ⟨19, _⟩ => ⟨S7168x10240, .bf16⟩
  | .hbm, ⟨20, _⟩ => ⟨S5120x7168, .bf16⟩
  | .hbm, ⟨21, _⟩ => ⟨S8192x7168, .fp8e5m2⟩
  | .hbm, ⟨22, _⟩ => ⟨S1x1, .f32⟩
  | .hbm, ⟨23, _⟩ => ⟨S8192x10240, .fp8e5m2⟩
  | .hbm, ⟨24, _⟩ => ⟨S1x1, .f32⟩
  | .hbm, ⟨25, _⟩ => ⟨S8x1024x7168, .bf16⟩
  | .hbm, ⟨26, _⟩ => ⟨S8x1024x7168, .fp8e5m2⟩
  | .hbm, ⟨27, _⟩ => ⟨S_, .f32⟩
  | .hbm, ⟨28, _⟩ => ⟨S8x1024x10240, .fp8e5m2⟩
  | .hbm, ⟨29, _⟩ => ⟨S_, .f32⟩
  | .local _ .vmem, ⟨0, _⟩ => ⟨S8192x7168, .bf16⟩
  | .local _ .vmem, ⟨1, _⟩ => ⟨S8192x10240, .bf16⟩
  | .local _ .vmem, ⟨2, _⟩ => ⟨S8192x7168, .fp8e4m3⟩
  | .local _ .vmem, ⟨3, _⟩ => ⟨S1x1, .f32⟩
  | .local _ .vmem, ⟨4, _⟩ => ⟨S8192x5120, .fp8e4m3⟩
  | .local _ .vmem, ⟨5, _⟩ => ⟨S1x1, .f32⟩
  | .local _ .vmem, ⟨6, _⟩ => ⟨S7168x10240, .fp8e4m3⟩
  | .local _ .vmem, ⟨7, _⟩ => ⟨S1x1, .f32⟩
  | .local _ .vmem, ⟨8, _⟩ => ⟨S5120x7168, .fp8e4m3⟩
  | .local _ .vmem, ⟨9, _⟩ => ⟨S1x1, .f32⟩
  | .local _ .vmem, ⟨10, _⟩ => ⟨S8192x7168, .bf16⟩
  | .local _ .vmem, ⟨11, _⟩ => ⟨S7168x10240, .bf16⟩
  | .local _ .vmem, ⟨12, _⟩ => ⟨S5120x7168, .bf16⟩
  | .local _ .vmem, ⟨13, _⟩ => ⟨S8192x7168, .fp8e5m2⟩
  | .local _ .vmem, ⟨14, _⟩ => ⟨S1x1, .f32⟩
  | .local _ .vmem, ⟨15, _⟩ => ⟨S8192x10240, .fp8e5m2⟩
  | .local _ .vmem, ⟨16, _⟩ => ⟨S1x1, .f32⟩
  | _, _ => ⟨S8x1024x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8_0 : Ref sig .tc := ⟨.hbm, 18, rfl⟩
abbrev main_v8_1 : Ref sig .tc := ⟨.hbm, 19, rfl⟩
abbrev main_v8_2 : Ref sig .tc := ⟨.hbm, 20, rfl⟩
abbrev main_v8_3 : Ref sig .tc := ⟨.hbm, 21, rfl⟩
abbrev main_v8_4 : Ref sig .tc := ⟨.hbm, 22, rfl⟩
abbrev main_v8_5 : Ref sig .tc := ⟨.hbm, 23, rfl⟩
abbrev main_v8_6 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16

abbrev nD : Nat := 1
abbrev τ : Topo := Topo.v7x

variable {F : FTy → Type} [FloatOps F]

abbrev grid0 : Pipeline.Grid := .none

abbrev stage0_0 : Fin 1 → Memref sig .tc .vmem S8192x7168 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8192x10240 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8192x7168 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8192x5120 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S7168x10240 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S5120x7168 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S8192x7168 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S7168x10240 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S5120x7168 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S8192x7168 .fp8e5m2 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S1x1 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S8192x10240 .fp8e5m2 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S1x1 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
-- ==== Proof.WholeBits.Region0.lean ====
/-
  The call number 0 of the kernel, at any contents `V` that the buffers have when the call is entered: the block of each
  window at a grid point, what the body leaves in its output windows and in the scratch memory it keeps from one point to the
  next, and the proof that the body does so.
-/
module

public import Idealize.ShloMosaic.Lib.Pipeline.ValueKit
public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Kernel.Whole

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section Regions
-- the TensorCore's buffer contents when a region is entered: the parameter every region's half is stated at, which
-- the run instantiates per region
variable (V : (c : Dev nD) → (b : Ref sig .tc) → Buf (Elt F) ((c : Thread nD τ).loc b))

/-! # REGION 0 of @main: custom_call 0, `cc0_quant_dy` (pipeline 0), at the entry contents `V` — class R -/

/-! ## The windows' blocks -/

/-- Window `w`'s block at point `t`, read off its array as the region finds it (`V`). -/
noncomputable def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the points before point 32 — by arithmetic of the point. -/
theorem hcond0_0 : ∀ t : Fin cfg0.N, cond0_0 (grid0.coords t) ↔ t.val < 32 :=
  (fun t => by
    have ht : t.val < 64 := Nat.lt_of_lt_of_eq t.isLt N_0
    have e0 : (grid0.coords t 0).val = t.val / 32 % 2 := Pipeline.Grid.coords_val t 0 (by decide) rfl
    have e1 : (grid0.coords t 1).val = t.val / 1 % 32 := Pipeline.Grid.coords_val t 1 (by decide) rfl
    simp only [cond0_0, e0, e1]
    word_cmp
   : ∀ t : Fin grid0.N, cond0_0 (grid0.coords t) ↔ t.val < 32)

/-- The condition of the body's `scf.if` 1 (`k0_h2`), from the grid coordinates (the skeleton's scalar
    chain substituted). -/
abbrev cond0_1 (i : grid0.Coords) : Prop := k0_cond2 i = 1#1
/-- It holds at point 32 only — by arithmetic of the point. -/
theorem hcond0_1 : ∀ t : Fin cfg0.N, cond0_1 (grid0.coords t) ↔ t.val % 64 = 32 :=
  (fun t => by
    have ht : t.val < 64 := Nat.lt_of_lt_of_eq t.isLt N_0
    have e0 : (grid0.coords t 0).val = t.val / 32 % 2 := Pipeline.Grid.coords_val t 0 (by decide) rfl
    have e1 : (grid0.coords t 1).val = t.val / 1 % 32 := Pipeline.Grid.coords_val t 1 (by decide) rfl
    simp only [cond0_1, k0_cond2, e0, e1]
    word_cmp
   : ∀ t : Fin grid0.N, cond0_1 (grid0.coords t) ↔ t.val % 64 = 32)

/-- The condition of the body's `scf.if` 2 (`k0_h3`), from the grid coordinates (the skeleton's scalar
    chain substituted). -/
abbrev cond0_2 (i : grid0.Coords) : Prop := k0_cond3 i = 1#1
/-- It holds at the points from point 32 on — by arithmetic of the point. -/
theorem hcond0_2 : ∀ t : Fin cfg0.N, cond0_2 (grid0.coords t) ↔ 32 ≤ t.val :=
  (fun t => by
    have ht : t.val < 64 := Nat.lt_of_lt_of_eq t.isLt N_0
    have e0 : (grid0.coords t 0).val = t.val / 32 % 2 := Pipeline.Grid.coords_val t 0 (by decide) rfl
    have e1 : (grid0.coords t 1).val = t.val / 1 % 32 := Pipeline.Grid.coords_val t 1 (by decide) rfl
    simp only [cond0_2, k0_cond3, e0, e1]
    word_cmp
   : ∀ t : Fin grid0.N, cond0_2 (grid0.coords t) ↔ 32 ≤ t.val)

/-! ## Where the windows are idle (the printed configuration's table `Cfg.idle`) -/

/-- Window 0 is never idle (an input). -/
theorem liveAt0_0 : ∀ t : Fin cfg0.N, cfg0.idle 0 (grid0.coords t) = false := fun _ => rfl
/-- At the points of case A the printed configuration (`Cfg.idle`) calls output 1 idle: the case stores nothing into it. -/
theorem idleAt0_1_A : ∀ t : Fin cfg0.N, cond0_0 (grid0.coords t) → ¬cond0_1 (grid0.coords t) → ¬cond0_2 (grid0.coords t) → cfg0.idle 1 (grid0.coords t) = true := by decide +kernel
/-- At the points of case A the pipeline does not write output 1's block back. -/
theorem noFlush0_1_A : ∀ t : Fin cfg0.N, cond0_0 (grid0.coords t) → ¬cond0_1 (grid0.coords t) → ¬cond0_2 (grid0.coords t) → (cfg0.win 1).flush t = false := by decide +kernel
/-- At the points of case B the printed configuration (`Cfg.idle`) calls output 1 live: the case stores into it. -/
theorem liveAt0_1_B : ∀ t : Fin cfg0.N, ¬cond0_0 (grid0.coords t) → cond0_1 (grid0.coords t) → cond0_2 (grid0.coords t) → cfg0.idle 1 (grid0.coords t) = false := by decide +kernel
/-- At the points of case C the printed configuration (`Cfg.idle`) calls output 1 live: the case stores into it. -/
theorem liveAt0_1_C : ∀ t : Fin cfg0.N, ¬cond0_0 (grid0.coords t) → ¬cond0_1 (grid0.coords t) → cond0_2 (grid0.coords t) → cfg0.idle 1 (grid0.coords t) = false := by decide +kernel
/-- At the points of case A the printed configuration (`Cfg.idle`) calls output 2 idle: the case stores nothing into it. -/
theorem idleAt0_2_A : ∀ t : Fin cfg0.N, cond0_0 (grid0.coords t) → ¬cond0_1 (grid0.coords t) → ¬cond0_2 (grid0.coords t) → cfg0.idle 2 (grid0.coords t) = true := by decide +kernel
/-- At the points of case A the pipeline does not write output 2's block back. -/
theorem noFlush0_2_A : ∀ t : Fin cfg0.N, cond0_0 (grid0.coords t) → ¬cond0_1 (grid0.coords t) → ¬cond0_2 (grid0.coords t) → (cfg0.win 2).flush t = false := by decide +kernel
/-- At the points of case B the printed configuration (`Cfg.idle`) calls output 2 live: the case stores into it. -/
theorem liveAt0_2_B : ∀ t : Fin cfg0.N, ¬cond0_0 (grid0.coords t) → cond0_1 (grid0.coords t) → cond0_2 (grid0.coords t) → cfg0.idle 2 (grid0.coords t) = false := by decide +kernel
/-- At the points of case C the printed configuration (`Cfg.idle`) calls output 2 idle: the case stores nothing into it. -/
theorem idleAt0_2_C : ∀ t : Fin cfg0.N, ¬cond0_0 (grid0.coords t) → ¬cond0_1 (grid0.coords t) → cond0_2 (grid0.coords t) → cfg0.idle 2 (grid0.coords t) = true := by decide +kernel
/-- Output 2 is never fetched, and written back at the last point only. -/
theorem noFetch0_2 : ∀ t : Fin cfg0.N, (cfg0.win 2).fetch t = false := by decide +kernel
theorem flush0_2 : ∀ t : Fin cfg0.N, t.val ≠ 63 → (cfg0.win 2).flush t = false := by decide +kernel

/-! ## The kernel body on any staging memrefs: a subtype the run finds -/

/-- One staging buffer of output window 1, through which its contents are stated (`View.read_writes_of_cover`: the
    choice does not matter). -/
abbrev VO0_1 : View sig .tc .vmem S256x7168 .fp8e5m2 := (Memref.whole cc0_stg1_0 : Memref sig .tc .vmem S256x7168 .fp8e5m2).view
/-- One staging buffer of output window 2, through which its contents are stated (`View.read_writes_of_cover`: the
    choice does not matter). -/
abbrev VO0_2 : View sig .tc .smem S1x1 .f32 := (Memref.whole cc0_stg2_0 : Memref sig .tc .smem S1x1 .f32).view
/-- Each window's current staging memref at point `t`, spelled as the pipeline passes it (`bodyAt0`), and its wholeness. -/
abbrev ms0_0 (t : Fin cfg0.N) : Memref sig .tc .vmem S256x7168 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x7168 .fp8e5m2 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .smem S1x1 .f32 := win0_2.stage (cfg0.slots t 2)
abbrev hs0_2 (t : Fin cfg0.N) : (ms0_2 t).IsWhole := hstage0_2 ((cfg0.slots t 2).cast nbuf0_2)
/-- The scratch operands: whole scoped buffers of the kernel's own, passed beside the windows. -/
abbrev scM0_0 : Memref sig .tc .vmem S8x7168 .f32 := Memref.whole cc0_scratch0
abbrev scM0_1 : Memref sig .tc .vmem S8x128 .f32 := Memref.whole cc0_scratch1
/-- The scratch `arg5` the kernel carries between points, as a view: what it holds is stated through it. -/
abbrev VS0_0 : View sig .tc .vmem S8x7168 .f32 := scM0_0.view
/-- The scratch `arg6` the kernel carries between points, as a view: what it holds is stated through it. -/
abbrev VS0_1 : View sig .tc .vmem S8x128 .f32 := scM0_1.view

/-- `Gen.scopedRest0_split` as ONE chain: the kernel's own scratch buffers, each whole at some contents, then every
    other scoped buffer, unopened (`Pipeline.scopedRestBut`). -/
theorem scopedRest0_flat (c : Dev nD) :
    (Pipeline.scopedRest spec0 c : sProp 𝕄)
      = iprop((∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ Pipeline.scopedRestBut spec0 c [cc0_scratch0, cc0_scratch1]) := by
  have assoc : ∀ P Q R : sProp 𝕄, iprop((P ∗ Q) ∗ R) = iprop(P ∗ Q ∗ R) :=
    fun _ _ _ => Idealize.SL.BI.Entails.antisymm Idealize.SL.BI.sep_assoc Idealize.SL.BI.sep_assoc'
  rw [scopedRest0_split, assoc]

/-- The frame kit's invariant with the scratch operands as memrefs owned at some contents (`Gen.scopedRest0_flat`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ Pipeline.scopedRestBut spec0 c [cc0_scratch0, cc0_scratch1]) ∗ (∃ r, prngReg c r)) := by
  unfold Pipeline.ΦA; rw [scopedRest0_flat]; simp only [scM0_0, scM0_1, owns_whole]; try rfl

-- (the run's proof term is large: the definition's epilogue — `abstractNestedProofs` — walks it past the default budget)
set_option maxHeartbeats 1000000 in
/-- What the body's stores leave in each output's staging memref, as pieces (last first) IN CASE A (`scf.if` 0 taken, `scf.if` 1 not taken, `scf.if` 2 not taken: points 0, 1, … 31: 32 of 64), WITH the
    proof that on whole staging memrefs — the inputs' at their contents, the outputs it leaves idle (1, 2: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg2 : Memref sig .tc .vmem S256x7168 .bf16) (harg2 : arg2.IsWhole) (arg3 : Memref sig .tc .vmem S256x7168 .fp8e5m2) (harg3 : arg3.IsWhole) (arg4 : Memref sig .tc .smem S1x1 .f32) (harg4 : arg4.IsWhole) (arg5 : Memref sig .tc .vmem S8x7168 .f32) (harg5 : arg5.IsWhole) (arg6 : Memref sig .tc .vmem S8x128 .f32) (harg6 : arg6.IsWhole) (hc0 : cond0_0 i) (hc1 : ¬cond0_1 i) (hc2 : ¬cond0_2 i)
    (x0 : Vec F S256x7168 .bf16) (xs0 : Vec F S8x7168 .f32) :
    Σ' (L1 : List (View.Piece (Elt F) S256x7168 .fp8e5m2)), Σ' (L2 : List (View.Piece (Elt F) S1x1 .f32)), Σ' (LS0 : List (View.Piece (Elt F) S8x7168 .f32)), { LS1 : List (View.Piece (Elt F) S8x128 .f32) //
      ∀ (xi1 : Vec F S256x7168 .fp8e5m2) (xi2 : Vec F S1x1 .f32) (xs1 : Vec F S8x128 .f32) (E : Set ℕ) (K : PUnit → sProp 𝕄),
        iprop(owns (c : Thread nD τ) arg2 fullShare x0 ∗ owns (c : Thread nD τ) arg3 fullShare xi1 ∗ owns (c : Thread nD τ) arg4 fullShare xi2 ∗ owns (c : Thread nD τ) arg5 fullShare xs0 ∗ owns (c : Thread nD τ) arg6 fullShare xs1
            ∗ (iprop(owns (c : Thread nD τ) arg2 fullShare x0 ∗ owns (c : Thread nD τ) arg3 fullShare xi1 ∗ owns (c : Thread nD τ) arg4 fullShare xi2 ∗ (∃ f, arg5.view.loc (c : Thread nD τ) ↦[arg5.view.set]{fullShare} arg5.view.writes (Elt F) f LS0) ∗ owns (c : Thread nD τ) arg6 fullShare xs1) -∗ K ⟨⟩))
          ⊢ wp frame (wpE (defs₀ (F := F)) Variants.none c none) E (cc0_quant_dy i arg2 harg2 arg3 harg3 arg4 harg4 arg5 harg5 arg6 harg6) K } := by
  refine ⟨[], [], ?_, [], fun xi1 xi2 xs1 E K => ?run⟩
  case run =>
    simp only [cc0_quant_dy_eq_skeleton]; unfold cc0_quant_dy_skel
    unfold owns
    iintro ⟨⟨%f0, %hf0, H0⟩, ⟨%f1, %hf1, H1⟩, ⟨%f2, %hf2, H2⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hfs0; obtain rfl := harg6.eq_unread hfs1
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HS0]; · iexists _; iexact HS0
    iexists _; isplitr; · ipureintro; exact harg6.read_unread _
    iexact HS1

/-- Case A's pieces for scratch `arg5`, which the kernel carries between points, cover it: 1 piece of `S8x7168` tiling it (Lib/Ring.lean `Piece.tiledL`). -/
theorem scover0_A_0 (c : Dev nD) (i : grid0.Coords) (arg2 : Memref sig .tc .vmem S256x7168 .bf16) (harg2 : arg2.IsWhole) (arg3 : Memref sig .tc .vmem S256x7168 .fp8e5m2) (harg3 : arg3.IsWhole) (arg4 : Memref sig .tc .smem S1x1 .f32) (harg4 : arg4.IsWhole) (arg5 : Memref sig .tc .vmem S8x7168 .f32) (harg5 : arg5.IsWhole) (arg6 : Memref sig .tc .vmem S8x128 .f32) (harg6 : arg6.IsWhole) (hc0 : cond0_0 i) (hc1 : ¬cond0_1 i) (hc2 : ¬cond0_2 i)
    (x0 : Vec F S256x7168 .bf16) (xs0 : Vec F S8x7168 .f32) (y : S8x7168.Idx) :
    ∃ pc ∈ (kernelRun0_A c i arg2 harg2 arg3 harg3 arg4 harg4 arg5 harg5 arg6 harg6 hc0 hc1 hc2 x0 xs0).2.2.1, y ∈ pc.1.set :=
  View.cover_of_tiledL (kernelRun0_A c i arg2 harg2 arg3 harg3 arg4 harg4 arg5 harg5 arg6 harg6 hc0 hc1 hc2 x0 xs0).2.2.1 S8x7168.size (by sl_kernel_rfl) y

/-- What case A leaves in scratch `arg5`: its pieces read back over junk. -/
def sout0_A_0 (c : Dev nD) (i : grid0.Coords) (arg2 : Memref sig .tc .vmem S256x7168 .bf16) (harg2 : arg2.IsWhole) (arg3 : Memref sig .tc .vmem S256x7168 .fp8e5m2) (harg3 : arg3.IsWhole) (arg4 : Memref sig .tc .smem S1x1 .f32) (harg4 : arg4.IsWhole) (arg5 : Memref sig .tc .vmem S8x7168 .f32) (harg5 : arg5.IsWhole) (arg6 : Memref sig .tc .vmem S8x128 .f32) (harg6 : arg6.IsWhole) (hc0 : cond0_0 i) (hc1 : ¬cond0_1 i) (hc2 : ¬cond0_2 i)
    (x0 : Vec F S256x7168 .bf16) (xs0 : Vec F S8x7168 .f32) : Vec F S8x7168 .f32 :=
  VS0_0.read (Elt F) (VS0_0.writes (Elt F) VS0_0.junk (kernelRun0_A c i arg2 harg2 arg3 harg3 arg4 harg4 arg5 harg5 arg6 harg6 hc0 hc1 hc2 x0 xs0).2.2.1)

-- (the run's proof term is large: the definition's epilogue — `abstractNestedProofs` — walks it past the default budget)
set_option maxHeartbeats 1000000 in
/-- What the body's stores leave in each output's staging memref, as pieces (last first) IN CASE B (`scf.if` 0 not taken, `scf.if` 1 taken, `scf.if` 2 taken: points 32), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg2 : Memref sig .tc .vmem S256x7168 .bf16) (harg2 : arg2.IsWhole) (arg3 : Memref sig .tc .vmem S256x7168 .fp8e5m2) (harg3 : arg3.IsWhole) (arg4 : Memref sig .tc .smem S1x1 .f32) (harg4 : arg4.IsWhole) (arg5 : Memref sig .tc .vmem S8x7168 .f32) (harg5 : arg5.IsWhole) (arg6 : Memref sig .tc .vmem S8x128 .f32) (harg6 : arg6.IsWhole) (hc0 : ¬cond0_0 i) (hc1 : cond0_1 i) (hc2 : cond0_2 i)
    (x0 : Vec F S256x7168 .bf16) (xs0 : Vec F S8x7168 .f32) :
    Σ' (L1 : List (View.Piece (Elt F) S256x7168 .fp8e5m2)), Σ' (L2 : List (View.Piece (Elt F) S1x1 .f32)), Σ' (LS0 : List (View.Piece (Elt F) S8x7168 .f32)), { LS1 : List (View.Piece (Elt F) S8x128 .f32) //
      ∀ (E : Set ℕ) (K : PUnit → sProp 𝕄),
        iprop(owns (c : Thread nD τ) arg2 fullShare x0 ∗ (∃ d, owns (c : Thread nD τ) arg3 fullShare d) ∗ (∃ d, owns (c : Thread nD τ) arg4 fullShare d) ∗ owns (c : Thread nD τ) arg5 fullShare xs0 ∗ (∃ d, owns (c : Thread nD τ) arg6 fullShare d)
            ∗ (iprop(owns (c : Thread nD τ) arg2 fullShare x0 ∗ (∃ f, arg3.view.loc (c : Thread nD τ) ↦[arg3.view.set]{fullShare} arg3.view.writes (Elt F) f L1) ∗ (∃ f, arg4.view.loc (c : Thread nD τ) ↦[arg4.view.set]{fullShare} arg4.view.writes (Elt F) f L2) ∗ owns (c : Thread nD τ) arg5 fullShare xs0 ∗ (∃ f, arg6.view.loc (c : Thread nD τ) ↦[arg6.view.set]{fullShare} arg6.view.writes (Elt F) f LS1)) -∗ K ⟨⟩))
          ⊢ wp frame (wpE (defs₀ (F := F)) Variants.none c none) E (cc0_quant_dy i arg2 harg2 arg3 harg3 arg4 harg4 arg5 harg5 arg6 harg6) K } := by
  refine ⟨?_, ?_, [], ?_, fun E K => ?run⟩
  case run =>
    simp only [cc0_quant_dy_eq_skeleton]; unfold cc0_quant_dy_skel
    simp only [k0_part1_eq_skeleton, k0_part2_eq_skeleton]
    unfold owns
    iintro ⟨⟨%f0, %hf0, H0⟩, ⟨%d1, %f1, -, H1⟩, ⟨%d2, %f2, -, H2⟩, ⟨%fs0, %hfs0, HS0⟩, ⟨%ds1, %fs1, -, HS1⟩, Hk⟩
    obtain rfl := harg2.eq_unread hf0; obtain rfl := harg5.eq_unread hfs0
    sl_exec (disch := first | sl_exact hc0 | sl_exact hc1 | sl_exact hc2)
    sl_step
    iapply Hk
    isplitl [H0]
    · iexists _; isplitr; · ipureintro; exact harg2.read_unread _
      iexact H0
    isplitl [H1]; · iexists _; iexact H1
    isplitl [H2]; · iexists _; iexact H2
    isplitl [HS0]
    · iexists _; isplitr; · ipureintro; exact harg5.read_unread _
      iexact HS0
    iexists _; iexact HS1

/-- Case B's pieces for output 1 tile its block (1 store of `S256x7168`, checked by the kernel's evaluation: Lib/Ring.lean `Piece.tiledL`, linear in the pieces, through a loop's `@[irreducible]` trip theorem too), so they cover it. -/
theorem cover0_B_1 (c : Dev nD) (i : grid0.Coords) (arg2 : Memref sig .tc .vmem S256x7168 .bf16) (harg2 : arg2.IsWhole) (arg3 : Memref sig .tc .vmem S256x7168 .fp8e5m2) (harg3 : arg3.IsWhole) (arg4 : Memref sig .tc .smem S1x1 .f32) (harg4 : arg4.IsWhole) (arg5 : Memref sig .tc .vmem S8x7168 .f32) (harg5 : arg5.IsWhole) (arg6 : Memref sig .tc .vmem S8x128 .f32) (harg6 : arg6.IsWhole) (hc0 : ¬cond0_0 i) (hc1 : cond0_1 i) (hc2 : cond0_2 i)
    (x0 : Vec F S256x7168 .bf16) (xs0 : Vec F S8x7168 .f32) (y : S256x7168.Idx) :
    ∃ pc ∈ (kernelRun0_B c i arg2 harg2 arg3 harg3 arg4 harg4 arg5 harg5 arg6 harg6 hc0 hc1 hc2 x0 xs0).1, y ∈ pc.1.set :=
  View.cover_of_tiledL (kernelRun0_B c i arg2 harg2 arg3 harg3 arg4 harg4 arg5 harg5 arg6 harg6 hc0 hc1 hc2 x0 xs0).1 S256x7168.size (by sl_kernel_rfl) y

/-- What case B leaves in output 1's staging buffer: its pieces read back over junk. -/
def out0_B_1 (c : Dev nD) (i : grid0.Coords) (arg2 : Memref sig .tc .vmem S256x7168 .bf16) (harg2 : arg2.IsWhole) (arg3 : Memref sig .tc .vmem S256x7168 .fp8e5m2) (harg3 : arg3.IsWhole) (arg4 : Memref sig .tc .smem S1x1 .f32) (harg4 : arg4.IsWhole) (arg5 : Memref sig .tc .vmem S8x7168 .f32) (harg5 : arg5.IsWhole) (arg6 : Memref sig .tc .vmem S8x128 .f32) (harg6 : arg6.IsWhole) (hc0 : ¬cond0_0 i) (hc1 : cond0_1 i) (hc2 : cond0_2 i)
    (x0 : Vec F S256x7168 .bf16) (xs0 : Vec F S8x7168 .f32) : Vec F S256x7168 .fp8e5m2 :=
  VO0_1.read (Elt F) (VO0_1.writes (Elt F) VO0_1.junk (kernelRun0_B c i arg2 harg2 arg3 harg3 arg4 harg4 arg5 harg5 arg6 harg6 hc0 hc1 hc2 x0 xs0).1)

/-- Case B's pieces for output 2 tile its block (1 store of `S1x1`, checked by the kernel's evaluation: Lib/Ring.lean `Piece.tiledL`, linear in the pieces, through a loop's `@[irreducible]` trip theorem too), so they cover it. -/
theorem cover0_B_2 (c : Dev nD) (i : grid0.Coords) (arg2 : Memref sig .tc .vmem S256x7168 .bf16) (harg2 : arg2.IsWhole) (arg3 : Memref sig .tc .vmem S256x7168 .fp8e5m2) (harg3 : arg3.IsWhole) (arg4 : Memref sig .tc .smem S1x1 .f32) (harg4 : arg4.IsWhole) (arg5 : Memref sig .tc .vmem S8x7168 .f32) (harg5 : arg5.IsWhole) (arg6 : Memref sig .tc .vmem S8x128 .f32) (harg6 : arg6.IsWhole) (hc0 : ¬cond0_0 i) (hc1 : cond0_1 i) (hc2 : cond0_2 i)
    (x0 : Vec F S256x7168 .bf16) (xs0 : Vec F S8x7168 .f32) (y : S1x1.Idx) :
    ∃ pc ∈ (kernelRun0_B c i arg2 harg2 arg3 harg3 arg4 harg4 arg5 harg5 arg6 harg6 hc0 hc1 hc2 x0 xs0).2.1, y ∈ pc.1.set :=
  View.cover_of_tiledL (kernelRun0_B c i arg2 harg2 arg3 harg3 arg4 harg4 arg5 harg5 arg6 harg6 hc0 hc1 hc2 x0 xs0).2.1 S1x1.size (by sl_kernel_rfl) y

/-- What case B leaves in output 2's staging buffer: its pieces read back over junk. -/
def out0_B_2 (c : Dev nD) (i : grid0.Coords) (arg2 : Memref sig .tc .vmem S256x7168 .bf16) (harg2 : arg2.IsWhole) (arg3 : Memref sig .tc .vmem S256x7168 .fp8e5m2) (harg3 : arg3.IsWhole) (arg4 : Memref sig .tc .smem S1x1 .f32) (harg4 : arg4.IsWhole) (arg5 : Memref sig .tc .vmem S8x7168 .f32) (harg5 : arg5.IsWhole) (arg6 : Memref sig .tc .vmem S8x128 .f32) (harg6 : arg6.IsWhole) (hc0 : ¬cond0_0 i) (hc1 : cond0_1 i) (hc2 : cond0_2 i)
    (x0 : Vec F S256x7168 .bf16) (xs0 : Vec F S8x7168 .f32) : Vec F S1x1 .f32 :=
  VO0_2.read (Elt F) (VO0_2.writes (Elt F) VO0_2.junk (kernelRun0_B c i arg2 harg2 arg3 harg3 arg4 harg4 arg5 harg5 arg6 harg6 hc0 hc1 hc2 x0 xs0).2.1)

/-- Case B's pieces for scratch `arg6`, which the kernel carries between points, cover it: 1 piece of `S8x128` tiling it (Lib/Ring.lean `Piece.tiledL`). -/
theorem scover0_B_1 (c : Dev nD) (i : grid0.Coords) (arg2 : Memref sig .tc .vmem S256x7168 .bf16) (harg2 : arg2.IsWhole) (arg3 : Memref sig .tc .vmem S256x7168 .fp8e5m2) (harg3 : arg3.IsWhole) (arg4 : Memref sig .tc .smem S1x1 .f32) (harg4 : arg4.IsWhole) (arg5 : Memref sig .tc .vmem S8x7168 .f32) (harg5 : arg5.IsWhole) (arg6 : Memref sig .tc .vmem S8x128 .f32) (harg6 : arg6.IsWhole) (hc0 : ¬cond0_0 i) (hc1 : cond0_1 i) (hc2 : cond0_2 i)
    (x0 : Vec F S256x7168 .bf16) (xs0 : Vec F S8x7168 .f32) (y : S8x128.Idx) :
    ∃ pc ∈ (kernelRun0_B c i arg2 harg2 arg3 harg3 arg4 harg4 arg5 harg5 arg6 harg6 hc0 hc1 hc2 x0 xs0).2.2.2.1, y ∈ pc.1.set :=
  View.cover_of_tiledL (kernelRun0_B c i arg2 harg2 arg3 harg3 arg4 harg4 arg5 harg5 arg6 harg6 hc0 hc1 hc2 x0 xs0).2.2.2.1 S8x128.size (by sl_kernel_rfl) y

/-- What case B leaves in scratch `arg6`: its pieces read back over junk. -/
def sout0_B_1 (c : Dev nD) (i : grid0.Coords) (arg2 : Memref sig .tc .vmem S256x7168 .bf16) (harg2 : arg2.IsWhole) (arg3 : Memref sig .tc .vmem S256x7168 .fp8e5m2) (harg3 : arg3.IsWhole) (arg4 : Memref sig .tc .smem S1x1 .f32) (harg4 : arg4.IsWhole) (arg5 : Memref sig .tc .vmem S8x7168 .f32) (harg5 : arg5.IsWhole) (arg6 : Memref sig .tc .vmem S8x128 .f32) (harg6 : arg6.IsWhole) (hc0 : ¬cond0_0 i) (hc1 : cond0_1 i) (hc2 : cond0_2 i)
    (x0 : Vec F S256x7168 .bf16) (xs0 : Vec F S8x7168 .f32) : Vec F S8x128 .f32 :=
  VS0_1.read (Elt F) (VS0_1.writes (Elt F) VS0_1.junk (kernelRun0_B c i arg2 harg2 arg3 harg3 arg4 harg4 arg5 harg5 arg6 harg6 hc0 hc1 hc2 x0 xs0).2.2.2.1)

-- (the run's proof term is large: the definition's epilogue — `abstractNestedProofs` — walks it past the default budget)
set_option maxHeartbeats 1000000 in
/-- What the body's stores leave in each output's staging memref, as pieces (last first) IN CASE C (`scf.if` 0 not taken, `scf.if` 1 not taken, `scf.if` 2 taken: points 33, 34, … 63: 31 of 64), WITH the
    proof that on whole staging memrefs — the inputs' at their contents, the outputs it leaves idle (2: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_C (c : Dev nD) (i : grid0.Coords) (arg2 : Memref sig .tc .vmem S256x7168 .bf16) (harg2 : arg2.IsWhole) (arg3 : Memref sig .tc .vmem S256x7168 .fp8e5m2) (harg3 : arg3.IsWhole) (arg4 : Memref sig .tc .smem S1x1 .f32) (harg4 : arg4.IsWhole) (arg5 : Memref sig .tc .vmem S8x7168 .f32) (harg5 : arg5.IsWhole) (arg6 : Memref sig .tc .vmem S8x128 .f32) (harg6 : arg6.IsWhole) (hc0 : ¬cond0_0 i) (hc1 : ¬cond0_1 i) (hc2 : cond0_2 i)
    (x0 : Vec F S256x7168 .bf16) (xs0 : Vec F S8x7168 .f32) (xs1 : Vec F S8x128 .f32) :
    Σ' (L1 : List (View.Piece (Elt F) S256x7168 .fp8e5m2)), Σ' (L2 : List (View.Piece (Elt F) S1x1 .f32)), Σ' (LS0 : List (View.Piece (Elt F) S8x7168 .f32)), { LS1 : List (View.Piece (Elt F) S8x128 .f32) //
      ∀ (xi2 : Vec F S1x1 .f32) (E : Set ℕ) (K : PUnit → sProp 𝕄),
        iprop(owns (c : Thread nD τ) arg2 fullShare x0 ∗ (∃ d, owns (c : Thread nD τ) arg3 fullShare d) ∗ owns (c : Thread nD τ) arg4 fullShare xi2 ∗ owns (c : Thread nD τ) arg5 fullShare xs0 ∗ owns (c : Thread nD τ) arg6 fullShare xs1
            ∗ (iprop(owns (c : Thread nD τ) arg2 fullShare x0 ∗ (∃ f, arg3.view.loc (c : Thread nD τ) ↦[arg3.view.set]{fullShare} arg3.view.writes (Elt F) f L1) ∗ owns (c : Thread nD τ) arg4 fullShare xi2 ∗ owns (c : Thread nD τ) arg5 fullShare xs0 ∗ owns (c : Thread nD τ) arg6 fullShare xs1) -∗ K ⟨⟩))
          ⊢ wp frame (wpE (defs₀ (F := F)) Variants.none c none) E (cc0_quant_dy i arg2 harg2 arg3 harg3 arg4 harg4 arg5 harg5 arg6 harg6) K } := by
  refine ⟨?_, [], [], [], fun xi2 E K => ?run⟩
  case run =>
    simp only [cc0_quant_dy_eq_skeleton]; unfold cc0_quant_dy_skel
    unfold owns
    iintro ⟨⟨%f0, %hf0, H0⟩, ⟨%d1, %f1, -, H1⟩, ⟨%f2, %hf2, H2⟩, ⟨%fs0, %hfs0, HS0⟩, ⟨%fs1, %hfs1, HS1⟩, Hk⟩
    obtain rfl := harg2.eq_unread hf0; obtain rfl := harg4.eq_unread hf2; obtain rfl := harg5.eq_unread hfs0; obtain rfl := harg6.eq_unread hfs1
    sl_exec (disch := first | sl_exact hc0 | sl_exact hc1 | sl_exact hc2)
    sl_step
    iapply Hk
    isplitl [H0]
    · iexists _; isplitr; · ipureintro; exact harg2.read_unread _
      iexact H0
    isplitl [H1]; · iexists _; iexact H1
    isplitl [H2]
    · iexists _; isplitr; · ipureintro; exact harg4.read_unread _
      iexact H2
    isplitl [HS0]
    · iexists _; isplitr; · ipureintro; exact harg5.read_unread _
      iexact HS0
    iexists _; isplitr; · ipureintro; exact harg6.read_unread _
    iexact HS1

/-- Case C's pieces for output 1 tile its block (1 store of `S256x7168`, checked by the kernel's evaluation: Lib/Ring.lean `Piece.tiledL`, linear in the pieces, through a loop's `@[irreducible]` trip theorem too), so they cover it. -/
theorem cover0_C_1 (c : Dev nD) (i : grid0.Coords) (arg2 : Memref sig .tc .vmem S256x7168 .bf16) (harg2 : arg2.IsWhole) (arg3 : Memref sig .tc .vmem S256x7168 .fp8e5m2) (harg3 : arg3.IsWhole) (arg4 : Memref sig .tc .smem S1x1 .f32) (harg4 : arg4.IsWhole) (arg5 : Memref sig .tc .vmem S8x7168 .f32) (harg5 : arg5.IsWhole) (arg6 : Memref sig .tc .vmem S8x128 .f32) (harg6 : arg6.IsWhole) (hc0 : ¬cond0_0 i) (hc1 : ¬cond0_1 i) (hc2 : cond0_2 i)
    (x0 : Vec F S256x7168 .bf16) (xs0 : Vec F S8x7168 .f32) (xs1 : Vec F S8x128 .f32) (y : S256x7168.Idx) :
    ∃ pc ∈ (kernelRun0_C c i arg2 harg2 arg3 harg3 arg4 harg4 arg5 harg5 arg6 harg6 hc0 hc1 hc2 x0 xs0 xs1).1, y ∈ pc.1.set :=
  View.cover_of_tiledL (kernelRun0_C c i arg2 harg2 arg3 harg3 arg4 harg4 arg5 harg5 arg6 harg6 hc0 hc1 hc2 x0 xs0 xs1).1 S256x7168.size (by sl_kernel_rfl) y

/-- What case C leaves in output 1's staging buffer: its pieces read back over junk. -/
def out0_C_1 (c : Dev nD) (i : grid0.Coords) (arg2 : Memref sig .tc .vmem S256x7168 .bf16) (harg2 : arg2.IsWhole) (arg3 : Memref sig .tc .vmem S256x7168 .fp8e5m2) (harg3 : arg3.IsWhole) (arg4 : Memref sig .tc .smem S1x1 .f32) (harg4 : arg4.IsWhole) (arg5 : Memref sig .tc .vmem S8x7168 .f32) (harg5 : arg5.IsWhole) (arg6 : Memref sig .tc .vmem S8x128 .f32) (harg6 : arg6.IsWhole) (hc0 : ¬cond0_0 i) (hc1 : ¬cond0_1 i) (hc2 : cond0_2 i)
    (x0 : Vec F S256x7168 .bf16) (xs0 : Vec F S8x7168 .f32) (xs1 : Vec F S8x128 .f32) : Vec F S256x7168 .fp8e5m2 :=
  VO0_1.read (Elt F) (VO0_1.writes (Elt F) VO0_1.junk (kernelRun0_C c i arg2 harg2 arg3 harg3 arg4 harg4 arg5 harg5 arg6 harg6 hc0 hc1 hc2 x0 xs0 xs1).1)

/-! ## What the outputs hold after each point -/

/-- A point of the first sweep is not the point that takes the scale, nor one of the second sweep. -/
theorem notB0 (t : Fin cfg0.N) (h0 : t.val < 32) : ¬cond0_1 (grid0.coords t) := fun h => by
  have := (hcond0_1 t).mp h; omega
theorem notC0 (t : Fin cfg0.N) (h0 : t.val < 32) : ¬cond0_2 (grid0.coords t) := fun h => by
  have := (hcond0_2 t).mp h; omega

/-- What the output windows and the two scratch buffers hold: the codes, the scale, the running maximum, the reciprocal scale. -/
abbrev Tup0 (F : FTy → Type) [FloatOps F] := Vec F S256x7168 .fp8e5m2 × Vec F S1x1 .f32 × Vec F S8x7168 .f32 × Vec F S8x128 .f32

/-- One point of the grid, from what the point before left (`p`): in the first sweep the running maximum takes in the point's
    block; at the first point of the second sweep the scale and its reciprocal are taken from it and the first codes stored;
    at the others the codes of the point's block. -/
def step0 (c : Dev nD) (t : Fin cfg0.N) (p : Tup0 F) : Tup0 F :=
  if h0 : t.val < 32 then
    (p.1, p.2.1, sout0_A_0 c (grid0.coords t) (ms0_0 t) (hs0_0 t) (ms0_1 t) (hs0_1 t) (ms0_2 t) (hs0_2 t) scM0_0 (Memref.isWhole_whole _) scM0_1 (Memref.isWhole_whole _) ((hcond0_0 t).mpr h0) (notB0 t h0) (notC0 t h0) (iblk0 V c 0 t) p.2.2.1, p.2.2.2)
  else if h1 : t.val % 64 = 32 then
    (out0_B_1 c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h1) ((hcond0_2 t).mpr (Nat.le_of_not_lt h0)) (iblk0 V c 0 t) p.2.2.1, out0_B_2 c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h1) ((hcond0_2 t).mpr (Nat.le_of_not_lt h0)) (iblk0 V c 0 t) p.2.2.1, p.2.2.1, sout0_B_1 c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h1) ((hcond0_2 t).mpr (Nat.le_of_not_lt h0)) (iblk0 V c 0 t) p.2.2.1)
  else
    (out0_C_1 c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) (fun h => h1 ((hcond0_1 t).mp h)) ((hcond0_2 t).mpr (Nat.le_of_not_lt h0)) (iblk0 V c 0 t) p.2.2.1 p.2.2.2, p.2.1, p.2.2.1, p.2.2.2)

/-- What they hold before point `n`, from anything before the first. -/
def tr0 (c : Dev nD) : (n : ℕ) → n ≤ cfg0.N → Tup0 F
  | 0, _ => (VO0_1.read (Elt F) VO0_1.junk, VO0_2.read (Elt F) VO0_2.junk, VS0_0.read (Elt F) VS0_0.junk, VS0_1.read (Elt F) VS0_1.junk)
  | n + 1, hn => step0 V c ⟨n, hn⟩ (tr0 c n (Nat.le_of_lt hn))

theorem tr0_succ (c : Dev nD) (t : Fin cfg0.N) : tr0 V c (t.val + 1) t.isLt = step0 V c t (tr0 V c t.val (Nat.le_of_lt t.isLt)) := rfl

theorem tr0_A (c : Dev nD) (t : Fin cfg0.N) (h0 : t.val < 32) :
    tr0 V c (t.val + 1) t.isLt = ((tr0 V c t.val (Nat.le_of_lt t.isLt)).1, (tr0 V c t.val (Nat.le_of_lt t.isLt)).2.1, sout0_A_0 c (grid0.coords t) (ms0_0 t) (hs0_0 t) (ms0_1 t) (hs0_1 t) (ms0_2 t) (hs0_2 t) scM0_0 (Memref.isWhole_whole _) scM0_1 (Memref.isWhole_whole _) ((hcond0_0 t).mpr h0) (notB0 t h0) (notC0 t h0) (iblk0 V c 0 t) (tr0 V c t.val (Nat.le_of_lt t.isLt)).2.2.1, (tr0 V c t.val (Nat.le_of_lt t.isLt)).2.2.2) := by
  rw [tr0_succ]; unfold step0; rw [dif_pos h0]

theorem tr0_B (c : Dev nD) (t : Fin cfg0.N) (h0 : ¬t.val < 32) (h1 : t.val % 64 = 32) :
    tr0 V c (t.val + 1) t.isLt = (out0_B_1 c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h1) ((hcond0_2 t).mpr (Nat.le_of_not_lt h0)) (iblk0 V c 0 t) (tr0 V c t.val (Nat.le_of_lt t.isLt)).2.2.1, out0_B_2 c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h1) ((hcond0_2 t).mpr (Nat.le_of_not_lt h0)) (iblk0 V c 0 t) (tr0 V c t.val (Nat.le_of_lt t.isLt)).2.2.1, (tr0 V c t.val (Nat.le_of_lt t.isLt)).2.2.1, sout0_B_1 c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h1) ((hcond0_2 t).mpr (Nat.le_of_not_lt h0)) (iblk0 V c 0 t) (tr0 V c t.val (Nat.le_of_lt t.isLt)).2.2.1) := by
  rw [tr0_succ]; unfold step0; rw [dif_neg h0, dif_pos h1]

theorem tr0_C (c : Dev nD) (t : Fin cfg0.N) (h0 : ¬t.val < 32) (h1 : ¬t.val % 64 = 32) :
    tr0 V c (t.val + 1) t.isLt = (out0_C_1 c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) (fun h => h1 ((hcond0_1 t).mp h)) ((hcond0_2 t).mpr (Nat.le_of_not_lt h0)) (iblk0 V c 0 t) (tr0 V c t.val (Nat.le_of_lt t.isLt)).2.2.1 (tr0 V c t.val (Nat.le_of_lt t.isLt)).2.2.2, (tr0 V c t.val (Nat.le_of_lt t.isLt)).2.1, (tr0 V c t.val (Nat.le_of_lt t.isLt)).2.2.1, (tr0 V c t.val (Nat.le_of_lt t.isLt)).2.2.2) := by
  rw [tr0_succ]; unfold step0; rw [dif_neg h0, dif_neg h1]

/-- At the first point the running maximum starts at zero: what the scratch held before does not matter. -/
theorem first0 (c : Dev nD) (t : Fin cfg0.N) (hz : t.val = 0) (h0 : t.val < 32) (x : Vec F S256x7168 .bf16) (d d' : Vec F S8x7168 .f32) :
    sout0_A_0 c (grid0.coords t) (ms0_0 t) (hs0_0 t) (ms0_1 t) (hs0_1 t) (ms0_2 t) (hs0_2 t) scM0_0 (Memref.isWhole_whole _) scM0_1 (Memref.isWhole_whole _) ((hcond0_0 t).mpr h0) (notB0 t h0) (notC0 t h0) x d = sout0_A_0 c (grid0.coords t) (ms0_0 t) (hs0_0 t) (ms0_1 t) (hs0_1 t) (ms0_2 t) (hs0_2 t) scM0_0 (Memref.isWhole_whole _) scM0_1 (Memref.isWhole_whole _) ((hcond0_0 t).mpr h0) (notB0 t h0) (notC0 t h0) x d' := by
  have e : grid0.coords t = grid0.coords ⟨0, by decide⟩ := congrArg _ (Fin.ext hz)
  have k : ∀ z : Vec F S8x7168 .f32, sout0_A_0 c (grid0.coords t) (ms0_0 t) (hs0_0 t) (ms0_1 t) (hs0_1 t) (ms0_2 t) (hs0_2 t) scM0_0 (Memref.isWhole_whole _) scM0_1 (Memref.isWhole_whole _) ((hcond0_0 t).mpr h0) (notB0 t h0) (notC0 t h0) x z = k0_pay1 (grid0.coords t) x z := by
    intro z
    frame_out
    exact congrArg (k0_pay1 (grid0.coords t) x) ((Memref.isWhole_whole cc0_scratch0 : Memref.IsWhole _).read_unread (Val := Elt F) z)
  rw [k, k, e]
  rfl

/-- The invariant before point `n`: before the first point every scratch at anything; afterwards the running maximum at what
    the points before left, the reciprocal scale so too once it is taken (at anything before that), every other scoped
    buffer and the generator register at some state. -/
def PhiS0 (c : Dev nD) : (n : ℕ) → n ≤ cfg0.N → sProp 𝕄
  | 0, _ => Pipeline.ΦA spec0 c
  | n + 1, hn => iprop(iprop(owns (c : Thread nD τ) scM0_0 fullShare ((tr0 V c (n + 1) hn).2.2.1) ∗ (∃ d, ⌜32 ≤ n → d = (tr0 V c (n + 1) hn).2.2.2⌝ ∗ owns (c : Thread nD τ) scM0_1 fullShare d) ∗ Pipeline.scopedRestBut spec0 c [cc0_scratch0, cc0_scratch1]) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0_0 fullShare ((tr0 V c (n + 1) hn).2.2.1) ∗ (∃ d, ⌜32 ≤ n → d = (tr0 V c (n + 1) hn).2.2.2⌝ ∗ owns (c : Thread nD τ) scM0_1 fullShare d) ∗ Pipeline.scopedRestBut spec0 c [cc0_scratch0, cc0_scratch1]) ∗ (∃ r, prngReg c r)) := rfl

theorem PhiS0_pos (c : Dev nD) (n : ℕ) (h : n ≤ cfg0.N) (hz : n ≠ 0) :
    PhiS0 V c n h = iprop(iprop(owns (c : Thread nD τ) scM0_0 fullShare ((tr0 V c n h).2.2.1) ∗ (∃ d, ⌜32 < n → d = (tr0 V c n h).2.2.2⌝ ∗ owns (c : Thread nD τ) scM0_1 fullShare d) ∗ Pipeline.scopedRestBut spec0 c [cc0_scratch0, cc0_scratch1]) ∗ (∃ r, prngReg c r)) := by
  cases n with
  | zero => exact absurd rfl hz
  | succ n => rw [PhiS0_succ]; simp only [Nat.lt_succ_iff]

/-! ## The pipeline's proof data -/

/-- The proof data of pipeline 0 on core `c`: the arrays as the region finds them (`V`); after the body at
    point `t` each input's buffer at its block and the outputs' at `outsAt0`; the invariant the class's
    (`PhiS0`: the class's `ΦA` before the first point, then the scoped rest with the carried scratch at `outsAt0`'s component);
    nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => (tr0 V c (t.val + 1) t.isLt).1
    | ⟨2, _⟩ => (tr0 V c (t.val + 1) t.isLt).2.1
  Φ t := PhiS0 V c t.val (Nat.le_of_lt_succ t.isLt)
  q _ := fullShare
  owed _ := 0

/-- The proof data's arrays are the region-entry contents, by projecting the definition (`dsimp`): a region record cites
    this for its arrays rather than have Lean unfold `V`, the fold through @main up to the region's entry. -/
theorem A_eq0 (c : Dev nD) (w : Fin cfg0.W) : (dat0 V c).A w = V c (Pipeline.arrRef spec0 w) := by
  dsimp only [dat0]

/-- The invariant at a point's start (the proof data at `t.castSucc`), restated at `t.val`. -/
theorem PhiS0_castSucc (c : Dev nD) (t : Fin cfg0.N) :
    (dat0 V c).Φ t.castSucc = PhiS0 V c t.val (Nat.le_of_lt t.isLt) := by
  dsimp only [dat0]; exact Pipeline.Dat.Φ_castSucc (PhiS0 V c) t

/-- What the body leaves, window by window (the proof data's `match` reduced by `dsimp`). -/
theorem after0_0 (c : Dev nD) (t : Fin cfg0.N) : (dat0 V c).after 0 t = iblk0 V c 0 t := by dsimp only [dat0]
theorem after0_1 (c : Dev nD) (t : Fin cfg0.N) : (dat0 V c).after 1 t = (tr0 V c (t.val + 1) t.isLt).1 := by dsimp only [dat0]
theorem after0_2 (c : Dev nD) (t : Fin cfg0.N) : (dat0 V c).after 2 t = (tr0 V c (t.val + 1) t.isLt).2.1 := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d

/-- Past the point that takes the scale, window 2's buffer holds it: no later point stores there, and none before the last
    writes it back. -/
theorem before0_2 (c : Dev nD) (d) : ∀ (n : ℕ) (hn : n < cfg0.N), 32 < n →
    (dat0 V c).before 2 ⟨n, hn⟩ d = (tr0 V c n (Nat.le_of_lt hn)).2.1
  | 0, hn, h => absurd h (by omega)
  | n + 1, hn, h => by
    have hN : n + 1 < 64 := lt_of_lt_of_eq hn (show cfg0.N = 64 from N_0)
    have hp : n < cfg0.N := Nat.lt_of_succ_lt hn
    have h0 : ¬n < 32 := by omega
    rw [Dat.before_of_pos (dat0 V c) 2 ⟨n + 1, hn⟩ (Nat.succ_ne_zero n) (noFetch0_2 _) d]
    refine (if_neg (by rw [flush0_2 _ (by show n ≠ 63; omega)]; exact Bool.false_ne_true)).trans ?_
    show (dat0 V c).left 2 ⟨n, hp⟩ d = _
    unfold Dat.left
    by_cases h1 : n % 64 = 32
    · rw [liveAt0_2_B ⟨n, hp⟩ (fun h => h0 ((hcond0_0 ⟨n, hp⟩).mp h)) ((hcond0_1 ⟨n, hp⟩).mpr h1) ((hcond0_2 ⟨n, hp⟩).mpr (Nat.le_of_not_lt h0))]
      exact after0_2 V c ⟨n, hp⟩
    · rw [idleAt0_2_C ⟨n, hp⟩ (fun h => h0 ((hcond0_0 ⟨n, hp⟩).mp h)) (fun h => h1 ((hcond0_1 ⟨n, hp⟩).mp h)) ((hcond0_2 ⟨n, hp⟩).mpr (Nat.le_of_not_lt h0))]
      refine (before0_2 c d n hp ?_).trans (congrArg (fun p => p.2.1) (tr0_C V c ⟨n, hp⟩ h0 h1)).symm
      rcases Nat.lt_or_ge 32 n with h | h
      · exact h
      · exfalso; exact h1 (by rw [show n = 32 by omega])

/-- So a later point gives it back as the pipeline asks: as found, or, where it is written back, as the scale. -/
theorem leaves0_2 (c : Dev nD) (t : Fin cfg0.N) (d) (h0 : ¬t.val < 32) (h1 : ¬t.val % 64 = 32) :
    owns (c : Thread nD τ) (ms0_2 t) fullShare ((dat0 V c).before 2 t d) ⊢ (dat0 V c).leavesExact 2 t := by
  have hN : t.val < 64 := lt_of_lt_of_eq t.isLt (show cfg0.N = 64 from N_0)
  unfold Dat.leavesExact
  rw [idleAt0_2_C t (fun h => h0 ((hcond0_0 t).mp h)) (fun h => h1 ((hcond0_1 t).mp h)) ((hcond0_2 t).mpr (Nat.le_of_not_lt h0))]
  cases hf : (cfg0.win 2).flush t
  · dsimp only
    iintro H; iexists _; iexact H
  · dsimp only
    rw [before0_2 V c d t.val t.isLt (by rcases Nat.lt_or_ge 32 t.val with h | h; exact h; exfalso; exact h1 (by rw [show t.val = 32 by omega])), after0_2, tr0_C V c t h0 h1]

/-! ## The body obligation, at a generic point -/

/-- What the body is called with at point `t` (Lib/Pipeline.lean `BodyObligation`'s precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point: the inputs' memrefs hold their blocks (`before0_W`); the closed forms say which case the point is in (`by_cases`), an output the case reads before covering holds what the point before left (`before0_W_κ`); so the
    run applies; the invariant hands the body the carried scratch at what the point before left (`PhiS0_pos`; at anything at the first point, `PhiS0_zero`), the other scratch buffers and the generator register at some state, and takes the carried scratch back at this point's contents (`PhiS0_succ`, by `scoverK_κ_N`); the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).owesAt () t.succ = (dat0 V c).owesAt () t.castSucc from rfl]
  rw [show (dat0 V c).Φ t.succ = PhiS0 V c (t.val + 1) t.isLt from rfl, PhiS0_succ]
  have hN : t.val < 64 := lt_of_lt_of_eq t.isLt (show cfg0.N = 64 from N_0)
  by_cases h0 : t.val < 32
  · by_cases h1 : t.val % 64 = 32
    · exfalso; omega
    · by_cases h2 : 32 ≤ t.val
      · exfalso; omega
      · rw [show (dat0 V c).leavesExact 0 t = owns (c : Thread nD τ) (ms0_0 t) fullShare ((dat0 V c).after 0 t) from by
          unfold Dat.leavesExact; rw [liveAt0_0 t], after0_0]
        rw [Dat.leavesExact_idle (dat0 V c) 1 t (idleAt0_1_A t ((hcond0_0 t).mpr h0) (fun h => h1 ((hcond0_1 t).mp h)) (fun h => h2 ((hcond0_2 t).mp h))) (noFlush0_1_A t ((hcond0_0 t).mpr h0) (fun h => h1 ((hcond0_1 t).mp h)) (fun h => h2 ((hcond0_2 t).mp h)))]
        rw [Dat.leavesExact_idle (dat0 V c) 2 t (idleAt0_2_A t ((hcond0_0 t).mpr h0) (fun h => h1 ((hcond0_1 t).mp h)) (fun h => h2 ((hcond0_2 t).mp h))) (noFlush0_2_A t ((hcond0_0 t).mpr h0) (fun h => h1 ((hcond0_1 t).mp h)) (fun h => h2 ((hcond0_2 t).mp h)))]
        by_cases hz : t.val = 0
        · rw [PhiS0_castSucc V c t, PhiS0_zero V c _ _ hz, PhiA0_eq]
          rw [tr0_A V c t h0]
          (try dsimp only)
          iintro ⟨⟨⟨⟨%ds0, HS0⟩, ⟨%ds1, HS1⟩, HR2⟩, Hg⟩, Ho, ⟨%d0, H0⟩, ⟨%d1, H1⟩, ⟨%d2, H2⟩⟩
          iapply ((kernelRun0_A c (grid0.coords t) _ _ _ _ _ _ _ _ _ _ ((hcond0_0 t).mpr h0) (fun h => h1 ((hcond0_1 t).mp h)) (fun h => h2 ((hcond0_2 t).mp h)) (iblk0 V c 0 t) _).2.2.2.2 _ _ _ Set.univ _)
          isplitl [H0]; · iexact H0
          isplitl [H1]; · iexact H1
          isplitl [H2]; · iexact H2
          isplitl [HS0]; · iexact HS0
          isplitl [HS1]; · iexact HS1
          iintro ⟨H0, H1, H2, ⟨%es0, HS0⟩, HS1⟩
          isplitl [HS0 HS1 HR2 Hg]
          · isplitl [HS0 HS1 HR2]
            · isplitl [HS0]
              · unfold owns; iexists _; isplitr
                swap; · iexact HS0
                ipureintro; exact (View.read_writes_of_cover _ _ VS0_0 _ _ (scover0_A_0 c _ _ _ _ _ _ _ _ _ _ _ _ _ _ _ _)).trans (first0 c t hz h0 _ _ _)
              isplitl [HS1]
              · iexists _; isplitr
                swap; · iexact HS1
                ipureintro; exact fun h => absurd h (by omega)
              iexact HR2
            iexact Hg
          isplitl [Ho]; · iexact Ho
          isplitl [H0]; · iexact H0
          isplitl [H1]; · iexists _; iexact H1
          iexists _; iexact H2
        · rw [PhiS0_castSucc V c t, PhiS0_pos V c _ _ hz]
          rw [tr0_A V c t h0]
          (try dsimp only)
          iintro ⟨⟨⟨HS0, ⟨%ds1, %hds1, HS1⟩, HR2⟩, Hg⟩, Ho, ⟨%d0, H0⟩, ⟨%d1, H1⟩, ⟨%d2, H2⟩⟩
          iapply ((kernelRun0_A c (grid0.coords t) _ _ _ _ _ _ _ _ _ _ ((hcond0_0 t).mpr h0) (fun h => h1 ((hcond0_1 t).mp h)) (fun h => h2 ((hcond0_2 t).mp h)) (iblk0 V c 0 t) _).2.2.2.2 _ _ _ Set.univ _)
          isplitl [H0]; · iexact H0
          isplitl [H1]; · iexact H1
          isplitl [H2]; · iexact H2
          isplitl [HS0]; · iexact HS0
          isplitl [HS1]; · iexact HS1
          iintro ⟨H0, H1, H2, ⟨%es0, HS0⟩, HS1⟩
          isplitl [HS0 HS1 HR2 Hg]
          · isplitl [HS0 HS1 HR2]
            · isplitl [HS0]
              · unfold owns; iexists _; isplitr
                swap; · iexact HS0
                ipureintro; exact View.read_writes_of_cover _ _ _ _ _ (scover0_A_0 c _ _ _ _ _ _ _ _ _ _ _ _ _ _ _ _)
              isplitl [HS1]
              · iexists _; isplitr
                swap; · iexact HS1
                ipureintro; exact fun h => absurd h (by omega)
              iexact HR2
            iexact Hg
          isplitl [Ho]; · iexact Ho
          isplitl [H0]; · iexact H0
          isplitl [H1]; · iexists _; iexact H1
          iexists _; iexact H2
  · by_cases h1 : t.val % 64 = 32
    · by_cases h2 : 32 ≤ t.val
      · rw [show (dat0 V c).leavesExact 0 t = owns (c : Thread nD τ) (ms0_0 t) fullShare ((dat0 V c).after 0 t) from by
          unfold Dat.leavesExact; rw [liveAt0_0 t], after0_0]
        rw [show (dat0 V c).leavesExact 1 t = owns (c : Thread nD τ) (ms0_1 t) fullShare ((dat0 V c).after 1 t) from by
          unfold Dat.leavesExact; rw [liveAt0_1_B t (fun h => h0 ((hcond0_0 t).mp h)) ((hcond0_1 t).mpr h1) ((hcond0_2 t).mpr h2)], after0_1]
        rw [show (dat0 V c).leavesExact 2 t = owns (c : Thread nD τ) (ms0_2 t) fullShare ((dat0 V c).after 2 t) from by
          unfold Dat.leavesExact; rw [liveAt0_2_B t (fun h => h0 ((hcond0_0 t).mp h)) ((hcond0_1 t).mpr h1) ((hcond0_2 t).mpr h2)], after0_2]
        by_cases hz : t.val = 0
        · exfalso; have hN : t.val < 64 := lt_of_lt_of_eq t.isLt (show cfg0.N = 64 from N_0); omega
        · rw [PhiS0_castSucc V c t, PhiS0_pos V c _ _ hz]
          rw [tr0_B V c t h0 h1]
          (try dsimp only)
          iintro ⟨⟨⟨HS0, ⟨%ds1, %hds1, HS1⟩, HR2⟩, Hg⟩, Ho, ⟨%d0, H0⟩, ⟨%d1, H1⟩, ⟨%d2, H2⟩⟩
          iapply ((kernelRun0_B c (grid0.coords t) _ _ _ _ _ _ _ _ _ _ (fun h => h0 ((hcond0_0 t).mp h)) ((hcond0_1 t).mpr h1) ((hcond0_2 t).mpr h2) (iblk0 V c 0 t) _).2.2.2.2 Set.univ _)
          isplitl [H0]; · iexact H0
          isplitl [H1]; · iexists _; iexact H1
          isplitl [H2]; · iexists _; iexact H2
          isplitl [HS0]; · iexact HS0
          isplitl [HS1]; · iexists _; iexact HS1
          iintro ⟨H0, ⟨%e1, H1⟩, ⟨%e2, H2⟩, HS0, ⟨%es1, HS1⟩⟩
          isplitl [HS0 HS1 HR2 Hg]
          · isplitl [HS0 HS1 HR2]
            · isplitl [HS0]
              · iexact HS0
              isplitl [HS1]
              · iexists _; isplitr
                · ipureintro; exact fun _ => rfl
                unfold owns; iexists _; isplitr
                swap; · iexact HS1
                ipureintro; exact View.read_writes_of_cover _ _ _ _ _ (scover0_B_1 c _ _ _ _ _ _ _ _ _ _ _ _ _ _ _ _)
              iexact HR2
            iexact Hg
          isplitl [Ho]; · iexact Ho
          isplitl [H0]; · iexact H0
          isplitl [H1]
          · unfold owns; iexists _; isplitr
            swap; · iexact H1
            ipureintro; exact View.read_writes_of_cover _ _ _ _ _ (cover0_B_1 c _ _ _ _ _ _ _ _ _ _ _ _ _ _ _ _)
          unfold owns; iexists _; isplitr
          swap; · iexact H2
          ipureintro; exact View.read_writes_of_cover _ _ _ _ _ (cover0_B_2 c _ _ _ _ _ _ _ _ _ _ _ _ _ _ _ _)
      · exfalso; omega
    · by_cases h2 : 32 ≤ t.val
      · rw [show (dat0 V c).leavesExact 0 t = owns (c : Thread nD τ) (ms0_0 t) fullShare ((dat0 V c).after 0 t) from by
          unfold Dat.leavesExact; rw [liveAt0_0 t], after0_0]
        rw [show (dat0 V c).leavesExact 1 t = owns (c : Thread nD τ) (ms0_1 t) fullShare ((dat0 V c).after 1 t) from by
          unfold Dat.leavesExact; rw [liveAt0_1_C t (fun h => h0 ((hcond0_0 t).mp h)) (fun h => h1 ((hcond0_1 t).mp h)) ((hcond0_2 t).mpr h2)], after0_1]
        by_cases hz : t.val = 0
        · exfalso; have hN : t.val < 64 := lt_of_lt_of_eq t.isLt (show cfg0.N = 64 from N_0); omega
        · rw [PhiS0_castSucc V c t, PhiS0_pos V c _ _ hz]
          rw [tr0_C V c t h0 h1]
          (try dsimp only)
          iintro ⟨⟨⟨HS0, ⟨%ds1, %hds1, HS1⟩, HR2⟩, Hg⟩, Ho, ⟨%d0, H0⟩, ⟨%d1, H1⟩, ⟨%d2, H2⟩⟩
          obtain rfl := hds1 (by omega)
          iapply ((kernelRun0_C c (grid0.coords t) _ _ _ _ _ _ _ _ _ _ (fun h => h0 ((hcond0_0 t).mp h)) (fun h => h1 ((hcond0_1 t).mp h)) ((hcond0_2 t).mpr h2) (iblk0 V c 0 t) _ _).2.2.2.2 _ Set.univ _)
          isplitl [H0]; · iexact H0
          isplitl [H1]; · iexists _; iexact H1
          isplitl [H2]; · iexact H2
          isplitl [HS0]; · iexact HS0
          isplitl [HS1]; · iexact HS1
          iintro ⟨H0, ⟨%e1, H1⟩, H2, HS0, HS1⟩
          isplitl [HS0 HS1 HR2 Hg]
          · isplitl [HS0 HS1 HR2]
            · isplitl [HS0]
              · iexact HS0
              isplitl [HS1]
              · iexists _; isplitr
                swap; · iexact HS1
                ipureintro; exact fun _ => rfl
              iexact HR2
            iexact Hg
          isplitl [Ho]; · iexact Ho
          isplitl [H0]; · iexact H0
          isplitl [H1]
          · unfold owns; iexists _; isplitr
            swap; · iexact H1
            ipureintro; exact View.read_writes_of_cover _ _ _ _ _ (cover0_C_1 c _ _ _ _ _ _ _ _ _ _ _ _ _ _ _ _ _)
          iapply (leaves0_2 V c t d2 h0 h1); iexact H2
      · exfalso; omega

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

/-- What the launch hands the region (`ΦA`) is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point but the first the invariant gives `ΦA` back: the carried scratch's named contents are forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS0, ⟨%d, -, HS1⟩, HR⟩, Hg⟩
  isplitl [HS0 HS1 HR]
  · isplitl [HS0]
    · iexists _; iexact HS0
    isplitl [HS1]
    · iexists _; iexact HS1
    iexact HR
  iexact Hg

/-- The same after the last point. -/
theorem hout0 (c : Dev nD) : (dat0 V c).Φ (Fin.last cfg0.N) ⊢ Pipeline.ΦA spec0 c :=
  Phi_out0 V c _ (by rw [Fin.val_last]; have : cfg0.N = 64 := N_0; omega)

end Regions

end Cert.Kernel.Whole

end
-- ==== Proof.WholeBits.Region1.lean ====
/-
  The call number 1 of the kernel, at any contents `V` that the buffers have when the call is entered: the block of each
  window at a grid point, what the body leaves in its output windows and in the scratch memory it keeps from one point to the
  next, and the proof that the body does so.
-/
module

public import Idealize.ShloMosaic.Lib.Pipeline.ValueKit
public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Kernel.Whole

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section Regions
-- the TensorCore's buffer contents when a region is entered: the parameter every region's half is stated at, which
-- the run instantiates per region
variable (V : (c : Dev nD) → (b : Ref sig .tc) → Buf (Elt F) ((c : Thread nD τ).loc b))

/-! # REGION 1 of @main: custom_call 1, `cc1_dh` (pipeline 1), at the entry contents `V` — class R -/

/-! ## The windows' blocks -/

/-- Window `w`'s block at point `t`, read off its array as the region finds it (`V`). -/
noncomputable def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch conditions -/

/-- The condition of the body's `scf.if` 0 (`k1_h1`), from the grid coordinates (the skeleton's scalar
    chain substituted). -/
abbrev cond1_0 (i : grid1.Coords) : Prop := k1_cond1 i = 1#1
/-- It holds at the last point only — by arithmetic of the point. -/
theorem hcond1_0 : ∀ t : Fin cfg1.N, cond1_0 (grid1.coords t) ↔ t.val % 80 = 79 :=
  (fun t => by
    have ht : t.val < 80 := Nat.lt_of_lt_of_eq t.isLt N_1
    have e0 : (grid1.coords t 0).val = t.val / 10 % 8 := Pipeline.Grid.coords_val t 0 (by decide) rfl
    have e1 : (grid1.coords t 1).val = t.val / 1 % 10 := Pipeline.Grid.coords_val t 1 (by decide) rfl
    simp only [cond1_0, k1_cond1, e0, e1]
    word_cmp
   : ∀ t : Fin grid1.N, cond1_0 (grid1.coords t) ↔ t.val % 80 = 79)

/-! ## Where the windows are idle (the printed configuration's table `Cfg.idle`) -/

/-- Window 0 is never idle (an input). -/
theorem liveAt1_0 : ∀ t : Fin cfg1.N, cfg1.idle 0 (grid1.coords t) = false := fun _ => rfl
/-- Window 1 is never idle (an input). -/
theorem liveAt1_1 : ∀ t : Fin cfg1.N, cfg1.idle 1 (grid1.coords t) = false := fun _ => rfl
/-- Window 2 is never idle (an input). -/
theorem liveAt1_2 : ∀ t : Fin cfg1.N, cfg1.idle 2 (grid1.coords t) = false := fun _ => rfl
/-- Window 3 is never idle (an input). -/
theorem liveAt1_3 : ∀ t : Fin cfg1.N, cfg1.idle 3 (grid1.coords t) = false := fun _ => rfl
/-- Window 4 is never idle (an input). -/
theorem liveAt1_4 : ∀ t : Fin cfg1.N, cfg1.idle 4 (grid1.coords t) = false := fun _ => rfl
/-- Window 5 is never idle (an input). -/
theorem liveAt1_5 : ∀ t : Fin cfg1.N, cfg1.idle 5 (grid1.coords t) = false := fun _ => rfl
/-- Window 6 is never idle (an output stored at every point, under no condition). -/
theorem liveAt1_6 : ∀ t : Fin cfg1.N, cfg1.idle 6 (grid1.coords t) = false := fun _ => rfl
/-- Window 7 is never idle (an output stored at every point, under no condition). -/
theorem liveAt1_7 : ∀ t : Fin cfg1.N, cfg1.idle 7 (grid1.coords t) = false := fun _ => rfl
/-- At the points of case A the printed configuration (`Cfg.idle`) calls output 8 idle: the case stores nothing into it. -/
theorem idleAt1_8_A : ∀ t : Fin cfg1.N, ¬cond1_0 (grid1.coords t) → cfg1.idle 8 (grid1.coords t) = true := by decide +kernel
/-- At the points of case A the pipeline does not write output 8's block back. -/
theorem noFlush1_8_A : ∀ t : Fin cfg1.N, ¬cond1_0 (grid1.coords t) → (cfg1.win 8).flush t = false := by decide +kernel
/-- At the points of case B the printed configuration (`Cfg.idle`) calls output 8 live: the case stores into it. -/
theorem liveAt1_8_B : ∀ t : Fin cfg1.N, cond1_0 (grid1.coords t) → cfg1.idle 8 (grid1.coords t) = false := by decide +kernel

/-! ## The kernel body on any staging memrefs: a subtype the run finds -/

/-- One staging buffer of output window 6, through which its contents are stated (`View.read_writes_of_cover`: the
    choice does not matter). -/
abbrev VO1_6 : View sig .tc .vmem S1024x512 .f32 := (Memref.whole cc1_stg6_0 : Memref sig .tc .vmem S1024x512 .f32).view
/-- One staging buffer of output window 7, through which its contents are stated (`View.read_writes_of_cover`: the
    choice does not matter). -/
abbrev VO1_7 : View sig .tc .vmem S1024x512 .f32 := (Memref.whole cc1_stg7_0 : Memref sig .tc .vmem S1024x512 .f32).view
/-- One staging buffer of output window 8, through which its contents are stated (`View.read_writes_of_cover`: the
    choice does not matter). -/
abbrev VO1_8 : View sig .tc .smem S1x1 .f32 := (Memref.whole cc1_stg8_0 : Memref sig .tc .smem S1x1 .f32).view
/-- Each window's current staging memref at point `t`, spelled as the pipeline passes it (`bodyAt1`), and its wholeness. -/
abbrev ms1_0 (t : Fin cfg1.N) : Memref sig .tc .smem S1x1 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .smem S1x1 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x7168 .fp8e5m2 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S512x7168 .fp8e4m3 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1024x512 .bf16 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1024x512 .bf16 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1024x512 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S1024x512 .f32 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .smem S1x1 .f32 := win1_8.stage (cfg1.slots t 8)
abbrev hs1_8 (t : Fin cfg1.N) : (ms1_8 t).IsWhole := hstage1_8 ((cfg1.slots t 8).cast nbuf1_8)
/-- The scratch operands: whole scoped buffers of the kernel's own, passed beside the windows. -/
abbrev scM1_0 : Memref sig .tc .vmem S8x512 .f32 := Memref.whole cc1_scratch0
/-- The scratch `arg11` the kernel carries between points, as a view: what it holds is stated through it. -/
abbrev VS1_0 : View sig .tc .vmem S8x512 .f32 := scM1_0.view

/-- `Gen.scopedRest1_split` as ONE chain: the kernel's own scratch buffers, each whole at some contents, then every
    other scoped buffer, unopened (`Pipeline.scopedRestBut`). -/
theorem scopedRest1_flat (c : Dev nD) :
    (Pipeline.scopedRest spec1 c : sProp 𝕄)
      = iprop((∃ f : Buf (Elt F) ((c : Thread nD τ).loc cc1_scratch0), ((c : Thread nD τ).loc cc1_scratch0) ↦{fullShare} f) ∗ Pipeline.scopedRestBut spec1 c [cc1_scratch0]) := by
  rw [scopedRest1_split]

/-- The frame kit's invariant with the scratch operands as memrefs owned at some contents (`Gen.scopedRest1_flat`,
    Lib/Memref.lean `owns_whole`): what the body obligation hands the run and takes back. -/
theorem PhiA1_eq (c : Dev nD) :
    (Pipeline.ΦA spec1 c : sProp 𝕄)
      = iprop(iprop((∃ d, owns (c : Thread nD τ) scM1_0 fullShare d) ∗ Pipeline.scopedRestBut spec1 c [cc1_scratch0]) ∗ (∃ r, prngReg c r)) := by
  unfold Pipeline.ΦA; rw [scopedRest1_flat]; simp only [scM1_0, owns_whole]; try rfl

-- (the run's proof term is large: the definition's epilogue — `abstractNestedProofs` — walks it past the default budget)
set_option maxHeartbeats 1000000 in
/-- What the body's stores leave in each output's staging memref, as pieces (last first) IN CASE A (`scf.if` 0 not taken: points 0, 1, … 78: 79 of 80), WITH the
    proof that on whole staging memrefs — the inputs' at their contents, the outputs it leaves idle (8: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun1_A (c : Dev nD) (i : grid1.Coords) (arg2 : Memref sig .tc .smem S1x1 .f32) (harg2 : arg2.IsWhole) (arg3 : Memref sig .tc .smem S1x1 .f32) (harg3 : arg3.IsWhole) (arg4 : Memref sig .tc .vmem S1024x7168 .fp8e5m2) (harg4 : arg4.IsWhole) (arg5 : Memref sig .tc .vmem S512x7168 .fp8e4m3) (harg5 : arg5.IsWhole) (arg6 : Memref sig .tc .vmem S1024x512 .bf16) (harg6 : arg6.IsWhole) (arg7 : Memref sig .tc .vmem S1024x512 .bf16) (harg7 : arg7.IsWhole) (arg8 : Memref sig .tc .vmem S1024x512 .f32) (harg8 : arg8.IsWhole) (arg9 : Memref sig .tc .vmem S1024x512 .f32) (harg9 : arg9.IsWhole) (arg10 : Memref sig .tc .smem S1x1 .f32) (harg10 : arg10.IsWhole) (arg11 : Memref sig .tc .vmem S8x512 .f32) (harg11 : arg11.IsWhole) (hc0 : ¬cond1_0 i)
    (x0 : Vec F S1x1 .f32) (x1 : Vec F S1x1 .f32) (x2 : Vec F S1024x7168 .fp8e5m2) (x3 : Vec F S512x7168 .fp8e4m3) (x4 : Vec F S1024x512 .bf16) (x5 : Vec F S1024x512 .bf16) (xs0 : Vec F S8x512 .f32) :
    Σ' (L6 : List (View.Piece (Elt F) S1024x512 .f32)), Σ' (L7 : List (View.Piece (Elt F) S1024x512 .f32)), Σ' (L8 : List (View.Piece (Elt F) S1x1 .f32)), { LS0 : List (View.Piece (Elt F) S8x512 .f32) //
      ∀ (xi8 : Vec F S1x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ owns (c : Thread nD τ) arg10 fullShare xi8 ∗ owns (c : Thread nD τ) arg11 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ owns (c : Thread nD τ) arg10 fullShare xi8 ∗ (∃ f, arg11.view.loc (c : Thread nD τ) ↦[arg11.view.set]{fullShare} arg11.view.writes (Elt F) f LS0)) -∗ K ⟨⟩))
          ⊢ wp frame (wpE (defs₀ (F := F)) Variants.none c none) E (cc1_dh i arg2 harg2 arg3 harg3 arg4 harg4 arg5 harg5 arg6 harg6 arg7 harg7 arg8 harg8 arg9 harg9 arg10 harg10 arg11 harg11) K } := by
  refine ⟨?_, ?_, [], ?_, fun xi8 E K => ?run⟩
  case run =>
    simp only [cc1_dh_eq_skeleton]; unfold cc1_dh_skel
    simp only [k1_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%f8, %hf8, H8⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg10.eq_unread hf8; obtain rfl := harg11.eq_unread hfs0
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]; · iexists _; iexact H7
    isplitl [H8]
    · iexists _; isplitr; · ipureintro; exact harg10.read_unread _
      iexact H8
    iexists _; iexact HS0

/-- Case A's pieces for output 6 tile its block (1 store of `S1024x512`, checked by the kernel's evaluation: Lib/Ring.lean `Piece.tiledL`, linear in the pieces, through a loop's `@[irreducible]` trip theorem too), so they cover it. -/
theorem cover1_A_6 (c : Dev nD) (i : grid1.Coords) (arg2 : Memref sig .tc .smem S1x1 .f32) (harg2 : arg2.IsWhole) (arg3 : Memref sig .tc .smem S1x1 .f32) (harg3 : arg3.IsWhole) (arg4 : Memref sig .tc .vmem S1024x7168 .fp8e5m2) (harg4 : arg4.IsWhole) (arg5 : Memref sig .tc .vmem S512x7168 .fp8e4m3) (harg5 : arg5.IsWhole) (arg6 : Memref sig .tc .vmem S1024x512 .bf16) (harg6 : arg6.IsWhole) (arg7 : Memref sig .tc .vmem S1024x512 .bf16) (harg7 : arg7.IsWhole) (arg8 : Memref sig .tc .vmem S1024x512 .f32) (harg8 : arg8.IsWhole) (arg9 : Memref sig .tc .vmem S1024x512 .f32) (harg9 : arg9.IsWhole) (arg10 : Memref sig .tc .smem S1x1 .f32) (harg10 : arg10.IsWhole) (arg11 : Memref sig .tc .vmem S8x512 .f32) (harg11 : arg11.IsWhole) (hc0 : ¬cond1_0 i)
    (x0 : Vec F S1x1 .f32) (x1 : Vec F S1x1 .f32) (x2 : Vec F S1024x7168 .fp8e5m2) (x3 : Vec F S512x7168 .fp8e4m3) (x4 : Vec F S1024x512 .bf16) (x5 : Vec F S1024x512 .bf16) (xs0 : Vec F S8x512 .f32) (y : S1024x512.Idx) :
    ∃ pc ∈ (kernelRun1_A c i arg2 harg2 arg3 harg3 arg4 harg4 arg5 harg5 arg6 harg6 arg7 harg7 arg8 harg8 arg9 harg9 arg10 harg10 arg11 harg11 hc0 x0 x1 x2 x3 x4 x5 xs0).1, y ∈ pc.1.set :=
  View.cover_of_tiledL (kernelRun1_A c i arg2 harg2 arg3 harg3 arg4 harg4 arg5 harg5 arg6 harg6 arg7 harg7 arg8 harg8 arg9 harg9 arg10 harg10 arg11 harg11 hc0 x0 x1 x2 x3 x4 x5 xs0).1 S1024x512.size (by sl_kernel_rfl) y

/-- What case A leaves in output 6's staging buffer: its pieces read back over junk. -/
def out1_A_6 (c : Dev nD) (i : grid1.Coords) (arg2 : Memref sig .tc .smem S1x1 .f32) (harg2 : arg2.IsWhole) (arg3 : Memref sig .tc .smem S1x1 .f32) (harg3 : arg3.IsWhole) (arg4 : Memref sig .tc .vmem S1024x7168 .fp8e5m2) (harg4 : arg4.IsWhole) (arg5 : Memref sig .tc .vmem S512x7168 .fp8e4m3) (harg5 : arg5.IsWhole) (arg6 : Memref sig .tc .vmem S1024x512 .bf16) (harg6 : arg6.IsWhole) (arg7 : Memref sig .tc .vmem S1024x512 .bf16) (harg7 : arg7.IsWhole) (arg8 : Memref sig .tc .vmem S1024x512 .f32) (harg8 : arg8.IsWhole) (arg9 : Memref sig .tc .vmem S1024x512 .f32) (harg9 : arg9.IsWhole) (arg10 : Memref sig .tc .smem S1x1 .f32) (harg10 : arg10.IsWhole) (arg11 : Memref sig .tc .vmem S8x512 .f32) (harg11 : arg11.IsWhole) (hc0 : ¬cond1_0 i)
    (x0 : Vec F S1x1 .f32) (x1 : Vec F S1x1 .f32) (x2 : Vec F S1024x7168 .fp8e5m2) (x3 : Vec F S512x7168 .fp8e4m3) (x4 : Vec F S1024x512 .bf16) (x5 : Vec F S1024x512 .bf16) (xs0 : Vec F S8x512 .f32) : Vec F S1024x512 .f32 :=
  VO1_6.read (Elt F) (VO1_6.writes (Elt F) VO1_6.junk (kernelRun1_A c i arg2 harg2 arg3 harg3 arg4 harg4 arg5 harg5 arg6 harg6 arg7 harg7 arg8 harg8 arg9 harg9 arg10 harg10 arg11 harg11 hc0 x0 x1 x2 x3 x4 x5 xs0).1)

/-- Case A's pieces for output 7 tile its block (1 store of `S1024x512`, checked by the kernel's evaluation: Lib/Ring.lean `Piece.tiledL`, linear in the pieces, through a loop's `@[irreducible]` trip theorem too), so they cover it. -/
theorem cover1_A_7 (c : Dev nD) (i : grid1.Coords) (arg2 : Memref sig .tc .smem S1x1 .f32) (harg2 : arg2.IsWhole) (arg3 : Memref sig .tc .smem S1x1 .f32) (harg3 : arg3.IsWhole) (arg4 : Memref sig .tc .vmem S1024x7168 .fp8e5m2) (harg4 : arg4.IsWhole) (arg5 : Memref sig .tc .vmem S512x7168 .fp8e4m3) (harg5 : arg5.IsWhole) (arg6 : Memref sig .tc .vmem S1024x512 .bf16) (harg6 : arg6.IsWhole) (arg7 : Memref sig .tc .vmem S1024x512 .bf16) (harg7 : arg7.IsWhole) (arg8 : Memref sig .tc .vmem S1024x512 .f32) (harg8 : arg8.IsWhole) (arg9 : Memref sig .tc .vmem S1024x512 .f32) (harg9 : arg9.IsWhole) (arg10 : Memref sig .tc .smem S1x1 .f32) (harg10 : arg10.IsWhole) (arg11 : Memref sig .tc .vmem S8x512 .f32) (harg11 : arg11.IsWhole) (hc0 : ¬cond1_0 i)
    (x0 : Vec F S1x1 .f32) (x1 : Vec F S1x1 .f32) (x2 : Vec F S1024x7168 .fp8e5m2) (x3 : Vec F S512x7168 .fp8e4m3) (x4 : Vec F S1024x512 .bf16) (x5 : Vec F S1024x512 .bf16) (xs0 : Vec F S8x512 .f32) (y : S1024x512.Idx) :
    ∃ pc ∈ (kernelRun1_A c i arg2 harg2 arg3 harg3 arg4 harg4 arg5 harg5 arg6 harg6 arg7 harg7 arg8 harg8 arg9 harg9 arg10 harg10 arg11 harg11 hc0 x0 x1 x2 x3 x4 x5 xs0).2.1, y ∈ pc.1.set :=
  View.cover_of_tiledL (kernelRun1_A c i arg2 harg2 arg3 harg3 arg4 harg4 arg5 harg5 arg6 harg6 arg7 harg7 arg8 harg8 arg9 harg9 arg10 harg10 arg11 harg11 hc0 x0 x1 x2 x3 x4 x5 xs0).2.1 S1024x512.size (by sl_kernel_rfl) y

/-- What case A leaves in output 7's staging buffer: its pieces read back over junk. -/
def out1_A_7 (c : Dev nD) (i : grid1.Coords) (arg2 : Memref sig .tc .smem S1x1 .f32) (harg2 : arg2.IsWhole) (arg3 : Memref sig .tc .smem S1x1 .f32) (harg3 : arg3.IsWhole) (arg4 : Memref sig .tc .vmem S1024x7168 .fp8e5m2) (harg4 : arg4.IsWhole) (arg5 : Memref sig .tc .vmem S512x7168 .fp8e4m3) (harg5 : arg5.IsWhole) (arg6 : Memref sig .tc .vmem S1024x512 .bf16) (harg6 : arg6.IsWhole) (arg7 : Memref sig .tc .vmem S1024x512 .bf16) (harg7 : arg7.IsWhole) (arg8 : Memref sig .tc .vmem S1024x512 .f32) (harg8 : arg8.IsWhole) (arg9 : Memref sig .tc .vmem S1024x512 .f32) (harg9 : arg9.IsWhole) (arg10 : Memref sig .tc .smem S1x1 .f32) (harg10 : arg10.IsWhole) (arg11 : Memref sig .tc .vmem S8x512 .f32) (harg11 : arg11.IsWhole) (hc0 : ¬cond1_0 i)
    (x0 : Vec F S1x1 .f32) (x1 : Vec F S1x1 .f32) (x2 : Vec F S1024x7168 .fp8e5m2) (x3 : Vec F S512x7168 .fp8e4m3) (x4 : Vec F S1024x512 .bf16) (x5 : Vec F S1024x512 .bf16) (xs0 : Vec F S8x512 .f32) : Vec F S1024x512 .f32 :=
  VO1_7.read (Elt F) (VO1_7.writes (Elt F) VO1_7.junk (kernelRun1_A c i arg2 harg2 arg3 harg3 arg4 harg4 arg5 harg5 arg6 harg6 arg7 harg7 arg8 harg8 arg9 harg9 arg10 harg10 arg11 harg11 hc0 x0 x1 x2 x3 x4 x5 xs0).2.1)

/-- Case A's pieces for scratch `arg11`, which the kernel carries between points, cover it: 1 piece of `S8x512` tiling it (Lib/Ring.lean `Piece.tiledL`). -/
theorem scover1_A_0 (c : Dev nD) (i : grid1.Coords) (arg2 : Memref sig .tc .smem S1x1 .f32) (harg2 : arg2.IsWhole) (arg3 : Memref sig .tc .smem S1x1 .f32) (harg3 : arg3.IsWhole) (arg4 : Memref sig .tc .vmem S1024x7168 .fp8e5m2) (harg4 : arg4.IsWhole) (arg5 : Memref sig .tc .vmem S512x7168 .fp8e4m3) (harg5 : arg5.IsWhole) (arg6 : Memref sig .tc .vmem S1024x512 .bf16) (harg6 : arg6.IsWhole) (arg7 : Memref sig .tc .vmem S1024x512 .bf16) (harg7 : arg7.IsWhole) (arg8 : Memref sig .tc .vmem S1024x512 .f32) (harg8 : arg8.IsWhole) (arg9 : Memref sig .tc .vmem S1024x512 .f32) (harg9 : arg9.IsWhole) (arg10 : Memref sig .tc .smem S1x1 .f32) (harg10 : arg10.IsWhole) (arg11 : Memref sig .tc .vmem S8x512 .f32) (harg11 : arg11.IsWhole) (hc0 : ¬cond1_0 i)
    (x0 : Vec F S1x1 .f32) (x1 : Vec F S1x1 .f32) (x2 : Vec F S1024x7168 .fp8e5m2) (x3 : Vec F S512x7168 .fp8e4m3) (x4 : Vec F S1024x512 .bf16) (x5 : Vec F S1024x512 .bf16) (xs0 : Vec F S8x512 .f32) (y : S8x512.Idx) :
    ∃ pc ∈ (kernelRun1_A c i arg2 harg2 arg3 harg3 arg4 harg4 arg5 harg5 arg6 harg6 arg7 harg7 arg8 harg8 arg9 harg9 arg10 harg10 arg11 harg11 hc0 x0 x1 x2 x3 x4 x5 xs0).2.2.2.1, y ∈ pc.1.set :=
  View.cover_of_tiledL (kernelRun1_A c i arg2 harg2 arg3 harg3 arg4 harg4 arg5 harg5 arg6 harg6 arg7 harg7 arg8 harg8 arg9 harg9 arg10 harg10 arg11 harg11 hc0 x0 x1 x2 x3 x4 x5 xs0).2.2.2.1 S8x512.size (by sl_kernel_rfl) y

/-- What case A leaves in scratch `arg11`: its pieces read back over junk. -/
def sout1_A_0 (c : Dev nD) (i : grid1.Coords) (arg2 : Memref sig .tc .smem S1x1 .f32) (harg2 : arg2.IsWhole) (arg3 : Memref sig .tc .smem S1x1 .f32) (harg3 : arg3.IsWhole) (arg4 : Memref sig .tc .vmem S1024x7168 .fp8e5m2) (harg4 : arg4.IsWhole) (arg5 : Memref sig .tc .vmem S512x7168 .fp8e4m3) (harg5 : arg5.IsWhole) (arg6 : Memref sig .tc .vmem S1024x512 .bf16) (harg6 : arg6.IsWhole) (arg7 : Memref sig .tc .vmem S1024x512 .bf16) (harg7 : arg7.IsWhole) (arg8 : Memref sig .tc .vmem S1024x512 .f32) (harg8 : arg8.IsWhole) (arg9 : Memref sig .tc .vmem S1024x512 .f32) (harg9 : arg9.IsWhole) (arg10 : Memref sig .tc .smem S1x1 .f32) (harg10 : arg10.IsWhole) (arg11 : Memref sig .tc .vmem S8x512 .f32) (harg11 : arg11.IsWhole) (hc0 : ¬cond1_0 i)
    (x0 : Vec F S1x1 .f32) (x1 : Vec F S1x1 .f32) (x2 : Vec F S1024x7168 .fp8e5m2) (x3 : Vec F S512x7168 .fp8e4m3) (x4 : Vec F S1024x512 .bf16) (x5 : Vec F S1024x512 .bf16) (xs0 : Vec F S8x512 .f32) : Vec F S8x512 .f32 :=
  VS1_0.read (Elt F) (VS1_0.writes (Elt F) VS1_0.junk (kernelRun1_A c i arg2 harg2 arg3 harg3 arg4 harg4 arg5 harg5 arg6 harg6 arg7 harg7 arg8 harg8 arg9 harg9 arg10 harg10 arg11 harg11 hc0 x0 x1 x2 x3 x4 x5 xs0).2.2.2.1)

-- (the run's proof term is large: the definition's epilogue — `abstractNestedProofs` — walks it past the default budget)
set_option maxHeartbeats 1000000 in
/-- What the body's stores leave in each output's staging memref, as pieces (last first) IN CASE B (`scf.if` 0 taken: points 79), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun1_B (c : Dev nD) (i : grid1.Coords) (arg2 : Memref sig .tc .smem S1x1 .f32) (harg2 : arg2.IsWhole) (arg3 : Memref sig .tc .smem S1x1 .f32) (harg3 : arg3.IsWhole) (arg4 : Memref sig .tc .vmem S1024x7168 .fp8e5m2) (harg4 : arg4.IsWhole) (arg5 : Memref sig .tc .vmem S512x7168 .fp8e4m3) (harg5 : arg5.IsWhole) (arg6 : Memref sig .tc .vmem S1024x512 .bf16) (harg6 : arg6.IsWhole) (arg7 : Memref sig .tc .vmem S1024x512 .bf16) (harg7 : arg7.IsWhole) (arg8 : Memref sig .tc .vmem S1024x512 .f32) (harg8 : arg8.IsWhole) (arg9 : Memref sig .tc .vmem S1024x512 .f32) (harg9 : arg9.IsWhole) (arg10 : Memref sig .tc .smem S1x1 .f32) (harg10 : arg10.IsWhole) (arg11 : Memref sig .tc .vmem S8x512 .f32) (harg11 : arg11.IsWhole) (hc0 : cond1_0 i)
    (x0 : Vec F S1x1 .f32) (x1 : Vec F S1x1 .f32) (x2 : Vec F S1024x7168 .fp8e5m2) (x3 : Vec F S512x7168 .fp8e4m3) (x4 : Vec F S1024x512 .bf16) (x5 : Vec F S1024x512 .bf16) (xs0 : Vec F S8x512 .f32) :
    Σ' (L6 : List (View.Piece (Elt F) S1024x512 .f32)), Σ' (L7 : List (View.Piece (Elt F) S1024x512 .f32)), Σ' (L8 : List (View.Piece (Elt F) S1x1 .f32)), { LS0 : List (View.Piece (Elt F) S8x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ owns (c : Thread nD τ) arg11 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f LS0)) -∗ K ⟨⟩))
          ⊢ wp frame (wpE (defs₀ (F := F)) Variants.none c none) E (cc1_dh i arg2 harg2 arg3 harg3 arg4 harg4 arg5 harg5 arg6 harg6 arg7 harg7 arg8 harg8 arg9 harg9 arg10 harg10 arg11 harg11) K } := by
  refine ⟨?_, ?_, ?_, ?_, fun E K => ?run⟩
  case run =>
    simp only [cc1_dh_eq_skeleton]; unfold cc1_dh_skel
    simp only [k1_part3_eq_skeleton, k1_part1_eq_skeleton, k1_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg11.eq_unread hfs0
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]; · iexists _; iexact H7
    isplitl [H8]; · iexists _; iexact H8
    iexists _; iexact HS0

/-- Case B's pieces for output 6 tile its block (1 store of `S1024x512`, checked by the kernel's evaluation: Lib/Ring.lean `Piece.tiledL`, linear in the pieces, through a loop's `@[irreducible]` trip theorem too), so they cover it. -/
theorem cover1_B_6 (c : Dev nD) (i : grid1.Coords) (arg2 : Memref sig .tc .smem S1x1 .f32) (harg2 : arg2.IsWhole) (arg3 : Memref sig .tc .smem S1x1 .f32) (harg3 : arg3.IsWhole) (arg4 : Memref sig .tc .vmem S1024x7168 .fp8e5m2) (harg4 : arg4.IsWhole) (arg5 : Memref sig .tc .vmem S512x7168 .fp8e4m3) (harg5 : arg5.IsWhole) (arg6 : Memref sig .tc .vmem S1024x512 .bf16) (harg6 : arg6.IsWhole) (arg7 : Memref sig .tc .vmem S1024x512 .bf16) (harg7 : arg7.IsWhole) (arg8 : Memref sig .tc .vmem S1024x512 .f32) (harg8 : arg8.IsWhole) (arg9 : Memref sig .tc .vmem S1024x512 .f32) (harg9 : arg9.IsWhole) (arg10 : Memref sig .tc .smem S1x1 .f32) (harg10 : arg10.IsWhole) (arg11 : Memref sig .tc .vmem S8x512 .f32) (harg11 : arg11.IsWhole) (hc0 : cond1_0 i)
    (x0 : Vec F S1x1 .f32) (x1 : Vec F S1x1 .f32) (x2 : Vec F S1024x7168 .fp8e5m2) (x3 : Vec F S512x7168 .fp8e4m3) (x4 : Vec F S1024x512 .bf16) (x5 : Vec F S1024x512 .bf16) (xs0 : Vec F S8x512 .f32) (y : S1024x512.Idx) :
    ∃ pc ∈ (kernelRun1_B c i arg2 harg2 arg3 harg3 arg4 harg4 arg5 harg5 arg6 harg6 arg7 harg7 arg8 harg8 arg9 harg9 arg10 harg10 arg11 harg11 hc0 x0 x1 x2 x3 x4 x5 xs0).1, y ∈ pc.1.set :=
  View.cover_of_tiledL (kernelRun1_B c i arg2 harg2 arg3 harg3 arg4 harg4 arg5 harg5 arg6 harg6 arg7 harg7 arg8 harg8 arg9 harg9 arg10 harg10 arg11 harg11 hc0 x0 x1 x2 x3 x4 x5 xs0).1 S1024x512.size (by sl_kernel_rfl) y

/-- What case B leaves in output 6's staging buffer: its pieces read back over junk. -/
def out1_B_6 (c : Dev nD) (i : grid1.Coords) (arg2 : Memref sig .tc .smem S1x1 .f32) (harg2 : arg2.IsWhole) (arg3 : Memref sig .tc .smem S1x1 .f32) (harg3 : arg3.IsWhole) (arg4 : Memref sig .tc .vmem S1024x7168 .fp8e5m2) (harg4 : arg4.IsWhole) (arg5 : Memref sig .tc .vmem S512x7168 .fp8e4m3) (harg5 : arg5.IsWhole) (arg6 : Memref sig .tc .vmem S1024x512 .bf16) (harg6 : arg6.IsWhole) (arg7 : Memref sig .tc .vmem S1024x512 .bf16) (harg7 : arg7.IsWhole) (arg8 : Memref sig .tc .vmem S1024x512 .f32) (harg8 : arg8.IsWhole) (arg9 : Memref sig .tc .vmem S1024x512 .f32) (harg9 : arg9.IsWhole) (arg10 : Memref sig .tc .smem S1x1 .f32) (harg10 : arg10.IsWhole) (arg11 : Memref sig .tc .vmem S8x512 .f32) (harg11 : arg11.IsWhole) (hc0 : cond1_0 i)
    (x0 : Vec F S1x1 .f32) (x1 : Vec F S1x1 .f32) (x2 : Vec F S1024x7168 .fp8e5m2) (x3 : Vec F S512x7168 .fp8e4m3) (x4 : Vec F S1024x512 .bf16) (x5 : Vec F S1024x512 .bf16) (xs0 : Vec F S8x512 .f32) : Vec F S1024x512 .f32 :=
  VO1_6.read (Elt F) (VO1_6.writes (Elt F) VO1_6.junk (kernelRun1_B c i arg2 harg2 arg3 harg3 arg4 harg4 arg5 harg5 arg6 harg6 arg7 harg7 arg8 harg8 arg9 harg9 arg10 harg10 arg11 harg11 hc0 x0 x1 x2 x3 x4 x5 xs0).1)

/-- Case B's pieces for output 7 tile its block (1 store of `S1024x512`, checked by the kernel's evaluation: Lib/Ring.lean `Piece.tiledL`, linear in the pieces, through a loop's `@[irreducible]` trip theorem too), so they cover it. -/
theorem cover1_B_7 (c : Dev nD) (i : grid1.Coords) (arg2 : Memref sig .tc .smem S1x1 .f32) (harg2 : arg2.IsWhole) (arg3 : Memref sig .tc .smem S1x1 .f32) (harg3 : arg3.IsWhole) (arg4 : Memref sig .tc .vmem S1024x7168 .fp8e5m2) (harg4 : arg4.IsWhole) (arg5 : Memref sig .tc .vmem S512x7168 .fp8e4m3) (harg5 : arg5.IsWhole) (arg6 : Memref sig .tc .vmem S1024x512 .bf16) (harg6 : arg6.IsWhole) (arg7 : Memref sig .tc .vmem S1024x512 .bf16) (harg7 : arg7.IsWhole) (arg8 : Memref sig .tc .vmem S1024x512 .f32) (harg8 : arg8.IsWhole) (arg9 : Memref sig .tc .vmem S1024x512 .f32) (harg9 : arg9.IsWhole) (arg10 : Memref sig .tc .smem S1x1 .f32) (harg10 : arg10.IsWhole) (arg11 : Memref sig .tc .vmem S8x512 .f32) (harg11 : arg11.IsWhole) (hc0 : cond1_0 i)
    (x0 : Vec F S1x1 .f32) (x1 : Vec F S1x1 .f32) (x2 : Vec F S1024x7168 .fp8e5m2) (x3 : Vec F S512x7168 .fp8e4m3) (x4 : Vec F S1024x512 .bf16) (x5 : Vec F S1024x512 .bf16) (xs0 : Vec F S8x512 .f32) (y : S1024x512.Idx) :
    ∃ pc ∈ (kernelRun1_B c i arg2 harg2 arg3 harg3 arg4 harg4 arg5 harg5 arg6 harg6 arg7 harg7 arg8 harg8 arg9 harg9 arg10 harg10 arg11 harg11 hc0 x0 x1 x2 x3 x4 x5 xs0).2.1, y ∈ pc.1.set :=
  View.cover_of_tiledL (kernelRun1_B c i arg2 harg2 arg3 harg3 arg4 harg4 arg5 harg5 arg6 harg6 arg7 harg7 arg8 harg8 arg9 harg9 arg10 harg10 arg11 harg11 hc0 x0 x1 x2 x3 x4 x5 xs0).2.1 S1024x512.size (by sl_kernel_rfl) y

/-- What case B leaves in output 7's staging buffer: its pieces read back over junk. -/
def out1_B_7 (c : Dev nD) (i : grid1.Coords) (arg2 : Memref sig .tc .smem S1x1 .f32) (harg2 : arg2.IsWhole) (arg3 : Memref sig .tc .smem S1x1 .f32) (harg3 : arg3.IsWhole) (arg4 : Memref sig .tc .vmem S1024x7168 .fp8e5m2) (harg4 : arg4.IsWhole) (arg5 : Memref sig .tc .vmem S512x7168 .fp8e4m3) (harg5 : arg5.IsWhole) (arg6 : Memref sig .tc .vmem S1024x512 .bf16) (harg6 : arg6.IsWhole) (arg7 : Memref sig .tc .vmem S1024x512 .bf16) (harg7 : arg7.IsWhole) (arg8 : Memref sig .tc .vmem S1024x512 .f32) (harg8 : arg8.IsWhole) (arg9 : Memref sig .tc .vmem S1024x512 .f32) (harg9 : arg9.IsWhole) (arg10 : Memref sig .tc .smem S1x1 .f32) (harg10 : arg10.IsWhole) (arg11 : Memref sig .tc .vmem S8x512 .f32) (harg11 : arg11.IsWhole) (hc0 : cond1_0 i)
    (x0 : Vec F S1x1 .f32) (x1 : Vec F S1x1 .f32) (x2 : Vec F S1024x7168 .fp8e5m2) (x3 : Vec F S512x7168 .fp8e4m3) (x4 : Vec F S1024x512 .bf16) (x5 : Vec F S1024x512 .bf16) (xs0 : Vec F S8x512 .f32) : Vec F S1024x512 .f32 :=
  VO1_7.read (Elt F) (VO1_7.writes (Elt F) VO1_7.junk (kernelRun1_B c i arg2 harg2 arg3 harg3 arg4 harg4 arg5 harg5 arg6 harg6 arg7 harg7 arg8 harg8 arg9 harg9 arg10 harg10 arg11 harg11 hc0 x0 x1 x2 x3 x4 x5 xs0).2.1)

/-- Case B's pieces for output 8 tile its block (1 store of `S1x1`, checked by the kernel's evaluation: Lib/Ring.lean `Piece.tiledL`, linear in the pieces, through a loop's `@[irreducible]` trip theorem too), so they cover it. -/
theorem cover1_B_8 (c : Dev nD) (i : grid1.Coords) (arg2 : Memref sig .tc .smem S1x1 .f32) (harg2 : arg2.IsWhole) (arg3 : Memref sig .tc .smem S1x1 .f32) (harg3 : arg3.IsWhole) (arg4 : Memref sig .tc .vmem S1024x7168 .fp8e5m2) (harg4 : arg4.IsWhole) (arg5 : Memref sig .tc .vmem S512x7168 .fp8e4m3) (harg5 : arg5.IsWhole) (arg6 : Memref sig .tc .vmem S1024x512 .bf16) (harg6 : arg6.IsWhole) (arg7 : Memref sig .tc .vmem S1024x512 .bf16) (harg7 : arg7.IsWhole) (arg8 : Memref sig .tc .vmem S1024x512 .f32) (harg8 : arg8.IsWhole) (arg9 : Memref sig .tc .vmem S1024x512 .f32) (harg9 : arg9.IsWhole) (arg10 : Memref sig .tc .smem S1x1 .f32) (harg10 : arg10.IsWhole) (arg11 : Memref sig .tc .vmem S8x512 .f32) (harg11 : arg11.IsWhole) (hc0 : cond1_0 i)
    (x0 : Vec F S1x1 .f32) (x1 : Vec F S1x1 .f32) (x2 : Vec F S1024x7168 .fp8e5m2) (x3 : Vec F S512x7168 .fp8e4m3) (x4 : Vec F S1024x512 .bf16) (x5 : Vec F S1024x512 .bf16) (xs0 : Vec F S8x512 .f32) (y : S1x1.Idx) :
    ∃ pc ∈ (kernelRun1_B c i arg2 harg2 arg3 harg3 arg4 harg4 arg5 harg5 arg6 harg6 arg7 harg7 arg8 harg8 arg9 harg9 arg10 harg10 arg11 harg11 hc0 x0 x1 x2 x3 x4 x5 xs0).2.2.1, y ∈ pc.1.set :=
  View.cover_of_tiledL (kernelRun1_B c i arg2 harg2 arg3 harg3 arg4 harg4 arg5 harg5 arg6 harg6 arg7 harg7 arg8 harg8 arg9 harg9 arg10 harg10 arg11 harg11 hc0 x0 x1 x2 x3 x4 x5 xs0).2.2.1 S1x1.size (by sl_kernel_rfl) y

/-- What case B leaves in output 8's staging buffer: its pieces read back over junk. -/
def out1_B_8 (c : Dev nD) (i : grid1.Coords) (arg2 : Memref sig .tc .smem S1x1 .f32) (harg2 : arg2.IsWhole) (arg3 : Memref sig .tc .smem S1x1 .f32) (harg3 : arg3.IsWhole) (arg4 : Memref sig .tc .vmem S1024x7168 .fp8e5m2) (harg4 : arg4.IsWhole) (arg5 : Memref sig .tc .vmem S512x7168 .fp8e4m3) (harg5 : arg5.IsWhole) (arg6 : Memref sig .tc .vmem S1024x512 .bf16) (harg6 : arg6.IsWhole) (arg7 : Memref sig .tc .vmem S1024x512 .bf16) (harg7 : arg7.IsWhole) (arg8 : Memref sig .tc .vmem S1024x512 .f32) (harg8 : arg8.IsWhole) (arg9 : Memref sig .tc .vmem S1024x512 .f32) (harg9 : arg9.IsWhole) (arg10 : Memref sig .tc .smem S1x1 .f32) (harg10 : arg10.IsWhole) (arg11 : Memref sig .tc .vmem S8x512 .f32) (harg11 : arg11.IsWhole) (hc0 : cond1_0 i)
    (x0 : Vec F S1x1 .f32) (x1 : Vec F S1x1 .f32) (x2 : Vec F S1024x7168 .fp8e5m2) (x3 : Vec F S512x7168 .fp8e4m3) (x4 : Vec F S1024x512 .bf16) (x5 : Vec F S1024x512 .bf16) (xs0 : Vec F S8x512 .f32) : Vec F S1x1 .f32 :=
  VO1_8.read (Elt F) (VO1_8.writes (Elt F) VO1_8.junk (kernelRun1_B c i arg2 harg2 arg3 harg3 arg4 harg4 arg5 harg5 arg6 harg6 arg7 harg7 arg8 harg8 arg9 harg9 arg10 harg10 arg11 harg11 hc0 x0 x1 x2 x3 x4 x5 xs0).2.2.1)

/-- Case B's pieces for scratch `arg11`, which the kernel carries between points, cover it: 1 piece of `S8x512` tiling it (Lib/Ring.lean `Piece.tiledL`). -/
theorem scover1_B_0 (c : Dev nD) (i : grid1.Coords) (arg2 : Memref sig .tc .smem S1x1 .f32) (harg2 : arg2.IsWhole) (arg3 : Memref sig .tc .smem S1x1 .f32) (harg3 : arg3.IsWhole) (arg4 : Memref sig .tc .vmem S1024x7168 .fp8e5m2) (harg4 : arg4.IsWhole) (arg5 : Memref sig .tc .vmem S512x7168 .fp8e4m3) (harg5 : arg5.IsWhole) (arg6 : Memref sig .tc .vmem S1024x512 .bf16) (harg6 : arg6.IsWhole) (arg7 : Memref sig .tc .vmem S1024x512 .bf16) (harg7 : arg7.IsWhole) (arg8 : Memref sig .tc .vmem S1024x512 .f32) (harg8 : arg8.IsWhole) (arg9 : Memref sig .tc .vmem S1024x512 .f32) (harg9 : arg9.IsWhole) (arg10 : Memref sig .tc .smem S1x1 .f32) (harg10 : arg10.IsWhole) (arg11 : Memref sig .tc .vmem S8x512 .f32) (harg11 : arg11.IsWhole) (hc0 : cond1_0 i)
    (x0 : Vec F S1x1 .f32) (x1 : Vec F S1x1 .f32) (x2 : Vec F S1024x7168 .fp8e5m2) (x3 : Vec F S512x7168 .fp8e4m3) (x4 : Vec F S1024x512 .bf16) (x5 : Vec F S1024x512 .bf16) (xs0 : Vec F S8x512 .f32) (y : S8x512.Idx) :
    ∃ pc ∈ (kernelRun1_B c i arg2 harg2 arg3 harg3 arg4 harg4 arg5 harg5 arg6 harg6 arg7 harg7 arg8 harg8 arg9 harg9 arg10 harg10 arg11 harg11 hc0 x0 x1 x2 x3 x4 x5 xs0).2.2.2.1, y ∈ pc.1.set :=
  View.cover_of_tiledL (kernelRun1_B c i arg2 harg2 arg3 harg3 arg4 harg4 arg5 harg5 arg6 harg6 arg7 harg7 arg8 harg8 arg9 harg9 arg10 harg10 arg11 harg11 hc0 x0 x1 x2 x3 x4 x5 xs0).2.2.2.1 S8x512.size (by sl_kernel_rfl) y

/-- What case B leaves in scratch `arg11`: its pieces read back over junk. -/
def sout1_B_0 (c : Dev nD) (i : grid1.Coords) (arg2 : Memref sig .tc .smem S1x1 .f32) (harg2 : arg2.IsWhole) (arg3 : Memref sig .tc .smem S1x1 .f32) (harg3 : arg3.IsWhole) (arg4 : Memref sig .tc .vmem S1024x7168 .fp8e5m2) (harg4 : arg4.IsWhole) (arg5 : Memref sig .tc .vmem S512x7168 .fp8e4m3) (harg5 : arg5.IsWhole) (arg6 : Memref sig .tc .vmem S1024x512 .bf16) (harg6 : arg6.IsWhole) (arg7 : Memref sig .tc .vmem S1024x512 .bf16) (harg7 : arg7.IsWhole) (arg8 : Memref sig .tc .vmem S1024x512 .f32) (harg8 : arg8.IsWhole) (arg9 : Memref sig .tc .vmem S1024x512 .f32) (harg9 : arg9.IsWhole) (arg10 : Memref sig .tc .smem S1x1 .f32) (harg10 : arg10.IsWhole) (arg11 : Memref sig .tc .vmem S8x512 .f32) (harg11 : arg11.IsWhole) (hc0 : cond1_0 i)
    (x0 : Vec F S1x1 .f32) (x1 : Vec F S1x1 .f32) (x2 : Vec F S1024x7168 .fp8e5m2) (x3 : Vec F S512x7168 .fp8e4m3) (x4 : Vec F S1024x512 .bf16) (x5 : Vec F S1024x512 .bf16) (xs0 : Vec F S8x512 .f32) : Vec F S8x512 .f32 :=
  VS1_0.read (Elt F) (VS1_0.writes (Elt F) VS1_0.junk (kernelRun1_B c i arg2 harg2 arg3 harg3 arg4 harg4 arg5 harg5 arg6 harg6 arg7 harg7 arg8 harg8 arg9 harg9 arg10 harg10 arg11 harg11 hc0 x0 x1 x2 x3 x4 x5 xs0).2.2.2.1)

/-! ## What the outputs hold after each point -/

/-- What the output windows and the scratch buffer hold: the two halves of the gradient's block, the scale, the running maximum. -/
abbrev Tup1 (F : FTy → Type) [FloatOps F] := Vec F S1024x512 .f32 × Vec F S1024x512 .f32 × Vec F S1x1 .f32 × Vec F S8x512 .f32

/-- One point of the grid, from what the point before left (`p`): the two blocks are stored and the running maximum takes them
    in; at the last point the scale is taken from it. -/
def step1 (c : Dev nD) (t : Fin cfg1.N) (p : Tup1 F) : Tup1 F :=
  if h0 : t.val % 80 = 79 then
    (out1_B_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) ((hcond1_0 t).mpr h0) (iblk1 V c 0 t) (iblk1 V c 1 t) (iblk1 V c 2 t) (iblk1 V c 3 t) (iblk1 V c 4 t) (iblk1 V c 5 t) p.2.2.2, out1_B_7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) ((hcond1_0 t).mpr h0) (iblk1 V c 0 t) (iblk1 V c 1 t) (iblk1 V c 2 t) (iblk1 V c 3 t) (iblk1 V c 4 t) (iblk1 V c 5 t) p.2.2.2, out1_B_8 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) ((hcond1_0 t).mpr h0) (iblk1 V c 0 t) (iblk1 V c 1 t) (iblk1 V c 2 t) (iblk1 V c 3 t) (iblk1 V c 4 t) (iblk1 V c 5 t) p.2.2.2, sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) ((hcond1_0 t).mpr h0) (iblk1 V c 0 t) (iblk1 V c 1 t) (iblk1 V c 2 t) (iblk1 V c 3 t) (iblk1 V c 4 t) (iblk1 V c 5 t) p.2.2.2)
  else
    (out1_A_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) (fun h => h0 ((hcond1_0 t).mp h)) (iblk1 V c 0 t) (iblk1 V c 1 t) (iblk1 V c 2 t) (iblk1 V c 3 t) (iblk1 V c 4 t) (iblk1 V c 5 t) p.2.2.2, out1_A_7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) (fun h => h0 ((hcond1_0 t).mp h)) (iblk1 V c 0 t) (iblk1 V c 1 t) (iblk1 V c 2 t) (iblk1 V c 3 t) (iblk1 V c 4 t) (iblk1 V c 5 t) p.2.2.2, p.2.2.1, sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) (fun h => h0 ((hcond1_0 t).mp h)) (iblk1 V c 0 t) (iblk1 V c 1 t) (iblk1 V c 2 t) (iblk1 V c 3 t) (iblk1 V c 4 t) (iblk1 V c 5 t) p.2.2.2)

/-- What they hold before point `n`, from anything before the first. -/
def tr1 (c : Dev nD) : (n : ℕ) → n ≤ cfg1.N → Tup1 F
  | 0, _ => (VO1_6.read (Elt F) VO1_6.junk, VO1_7.read (Elt F) VO1_7.junk, VO1_8.read (Elt F) VO1_8.junk, VS1_0.read (Elt F) VS1_0.junk)
  | n + 1, hn => step1 V c ⟨n, hn⟩ (tr1 c n (Nat.le_of_lt hn))

theorem tr1_succ (c : Dev nD) (t : Fin cfg1.N) : tr1 V c (t.val + 1) t.isLt = step1 V c t (tr1 V c t.val (Nat.le_of_lt t.isLt)) := rfl

theorem tr1_A (c : Dev nD) (t : Fin cfg1.N) (h0 : ¬t.val % 80 = 79) :
    tr1 V c (t.val + 1) t.isLt = (out1_A_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) (fun h => h0 ((hcond1_0 t).mp h)) (iblk1 V c 0 t) (iblk1 V c 1 t) (iblk1 V c 2 t) (iblk1 V c 3 t) (iblk1 V c 4 t) (iblk1 V c 5 t) (tr1 V c t.val (Nat.le_of_lt t.isLt)).2.2.2, out1_A_7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) (fun h => h0 ((hcond1_0 t).mp h)) (iblk1 V c 0 t) (iblk1 V c 1 t) (iblk1 V c 2 t) (iblk1 V c 3 t) (iblk1 V c 4 t) (iblk1 V c 5 t) (tr1 V c t.val (Nat.le_of_lt t.isLt)).2.2.2, (tr1 V c t.val (Nat.le_of_lt t.isLt)).2.2.1, sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) (fun h => h0 ((hcond1_0 t).mp h)) (iblk1 V c 0 t) (iblk1 V c 1 t) (iblk1 V c 2 t) (iblk1 V c 3 t) (iblk1 V c 4 t) (iblk1 V c 5 t) (tr1 V c t.val (Nat.le_of_lt t.isLt)).2.2.2) := by
  rw [tr1_succ]; unfold step1; rw [dif_neg h0]

theorem tr1_B (c : Dev nD) (t : Fin cfg1.N) (h0 : t.val % 80 = 79) :
    tr1 V c (t.val + 1) t.isLt = (out1_B_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) ((hcond1_0 t).mpr h0) (iblk1 V c 0 t) (iblk1 V c 1 t) (iblk1 V c 2 t) (iblk1 V c 3 t) (iblk1 V c 4 t) (iblk1 V c 5 t) (tr1 V c t.val (Nat.le_of_lt t.isLt)).2.2.2, out1_B_7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) ((hcond1_0 t).mpr h0) (iblk1 V c 0 t) (iblk1 V c 1 t) (iblk1 V c 2 t) (iblk1 V c 3 t) (iblk1 V c 4 t) (iblk1 V c 5 t) (tr1 V c t.val (Nat.le_of_lt t.isLt)).2.2.2, out1_B_8 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) ((hcond1_0 t).mpr h0) (iblk1 V c 0 t) (iblk1 V c 1 t) (iblk1 V c 2 t) (iblk1 V c 3 t) (iblk1 V c 4 t) (iblk1 V c 5 t) (tr1 V c t.val (Nat.le_of_lt t.isLt)).2.2.2, sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) ((hcond1_0 t).mpr h0) (iblk1 V c 0 t) (iblk1 V c 1 t) (iblk1 V c 2 t) (iblk1 V c 3 t) (iblk1 V c 4 t) (iblk1 V c 5 t) (tr1 V c t.val (Nat.le_of_lt t.isLt)).2.2.2) := by
  rw [tr1_succ]; unfold step1; rw [dif_pos h0]

/-- The stored blocks do not depend on the running maximum, -/
theorem indep1_6 (c : Dev nD) (t : Fin cfg1.N) (h0 : ¬t.val % 80 = 79) (d d' : Vec F S8x512 .f32) :
    out1_A_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) (fun h => h0 ((hcond1_0 t).mp h)) (iblk1 V c 0 t) (iblk1 V c 1 t) (iblk1 V c 2 t) (iblk1 V c 3 t) (iblk1 V c 4 t) (iblk1 V c 5 t) d = out1_A_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) (fun h => h0 ((hcond1_0 t).mp h)) (iblk1 V c 0 t) (iblk1 V c 1 t) (iblk1 V c 2 t) (iblk1 V c 3 t) (iblk1 V c 4 t) (iblk1 V c 5 t) d' := rfl
theorem indep1_7 (c : Dev nD) (t : Fin cfg1.N) (h0 : ¬t.val % 80 = 79) (d d' : Vec F S8x512 .f32) :
    out1_A_7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) (fun h => h0 ((hcond1_0 t).mp h)) (iblk1 V c 0 t) (iblk1 V c 1 t) (iblk1 V c 2 t) (iblk1 V c 3 t) (iblk1 V c 4 t) (iblk1 V c 5 t) d = out1_A_7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) (fun h => h0 ((hcond1_0 t).mp h)) (iblk1 V c 0 t) (iblk1 V c 1 t) (iblk1 V c 2 t) (iblk1 V c 3 t) (iblk1 V c 4 t) (iblk1 V c 5 t) d' := rfl

/-- and at the first point the maximum starts at zero: what the scratch held before does not matter. -/
theorem first1 (c : Dev nD) (t : Fin cfg1.N) (hz : t.val = 0) (h0 : ¬t.val % 80 = 79) (d d' : Vec F S8x512 .f32) :
    sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) (fun h => h0 ((hcond1_0 t).mp h)) (iblk1 V c 0 t) (iblk1 V c 1 t) (iblk1 V c 2 t) (iblk1 V c 3 t) (iblk1 V c 4 t) (iblk1 V c 5 t) d = sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) (fun h => h0 ((hcond1_0 t).mp h)) (iblk1 V c 0 t) (iblk1 V c 1 t) (iblk1 V c 2 t) (iblk1 V c 3 t) (iblk1 V c 4 t) (iblk1 V c 5 t) d' := by
  obtain rfl : t = ⟨0, by decide⟩ := Fin.ext hz
  frame_out
  rfl

/-- The region invariant before position `n` with a scratch the kernel CARRIES between points: before the first point the
    class's (Lib/Pipeline/Frame.lean `ΦA`: every scratch at anything); afterwards the scoped rest with each carried scratch
    at what the point before left in it (`tr1`'s scratch components), the others at anything, and the generator register
    at some state. -/
def PhiS1 (c : Dev nD) : (n : ℕ) → n ≤ cfg1.N → sProp 𝕄
  | 0, _ => Pipeline.ΦA spec1 c
  | n + 1, hn => iprop(iprop(owns (c : Thread nD τ) scM1_0 fullShare ((tr1 V c (n + 1) hn).2.2.2) ∗ Pipeline.scopedRestBut spec1 c [cc1_scratch0]) ∗ (∃ r, prngReg c r))

theorem PhiS1_zero (c : Dev nD) (n : ℕ) (h : n ≤ cfg1.N) (hz : n = 0) : PhiS1 V c n h = Pipeline.ΦA spec1 c := by
  subst hz; rfl

/-- After point `n` (before point `n + 1`): the carried scratch at that point's contents. -/
theorem PhiS1_succ (c : Dev nD) (n : ℕ) (hn : n < cfg1.N) :
    PhiS1 V c (n + 1) hn = iprop(iprop(owns (c : Thread nD τ) scM1_0 fullShare ((tr1 V c (n + 1) hn).2.2.2) ∗ Pipeline.scopedRestBut spec1 c [cc1_scratch0]) ∗ (∃ r, prngReg c r)) := rfl

/-- Before a point that is not the first: the carried scratch at what the point before left. -/
theorem PhiS1_pos (c : Dev nD) (n : ℕ) (h : n ≤ cfg1.N) (hz : n ≠ 0) :
    PhiS1 V c n h = iprop(iprop(owns (c : Thread nD τ) scM1_0 fullShare ((tr1 V c n h).2.2.2) ∗ Pipeline.scopedRestBut spec1 c [cc1_scratch0]) ∗ (∃ r, prngReg c r)) := by
  cases n with
  | zero => exact absurd rfl hz
  | succ n => rfl

/-! ## The pipeline's proof data -/

/-- The proof data of pipeline 1 on core `c`: the arrays as the region finds them (`V`); after the body at
    point `t` each input's buffer at its block and the outputs' at `tr1`; the invariant the class's
    (`PhiS1`: the class's `ΦA` before the first point, then the scoped rest with the carried scratch at `tr1`'s component);
    nothing owed; each input's share of its array
    (`Pipeline.shareOf`: the full share of an array several windows stage, dealt among them). -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => (tr1 V c (t.val + 1) t.isLt).1
    | ⟨7, _⟩ => (tr1 V c (t.val + 1) t.isLt).2.1
    | ⟨8, _⟩ => (tr1 V c (t.val + 1) t.isLt).2.2.1
  Φ t := PhiS1 V c t.val (Nat.le_of_lt_succ t.isLt)
  q w := Pipeline.shareOf spec1 w
  owed _ := 0

/-- The proof data's arrays are the region-entry contents, by projecting the definition (`dsimp`): a region record cites
    this for its arrays rather than have Lean unfold `V`, the fold through @main up to the region's entry. -/
theorem A_eq1 (c : Dev nD) (w : Fin cfg1.W) : (dat1 V c).A w = V c (Pipeline.arrRef spec1 w) := by
  dsimp only [dat1]

/-- The invariant at a point's start (the proof data at `t.castSucc`), restated at `t.val`. -/
theorem PhiS1_castSucc (c : Dev nD) (t : Fin cfg1.N) :
    (dat1 V c).Φ t.castSucc = PhiS1 V c t.val (Nat.le_of_lt t.isLt) := by
  dsimp only [dat1]; exact Pipeline.Dat.Φ_castSucc (PhiS1 V c) t

/-- What the body leaves, window by window (the proof data's `match` reduced by `dsimp`). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = (tr1 V c (t.val + 1) t.isLt).1 := by dsimp only [dat1]
theorem after1_7 (c : Dev nD) (t : Fin cfg1.N) : (dat1 V c).after 7 t = (tr1 V c (t.val + 1) t.isLt).2.1 := by dsimp only [dat1]
theorem after1_8 (c : Dev nD) (t : Fin cfg1.N) : (dat1 V c).after 8 t = (tr1 V c (t.val + 1) t.isLt).2.2.1 := by dsimp only [dat1]

/-- Each input's current staging buffer holds its block at every point, fetched there or not (`beforeK_W_of`). -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-! ## The body obligation, at a generic point -/

/-- What the body is called with at point `t` (Lib/Pipeline.lean `BodyObligation`'s precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d))
    ∗ (∃ d, owns (c : Thread nD τ) (ms1_8 t) fullShare ((dat1 V c).before 8 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t
    ∗ (dat1 V c).leavesExact 8 t)

set_option maxHeartbeats 6400000 in
/-- The body at any point: the inputs' memrefs hold their blocks (`before1_W`); the closed forms say which case the point is in (`by_cases`), an output the case reads before covering holds what the point before left (`before1_W_κ`); so the
    run applies; the invariant hands the body the carried scratch at what the point before left (`PhiS1_pos`; at anything at the first point, `PhiS1_zero`), the other scratch buffers and the generator register at some state, and takes the carried scratch back at this point's contents (`PhiS1_succ`, by `scoverK_κ_N`); the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).owesAt () t.succ = (dat1 V c).owesAt () t.castSucc from rfl]
  rw [show (dat1 V c).Φ t.succ = PhiS1 V c (t.val + 1) t.isLt from rfl, PhiS1_succ]
  have hN : t.val < 80 := lt_of_lt_of_eq t.isLt (show cfg1.N = 80 from N_1)
  by_cases h0 : t.val % 80 = 79
  · rw [show (dat1 V c).leavesExact 0 t = owns (c : Thread nD τ) (ms1_0 t) fullShare ((dat1 V c).after 0 t) from by
      unfold Dat.leavesExact; rw [liveAt1_0 t], after1_0]
    rw [show (dat1 V c).leavesExact 1 t = owns (c : Thread nD τ) (ms1_1 t) fullShare ((dat1 V c).after 1 t) from by
      unfold Dat.leavesExact; rw [liveAt1_1 t], after1_1]
    rw [show (dat1 V c).leavesExact 2 t = owns (c : Thread nD τ) (ms1_2 t) fullShare ((dat1 V c).after 2 t) from by
      unfold Dat.leavesExact; rw [liveAt1_2 t], after1_2]
    rw [show (dat1 V c).leavesExact 3 t = owns (c : Thread nD τ) (ms1_3 t) fullShare ((dat1 V c).after 3 t) from by
      unfold Dat.leavesExact; rw [liveAt1_3 t], after1_3]
    rw [show (dat1 V c).leavesExact 4 t = owns (c : Thread nD τ) (ms1_4 t) fullShare ((dat1 V c).after 4 t) from by
      unfold Dat.leavesExact; rw [liveAt1_4 t], after1_4]
    rw [show (dat1 V c).leavesExact 5 t = owns (c : Thread nD τ) (ms1_5 t) fullShare ((dat1 V c).after 5 t) from by
      unfold Dat.leavesExact; rw [liveAt1_5 t], after1_5]
    rw [show (dat1 V c).leavesExact 6 t = owns (c : Thread nD τ) (ms1_6 t) fullShare ((dat1 V c).after 6 t) from by
      unfold Dat.leavesExact; rw [liveAt1_6 t], after1_6]
    rw [show (dat1 V c).leavesExact 7 t = owns (c : Thread nD τ) (ms1_7 t) fullShare ((dat1 V c).after 7 t) from by
      unfold Dat.leavesExact; rw [liveAt1_7 t], after1_7]
    rw [show (dat1 V c).leavesExact 8 t = owns (c : Thread nD τ) (ms1_8 t) fullShare ((dat1 V c).after 8 t) from by
      unfold Dat.leavesExact; rw [liveAt1_8_B t ((hcond1_0 t).mpr h0)], after1_8]
    by_cases hz : t.val = 0
    · exfalso; have hN : t.val < 80 := lt_of_lt_of_eq t.isLt (show cfg1.N = 80 from N_1); omega
    · rw [PhiS1_castSucc V c t, PhiS1_pos V c _ _ hz]
      rw [tr1_B V c t h0]
      (try dsimp only)
      iintro ⟨⟨⟨HS0, HR1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun1_B c (grid1.coords t) _ _ _ _ _ _ _ _ _ _ _ _ _ _ _ _ _ _ _ _ ((hcond1_0 t).mpr h0) (iblk1 V c 0 t) (iblk1 V c 1 t) (iblk1 V c 2 t) (iblk1 V c 3 t) (iblk1 V c 4 t) (iblk1 V c 5 t) _).2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [H8]; · iexists _; iexact H8
      isplitl [HS0]; · iexact HS0
      iintro ⟨H0, H1, H2, H3, H4, H5, ⟨%e6, H6⟩, ⟨%e7, H7⟩, ⟨%e8, H8⟩, ⟨%es0, HS0⟩⟩
      isplitl [HS0 HR1 Hg]
      · isplitl [HS0 HR1]
        · isplitl [HS0]
          · unfold owns; iexists _; isplitr
            swap; · iexact HS0
            ipureintro; exact View.read_writes_of_cover _ _ _ _ _ (scover1_B_0 c _ _ _ _ _ _ _ _ _ _ _ _ _ _ _ _ _ _ _ _ _ _ _ _ _ _ _ _ _)
          iexact HR1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover1_B_6 c _ _ _ _ _ _ _ _ _ _ _ _ _ _ _ _ _ _ _ _ _ _ _ _ _ _ _ _ _)
      isplitl [H7]
      · unfold owns; iexists _; isplitr
        swap; · iexact H7
        ipureintro; exact View.read_writes_of_cover _ _ _ _ _ (cover1_B_7 c _ _ _ _ _ _ _ _ _ _ _ _ _ _ _ _ _ _ _ _ _ _ _ _ _ _ _ _ _)
      unfold owns; iexists _; isplitr
      swap; · iexact H8
      ipureintro; exact View.read_writes_of_cover _ _ _ _ _ (cover1_B_8 c _ _ _ _ _ _ _ _ _ _ _ _ _ _ _ _ _ _ _ _ _ _ _ _ _ _ _ _ _)
  · rw [show (dat1 V c).leavesExact 0 t = owns (c : Thread nD τ) (ms1_0 t) fullShare ((dat1 V c).after 0 t) from by
      unfold Dat.leavesExact; rw [liveAt1_0 t], after1_0]
    rw [show (dat1 V c).leavesExact 1 t = owns (c : Thread nD τ) (ms1_1 t) fullShare ((dat1 V c).after 1 t) from by
      unfold Dat.leavesExact; rw [liveAt1_1 t], after1_1]
    rw [show (dat1 V c).leavesExact 2 t = owns (c : Thread nD τ) (ms1_2 t) fullShare ((dat1 V c).after 2 t) from by
      unfold Dat.leavesExact; rw [liveAt1_2 t], after1_2]
    rw [show (dat1 V c).leavesExact 3 t = owns (c : Thread nD τ) (ms1_3 t) fullShare ((dat1 V c).after 3 t) from by
      unfold Dat.leavesExact; rw [liveAt1_3 t], after1_3]
    rw [show (dat1 V c).leavesExact 4 t = owns (c : Thread nD τ) (ms1_4 t) fullShare ((dat1 V c).after 4 t) from by
      unfold Dat.leavesExact; rw [liveAt1_4 t], after1_4]
    rw [show (dat1 V c).leavesExact 5 t = owns (c : Thread nD τ) (ms1_5 t) fullShare ((dat1 V c).after 5 t) from by
      unfold Dat.leavesExact; rw [liveAt1_5 t], after1_5]
    rw [show (dat1 V c).leavesExact 6 t = owns (c : Thread nD τ) (ms1_6 t) fullShare ((dat1 V c).after 6 t) from by
      unfold Dat.leavesExact; rw [liveAt1_6 t], after1_6]
    rw [show (dat1 V c).leavesExact 7 t = owns (c : Thread nD τ) (ms1_7 t) fullShare ((dat1 V c).after 7 t) from by
      unfold Dat.leavesExact; rw [liveAt1_7 t], after1_7]
    rw [Dat.leavesExact_idle (dat1 V c) 8 t (idleAt1_8_A t (fun h => h0 ((hcond1_0 t).mp h))) (noFlush1_8_A t (fun h => h0 ((hcond1_0 t).mp h)))]
    by_cases hz : t.val = 0
    · rw [PhiS1_castSucc V c t, PhiS1_zero V c _ _ hz, PhiA1_eq]
      rw [tr1_A V c t h0]
      (try dsimp only)
      iintro ⟨⟨⟨⟨%ds0, HS0⟩, HR1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun1_A c (grid1.coords t) _ _ _ _ _ _ _ _ _ _ _ _ _ _ _ _ _ _ _ _ (fun h => h0 ((hcond1_0 t).mp h)) (iblk1 V c 0 t) (iblk1 V c 1 t) (iblk1 V c 2 t) (iblk1 V c 3 t) (iblk1 V c 4 t) (iblk1 V c 5 t) _).2.2.2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [H8]; · iexact H8
      isplitl [HS0]; · iexact HS0
      iintro ⟨H0, H1, H2, H3, H4, H5, ⟨%e6, H6⟩, ⟨%e7, H7⟩, H8, ⟨%es0, HS0⟩⟩
      isplitl [HS0 HR1 Hg]
      · isplitl [HS0 HR1]
        · isplitl [HS0]
          · unfold owns; iexists _; isplitr
            swap; · iexact HS0
            ipureintro; exact (View.read_writes_of_cover _ _ VS1_0 _ _ (scover1_A_0 c _ _ _ _ _ _ _ _ _ _ _ _ _ _ _ _ _ _ _ _ _ _ _ _ _ _ _ _ _)).trans (first1 V c t hz h0 ds0 _)
          iexact HR1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact (View.read_writes_of_cover _ _ VO1_6 _ _ (cover1_A_6 c _ _ _ _ _ _ _ _ _ _ _ _ _ _ _ _ _ _ _ _ _ _ _ _ _ _ _ _ _)).trans (indep1_6 V c t h0 ds0 _)
      isplitl [H7]
      · unfold owns; iexists _; isplitr
        swap; · iexact H7
        ipureintro; exact (View.read_writes_of_cover _ _ VO1_7 _ _ (cover1_A_7 c _ _ _ _ _ _ _ _ _ _ _ _ _ _ _ _ _ _ _ _ _ _ _ _ _ _ _ _ _)).trans (indep1_7 V c t h0 ds0 _)
      iexists _; iexact H8
    · rw [PhiS1_castSucc V c t, PhiS1_pos V c _ _ hz]
      rw [tr1_A V c t h0]
      (try dsimp only)
      iintro ⟨⟨⟨HS0, HR1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun1_A c (grid1.coords t) _ _ _ _ _ _ _ _ _ _ _ _ _ _ _ _ _ _ _ _ (fun h => h0 ((hcond1_0 t).mp h)) (iblk1 V c 0 t) (iblk1 V c 1 t) (iblk1 V c 2 t) (iblk1 V c 3 t) (iblk1 V c 4 t) (iblk1 V c 5 t) _).2.2.2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [H8]; · iexact H8
      isplitl [HS0]; · iexact HS0
      iintro ⟨H0, H1, H2, H3, H4, H5, ⟨%e6, H6⟩, ⟨%e7, H7⟩, H8, ⟨%es0, HS0⟩⟩
      isplitl [HS0 HR1 Hg]
      · isplitl [HS0 HR1]
        · isplitl [HS0]
          · unfold owns; iexists _; isplitr
            swap; · iexact HS0
            ipureintro; exact View.read_writes_of_cover _ _ _ _ _ (scover1_A_0 c _ _ _ _ _ _ _ _ _ _ _ _ _ _ _ _ _ _ _ _ _ _ _ _ _ _ _ _ _)
          iexact HR1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover1_A_6 c _ _ _ _ _ _ _ _ _ _ _ _ _ _ _ _ _ _ _ _ _ _ _ _ _ _ _ _ _)
      isplitl [H7]
      · unfold owns; iexists _; isplitr
        swap; · iexact H7
        ipureintro; exact View.read_writes_of_cover _ _ _ _ _ (cover1_A_7 c _ _ _ _ _ _ _ _ _ _ _ _ _ _ _ _ _ _ _ _ _ _ _ _ _ _ _ _ _)
      iexists _; iexact H8

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The library's body obligation, at every point: the body's triple restated (Lib/Pipeline/FrameBody.lean `triple_restated`). -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

/-- What the launch hands the region (`ΦA`) is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives `ΦA` back: the carried scratch's named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HS0, HR1⟩, Hg⟩
  isplitl [HS0 HR1]
  · isplitl [HS0]
    · iexists _; iexact HS0
    iexact HR1
  iexact Hg

/-- The same after the last point. -/
theorem hout1 (c : Dev nD) : (dat1 V c).Φ (Fin.last cfg1.N) ⊢ Pipeline.ΦA spec1 c :=
  Phi_out1 V c _ (by rw [Fin.val_last]; have : cfg1.N = 80 := N_1; omega)

end Regions

end Cert.Kernel.Whole

end
-- ==== Proof.WholeBits.Region2.lean ====
/-
  The call number 2 of the kernel, at any contents `V` that the buffers have when the call is entered: the block of each
  window at a grid point, what the body leaves in its output windows and in the scratch memory it keeps from one point to the
  next, and the proof that the body does so.
-/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Kernel.Whole

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section Regions
-- the TensorCore's buffer contents when a region is entered: the parameter every region's half is stated at, which
-- the run instantiates per region
variable (V : (c : Dev nD) → (b : Ref sig .tc) → Buf (Elt F) ((c : Thread nD τ).loc b))

/-! # REGION 2 of @main: custom_call 2, `cc2_dw2` (pipeline 2), at the entry contents `V` — class R -/

/-! ## The windows' blocks -/

/-- Window `w`'s block at point `t`, read off its array as the region finds it (`V`). -/
noncomputable def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-! ## The body's branch conditions -/

/-- The condition of the body's `scf.if` 0 (`k2_h1`), from the grid coordinates (the skeleton's scalar
    chain substituted). -/
abbrev cond2_0 (i : grid2.Coords) : Prop := (Scalar.cmpi .ne (Scalar.extui (Scalar.cmpi .eq (BitVec.ofNat 32 (i 1).val) 0#32)) 0#32) = 1#1
/-- It holds at the points ≡ 0 (mod 14) — by arithmetic of the point. -/
theorem hcond2_0 : ∀ t : Fin cfg2.N, cond2_0 (grid2.coords t) ↔ t.val % 14 = 0 :=
  (fun t => by
    have ht : t.val < 70 := Nat.lt_of_lt_of_eq t.isLt N_2
    have e0 : (grid2.coords t 0).val = t.val / 14 % 5 := Pipeline.Grid.coords_val t 0 (by decide) rfl
    have e1 : (grid2.coords t 1).val = t.val / 1 % 14 := Pipeline.Grid.coords_val t 1 (by decide) rfl
    simp only [cond2_0, e0, e1]
    word_cmp
   : ∀ t : Fin grid2.N, cond2_0 (grid2.coords t) ↔ t.val % 14 = 0)

/-! ## The kernel body on any staging memrefs: a subtype the run finds -/

/-- One staging buffer of output window 4, through which its contents are stated (`View.read_writes_of_cover`: the
    choice does not matter). -/
abbrev VO2_4 : View sig .tc .vmem S1024x512 .bf16 := (Memref.whole cc2_stg4_0 : Memref sig .tc .vmem S1024x512 .bf16).view
/-- Each window's current staging memref at point `t`, spelled as the pipeline passes it (`bodyAt2`), and its wholeness. -/
abbrev ms2_0 (t : Fin cfg2.N) : Memref sig .tc .smem S1x1 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .smem S1x1 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S8192x1024 .fp8e4m3 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S8192x512 .fp8e5m2 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1024x512 .bf16 := win2_4.stage (cfg2.slots t 4)
abbrev hs2_4 (t : Fin cfg2.N) : (ms2_4 t).IsWhole := hstage2_4 ((cfg2.slots t 4).cast nbuf2_4)
/-- The scratch operands: whole scoped buffers of the kernel's own, passed beside the windows. -/
abbrev scM2_0 : Memref sig .tc .vmem S1024x8192 .fp8e4m3 := Memref.whole cc2_scratch0
/-- The scratch `arg7` the kernel carries between points, as a view: what it holds is stated through it. -/
abbrev VS2_0 : View sig .tc .vmem S1024x8192 .fp8e4m3 := scM2_0.view

/-- `Gen.scopedRest2_split` as ONE chain: the kernel's own scratch buffers, each whole at some contents, then every
    other scoped buffer, unopened (`Pipeline.scopedRestBut`). -/
theorem scopedRest2_flat (c : Dev nD) :
    (Pipeline.scopedRest spec2 c : sProp 𝕄)
      = iprop((∃ f : Buf (Elt F) ((c : Thread nD τ).loc cc2_scratch0), ((c : Thread nD τ).loc cc2_scratch0) ↦{fullShare} f) ∗ Pipeline.scopedRestBut spec2 c [cc2_scratch0]) := by
  rw [scopedRest2_split]

/-- The frame kit's invariant with the scratch operands as memrefs owned at some contents (`Gen.scopedRest2_flat`,
    Lib/Memref.lean `owns_whole`): what the body obligation hands the run and takes back. -/
theorem PhiA2_eq (c : Dev nD) :
    (Pipeline.ΦA spec2 c : sProp 𝕄)
      = iprop(iprop((∃ d, owns (c : Thread nD τ) scM2_0 fullShare d) ∗ Pipeline.scopedRestBut spec2 c [cc2_scratch0]) ∗ (∃ r, prngReg c r)) := by
  unfold Pipeline.ΦA; rw [scopedRest2_flat]; simp only [scM2_0, owns_whole]; try rfl

-- (the run's proof term is large: the definition's epilogue — `abstractNestedProofs` — walks it past the default budget)
set_option maxHeartbeats 1000000 in
/-- What the body's stores leave in each output's staging memref, as pieces (last first) IN CASE A (`scf.if` 0 taken: points 0, 14, 28, 42, 56), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun2_A (c : Dev nD) (i : grid2.Coords) (arg2 : Memref sig .tc .smem S1x1 .f32) (harg2 : arg2.IsWhole) (arg3 : Memref sig .tc .smem S1x1 .f32) (harg3 : arg3.IsWhole) (arg4 : Memref sig .tc .vmem S8192x1024 .fp8e4m3) (harg4 : arg4.IsWhole) (arg5 : Memref sig .tc .vmem S8192x512 .fp8e5m2) (harg5 : arg5.IsWhole) (arg6 : Memref sig .tc .vmem S1024x512 .bf16) (harg6 : arg6.IsWhole) (arg7 : Memref sig .tc .vmem S1024x8192 .fp8e4m3) (harg7 : arg7.IsWhole) (hc0 : cond2_0 i)
    (x0 : Vec F S1x1 .f32) (x1 : Vec F S1x1 .f32) (x2 : Vec F S8192x1024 .fp8e4m3) (x3 : Vec F S8192x512 .fp8e5m2) :
    Σ' (L4 : List (View.Piece (Elt F) S1024x512 .bf16)), { LS0 : List (View.Piece (Elt F) S1024x8192 .fp8e4m3) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc2_dw2 i arg2 harg2 arg3 harg3 arg4 harg4 arg5 harg5 arg6 harg6 arg7 harg7) K } := by
  refine ⟨?_, ?_, fun E K => ?run⟩
  case run =>
    simp only [cc2_dw2_eq_skeleton]; unfold cc2_dw2_skel
    unfold owns
    iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS0

/-- Case A's pieces for output 4 tile its block (1 store of `S1024x512`, checked by the kernel's evaluation: Lib/Ring.lean `Piece.tiledL`, linear in the pieces, through a loop's `@[irreducible]` trip theorem too), so they cover it. -/
theorem cover2_A_4 (c : Dev nD) (i : grid2.Coords) (arg2 : Memref sig .tc .smem S1x1 .f32) (harg2 : arg2.IsWhole) (arg3 : Memref sig .tc .smem S1x1 .f32) (harg3 : arg3.IsWhole) (arg4 : Memref sig .tc .vmem S8192x1024 .fp8e4m3) (harg4 : arg4.IsWhole) (arg5 : Memref sig .tc .vmem S8192x512 .fp8e5m2) (harg5 : arg5.IsWhole) (arg6 : Memref sig .tc .vmem S1024x512 .bf16) (harg6 : arg6.IsWhole) (arg7 : Memref sig .tc .vmem S1024x8192 .fp8e4m3) (harg7 : arg7.IsWhole) (hc0 : cond2_0 i)
    (x0 : Vec F S1x1 .f32) (x1 : Vec F S1x1 .f32) (x2 : Vec F S8192x1024 .fp8e4m3) (x3 : Vec F S8192x512 .fp8e5m2) (y : S1024x512.Idx) :
    ∃ pc ∈ (kernelRun2_A c i arg2 harg2 arg3 harg3 arg4 harg4 arg5 harg5 arg6 harg6 arg7 harg7 hc0 x0 x1 x2 x3).1, y ∈ pc.1.set :=
  View.cover_of_tiledL (kernelRun2_A c i arg2 harg2 arg3 harg3 arg4 harg4 arg5 harg5 arg6 harg6 arg7 harg7 hc0 x0 x1 x2 x3).1 S1024x512.size (by sl_kernel_rfl) y

/-- What case A leaves in output 4's staging buffer: its pieces read back over junk. -/
def out2_A_4 (c : Dev nD) (i : grid2.Coords) (arg2 : Memref sig .tc .smem S1x1 .f32) (harg2 : arg2.IsWhole) (arg3 : Memref sig .tc .smem S1x1 .f32) (harg3 : arg3.IsWhole) (arg4 : Memref sig .tc .vmem S8192x1024 .fp8e4m3) (harg4 : arg4.IsWhole) (arg5 : Memref sig .tc .vmem S8192x512 .fp8e5m2) (harg5 : arg5.IsWhole) (arg6 : Memref sig .tc .vmem S1024x512 .bf16) (harg6 : arg6.IsWhole) (arg7 : Memref sig .tc .vmem S1024x8192 .fp8e4m3) (harg7 : arg7.IsWhole) (hc0 : cond2_0 i)
    (x0 : Vec F S1x1 .f32) (x1 : Vec F S1x1 .f32) (x2 : Vec F S8192x1024 .fp8e4m3) (x3 : Vec F S8192x512 .fp8e5m2) : Vec F S1024x512 .bf16 :=
  VO2_4.read (Elt F) (VO2_4.writes (Elt F) VO2_4.junk (kernelRun2_A c i arg2 harg2 arg3 harg3 arg4 harg4 arg5 harg5 arg6 harg6 arg7 harg7 hc0 x0 x1 x2 x3).1)

/-- Case A's pieces for scratch `arg7`, which the kernel carries between points, cover it: 1 piece of `S1024x8192` tiling it (Lib/Ring.lean `Piece.tiledL`). -/
theorem scover2_A_0 (c : Dev nD) (i : grid2.Coords) (arg2 : Memref sig .tc .smem S1x1 .f32) (harg2 : arg2.IsWhole) (arg3 : Memref sig .tc .smem S1x1 .f32) (harg3 : arg3.IsWhole) (arg4 : Memref sig .tc .vmem S8192x1024 .fp8e4m3) (harg4 : arg4.IsWhole) (arg5 : Memref sig .tc .vmem S8192x512 .fp8e5m2) (harg5 : arg5.IsWhole) (arg6 : Memref sig .tc .vmem S1024x512 .bf16) (harg6 : arg6.IsWhole) (arg7 : Memref sig .tc .vmem S1024x8192 .fp8e4m3) (harg7 : arg7.IsWhole) (hc0 : cond2_0 i)
    (x0 : Vec F S1x1 .f32) (x1 : Vec F S1x1 .f32) (x2 : Vec F S8192x1024 .fp8e4m3) (x3 : Vec F S8192x512 .fp8e5m2) (y : S1024x8192.Idx) :
    ∃ pc ∈ (kernelRun2_A c i arg2 harg2 arg3 harg3 arg4 harg4 arg5 harg5 arg6 harg6 arg7 harg7 hc0 x0 x1 x2 x3).2.1, y ∈ pc.1.set :=
  View.cover_of_tiledL (kernelRun2_A c i arg2 harg2 arg3 harg3 arg4 harg4 arg5 harg5 arg6 harg6 arg7 harg7 hc0 x0 x1 x2 x3).2.1 S1024x8192.size (by sl_kernel_rfl) y

/-- What case A leaves in scratch `arg7`: its pieces read back over junk. -/
def sout2_A_0 (c : Dev nD) (i : grid2.Coords) (arg2 : Memref sig .tc .smem S1x1 .f32) (harg2 : arg2.IsWhole) (arg3 : Memref sig .tc .smem S1x1 .f32) (harg3 : arg3.IsWhole) (arg4 : Memref sig .tc .vmem S8192x1024 .fp8e4m3) (harg4 : arg4.IsWhole) (arg5 : Memref sig .tc .vmem S8192x512 .fp8e5m2) (harg5 : arg5.IsWhole) (arg6 : Memref sig .tc .vmem S1024x512 .bf16) (harg6 : arg6.IsWhole) (arg7 : Memref sig .tc .vmem S1024x8192 .fp8e4m3) (harg7 : arg7.IsWhole) (hc0 : cond2_0 i)
    (x0 : Vec F S1x1 .f32) (x1 : Vec F S1x1 .f32) (x2 : Vec F S8192x1024 .fp8e4m3) (x3 : Vec F S8192x512 .fp8e5m2) : Vec F S1024x8192 .fp8e4m3 :=
  VS2_0.read (Elt F) (VS2_0.writes (Elt F) VS2_0.junk (kernelRun2_A c i arg2 harg2 arg3 harg3 arg4 harg4 arg5 harg5 arg6 harg6 arg7 harg7 hc0 x0 x1 x2 x3).2.1)

-- (the run's proof term is large: the definition's epilogue — `abstractNestedProofs` — walks it past the default budget)
set_option maxHeartbeats 1000000 in
/-- What the body's stores leave in each output's staging memref, as pieces (last first) IN CASE B (`scf.if` 0 not taken: points 1, 2, … 69: 65 of 70), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun2_B (c : Dev nD) (i : grid2.Coords) (arg2 : Memref sig .tc .smem S1x1 .f32) (harg2 : arg2.IsWhole) (arg3 : Memref sig .tc .smem S1x1 .f32) (harg3 : arg3.IsWhole) (arg4 : Memref sig .tc .vmem S8192x1024 .fp8e4m3) (harg4 : arg4.IsWhole) (arg5 : Memref sig .tc .vmem S8192x512 .fp8e5m2) (harg5 : arg5.IsWhole) (arg6 : Memref sig .tc .vmem S1024x512 .bf16) (harg6 : arg6.IsWhole) (arg7 : Memref sig .tc .vmem S1024x8192 .fp8e4m3) (harg7 : arg7.IsWhole) (hc0 : ¬cond2_0 i)
    (x0 : Vec F S1x1 .f32) (x1 : Vec F S1x1 .f32) (x2 : Vec F S8192x1024 .fp8e4m3) (x3 : Vec F S8192x512 .fp8e5m2) (xs0 : Vec F S1024x8192 .fp8e4m3) :
    Σ' (L4 : List (View.Piece (Elt F) S1024x512 .bf16)), { LS0 : List (View.Piece (Elt F) S1024x8192 .fp8e4m3) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ owns (c : Thread nD τ) arg7 fullShare xs0) -∗ K ⟨⟩))
          ⊢ wp frame (wpE (defs₀ (F := F)) Variants.none c none) E (cc2_dw2 i arg2 harg2 arg3 harg3 arg4 harg4 arg5 harg5 arg6 harg6 arg7 harg7) K } := by
  refine ⟨?_, [], fun E K => ?run⟩
  case run =>
    simp only [cc2_dw2_eq_skeleton]; unfold cc2_dw2_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg7.eq_unread hfs0
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; isplitr; · ipureintro; exact harg7.read_unread _
    iexact HS0

/-- Case B's pieces for output 4 tile its block (1 store of `S1024x512`, checked by the kernel's evaluation: Lib/Ring.lean `Piece.tiledL`, linear in the pieces, through a loop's `@[irreducible]` trip theorem too), so they cover it. -/
theorem cover2_B_4 (c : Dev nD) (i : grid2.Coords) (arg2 : Memref sig .tc .smem S1x1 .f32) (harg2 : arg2.IsWhole) (arg3 : Memref sig .tc .smem S1x1 .f32) (harg3 : arg3.IsWhole) (arg4 : Memref sig .tc .vmem S8192x1024 .fp8e4m3) (harg4 : arg4.IsWhole) (arg5 : Memref sig .tc .vmem S8192x512 .fp8e5m2) (harg5 : arg5.IsWhole) (arg6 : Memref sig .tc .vmem S1024x512 .bf16) (harg6 : arg6.IsWhole) (arg7 : Memref sig .tc .vmem S1024x8192 .fp8e4m3) (harg7 : arg7.IsWhole) (hc0 : ¬cond2_0 i)
    (x0 : Vec F S1x1 .f32) (x1 : Vec F S1x1 .f32) (x2 : Vec F S8192x1024 .fp8e4m3) (x3 : Vec F S8192x512 .fp8e5m2) (xs0 : Vec F S1024x8192 .fp8e4m3) (y : S1024x512.Idx) :
    ∃ pc ∈ (kernelRun2_B c i arg2 harg2 arg3 harg3 arg4 harg4 arg5 harg5 arg6 harg6 arg7 harg7 hc0 x0 x1 x2 x3 xs0).1, y ∈ pc.1.set :=
  View.cover_of_tiledL (kernelRun2_B c i arg2 harg2 arg3 harg3 arg4 harg4 arg5 harg5 arg6 harg6 arg7 harg7 hc0 x0 x1 x2 x3 xs0).1 S1024x512.size (by sl_kernel_rfl) y

/-- What case B leaves in output 4's staging buffer: its pieces read back over junk. -/
def out2_B_4 (c : Dev nD) (i : grid2.Coords) (arg2 : Memref sig .tc .smem S1x1 .f32) (harg2 : arg2.IsWhole) (arg3 : Memref sig .tc .smem S1x1 .f32) (harg3 : arg3.IsWhole) (arg4 : Memref sig .tc .vmem S8192x1024 .fp8e4m3) (harg4 : arg4.IsWhole) (arg5 : Memref sig .tc .vmem S8192x512 .fp8e5m2) (harg5 : arg5.IsWhole) (arg6 : Memref sig .tc .vmem S1024x512 .bf16) (harg6 : arg6.IsWhole) (arg7 : Memref sig .tc .vmem S1024x8192 .fp8e4m3) (harg7 : arg7.IsWhole) (hc0 : ¬cond2_0 i)
    (x0 : Vec F S1x1 .f32) (x1 : Vec F S1x1 .f32) (x2 : Vec F S8192x1024 .fp8e4m3) (x3 : Vec F S8192x512 .fp8e5m2) (xs0 : Vec F S1024x8192 .fp8e4m3) : Vec F S1024x512 .bf16 :=
  VO2_4.read (Elt F) (VO2_4.writes (Elt F) VO2_4.junk (kernelRun2_B c i arg2 harg2 arg3 harg3 arg4 harg4 arg5 harg5 arg6 harg6 arg7 harg7 hc0 x0 x1 x2 x3 xs0).1)

/-- Case B stores nothing into scratch `arg7`: it holds what the point before left. -/
def sout2_B_0 (c : Dev nD) (i : grid2.Coords) (arg2 : Memref sig .tc .smem S1x1 .f32) (harg2 : arg2.IsWhole) (arg3 : Memref sig .tc .smem S1x1 .f32) (harg3 : arg3.IsWhole) (arg4 : Memref sig .tc .vmem S8192x1024 .fp8e4m3) (harg4 : arg4.IsWhole) (arg5 : Memref sig .tc .vmem S8192x512 .fp8e5m2) (harg5 : arg5.IsWhole) (arg6 : Memref sig .tc .vmem S1024x512 .bf16) (harg6 : arg6.IsWhole) (arg7 : Memref sig .tc .vmem S1024x8192 .fp8e4m3) (harg7 : arg7.IsWhole) (hc0 : ¬cond2_0 i)
    (x0 : Vec F S1x1 .f32) (x1 : Vec F S1x1 .f32) (x2 : Vec F S8192x1024 .fp8e4m3) (x3 : Vec F S8192x512 .fp8e5m2) (xs0 : Vec F S1024x8192 .fp8e4m3) : Vec F S1024x8192 .fp8e4m3 := xs0

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before2_W_κ`). An assignment of the conditions no point meets is no case (`False.elim`). -/
def outsAt2 (c : Dev nD) : (n : ℕ) → n < cfg2.N → Vec F S1024x512 .bf16 × Vec F S1024x8192 .fp8e4m3
  | 0, hn => (out2_A_4 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) scM2_0 (Memref.isWhole_whole _) ((hcond2_0 ⟨0, hn⟩).mpr (Nat.zero_mod _)) (iblk2 V c 0 ⟨0, hn⟩) (iblk2 V c 1 ⟨0, hn⟩) (iblk2 V c 2 ⟨0, hn⟩) (iblk2 V c 3 ⟨0, hn⟩), sout2_A_0 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) scM2_0 (Memref.isWhole_whole _) ((hcond2_0 ⟨0, hn⟩).mpr (Nat.zero_mod _)) (iblk2 V c 0 ⟨0, hn⟩) (iblk2 V c 1 ⟨0, hn⟩) (iblk2 V c 2 ⟨0, hn⟩) (iblk2 V c 3 ⟨0, hn⟩))
  | n + 1, hn =>
    if h0 : (n + 1) % 14 = 0 then
      (out2_A_4 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2_0 (Memref.isWhole_whole _) ((hcond2_0 ⟨n + 1, hn⟩).mpr h0) (iblk2 V c 0 ⟨n + 1, hn⟩) (iblk2 V c 1 ⟨n + 1, hn⟩) (iblk2 V c 2 ⟨n + 1, hn⟩) (iblk2 V c 3 ⟨n + 1, hn⟩), sout2_A_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2_0 (Memref.isWhole_whole _) ((hcond2_0 ⟨n + 1, hn⟩).mpr h0) (iblk2 V c 0 ⟨n + 1, hn⟩) (iblk2 V c 1 ⟨n + 1, hn⟩) (iblk2 V c 2 ⟨n + 1, hn⟩) (iblk2 V c 3 ⟨n + 1, hn⟩))
    else
      (out2_B_4 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2_0 (Memref.isWhole_whole _) (fun h => h0 ((hcond2_0 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (outsAt2 c n (Nat.lt_of_succ_lt hn)).2, sout2_B_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2_0 (Memref.isWhole_whole _) (fun h => h0 ((hcond2_0 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (outsAt2 c n (Nat.lt_of_succ_lt hn)).2)

/-- `outsAt2` at a point of case A: that case's contents. -/
theorem outsAt2_A (c : Dev nD) (t : Fin cfg2.N) (h0 : t.val % 14 = 0) :
    outsAt2 V c t.val t.isLt = (out2_A_4 c (grid2.coords t) (ms2_0 t) (hs2_0 t) (ms2_1 t) (hs2_1 t) (ms2_2 t) (hs2_2 t) (ms2_3 t) (hs2_3 t) (ms2_4 t) (hs2_4 t) scM2_0 (Memref.isWhole_whole _) ((hcond2_0 t).mpr h0) (iblk2 V c 0 t) (iblk2 V c 1 t) (iblk2 V c 2 t) (iblk2 V c 3 t), sout2_A_0 c (grid2.coords t) (ms2_0 t) (hs2_0 t) (ms2_1 t) (hs2_1 t) (ms2_2 t) (hs2_2 t) (ms2_3 t) (hs2_3 t) (ms2_4 t) (hs2_4 t) scM2_0 (Memref.isWhole_whole _) ((hcond2_0 t).mpr h0) (iblk2 V c 0 t) (iblk2 V c 1 t) (iblk2 V c 2 t) (iblk2 V c 3 t)) := by
  obtain ⟨n, hn⟩ := t
  cases n with
  | zero => exact rfl
  | succ n => exact (dif_pos h0).trans rfl

/-- `outsAt2` at a point of case B: that case's contents, over what the point before left. -/
theorem outsAt2_B (c : Dev nD) (t : Fin cfg2.N) (h0 : ¬t.val % 14 = 0) :
    outsAt2 V c t.val t.isLt = (out2_B_4 c (grid2.coords t) (ms2_0 t) (hs2_0 t) (ms2_1 t) (hs2_1 t) (ms2_2 t) (hs2_2 t) (ms2_3 t) (hs2_3 t) (ms2_4 t) (hs2_4 t) scM2_0 (Memref.isWhole_whole _) (fun h => h0 ((hcond2_0 t).mp h)) (iblk2 V c 0 t) (iblk2 V c 1 t) (iblk2 V c 2 t) (iblk2 V c 3 t) (outsAt2 V c (t.val - 1) (Nat.lt_of_le_of_lt (Nat.sub_le _ _) t.isLt)).2, sout2_B_0 c (grid2.coords t) (ms2_0 t) (hs2_0 t) (ms2_1 t) (hs2_1 t) (ms2_2 t) (hs2_2 t) (ms2_3 t) (hs2_3 t) (ms2_4 t) (hs2_4 t) scM2_0 (Memref.isWhole_whole _) (fun h => h0 ((hcond2_0 t).mp h)) (iblk2 V c 0 t) (iblk2 V c 1 t) (iblk2 V c 2 t) (iblk2 V c 3 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-- The region invariant before position `n` with a scratch the kernel CARRIES between points: before the first point the
    class's (Lib/Pipeline/Frame.lean `ΦA`: every scratch at anything); afterwards the scoped rest with each carried scratch
    at what the point before left in it (`outsAt2`'s scratch components), the others at anything, and the generator register
    at some state. -/
def PhiS2 (c : Dev nD) : (n : ℕ) → n ≤ cfg2.N → sProp 𝕄
  | 0, _ => Pipeline.ΦA spec2 c
  | n + 1, hn => iprop(iprop(owns (c : Thread nD τ) scM2_0 fullShare ((outsAt2 V c n hn).2) ∗ Pipeline.scopedRestBut spec2 c [cc2_scratch0]) ∗ (∃ r, prngReg c r))

theorem PhiS2_zero (c : Dev nD) (n : ℕ) (h : n ≤ cfg2.N) (hz : n = 0) : PhiS2 V c n h = Pipeline.ΦA spec2 c := by
  subst hz; rfl

/-- After point `n` (before point `n + 1`): the carried scratch at that point's contents. -/
theorem PhiS2_succ (c : Dev nD) (n : ℕ) (hn : n < cfg2.N) :
    PhiS2 V c (n + 1) hn = iprop(iprop(owns (c : Thread nD τ) scM2_0 fullShare ((outsAt2 V c n hn).2) ∗ Pipeline.scopedRestBut spec2 c [cc2_scratch0]) ∗ (∃ r, prngReg c r)) := rfl

/-- Before a point that is not the first: the carried scratch at what the point before left. -/
theorem PhiS2_pos (c : Dev nD) (n : ℕ) (h : n ≤ cfg2.N) (hz : n ≠ 0) :
    PhiS2 V c n h = iprop(iprop(owns (c : Thread nD τ) scM2_0 fullShare ((outsAt2 V c (n - 1) (by omega)).2) ∗ Pipeline.scopedRestBut spec2 c [cc2_scratch0]) ∗ (∃ r, prngReg c r)) := by
  cases n with
  | zero => exact absurd rfl hz
  | succ n => rfl

/-! ## The pipeline's proof data -/

/-- The proof data of pipeline 2 on core `c`: the arrays as the region finds them (`V`); after the body at
    point `t` each input's buffer at its block and the outputs' at `outsAt2`; the invariant the class's
    (`PhiS2`: the class's `ΦA` before the first point, then the scoped rest with the carried scratch at `outsAt2`'s component);
    nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => (outsAt2 V c t.val t.isLt).1
  Φ t := PhiS2 V c t.val (Nat.le_of_lt_succ t.isLt)
  q _ := fullShare
  owed _ := 0

/-- The proof data's arrays are the region-entry contents, by projecting the definition (`dsimp`): a region record cites
    this for its arrays rather than have Lean unfold `V`, the fold through @main up to the region's entry. -/
theorem A_eq2 (c : Dev nD) (w : Fin cfg2.W) : (dat2 V c).A w = V c (Pipeline.arrRef spec2 w) := by
  dsimp only [dat2]

/-- The invariant at a point's start (the proof data at `t.castSucc`), restated at `t.val`. -/
theorem PhiS2_castSucc (c : Dev nD) (t : Fin cfg2.N) :
    (dat2 V c).Φ t.castSucc = PhiS2 V c t.val (Nat.le_of_lt t.isLt) := by
  dsimp only [dat2]; exact Pipeline.Dat.Φ_castSucc (PhiS2 V c) t

/-- What the body leaves, window by window (the proof data's `match` reduced by `dsimp`). -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = (outsAt2 V c t.val t.isLt).1 := by dsimp only [dat2]

/-- Each input's current staging buffer holds its block at every point, fetched there or not (`beforeK_W_of`). -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-! ## The body obligation, at a generic point -/

/-- What the body is called with at point `t` (Lib/Pipeline.lean `BodyObligation`'s precondition, the windows one by one), -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d)))

/-- and what it returns. -/
def bodyPost2 (c : Dev nD) (t : Fin cfg2.N) : sProp 𝕄 :=
  iprop((dat2 V c).Φ t.succ ∗ (dat2 V c).owesAt () t.succ
    ∗ owns (c : Thread nD τ) (ms2_0 t) fullShare ((dat2 V c).after 0 t)
    ∗ owns (c : Thread nD τ) (ms2_1 t) fullShare ((dat2 V c).after 1 t)
    ∗ owns (c : Thread nD τ) (ms2_2 t) fullShare ((dat2 V c).after 2 t)
    ∗ owns (c : Thread nD τ) (ms2_3 t) fullShare ((dat2 V c).after 3 t)
    ∗ owns (c : Thread nD τ) (ms2_4 t) fullShare ((dat2 V c).after 4 t))

set_option maxHeartbeats 3200000 in
/-- The body at any point: the inputs' memrefs hold their blocks (`before2_W`); the closed forms say which case the point is in (`by_cases`), an output the case reads before covering holds what the point before left (`before2_W_κ`); so the
    run applies; the invariant hands the body the carried scratch at what the point before left (`PhiS2_pos`; at anything at the first point, `PhiS2_zero`), the other scratch buffers and the generator register at some state, and takes the carried scratch back at this point's contents (`PhiS2_succ`, by `scoverK_κ_N`); the core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).owesAt () t.succ = (dat2 V c).owesAt () t.castSucc from rfl,
    after2_0, after2_1, after2_2, after2_3, after2_4]
  rw [show (dat2 V c).Φ t.succ = PhiS2 V c (t.val + 1) t.isLt from rfl, PhiS2_succ]
  have hN : t.val < 70 := lt_of_lt_of_eq t.isLt (show cfg2.N = 70 from N_2)
  by_cases h0 : t.val % 14 = 0
  · by_cases hz : t.val = 0
    · rw [PhiS2_castSucc V c t, PhiS2_zero V c _ _ hz, PhiA2_eq]
      rw [outsAt2_A V c t h0]
      unfold out2_A_4 sout2_A_0; (try dsimp only)
      iintro ⟨⟨⟨HS0, HR1⟩, Hg⟩, Ho, ⟨%d0, H0⟩, ⟨%d1, H1⟩, ⟨%d2, H2⟩, ⟨%d3, H3⟩, ⟨%d4, H4⟩⟩
      iapply ((kernelRun2_A c (grid2.coords t) _ _ _ _ _ _ _ _ _ _ _ _ ((hcond2_0 t).mpr h0) (iblk2 V c 0 t) (iblk2 V c 1 t) (iblk2 V c 2 t) (iblk2 V c 3 t)).2.2 Set.univ _)
      isplitl [H0]; · iexact H0
      isplitl [H1]; · iexact H1
      isplitl [H2]; · iexact H2
      isplitl [H3]; · iexact H3
      isplitl [H4]; · iexists _; iexact H4
      isplitl [HS0]; · iexact HS0
      iintro ⟨H0, H1, H2, H3, ⟨%e4, H4⟩, ⟨%es0, HS0⟩⟩
      isplitl [HS0 HR1 Hg]
      · isplitl [HS0 HR1]
        · isplitl [HS0]
          · unfold owns; iexists _; isplitr
            swap; · iexact HS0
            ipureintro; exact View.read_writes_of_cover _ _ _ _ _ (scover2_A_0 c _ _ _ _ _ _ _ _ _ _ _ _ _ _ _ _ _ _)
          iexact HR1
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover2_A_4 c _ _ _ _ _ _ _ _ _ _ _ _ _ _ _ _ _ _)
    · rw [PhiS2_castSucc V c t, PhiS2_pos V c _ _ hz]
      rw [outsAt2_A V c t h0]
      unfold out2_A_4 sout2_A_0; (try dsimp only)
      iintro ⟨⟨⟨HS0, HR1⟩, Hg⟩, Ho, ⟨%d0, H0⟩, ⟨%d1, H1⟩, ⟨%d2, H2⟩, ⟨%d3, H3⟩, ⟨%d4, H4⟩⟩
      iapply ((kernelRun2_A c (grid2.coords t) _ _ _ _ _ _ _ _ _ _ _ _ ((hcond2_0 t).mpr h0) (iblk2 V c 0 t) (iblk2 V c 1 t) (iblk2 V c 2 t) (iblk2 V c 3 t)).2.2 Set.univ _)
      isplitl [H0]; · iexact H0
      isplitl [H1]; · iexact H1
      isplitl [H2]; · iexact H2
      isplitl [H3]; · iexact H3
      isplitl [H4]; · iexists _; iexact H4
      isplitl [HS0]; · iexists _; iexact HS0
      iintro ⟨H0, H1, H2, H3, ⟨%e4, H4⟩, ⟨%es0, HS0⟩⟩
      isplitl [HS0 HR1 Hg]
      · isplitl [HS0 HR1]
        · isplitl [HS0]
          · unfold owns; iexists _; isplitr
            swap; · iexact HS0
            ipureintro; exact View.read_writes_of_cover _ _ _ _ _ (scover2_A_0 c _ _ _ _ _ _ _ _ _ _ _ _ _ _ _ _ _ _)
          iexact HR1
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover2_A_4 c _ _ _ _ _ _ _ _ _ _ _ _ _ _ _ _ _ _)
  · by_cases hz : t.val = 0
    · exfalso; have hN : t.val < 70 := lt_of_lt_of_eq t.isLt (show cfg2.N = 70 from N_2); omega
    · rw [PhiS2_castSucc V c t, PhiS2_pos V c _ _ hz]
      rw [outsAt2_B V c t h0]
      unfold out2_B_4 sout2_B_0; (try dsimp only)
      iintro ⟨⟨⟨HS0, HR1⟩, Hg⟩, Ho, ⟨%d0, H0⟩, ⟨%d1, H1⟩, ⟨%d2, H2⟩, ⟨%d3, H3⟩, ⟨%d4, H4⟩⟩
      iapply ((kernelRun2_B c (grid2.coords t) _ _ _ _ _ _ _ _ _ _ _ _ (fun h => h0 ((hcond2_0 t).mp h)) (iblk2 V c 0 t) (iblk2 V c 1 t) (iblk2 V c 2 t) (iblk2 V c 3 t) _).2.2 Set.univ _)
      isplitl [H0]; · iexact H0
      isplitl [H1]; · iexact H1
      isplitl [H2]; · iexact H2
      isplitl [H3]; · iexact H3
      isplitl [H4]; · iexists _; iexact H4
      isplitl [HS0]; · iexact HS0
      iintro ⟨H0, H1, H2, H3, ⟨%e4, H4⟩, HS0⟩
      isplitl [HS0 HR1 Hg]
      · isplitl [HS0 HR1]
        · isplitl [HS0]
          · iexact HS0
          iexact HR1
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover2_B_4 c _ _ _ _ _ _ _ _ _ _ _ _ _ _ _ _ _ _ _)

/-- The body table's row at point `t`'s slots is the body as `bodyAt2` spells it. -/
theorem defs₀_row2 (t : Fin cfg2.N) :
    defs₀ (F := F) .tc cfg2.body (cfg2.bodyArgs t (cfg2.slots t)) = bodyAt2 t := by
  unfold defs₀; rw [Defs.onTc_tc]

/-- The library's body obligation, at every point: the body's triple restated (Lib/Pipeline/FrameBody.lean `triple_restated`). -/
theorem body_obligation2 (c : Dev nD) : BodyObligation (dat2 (F := F) V c) (defs₀ (F := F)) Variants.none () Set.univ := fun t => by
  rw [bigSep_W2, bigSep_W2, defs₀_row2]
  exact triple_restated (sound_body2 V c t) rfl .rfl fun _ => .rfl

/-- What the launch hands the region (`ΦA`) is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After any point but the first the invariant gives `ΦA` back: the carried scratch's named contents are forgotten. -/
theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  iintro ⟨⟨HS0, HR1⟩, Hg⟩
  isplitl [HS0 HR1]
  · isplitl [HS0]
    · iexists _; iexact HS0
    iexact HR1
  iexact Hg

/-- The same after the last point. -/
theorem hout2 (c : Dev nD) : (dat2 V c).Φ (Fin.last cfg2.N) ⊢ Pipeline.ΦA spec2 c :=
  Phi_out2 V c _ (by rw [Fin.val_last]; have : cfg2.N = 70 := N_2; omega)

end Regions

end Cert.Kernel.Whole

end
-- ==== Proof.WholeBits.Region3.lean ====
/-
  The call number 3 of the kernel, at any contents `V` that the buffers have when the call is entered: the block of each
  window at a grid point, what the body leaves in its output windows and in the scratch memory it keeps from one point to the
  next, and the proof that the body does so.
-/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Kernel.Whole

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section Regions
-- the TensorCore's buffer contents when a region is entered: the parameter every region's half is stated at, which
-- the run instantiates per region
variable (V : (c : Dev nD) → (b : Ref sig .tc) → Buf (Elt F) ((c : Thread nD τ).loc b))

/-! # REGION 3 of @main: custom_call 3, `cc3_quant_dh` (pipeline 3), at the entry contents `V` — class R -/

/-! ## The windows' blocks -/

/-- Window `w`'s block at point `t`, read off its array as the region finds it (`V`). -/
noncomputable def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-! ## The kernel body on any staging memrefs: a subtype the run finds -/

/-- One staging buffer of output window 3, through which its contents are stated (`View.read_writes_of_cover`: the
    choice does not matter). -/
abbrev VO3_3 : View sig .tc .vmem S256x10240 .fp8e5m2 := (Memref.whole cc3_stg3_0 : Memref sig .tc .vmem S256x10240 .fp8e5m2).view
/-- Each window's current staging memref at point `t`, spelled as the pipeline passes it (`bodyAt3`), and its wholeness. -/
abbrev ms3_0 (t : Fin cfg3.N) : Memref sig .tc .smem S1x1 .f32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S256x5120 .f32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S256x5120 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S256x10240 .fp8e5m2 := win3_3.stage (cfg3.slots t 3)
abbrev hs3_3 (t : Fin cfg3.N) : (ms3_3 t).IsWhole := hstage3_3 ((cfg3.slots t 3).cast nbuf3_3)

-- (the run's proof term is large: the definition's epilogue — `abstractNestedProofs` — walks it past the default budget)
set_option maxHeartbeats 1000000 in
/-- What the body's stores leave in each output's staging memref, as pieces (last first), WITH the
    proof that on whole staging memrefs — the inputs' at their contents, the other outputs' at
    anything, the body runs to the continuation holding the inputs' as they were,
    each output's buffer with its pieces written: the printed functions are their skeletons
    (`Gen.*_eq_skeleton`), which `sl_exec` runs (Lib/Exec.lean); the pieces are
    the witness that run finds (assigned when `iexact` hands the buffer to the continuation). -/
noncomputable def kernelRun3_A (c : Dev nD) (i : grid3.Coords) (arg1 : Memref sig .tc .smem S1x1 .f32) (harg1 : arg1.IsWhole) (arg2 : Memref sig .tc .vmem S256x5120 .f32) (harg2 : arg2.IsWhole) (arg3 : Memref sig .tc .vmem S256x5120 .f32) (harg3 : arg3.IsWhole) (arg4 : Memref sig .tc .vmem S256x10240 .fp8e5m2) (harg4 : arg4.IsWhole)
    (x0 : Vec F S1x1 .f32) (x1 : Vec F S256x5120 .f32) (x2 : Vec F S256x5120 .f32) :
    { L3 : List (View.Piece (Elt F) S256x10240 .fp8e5m2) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d)
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3)) -∗ K ⟨⟩))
          ⊢ wp frame (wpE (defs₀ (F := F)) Variants.none c none) E (cc3_quant_dh i arg1 harg1 arg2 harg2 arg3 harg3 arg4 harg4) K } := by
  refine ⟨?_, fun E K => ?run⟩
  case run =>
    simp only [cc3_quant_dh_eq_skeleton]; unfold cc3_quant_dh_skel
    simp only [k3_part1_eq_skeleton, k3_part2_eq_skeleton]
    unfold owns
    iintro ⟨⟨%f0, %hf0, H0⟩, ⟨%f1, %hf1, H1⟩, ⟨%f2, %hf2, H2⟩, ⟨%d3, %f3, -, H3⟩, Hk⟩
    obtain rfl := harg1.eq_unread hf0; obtain rfl := harg2.eq_unread hf1; obtain rfl := harg3.eq_unread hf2
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact H3

/-- The run's pieces for output 3 tile its block (2 stores of `S256x5120`, checked by the kernel's evaluation: Lib/Ring.lean `Piece.tiledL`, linear in the pieces, through a loop's `@[irreducible]` trip theorem too), so they cover it. -/
theorem cover3_A_3 (c : Dev nD) (i : grid3.Coords) (arg1 : Memref sig .tc .smem S1x1 .f32) (harg1 : arg1.IsWhole) (arg2 : Memref sig .tc .vmem S256x5120 .f32) (harg2 : arg2.IsWhole) (arg3 : Memref sig .tc .vmem S256x5120 .f32) (harg3 : arg3.IsWhole) (arg4 : Memref sig .tc .vmem S256x10240 .fp8e5m2) (harg4 : arg4.IsWhole)
    (x0 : Vec F S1x1 .f32) (x1 : Vec F S256x5120 .f32) (x2 : Vec F S256x5120 .f32) (y : S256x10240.Idx) :
    ∃ pc ∈ (kernelRun3_A c i arg1 harg1 arg2 harg2 arg3 harg3 arg4 harg4 x0 x1 x2).1, y ∈ pc.1.set :=
  View.cover_of_tiledL (kernelRun3_A c i arg1 harg1 arg2 harg2 arg3 harg3 arg4 harg4 x0 x1 x2).1 S256x5120.size (by sl_kernel_rfl) y

/-- What the run leaves in output 3's staging buffer: its pieces read back over junk. -/
def out3_A_3 (c : Dev nD) (i : grid3.Coords) (arg1 : Memref sig .tc .smem S1x1 .f32) (harg1 : arg1.IsWhole) (arg2 : Memref sig .tc .vmem S256x5120 .f32) (harg2 : arg2.IsWhole) (arg3 : Memref sig .tc .vmem S256x5120 .f32) (harg3 : arg3.IsWhole) (arg4 : Memref sig .tc .vmem S256x10240 .fp8e5m2) (harg4 : arg4.IsWhole)
    (x0 : Vec F S1x1 .f32) (x1 : Vec F S256x5120 .f32) (x2 : Vec F S256x5120 .f32) : Vec F S256x10240 .fp8e5m2 :=
  VO3_3.read (Elt F) (VO3_3.writes (Elt F) VO3_3.junk (kernelRun3_A c i arg1 harg1 arg2 harg2 arg3 harg3 arg4 harg4 x0 x1 x2).1)

/-! ## What the outputs hold after each point -/

/-- What the outputs' staging buffers hold after the body at point `t`: the run's contents at
    the point's memrefs and input blocks. -/
def outsAt3 (c : Dev nD) (t : Fin cfg3.N) : Vec F S256x10240 .fp8e5m2 :=
  out3_A_3 c (grid3.coords t) (ms3_0 t) (hs3_0 t) (ms3_1 t) (hs3_1 t) (ms3_2 t) (hs3_2 t) (ms3_3 t) (hs3_3 t) (iblk3 V c 0 t) (iblk3 V c 1 t) (iblk3 V c 2 t)

/-! ## The pipeline's proof data -/

/-- The proof data of pipeline 3 on core `c`: the arrays as the region finds them (`V`); after the body at
    point `t` each input's buffer at its block and the outputs' at `outsAt3`; the invariant the class's
    (Lib/Pipeline/Frame.lean `ΦA`: the scoped rest and the generator register); nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => (outsAt3 V c t)
  Φ _ := Pipeline.ΦA spec3 c
  q _ := fullShare
  owed _ := 0

/-- The proof data's arrays are the region-entry contents, by projecting the definition (`dsimp`): a region record cites
    this for its arrays rather than have Lean unfold `V`, the fold through @main up to the region's entry. -/
theorem A_eq3 (c : Dev nD) (w : Fin cfg3.W) : (dat3 V c).A w = V c (Pipeline.arrRef spec3 w) := by
  dsimp only [dat3]

/-- What the body leaves, window by window (the proof data's `match` reduced by `dsimp`). -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = (outsAt3 V c t) := by dsimp only [dat3]

/-- Each input's current staging buffer holds its block at every point, fetched there or not (`beforeK_W_of`). -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-! ## The body obligation, at a generic point -/

/-- What the body is called with at point `t` (Lib/Pipeline.lean `BodyObligation`'s precondition, the windows one by one), -/
def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d)))

/-- and what it returns. -/
def bodyPost3 (c : Dev nD) (t : Fin cfg3.N) : sProp 𝕄 :=
  iprop((dat3 V c).Φ t.succ ∗ (dat3 V c).owesAt () t.succ
    ∗ owns (c : Thread nD τ) (ms3_0 t) fullShare ((dat3 V c).after 0 t)
    ∗ owns (c : Thread nD τ) (ms3_1 t) fullShare ((dat3 V c).after 1 t)
    ∗ owns (c : Thread nD τ) (ms3_2 t) fullShare ((dat3 V c).after 2 t)
    ∗ owns (c : Thread nD τ) (ms3_3 t) fullShare ((dat3 V c).after 3 t))

/-- The body at any point: the inputs' memrefs hold their blocks (`before3_W`); so the
    run applies; the invariant passes through unread; the core owes nothing throughout. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3]
  unfold outsAt3
  unfold out3_A_3
  iintro ⟨HΦ, Ho, ⟨%d0, H0⟩, ⟨%d1, H1⟩, ⟨%d2, H2⟩, ⟨%d3, H3⟩⟩
  iapply ((kernelRun3_A c (grid3.coords t) _ _ _ _ _ _ _ _ (iblk3 V c 0 t) (iblk3 V c 1 t) (iblk3 V c 2 t)).2 Set.univ _)
  isplitl [H0]; · iexact H0
  isplitl [H1]; · iexact H1
  isplitl [H2]; · iexact H2
  isplitl [H3]; · iexists _; iexact H3
  iintro ⟨H0, H1, H2, ⟨%e3, H3⟩⟩
  isplitl [HΦ]; · iexact HΦ
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (cover3_A_3 c _ _ _ _ _ _ _ _ _ _ _ _)

/-- The body table's row at point `t`'s slots is the body as `bodyAt3` spells it. -/
theorem defs₀_row3 (t : Fin cfg3.N) :
    defs₀ (F := F) .tc cfg3.body (cfg3.bodyArgs t (cfg3.slots t)) = bodyAt3 t := by
  unfold defs₀; rw [Defs.onTc_tc]

/-- The library's body obligation, at every point: the body's triple restated (Lib/Pipeline/FrameBody.lean `triple_restated`). -/
theorem body_obligation3 (c : Dev nD) : BodyObligation (dat3 (F := F) V c) (defs₀ (F := F)) Variants.none () Set.univ := fun t => by
  rw [bigSep_W3, bigSep_W3, defs₀_row3]
  exact triple_restated (sound_body3 V c t) rfl .rfl fun _ => .rfl

end Regions

end Cert.Kernel.Whole

end
-- ==== Proof.WholeBits.Region4.lean ====
/-
  The call number 4 of the kernel, at any contents `V` that the buffers have when the call is entered: the block of each
  window at a grid point, what the body leaves in its output windows and in the scratch memory it keeps from one point to the
  next, and the proof that the body does so.
-/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Kernel.Whole

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section Regions
-- the TensorCore's buffer contents when a region is entered: the parameter every region's half is stated at, which
-- the run instantiates per region
variable (V : (c : Dev nD) → (b : Ref sig .tc) → Buf (Elt F) ((c : Thread nD τ).loc b))

/-! # REGION 4 of @main: custom_call 4, `cc4_dx` (pipeline 4), at the entry contents `V` — class R -/

/-! ## The windows' blocks -/

/-- Window `w`'s block at point `t`, read off its array as the region finds it (`V`). -/
noncomputable def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

/-! ## The kernel body on any staging memrefs: a subtype the run finds -/

/-- One staging buffer of output window 4, through which its contents are stated (`View.read_writes_of_cover`: the
    choice does not matter). -/
abbrev VO4_4 : View sig .tc .vmem S1024x512 .bf16 := (Memref.whole cc4_stg4_0 : Memref sig .tc .vmem S1024x512 .bf16).view
/-- Each window's current staging memref at point `t`, spelled as the pipeline passes it (`bodyAt4`), and its wholeness. -/
abbrev ms4_0 (t : Fin cfg4.N) : Memref sig .tc .smem S1x1 .f32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .smem S1x1 .f32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S1024x10240 .fp8e5m2 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S512x10240 .fp8e4m3 := win4_3.stage (cfg4.slots t 3)
abbrev hs4_3 (t : Fin cfg4.N) : (ms4_3 t).IsWhole := hstage4_3 ((cfg4.slots t 3).cast nbuf4_3)
abbrev ms4_4 (t : Fin cfg4.N) : Memref sig .tc .vmem S1024x512 .bf16 := win4_4.stage (cfg4.slots t 4)
abbrev hs4_4 (t : Fin cfg4.N) : (ms4_4 t).IsWhole := hstage4_4 ((cfg4.slots t 4).cast nbuf4_4)

-- (the run's proof term is large: the definition's epilogue — `abstractNestedProofs` — walks it past the default budget)
set_option maxHeartbeats 1000000 in
/-- What the body's stores leave in each output's staging memref, as pieces (last first), WITH the
    proof that on whole staging memrefs — the inputs' at their contents, the other outputs' at
    anything, the body runs to the continuation holding the inputs' as they were,
    each output's buffer with its pieces written: the printed functions are their skeletons
    (`Gen.*_eq_skeleton`), which `sl_exec` runs (Lib/Exec.lean); the pieces are
    the witness that run finds (assigned when `iexact` hands the buffer to the continuation). -/
noncomputable def kernelRun4_A (c : Dev nD) (i : grid4.Coords) (arg2 : Memref sig .tc .smem S1x1 .f32) (harg2 : arg2.IsWhole) (arg3 : Memref sig .tc .smem S1x1 .f32) (harg3 : arg3.IsWhole) (arg4 : Memref sig .tc .vmem S1024x10240 .fp8e5m2) (harg4 : arg4.IsWhole) (arg5 : Memref sig .tc .vmem S512x10240 .fp8e4m3) (harg5 : arg5.IsWhole) (arg6 : Memref sig .tc .vmem S1024x512 .bf16) (harg6 : arg6.IsWhole)
    (x0 : Vec F S1x1 .f32) (x1 : Vec F S1x1 .f32) (x2 : Vec F S1024x10240 .fp8e5m2) (x3 : Vec F S512x10240 .fp8e4m3) :
    { L4 : List (View.Piece (Elt F) S1024x512 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4)) -∗ K ⟨⟩))
          ⊢ wp frame (wpE (defs₀ (F := F)) Variants.none c none) E (cc4_dx i arg2 harg2 arg3 harg3 arg4 harg4 arg5 harg5 arg6 harg6) K } := by
  refine ⟨?_, fun E K => ?run⟩
  case run =>
    simp only [cc4_dx_eq_skeleton]; unfold cc4_dx_skel
    unfold owns
    iintro ⟨⟨%f0, %hf0, H0⟩, ⟨%f1, %hf1, H1⟩, ⟨%f2, %hf2, H2⟩, ⟨%f3, %hf3, H3⟩, ⟨%d4, %f4, -, H4⟩, Hk⟩
    obtain rfl := harg2.eq_unread hf0; obtain rfl := harg3.eq_unread hf1; obtain rfl := harg4.eq_unread hf2; obtain rfl := harg5.eq_unread hf3
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact H4

/-- The run's pieces for output 4 tile its block (1 store of `S1024x512`, checked by the kernel's evaluation: Lib/Ring.lean `Piece.tiledL`, linear in the pieces, through a loop's `@[irreducible]` trip theorem too), so they cover it. -/
theorem cover4_A_4 (c : Dev nD) (i : grid4.Coords) (arg2 : Memref sig .tc .smem S1x1 .f32) (harg2 : arg2.IsWhole) (arg3 : Memref sig .tc .smem S1x1 .f32) (harg3 : arg3.IsWhole) (arg4 : Memref sig .tc .vmem S1024x10240 .fp8e5m2) (harg4 : arg4.IsWhole) (arg5 : Memref sig .tc .vmem S512x10240 .fp8e4m3) (harg5 : arg5.IsWhole) (arg6 : Memref sig .tc .vmem S1024x512 .bf16) (harg6 : arg6.IsWhole)
    (x0 : Vec F S1x1 .f32) (x1 : Vec F S1x1 .f32) (x2 : Vec F S1024x10240 .fp8e5m2) (x3 : Vec F S512x10240 .fp8e4m3) (y : S1024x512.Idx) :
    ∃ pc ∈ (kernelRun4_A c i arg2 harg2 arg3 harg3 arg4 harg4 arg5 harg5 arg6 harg6 x0 x1 x2 x3).1, y ∈ pc.1.set :=
  View.cover_of_tiledL (kernelRun4_A c i arg2 harg2 arg3 harg3 arg4 harg4 arg5 harg5 arg6 harg6 x0 x1 x2 x3).1 S1024x512.size (by sl_kernel_rfl) y

/-- What the run leaves in output 4's staging buffer: its pieces read back over junk. -/
def out4_A_4 (c : Dev nD) (i : grid4.Coords) (arg2 : Memref sig .tc .smem S1x1 .f32) (harg2 : arg2.IsWhole) (arg3 : Memref sig .tc .smem S1x1 .f32) (harg3 : arg3.IsWhole) (arg4 : Memref sig .tc .vmem S1024x10240 .fp8e5m2) (harg4 : arg4.IsWhole) (arg5 : Memref sig .tc .vmem S512x10240 .fp8e4m3) (harg5 : arg5.IsWhole) (arg6 : Memref sig .tc .vmem S1024x512 .bf16) (harg6 : arg6.IsWhole)
    (x0 : Vec F S1x1 .f32) (x1 : Vec F S1x1 .f32) (x2 : Vec F S1024x10240 .fp8e5m2) (x3 : Vec F S512x10240 .fp8e4m3) : Vec F S1024x512 .bf16 :=
  VO4_4.read (Elt F) (VO4_4.writes (Elt F) VO4_4.junk (kernelRun4_A c i arg2 harg2 arg3 harg3 arg4 harg4 arg5 harg5 arg6 harg6 x0 x1 x2 x3).1)

/-! ## What the outputs hold after each point -/

/-- What the outputs' staging buffers hold after the body at point `t`: the run's contents at
    the point's memrefs and input blocks. -/
def outsAt4 (c : Dev nD) (t : Fin cfg4.N) : Vec F S1024x512 .bf16 :=
  out4_A_4 c (grid4.coords t) (ms4_0 t) (hs4_0 t) (ms4_1 t) (hs4_1 t) (ms4_2 t) (hs4_2 t) (ms4_3 t) (hs4_3 t) (ms4_4 t) (hs4_4 t) (iblk4 V c 0 t) (iblk4 V c 1 t) (iblk4 V c 2 t) (iblk4 V c 3 t)

/-! ## The pipeline's proof data -/

/-- The proof data of pipeline 4 on core `c`: the arrays as the region finds them (`V`); after the body at
    point `t` each input's buffer at its block and the outputs' at `outsAt4`; the invariant the class's
    (Lib/Pipeline/Frame.lean `ΦA`: the scoped rest and the generator register); nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => (outsAt4 V c t)
  Φ _ := Pipeline.ΦA spec4 c
  q _ := fullShare
  owed _ := 0

/-- The proof data's arrays are the region-entry contents, by projecting the definition (`dsimp`): a region record cites
    this for its arrays rather than have Lean unfold `V`, the fold through @main up to the region's entry. -/
theorem A_eq4 (c : Dev nD) (w : Fin cfg4.W) : (dat4 V c).A w = V c (Pipeline.arrRef spec4 w) := by
  dsimp only [dat4]

/-- What the body leaves, window by window (the proof data's `match` reduced by `dsimp`). -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = (outsAt4 V c t) := by dsimp only [dat4]

/-- Each input's current staging buffer holds its block at every point, fetched there or not (`beforeK_W_of`). -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d

/-! ## The body obligation, at a generic point -/

/-- What the body is called with at point `t` (Lib/Pipeline.lean `BodyObligation`'s precondition, the windows one by one), -/
def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d))
    ∗ (∃ d, owns (c : Thread nD τ) (ms4_3 t) fullShare ((dat4 V c).before 3 t d))
    ∗ (∃ d, owns (c : Thread nD τ) (ms4_4 t) fullShare ((dat4 V c).before 4 t d)))

/-- and what it returns. -/
def bodyPost4 (c : Dev nD) (t : Fin cfg4.N) : sProp 𝕄 :=
  iprop((dat4 V c).Φ t.succ ∗ (dat4 V c).owesAt () t.succ
    ∗ owns (c : Thread nD τ) (ms4_0 t) fullShare ((dat4 V c).after 0 t)
    ∗ owns (c : Thread nD τ) (ms4_1 t) fullShare ((dat4 V c).after 1 t)
    ∗ owns (c : Thread nD τ) (ms4_2 t) fullShare ((dat4 V c).after 2 t)
    ∗ owns (c : Thread nD τ) (ms4_3 t) fullShare ((dat4 V c).after 3 t)
    ∗ owns (c : Thread nD τ) (ms4_4 t) fullShare ((dat4 V c).after 4 t))

/-- The body at any point: the inputs' memrefs hold their blocks (`before4_W`); so the
    run applies; the invariant passes through unread; the core owes nothing throughout. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3]
  rw [show (dat4 V c).Φ t.succ = (dat4 V c).Φ t.castSucc from rfl,
    show (dat4 V c).owesAt () t.succ = (dat4 V c).owesAt () t.castSucc from rfl,
    after4_0, after4_1, after4_2, after4_3, after4_4]
  unfold outsAt4
  unfold out4_A_4
  iintro ⟨HΦ, Ho, ⟨%d0, H0⟩, ⟨%d1, H1⟩, ⟨%d2, H2⟩, ⟨%d3, H3⟩, ⟨%d4, H4⟩⟩
  iapply ((kernelRun4_A c (grid4.coords t) _ _ _ _ _ _ _ _ _ _ (iblk4 V c 0 t) (iblk4 V c 1 t) (iblk4 V c 2 t) (iblk4 V c 3 t)).2 Set.univ _)
  isplitl [H0]; · iexact H0
  isplitl [H1]; · iexact H1
  isplitl [H2]; · iexact H2
  isplitl [H3]; · iexact H3
  isplitl [H4]; · iexists _; iexact H4
  iintro ⟨H0, H1, H2, H3, ⟨%e4, H4⟩⟩
  isplitl [HΦ]; · iexact HΦ
  isplitl [Ho]; · iexact Ho
  isplitl [H0]; · iexact H0
  isplitl [H1]; · iexact H1
  isplitl [H2]; · iexact H2
  isplitl [H3]; · iexact H3
  unfold owns; iexists _; isplitr
  swap; · iexact H4
  ipureintro; exact View.read_writes_of_cover _ _ _ _ _ (cover4_A_4 c _ _ _ _ _ _ _ _ _ _ _ _ _ _ _)

/-- The body table's row at point `t`'s slots is the body as `bodyAt4` spells it. -/
theorem defs₀_row4 (t : Fin cfg4.N) :
    defs₀ (F := F) .tc cfg4.body (cfg4.bodyArgs t (cfg4.slots t)) = bodyAt4 t := by
  unfold defs₀; rw [Defs.onTc_tc]

/-- The library's body obligation, at every point: the body's triple restated (Lib/Pipeline/FrameBody.lean `triple_restated`). -/
theorem body_obligation4 (c : Dev nD) : BodyObligation (dat4 (F := F) V c) (defs₀ (F := F)) Variants.none () Set.univ := fun t => by
  rw [bigSep_W4, bigSep_W4, defs₀_row4]
  exact triple_restated (sound_body4 V c t) rfl .rfl fun _ => .rfl

end Regions

end Cert.Kernel.Whole

end
-- ==== Proof.WholeBits.Region5.lean ====
/-
  The call number 5 of the kernel, at any contents `V` that the buffers have when the call is entered: the block of each
  window at a grid point, what the body leaves in its output windows and in the scratch memory it keeps from one point to the
  next, and the proof that the body does so.
-/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Kernel.Whole

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section Regions
-- the TensorCore's buffer contents when a region is entered: the parameter every region's half is stated at, which
-- the run instantiates per region
variable (V : (c : Dev nD) → (b : Ref sig .tc) → Buf (Elt F) ((c : Thread nD τ).loc b))

/-! # REGION 5 of @main: custom_call 5, `cc5_dw1` (pipeline 5), at the entry contents `V` — class R -/

/-! ## The windows' blocks -/

/-- Window `w`'s block at point `t`, read off its array as the region finds it (`V`). -/
noncomputable def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

/-! ## The body's branch conditions -/

/-- The condition of the body's `scf.if` 0 (`k5_h1`), from the grid coordinates (the skeleton's scalar
    chain substituted). -/
abbrev cond5_0 (i : grid5.Coords) : Prop := (Scalar.cmpi .ne (Scalar.extui (Scalar.cmpi .eq (BitVec.ofNat 32 (i 1).val) 0#32)) 0#32) = 1#1
/-- It holds at the points ≡ 0 (mod 20) — by arithmetic of the point. -/
theorem hcond5_0 : ∀ t : Fin cfg5.N, cond5_0 (grid5.coords t) ↔ t.val % 20 = 0 :=
  (fun t => by
    have ht : t.val < 140 := Nat.lt_of_lt_of_eq t.isLt N_5
    have e0 : (grid5.coords t 0).val = t.val / 20 % 7 := Pipeline.Grid.coords_val t 0 (by decide) rfl
    have e1 : (grid5.coords t 1).val = t.val / 1 % 20 := Pipeline.Grid.coords_val t 1 (by decide) rfl
    simp only [cond5_0, e0, e1]
    word_cmp
   : ∀ t : Fin grid5.N, cond5_0 (grid5.coords t) ↔ t.val % 20 = 0)

/-! ## The kernel body on any staging memrefs: a subtype the run finds -/

/-- One staging buffer of output window 4, through which its contents are stated (`View.read_writes_of_cover`: the
    choice does not matter). -/
abbrev VO5_4 : View sig .tc .vmem S1024x512 .bf16 := (Memref.whole cc5_stg4_0 : Memref sig .tc .vmem S1024x512 .bf16).view
/-- Each window's current staging memref at point `t`, spelled as the pipeline passes it (`bodyAt5`), and its wholeness. -/
abbrev ms5_0 (t : Fin cfg5.N) : Memref sig .tc .smem S1x1 .f32 := win5_0.stage (cfg5.slots t 0)
abbrev hs5_0 (t : Fin cfg5.N) : (ms5_0 t).IsWhole := hstage5_0 ((cfg5.slots t 0).cast nbuf5_0)
abbrev ms5_1 (t : Fin cfg5.N) : Memref sig .tc .smem S1x1 .f32 := win5_1.stage (cfg5.slots t 1)
abbrev hs5_1 (t : Fin cfg5.N) : (ms5_1 t).IsWhole := hstage5_1 ((cfg5.slots t 1).cast nbuf5_1)
abbrev ms5_2 (t : Fin cfg5.N) : Memref sig .tc .vmem S8192x1024 .fp8e4m3 := win5_2.stage (cfg5.slots t 2)
abbrev hs5_2 (t : Fin cfg5.N) : (ms5_2 t).IsWhole := hstage5_2 ((cfg5.slots t 2).cast nbuf5_2)
abbrev ms5_3 (t : Fin cfg5.N) : Memref sig .tc .vmem S8192x512 .fp8e5m2 := win5_3.stage (cfg5.slots t 3)
abbrev hs5_3 (t : Fin cfg5.N) : (ms5_3 t).IsWhole := hstage5_3 ((cfg5.slots t 3).cast nbuf5_3)
abbrev ms5_4 (t : Fin cfg5.N) : Memref sig .tc .vmem S1024x512 .bf16 := win5_4.stage (cfg5.slots t 4)
abbrev hs5_4 (t : Fin cfg5.N) : (ms5_4 t).IsWhole := hstage5_4 ((cfg5.slots t 4).cast nbuf5_4)
/-- The scratch operands: whole scoped buffers of the kernel's own, passed beside the windows. -/
abbrev scM5_0 : Memref sig .tc .vmem S1024x8192 .fp8e4m3 := Memref.whole cc5_scratch0
/-- The scratch `arg7` the kernel carries between points, as a view: what it holds is stated through it. -/
abbrev VS5_0 : View sig .tc .vmem S1024x8192 .fp8e4m3 := scM5_0.view

/-- `Gen.scopedRest5_split` as ONE chain: the kernel's own scratch buffers, each whole at some contents, then every
    other scoped buffer, unopened (`Pipeline.scopedRestBut`). -/
theorem scopedRest5_flat (c : Dev nD) :
    (Pipeline.scopedRest spec5 c : sProp 𝕄)
      = iprop((∃ f : Buf (Elt F) ((c : Thread nD τ).loc cc5_scratch0), ((c : Thread nD τ).loc cc5_scratch0) ↦{fullShare} f) ∗ Pipeline.scopedRestBut spec5 c [cc5_scratch0]) := by
  rw [scopedRest5_split]

/-- The frame kit's invariant with the scratch operands as memrefs owned at some contents (`Gen.scopedRest5_flat`,
    Lib/Memref.lean `owns_whole`): what the body obligation hands the run and takes back. -/
theorem PhiA5_eq (c : Dev nD) :
    (Pipeline.ΦA spec5 c : sProp 𝕄)
      = iprop(iprop((∃ d, owns (c : Thread nD τ) scM5_0 fullShare d) ∗ Pipeline.scopedRestBut spec5 c [cc5_scratch0]) ∗ (∃ r, prngReg c r)) := by
  unfold Pipeline.ΦA; rw [scopedRest5_flat]; simp only [scM5_0, owns_whole]; try rfl

-- (the run's proof term is large: the definition's epilogue — `abstractNestedProofs` — walks it past the default budget)
set_option maxHeartbeats 1000000 in
/-- What the body's stores leave in each output's staging memref, as pieces (last first) IN CASE A (`scf.if` 0 taken: points 0, 20, … 120: 7 of 140), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun5_A (c : Dev nD) (i : grid5.Coords) (arg2 : Memref sig .tc .smem S1x1 .f32) (harg2 : arg2.IsWhole) (arg3 : Memref sig .tc .smem S1x1 .f32) (harg3 : arg3.IsWhole) (arg4 : Memref sig .tc .vmem S8192x1024 .fp8e4m3) (harg4 : arg4.IsWhole) (arg5 : Memref sig .tc .vmem S8192x512 .fp8e5m2) (harg5 : arg5.IsWhole) (arg6 : Memref sig .tc .vmem S1024x512 .bf16) (harg6 : arg6.IsWhole) (arg7 : Memref sig .tc .vmem S1024x8192 .fp8e4m3) (harg7 : arg7.IsWhole) (hc0 : cond5_0 i)
    (x0 : Vec F S1x1 .f32) (x1 : Vec F S1x1 .f32) (x2 : Vec F S8192x1024 .fp8e4m3) (x3 : Vec F S8192x512 .fp8e5m2) :
    Σ' (L4 : List (View.Piece (Elt F) S1024x512 .bf16)), { LS0 : List (View.Piece (Elt F) S1024x8192 .fp8e4m3) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc5_dw1 i arg2 harg2 arg3 harg3 arg4 harg4 arg5 harg5 arg6 harg6 arg7 harg7) K } := by
  refine ⟨?_, ?_, fun E K => ?run⟩
  case run =>
    simp only [cc5_dw1_eq_skeleton]; unfold cc5_dw1_skel
    unfold owns
    iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS0

/-- Case A's pieces for output 4 tile its block (1 store of `S1024x512`, checked by the kernel's evaluation: Lib/Ring.lean `Piece.tiledL`, linear in the pieces, through a loop's `@[irreducible]` trip theorem too), so they cover it. -/
theorem cover5_A_4 (c : Dev nD) (i : grid5.Coords) (arg2 : Memref sig .tc .smem S1x1 .f32) (harg2 : arg2.IsWhole) (arg3 : Memref sig .tc .smem S1x1 .f32) (harg3 : arg3.IsWhole) (arg4 : Memref sig .tc .vmem S8192x1024 .fp8e4m3) (harg4 : arg4.IsWhole) (arg5 : Memref sig .tc .vmem S8192x512 .fp8e5m2) (harg5 : arg5.IsWhole) (arg6 : Memref sig .tc .vmem S1024x512 .bf16) (harg6 : arg6.IsWhole) (arg7 : Memref sig .tc .vmem S1024x8192 .fp8e4m3) (harg7 : arg7.IsWhole) (hc0 : cond5_0 i)
    (x0 : Vec F S1x1 .f32) (x1 : Vec F S1x1 .f32) (x2 : Vec F S8192x1024 .fp8e4m3) (x3 : Vec F S8192x512 .fp8e5m2) (y : S1024x512.Idx) :
    ∃ pc ∈ (kernelRun5_A c i arg2 harg2 arg3 harg3 arg4 harg4 arg5 harg5 arg6 harg6 arg7 harg7 hc0 x0 x1 x2 x3).1, y ∈ pc.1.set :=
  View.cover_of_tiledL (kernelRun5_A c i arg2 harg2 arg3 harg3 arg4 harg4 arg5 harg5 arg6 harg6 arg7 harg7 hc0 x0 x1 x2 x3).1 S1024x512.size (by sl_kernel_rfl) y

/-- What case A leaves in output 4's staging buffer: its pieces read back over junk. -/
def out5_A_4 (c : Dev nD) (i : grid5.Coords) (arg2 : Memref sig .tc .smem S1x1 .f32) (harg2 : arg2.IsWhole) (arg3 : Memref sig .tc .smem S1x1 .f32) (harg3 : arg3.IsWhole) (arg4 : Memref sig .tc .vmem S8192x1024 .fp8e4m3) (harg4 : arg4.IsWhole) (arg5 : Memref sig .tc .vmem S8192x512 .fp8e5m2) (harg5 : arg5.IsWhole) (arg6 : Memref sig .tc .vmem S1024x512 .bf16) (harg6 : arg6.IsWhole) (arg7 : Memref sig .tc .vmem S1024x8192 .fp8e4m3) (harg7 : arg7.IsWhole) (hc0 : cond5_0 i)
    (x0 : Vec F S1x1 .f32) (x1 : Vec F S1x1 .f32) (x2 : Vec F S8192x1024 .fp8e4m3) (x3 : Vec F S8192x512 .fp8e5m2) : Vec F S1024x512 .bf16 :=
  VO5_4.read (Elt F) (VO5_4.writes (Elt F) VO5_4.junk (kernelRun5_A c i arg2 harg2 arg3 harg3 arg4 harg4 arg5 harg5 arg6 harg6 arg7 harg7 hc0 x0 x1 x2 x3).1)

/-- Case A's pieces for scratch `arg7`, which the kernel carries between points, cover it: 1 piece of `S1024x8192` tiling it (Lib/Ring.lean `Piece.tiledL`). -/
theorem scover5_A_0 (c : Dev nD) (i : grid5.Coords) (arg2 : Memref sig .tc .smem S1x1 .f32) (harg2 : arg2.IsWhole) (arg3 : Memref sig .tc .smem S1x1 .f32) (harg3 : arg3.IsWhole) (arg4 : Memref sig .tc .vmem S8192x1024 .fp8e4m3) (harg4 : arg4.IsWhole) (arg5 : Memref sig .tc .vmem S8192x512 .fp8e5m2) (harg5 : arg5.IsWhole) (arg6 : Memref sig .tc .vmem S1024x512 .bf16) (harg6 : arg6.IsWhole) (arg7 : Memref sig .tc .vmem S1024x8192 .fp8e4m3) (harg7 : arg7.IsWhole) (hc0 : cond5_0 i)
    (x0 : Vec F S1x1 .f32) (x1 : Vec F S1x1 .f32) (x2 : Vec F S8192x1024 .fp8e4m3) (x3 : Vec F S8192x512 .fp8e5m2) (y : S1024x8192.Idx) :
    ∃ pc ∈ (kernelRun5_A c i arg2 harg2 arg3 harg3 arg4 harg4 arg5 harg5 arg6 harg6 arg7 harg7 hc0 x0 x1 x2 x3).2.1, y ∈ pc.1.set :=
  View.cover_of_tiledL (kernelRun5_A c i arg2 harg2 arg3 harg3 arg4 harg4 arg5 harg5 arg6 harg6 arg7 harg7 hc0 x0 x1 x2 x3).2.1 S1024x8192.size (by sl_kernel_rfl) y

/-- What case A leaves in scratch `arg7`: its pieces read back over junk. -/
def sout5_A_0 (c : Dev nD) (i : grid5.Coords) (arg2 : Memref sig .tc .smem S1x1 .f32) (harg2 : arg2.IsWhole) (arg3 : Memref sig .tc .smem S1x1 .f32) (harg3 : arg3.IsWhole) (arg4 : Memref sig .tc .vmem S8192x1024 .fp8e4m3) (harg4 : arg4.IsWhole) (arg5 : Memref sig .tc .vmem S8192x512 .fp8e5m2) (harg5 : arg5.IsWhole) (arg6 : Memref sig .tc .vmem S1024x512 .bf16) (harg6 : arg6.IsWhole) (arg7 : Memref sig .tc .vmem S1024x8192 .fp8e4m3) (harg7 : arg7.IsWhole) (hc0 : cond5_0 i)
    (x0 : Vec F S1x1 .f32) (x1 : Vec F S1x1 .f32) (x2 : Vec F S8192x1024 .fp8e4m3) (x3 : Vec F S8192x512 .fp8e5m2) : Vec F S1024x8192 .fp8e4m3 :=
  VS5_0.read (Elt F) (VS5_0.writes (Elt F) VS5_0.junk (kernelRun5_A c i arg2 harg2 arg3 harg3 arg4 harg4 arg5 harg5 arg6 harg6 arg7 harg7 hc0 x0 x1 x2 x3).2.1)

-- (the run's proof term is large: the definition's epilogue — `abstractNestedProofs` — walks it past the default budget)
set_option maxHeartbeats 1000000 in
/-- What the body's stores leave in each output's staging memref, as pieces (last first) IN CASE B (`scf.if` 0 not taken: points 1, 2, … 139: 133 of 140), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun5_B (c : Dev nD) (i : grid5.Coords) (arg2 : Memref sig .tc .smem S1x1 .f32) (harg2 : arg2.IsWhole) (arg3 : Memref sig .tc .smem S1x1 .f32) (harg3 : arg3.IsWhole) (arg4 : Memref sig .tc .vmem S8192x1024 .fp8e4m3) (harg4 : arg4.IsWhole) (arg5 : Memref sig .tc .vmem S8192x512 .fp8e5m2) (harg5 : arg5.IsWhole) (arg6 : Memref sig .tc .vmem S1024x512 .bf16) (harg6 : arg6.IsWhole) (arg7 : Memref sig .tc .vmem S1024x8192 .fp8e4m3) (harg7 : arg7.IsWhole) (hc0 : ¬cond5_0 i)
    (x0 : Vec F S1x1 .f32) (x1 : Vec F S1x1 .f32) (x2 : Vec F S8192x1024 .fp8e4m3) (x3 : Vec F S8192x512 .fp8e5m2) (xs0 : Vec F S1024x8192 .fp8e4m3) :
    Σ' (L4 : List (View.Piece (Elt F) S1024x512 .bf16)), { LS0 : List (View.Piece (Elt F) S1024x8192 .fp8e4m3) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ owns (c : Thread nD τ) arg7 fullShare xs0) -∗ K ⟨⟩))
          ⊢ wp frame (wpE (defs₀ (F := F)) Variants.none c none) E (cc5_dw1 i arg2 harg2 arg3 harg3 arg4 harg4 arg5 harg5 arg6 harg6 arg7 harg7) K } := by
  refine ⟨?_, [], fun E K => ?run⟩
  case run =>
    simp only [cc5_dw1_eq_skeleton]; unfold cc5_dw1_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg7.eq_unread hfs0
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; isplitr; · ipureintro; exact harg7.read_unread _
    iexact HS0

/-- Case B's pieces for output 4 tile its block (1 store of `S1024x512`, checked by the kernel's evaluation: Lib/Ring.lean `Piece.tiledL`, linear in the pieces, through a loop's `@[irreducible]` trip theorem too), so they cover it. -/
theorem cover5_B_4 (c : Dev nD) (i : grid5.Coords) (arg2 : Memref sig .tc .smem S1x1 .f32) (harg2 : arg2.IsWhole) (arg3 : Memref sig .tc .smem S1x1 .f32) (harg3 : arg3.IsWhole) (arg4 : Memref sig .tc .vmem S8192x1024 .fp8e4m3) (harg4 : arg4.IsWhole) (arg5 : Memref sig .tc .vmem S8192x512 .fp8e5m2) (harg5 : arg5.IsWhole) (arg6 : Memref sig .tc .vmem S1024x512 .bf16) (harg6 : arg6.IsWhole) (arg7 : Memref sig .tc .vmem S1024x8192 .fp8e4m3) (harg7 : arg7.IsWhole) (hc0 : ¬cond5_0 i)
    (x0 : Vec F S1x1 .f32) (x1 : Vec F S1x1 .f32) (x2 : Vec F S8192x1024 .fp8e4m3) (x3 : Vec F S8192x512 .fp8e5m2) (xs0 : Vec F S1024x8192 .fp8e4m3) (y : S1024x512.Idx) :
    ∃ pc ∈ (kernelRun5_B c i arg2 harg2 arg3 harg3 arg4 harg4 arg5 harg5 arg6 harg6 arg7 harg7 hc0 x0 x1 x2 x3 xs0).1, y ∈ pc.1.set :=
  View.cover_of_tiledL (kernelRun5_B c i arg2 harg2 arg3 harg3 arg4 harg4 arg5 harg5 arg6 harg6 arg7 harg7 hc0 x0 x1 x2 x3 xs0).1 S1024x512.size (by sl_kernel_rfl) y

/-- What case B leaves in output 4's staging buffer: its pieces read back over junk. -/
def out5_B_4 (c : Dev nD) (i : grid5.Coords) (arg2 : Memref sig .tc .smem S1x1 .f32) (harg2 : arg2.IsWhole) (arg3 : Memref sig .tc .smem S1x1 .f32) (harg3 : arg3.IsWhole) (arg4 : Memref sig .tc .vmem S8192x1024 .fp8e4m3) (harg4 : arg4.IsWhole) (arg5 : Memref sig .tc .vmem S8192x512 .fp8e5m2) (harg5 : arg5.IsWhole) (arg6 : Memref sig .tc .vmem S1024x512 .bf16) (harg6 : arg6.IsWhole) (arg7 : Memref sig .tc .vmem S1024x8192 .fp8e4m3) (harg7 : arg7.IsWhole) (hc0 : ¬cond5_0 i)
    (x0 : Vec F S1x1 .f32) (x1 : Vec F S1x1 .f32) (x2 : Vec F S8192x1024 .fp8e4m3) (x3 : Vec F S8192x512 .fp8e5m2) (xs0 : Vec F S1024x8192 .fp8e4m3) : Vec F S1024x512 .bf16 :=
  VO5_4.read (Elt F) (VO5_4.writes (Elt F) VO5_4.junk (kernelRun5_B c i arg2 harg2 arg3 harg3 arg4 harg4 arg5 harg5 arg6 harg6 arg7 harg7 hc0 x0 x1 x2 x3 xs0).1)

/-- Case B stores nothing into scratch `arg7`: it holds what the point before left. -/
def sout5_B_0 (c : Dev nD) (i : grid5.Coords) (arg2 : Memref sig .tc .smem S1x1 .f32) (harg2 : arg2.IsWhole) (arg3 : Memref sig .tc .smem S1x1 .f32) (harg3 : arg3.IsWhole) (arg4 : Memref sig .tc .vmem S8192x1024 .fp8e4m3) (harg4 : arg4.IsWhole) (arg5 : Memref sig .tc .vmem S8192x512 .fp8e5m2) (harg5 : arg5.IsWhole) (arg6 : Memref sig .tc .vmem S1024x512 .bf16) (harg6 : arg6.IsWhole) (arg7 : Memref sig .tc .vmem S1024x8192 .fp8e4m3) (harg7 : arg7.IsWhole) (hc0 : ¬cond5_0 i)
    (x0 : Vec F S1x1 .f32) (x1 : Vec F S1x1 .f32) (x2 : Vec F S8192x1024 .fp8e4m3) (x3 : Vec F S8192x512 .fp8e5m2) (xs0 : Vec F S1024x8192 .fp8e4m3) : Vec F S1024x8192 .fp8e4m3 := xs0

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before5_W_κ`). An assignment of the conditions no point meets is no case (`False.elim`). -/
def outsAt5 (c : Dev nD) : (n : ℕ) → n < cfg5.N → Vec F S1024x512 .bf16 × Vec F S1024x8192 .fp8e4m3
  | 0, hn => (out5_A_4 c (grid5.coords ⟨0, hn⟩) (ms5_0 ⟨0, hn⟩) (hs5_0 ⟨0, hn⟩) (ms5_1 ⟨0, hn⟩) (hs5_1 ⟨0, hn⟩) (ms5_2 ⟨0, hn⟩) (hs5_2 ⟨0, hn⟩) (ms5_3 ⟨0, hn⟩) (hs5_3 ⟨0, hn⟩) (ms5_4 ⟨0, hn⟩) (hs5_4 ⟨0, hn⟩) scM5_0 (Memref.isWhole_whole _) ((hcond5_0 ⟨0, hn⟩).mpr (Nat.zero_mod _)) (iblk5 V c 0 ⟨0, hn⟩) (iblk5 V c 1 ⟨0, hn⟩) (iblk5 V c 2 ⟨0, hn⟩) (iblk5 V c 3 ⟨0, hn⟩), sout5_A_0 c (grid5.coords ⟨0, hn⟩) (ms5_0 ⟨0, hn⟩) (hs5_0 ⟨0, hn⟩) (ms5_1 ⟨0, hn⟩) (hs5_1 ⟨0, hn⟩) (ms5_2 ⟨0, hn⟩) (hs5_2 ⟨0, hn⟩) (ms5_3 ⟨0, hn⟩) (hs5_3 ⟨0, hn⟩) (ms5_4 ⟨0, hn⟩) (hs5_4 ⟨0, hn⟩) scM5_0 (Memref.isWhole_whole _) ((hcond5_0 ⟨0, hn⟩).mpr (Nat.zero_mod _)) (iblk5 V c 0 ⟨0, hn⟩) (iblk5 V c 1 ⟨0, hn⟩) (iblk5 V c 2 ⟨0, hn⟩) (iblk5 V c 3 ⟨0, hn⟩))
  | n + 1, hn =>
    if h0 : (n + 1) % 20 = 0 then
      (out5_A_4 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) (ms5_4 ⟨n + 1, hn⟩) (hs5_4 ⟨n + 1, hn⟩) scM5_0 (Memref.isWhole_whole _) ((hcond5_0 ⟨n + 1, hn⟩).mpr h0) (iblk5 V c 0 ⟨n + 1, hn⟩) (iblk5 V c 1 ⟨n + 1, hn⟩) (iblk5 V c 2 ⟨n + 1, hn⟩) (iblk5 V c 3 ⟨n + 1, hn⟩), sout5_A_0 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) (ms5_4 ⟨n + 1, hn⟩) (hs5_4 ⟨n + 1, hn⟩) scM5_0 (Memref.isWhole_whole _) ((hcond5_0 ⟨n + 1, hn⟩).mpr h0) (iblk5 V c 0 ⟨n + 1, hn⟩) (iblk5 V c 1 ⟨n + 1, hn⟩) (iblk5 V c 2 ⟨n + 1, hn⟩) (iblk5 V c 3 ⟨n + 1, hn⟩))
    else
      (out5_B_4 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) (ms5_4 ⟨n + 1, hn⟩) (hs5_4 ⟨n + 1, hn⟩) scM5_0 (Memref.isWhole_whole _) (fun h => h0 ((hcond5_0 ⟨n + 1, hn⟩).mp h)) (iblk5 V c 0 ⟨n + 1, hn⟩) (iblk5 V c 1 ⟨n + 1, hn⟩) (iblk5 V c 2 ⟨n + 1, hn⟩) (iblk5 V c 3 ⟨n + 1, hn⟩) (outsAt5 c n (Nat.lt_of_succ_lt hn)).2, sout5_B_0 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) (ms5_4 ⟨n + 1, hn⟩) (hs5_4 ⟨n + 1, hn⟩) scM5_0 (Memref.isWhole_whole _) (fun h => h0 ((hcond5_0 ⟨n + 1, hn⟩).mp h)) (iblk5 V c 0 ⟨n + 1, hn⟩) (iblk5 V c 1 ⟨n + 1, hn⟩) (iblk5 V c 2 ⟨n + 1, hn⟩) (iblk5 V c 3 ⟨n + 1, hn⟩) (outsAt5 c n (Nat.lt_of_succ_lt hn)).2)

/-- `outsAt5` at a point of case A: that case's contents. -/
theorem outsAt5_A (c : Dev nD) (t : Fin cfg5.N) (h0 : t.val % 20 = 0) :
    outsAt5 V c t.val t.isLt = (out5_A_4 c (grid5.coords t) (ms5_0 t) (hs5_0 t) (ms5_1 t) (hs5_1 t) (ms5_2 t) (hs5_2 t) (ms5_3 t) (hs5_3 t) (ms5_4 t) (hs5_4 t) scM5_0 (Memref.isWhole_whole _) ((hcond5_0 t).mpr h0) (iblk5 V c 0 t) (iblk5 V c 1 t) (iblk5 V c 2 t) (iblk5 V c 3 t), sout5_A_0 c (grid5.coords t) (ms5_0 t) (hs5_0 t) (ms5_1 t) (hs5_1 t) (ms5_2 t) (hs5_2 t) (ms5_3 t) (hs5_3 t) (ms5_4 t) (hs5_4 t) scM5_0 (Memref.isWhole_whole _) ((hcond5_0 t).mpr h0) (iblk5 V c 0 t) (iblk5 V c 1 t) (iblk5 V c 2 t) (iblk5 V c 3 t)) := by
  obtain ⟨n, hn⟩ := t
  cases n with
  | zero => exact rfl
  | succ n => exact (dif_pos h0).trans rfl

/-- `outsAt5` at a point of case B: that case's contents, over what the point before left. -/
theorem outsAt5_B (c : Dev nD) (t : Fin cfg5.N) (h0 : ¬t.val % 20 = 0) :
    outsAt5 V c t.val t.isLt = (out5_B_4 c (grid5.coords t) (ms5_0 t) (hs5_0 t) (ms5_1 t) (hs5_1 t) (ms5_2 t) (hs5_2 t) (ms5_3 t) (hs5_3 t) (ms5_4 t) (hs5_4 t) scM5_0 (Memref.isWhole_whole _) (fun h => h0 ((hcond5_0 t).mp h)) (iblk5 V c 0 t) (iblk5 V c 1 t) (iblk5 V c 2 t) (iblk5 V c 3 t) (outsAt5 V c (t.val - 1) (Nat.lt_of_le_of_lt (Nat.sub_le _ _) t.isLt)).2, sout5_B_0 c (grid5.coords t) (ms5_0 t) (hs5_0 t) (ms5_1 t) (hs5_1 t) (ms5_2 t) (hs5_2 t) (ms5_3 t) (hs5_3 t) (ms5_4 t) (hs5_4 t) scM5_0 (Memref.isWhole_whole _) (fun h => h0 ((hcond5_0 t).mp h)) (iblk5 V c 0 t) (iblk5 V c 1 t) (iblk5 V c 2 t) (iblk5 V c 3 t) (outsAt5 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-- The region invariant before position `n` with a scratch the kernel CARRIES between points: before the first point the
    class's (Lib/Pipeline/Frame.lean `ΦA`: every scratch at anything); afterwards the scoped rest with each carried scratch
    at what the point before left in it (`outsAt5`'s scratch components), the others at anything, and the generator register
    at some state. -/
def PhiS5 (c : Dev nD) : (n : ℕ) → n ≤ cfg5.N → sProp 𝕄
  | 0, _ => Pipeline.ΦA spec5 c
  | n + 1, hn => iprop(iprop(owns (c : Thread nD τ) scM5_0 fullShare ((outsAt5 V c n hn).2) ∗ Pipeline.scopedRestBut spec5 c [cc5_scratch0]) ∗ (∃ r, prngReg c r))

theorem PhiS5_zero (c : Dev nD) (n : ℕ) (h : n ≤ cfg5.N) (hz : n = 0) : PhiS5 V c n h = Pipeline.ΦA spec5 c := by
  subst hz; rfl

/-- After point `n` (before point `n + 1`): the carried scratch at that point's contents. -/
theorem PhiS5_succ (c : Dev nD) (n : ℕ) (hn : n < cfg5.N) :
    PhiS5 V c (n + 1) hn = iprop(iprop(owns (c : Thread nD τ) scM5_0 fullShare ((outsAt5 V c n hn).2) ∗ Pipeline.scopedRestBut spec5 c [cc5_scratch0]) ∗ (∃ r, prngReg c r)) := rfl

/-- Before a point that is not the first: the carried scratch at what the point before left. -/
theorem PhiS5_pos (c : Dev nD) (n : ℕ) (h : n ≤ cfg5.N) (hz : n ≠ 0) :
    PhiS5 V c n h = iprop(iprop(owns (c : Thread nD τ) scM5_0 fullShare ((outsAt5 V c (n - 1) (by omega)).2) ∗ Pipeline.scopedRestBut spec5 c [cc5_scratch0]) ∗ (∃ r, prngReg c r)) := by
  cases n with
  | zero => exact absurd rfl hz
  | succ n => rfl

/-! ## The pipeline's proof data -/

/-- The proof data of pipeline 5 on core `c`: the arrays as the region finds them (`V`); after the body at
    point `t` each input's buffer at its block and the outputs' at `outsAt5`; the invariant the class's
    (`PhiS5`: the class's `ΦA` before the first point, then the scoped rest with the carried scratch at `outsAt5`'s component);
    nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => (outsAt5 V c t.val t.isLt).1
  Φ t := PhiS5 V c t.val (Nat.le_of_lt_succ t.isLt)
  q _ := fullShare
  owed _ := 0

/-- The proof data's arrays are the region-entry contents, by projecting the definition (`dsimp`): a region record cites
    this for its arrays rather than have Lean unfold `V`, the fold through @main up to the region's entry. -/
theorem A_eq5 (c : Dev nD) (w : Fin cfg5.W) : (dat5 V c).A w = V c (Pipeline.arrRef spec5 w) := by
  dsimp only [dat5]

/-- The invariant at a point's start (the proof data at `t.castSucc`), restated at `t.val`. -/
theorem PhiS5_castSucc (c : Dev nD) (t : Fin cfg5.N) :
    (dat5 V c).Φ t.castSucc = PhiS5 V c t.val (Nat.le_of_lt t.isLt) := by
  dsimp only [dat5]; exact Pipeline.Dat.Φ_castSucc (PhiS5 V c) t

/-- What the body leaves, window by window (the proof data's `match` reduced by `dsimp`). -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = (outsAt5 V c t.val t.isLt).1 := by dsimp only [dat5]

/-- Each input's current staging buffer holds its block at every point, fetched there or not (`beforeK_W_of`). -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d

/-! ## The body obligation, at a generic point -/

/-- What the body is called with at point `t` (Lib/Pipeline.lean `BodyObligation`'s precondition, the windows one by one), -/
def bodyPre5 (c : Dev nD) (t : Fin cfg5.N) : sProp 𝕄 :=
  iprop((dat5 V c).Φ t.castSucc ∗ (dat5 V c).owesAt () t.castSucc
    ∗ (∃ d, owns (c : Thread nD τ) (ms5_0 t) fullShare ((dat5 V c).before 0 t d))
    ∗ (∃ d, owns (c : Thread nD τ) (ms5_1 t) fullShare ((dat5 V c).before 1 t d))
    ∗ (∃ d, owns (c : Thread nD τ) (ms5_2 t) fullShare ((dat5 V c).before 2 t d))
    ∗ (∃ d, owns (c : Thread nD τ) (ms5_3 t) fullShare ((dat5 V c).before 3 t d))
    ∗ (∃ d, owns (c : Thread nD τ) (ms5_4 t) fullShare ((dat5 V c).before 4 t d)))

/-- and what it returns. -/
def bodyPost5 (c : Dev nD) (t : Fin cfg5.N) : sProp 𝕄 :=
  iprop((dat5 V c).Φ t.succ ∗ (dat5 V c).owesAt () t.succ
    ∗ owns (c : Thread nD τ) (ms5_0 t) fullShare ((dat5 V c).after 0 t)
    ∗ owns (c : Thread nD τ) (ms5_1 t) fullShare ((dat5 V c).after 1 t)
    ∗ owns (c : Thread nD τ) (ms5_2 t) fullShare ((dat5 V c).after 2 t)
    ∗ owns (c : Thread nD τ) (ms5_3 t) fullShare ((dat5 V c).after 3 t)
    ∗ owns (c : Thread nD τ) (ms5_4 t) fullShare ((dat5 V c).after 4 t))

set_option maxHeartbeats 3200000 in
/-- The body at any point: the inputs' memrefs hold their blocks (`before5_W`); the closed forms say which case the point is in (`by_cases`), an output the case reads before covering holds what the point before left (`before5_W_κ`); so the
    run applies; the invariant hands the body the carried scratch at what the point before left (`PhiS5_pos`; at anything at the first point, `PhiS5_zero`), the other scratch buffers and the generator register at some state, and takes the carried scratch back at this point's contents (`PhiS5_succ`, by `scoverK_κ_N`); the core owes nothing throughout. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3]
  rw [show (dat5 V c).owesAt () t.succ = (dat5 V c).owesAt () t.castSucc from rfl,
    after5_0, after5_1, after5_2, after5_3, after5_4]
  rw [show (dat5 V c).Φ t.succ = PhiS5 V c (t.val + 1) t.isLt from rfl, PhiS5_succ]
  have hN : t.val < 140 := lt_of_lt_of_eq t.isLt (show cfg5.N = 140 from N_5)
  by_cases h0 : t.val % 20 = 0
  · by_cases hz : t.val = 0
    · rw [PhiS5_castSucc V c t, PhiS5_zero V c _ _ hz, PhiA5_eq]
      rw [outsAt5_A V c t h0]
      unfold out5_A_4 sout5_A_0; (try dsimp only)
      iintro ⟨⟨⟨HS0, HR1⟩, Hg⟩, Ho, ⟨%d0, H0⟩, ⟨%d1, H1⟩, ⟨%d2, H2⟩, ⟨%d3, H3⟩, ⟨%d4, H4⟩⟩
      iapply ((kernelRun5_A c (grid5.coords t) _ _ _ _ _ _ _ _ _ _ _ _ ((hcond5_0 t).mpr h0) (iblk5 V c 0 t) (iblk5 V c 1 t) (iblk5 V c 2 t) (iblk5 V c 3 t)).2.2 Set.univ _)
      isplitl [H0]; · iexact H0
      isplitl [H1]; · iexact H1
      isplitl [H2]; · iexact H2
      isplitl [H3]; · iexact H3
      isplitl [H4]; · iexists _; iexact H4
      isplitl [HS0]; · iexact HS0
      iintro ⟨H0, H1, H2, H3, ⟨%e4, H4⟩, ⟨%es0, HS0⟩⟩
      isplitl [HS0 HR1 Hg]
      · isplitl [HS0 HR1]
        · isplitl [HS0]
          · unfold owns; iexists _; isplitr
            swap; · iexact HS0
            ipureintro; exact View.read_writes_of_cover _ _ _ _ _ (scover5_A_0 c _ _ _ _ _ _ _ _ _ _ _ _ _ _ _ _ _ _)
          iexact HR1
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover5_A_4 c _ _ _ _ _ _ _ _ _ _ _ _ _ _ _ _ _ _)
    · rw [PhiS5_castSucc V c t, PhiS5_pos V c _ _ hz]
      rw [outsAt5_A V c t h0]
      unfold out5_A_4 sout5_A_0; (try dsimp only)
      iintro ⟨⟨⟨HS0, HR1⟩, Hg⟩, Ho, ⟨%d0, H0⟩, ⟨%d1, H1⟩, ⟨%d2, H2⟩, ⟨%d3, H3⟩, ⟨%d4, H4⟩⟩
      iapply ((kernelRun5_A c (grid5.coords t) _ _ _ _ _ _ _ _ _ _ _ _ ((hcond5_0 t).mpr h0) (iblk5 V c 0 t) (iblk5 V c 1 t) (iblk5 V c 2 t) (iblk5 V c 3 t)).2.2 Set.univ _)
      isplitl [H0]; · iexact H0
      isplitl [H1]; · iexact H1
      isplitl [H2]; · iexact H2
      isplitl [H3]; · iexact H3
      isplitl [H4]; · iexists _; iexact H4
      isplitl [HS0]; · iexists _; iexact HS0
      iintro ⟨H0, H1, H2, H3, ⟨%e4, H4⟩, ⟨%es0, HS0⟩⟩
      isplitl [HS0 HR1 Hg]
      · isplitl [HS0 HR1]
        · isplitl [HS0]
          · unfold owns; iexists _; isplitr
            swap; · iexact HS0
            ipureintro; exact View.read_writes_of_cover _ _ _ _ _ (scover5_A_0 c _ _ _ _ _ _ _ _ _ _ _ _ _ _ _ _ _ _)
          iexact HR1
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover5_A_4 c _ _ _ _ _ _ _ _ _ _ _ _ _ _ _ _ _ _)
  · by_cases hz : t.val = 0
    · exfalso; have hN : t.val < 140 := lt_of_lt_of_eq t.isLt (show cfg5.N = 140 from N_5); omega
    · rw [PhiS5_castSucc V c t, PhiS5_pos V c _ _ hz]
      rw [outsAt5_B V c t h0]
      unfold out5_B_4 sout5_B_0; (try dsimp only)
      iintro ⟨⟨⟨HS0, HR1⟩, Hg⟩, Ho, ⟨%d0, H0⟩, ⟨%d1, H1⟩, ⟨%d2, H2⟩, ⟨%d3, H3⟩, ⟨%d4, H4⟩⟩
      iapply ((kernelRun5_B c (grid5.coords t) _ _ _ _ _ _ _ _ _ _ _ _ (fun h => h0 ((hcond5_0 t).mp h)) (iblk5 V c 0 t) (iblk5 V c 1 t) (iblk5 V c 2 t) (iblk5 V c 3 t) _).2.2 Set.univ _)
      isplitl [H0]; · iexact H0
      isplitl [H1]; · iexact H1
      isplitl [H2]; · iexact H2
      isplitl [H3]; · iexact H3
      isplitl [H4]; · iexists _; iexact H4
      isplitl [HS0]; · iexact HS0
      iintro ⟨H0, H1, H2, H3, ⟨%e4, H4⟩, HS0⟩
      isplitl [HS0 HR1 Hg]
      · isplitl [HS0 HR1]
        · isplitl [HS0]
          · iexact HS0
          iexact HR1
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover5_B_4 c _ _ _ _ _ _ _ _ _ _ _ _ _ _ _ _ _ _ _)

/-- The body table's row at point `t`'s slots is the body as `bodyAt5` spells it. -/
theorem defs₀_row5 (t : Fin cfg5.N) :
    defs₀ (F := F) .tc cfg5.body (cfg5.bodyArgs t (cfg5.slots t)) = bodyAt5 t := by
  unfold defs₀; rw [Defs.onTc_tc]

/-- The library's body obligation, at every point: the body's triple restated (Lib/Pipeline/FrameBody.lean `triple_restated`). -/
theorem body_obligation5 (c : Dev nD) : BodyObligation (dat5 (F := F) V c) (defs₀ (F := F)) Variants.none () Set.univ := fun t => by
  rw [bigSep_W5, bigSep_W5, defs₀_row5]
  exact triple_restated (sound_body5 V c t) rfl .rfl fun _ => .rfl

/-- What the launch hands the region (`ΦA`) is the invariant before the first point. -/
theorem hin5 (c : Dev nD) : Pipeline.ΦA spec5 c ⊢ (dat5 V c).Φ 0 := by
  rw [show (dat5 V c).Φ 0 = PhiS5 V c 0 (Nat.zero_le _) from rfl, PhiS5_zero V c 0 _ rfl]
  try exact Idealize.SL.BI.Entails.refl _

/-- After any point but the first the invariant gives `ΦA` back: the carried scratch's named contents are forgotten. -/
theorem Phi_out5 (c : Dev nD) (t : Fin (cfg5.N + 1)) (ht : t.val ≠ 0) : (dat5 V c).Φ t ⊢ Pipeline.ΦA spec5 c := by
  rw [show (dat5 V c).Φ t = PhiS5 V c t.val (Nat.le_of_lt_succ t.isLt) from rfl, PhiS5_pos V c _ _ ht, PhiA5_eq]
  iintro ⟨⟨HS0, HR1⟩, Hg⟩
  isplitl [HS0 HR1]
  · isplitl [HS0]
    · iexists _; iexact HS0
    iexact HR1
  iexact Hg

/-- The same after the last point. -/
theorem hout5 (c : Dev nD) : (dat5 V c).Φ (Fin.last cfg5.N) ⊢ Pipeline.ΦA spec5 c :=
  Phi_out5 V c _ (by rw [Fin.val_last]; have : cfg5.N = 140 := N_5; omega)

end Regions

end Cert.Kernel.Whole

end
-- ==== Proof.WholeBits.Hosts.lean ====
/-
  The buffers that the host's reshapes write.
-/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Kernel.Whole

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # THE RUN: @main's segments from the launch to the return (Lib/Pipeline/Regions.lean `θ_run_regions_kit`) -/

/-- @main's argument arrays, as TensorCore references: what the frame claim reads back. -/
abbrev argRefs : List (Ref sig .tc) := [main_arg0, main_arg1, main_arg2, main_arg3, main_arg4, main_arg5, main_arg6, main_arg7, main_arg8, main_arg9]

/-! ## The host stretches: none allocates a buffer, and each lists the references its operations write, in order,
    so that a reference absent from the list keeps its contents across the stretch (Lib/StableHlo/Run.lean
    `after_of_writes_sub`) -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_v0, main_v1, main_v2, main_v3, main_v4, main_v5, main_v6, main_v7]
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-- No operation of `hostOps6` allocates a buffer. -/
theorem hostOps6_fresh : (hostOps6 : List (HloOp τ sig (Elt F))).Forall fun op => op.fresh = ∅ := by
  simp only [List.Forall]; repeat' constructor
/-- The reference each operation of `hostOps6` writes, in order. -/
abbrev hostOps6_W : List (Ref sig .tc) := [main_v14, main_v15, main_v16, main_v17, main_v18]
theorem hostOps6_writes : (hostOps6 : List (HloOp τ sig (Elt F))).Forall fun op => op.writes ⊆ (hostOps6_W.map (Proc.devRef (τ := τ) .tc)).toFinset :=
  StableHlo.forall_writes_sub_of_map rfl
/-- `hostOps6` writes none of the argument arrays (checked: each argument against each reference it writes). -/
theorem hostOps6_args : ∀ a ∈ argRefs, a ∉ hostOps6_W := ListAll.forall_mem_of_all_decide (by decide +kernel)

end Cert.Kernel.Whole

end
-- ==== Proof.WholeBits.Fold.lean ====
/-
  What the buffers hold between the calls of the kernel: at launch, after the reshapes of the arguments, after each of the six
  calls, and after the reshapes of the results.
-/
module

public import proofs.«01_k».proof.Proof.WholeBits.Region0
public import proofs.«01_k».proof.Proof.WholeBits.Region1
public import proofs.«01_k».proof.Proof.WholeBits.Region2
public import proofs.«01_k».proof.Proof.WholeBits.Region3
public import proofs.«01_k».proof.Proof.WholeBits.Region4
public import proofs.«01_k».proof.Proof.WholeBits.Region5
public import proofs.«01_k».proof.Proof.WholeBits.Hosts

@[expose] public section

-- membership in a rectangle of production extents (`View.cover_of_tiled`): the elaborator's structural look
-- recurses once per coordinate of the long axes
set_option maxRecDepth 16384

noncomputable section

namespace Cert.Kernel.Whole

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary: a fold through @main, and what each item leaves unchanged -/

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After `hostOps0` (region 0's entry). -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded: `Dat.arrAt … N`), every other buffer as entered (Lib/Pipeline/FrameSuffix.lean `withArrays`) (region 1's entry). -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A reference that is none of region 0's OUTPUT arrays keeps its entry contents across it: an input window's
    array is never written back (`Dat.arrAt_in`, `A_eq0`); any other buffer is left as is. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At region 1's exit: its arrays at what the pipeline leaves (the inputs as entered, each output's write-backs
    folded: `Dat.arrAt … N`), every other buffer as entered (Lib/Pipeline/FrameSuffix.lean `withArrays`) (region 2's entry). -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact (dat1 (V2 m ρ) c).withArrays_arrAt launch₀1.sharedIn _ (A_eq1 (V2 m ρ) c) w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- A reference that is none of region 1's OUTPUT arrays keeps its entry contents across it: an input window's
    array is never written back (`Dat.arrAt_in`, `A_eq1`); any other buffer is left as is. -/
theorem W3_of (c : Dev nD) (r : Ref sig .tc) (h : ∀ w : Fin cfg1.W, Pipeline.arrRef spec1 w = r → (cfg1.win w).isOut = false) :
    W3 m ρ c (Proc.devRef .tc r) = W2 m ρ c (Proc.devRef .tc r) := by
  by_cases hw : ∃ w : Fin cfg1.W, Pipeline.arrRef spec1 w = r
  · obtain ⟨w, rfl⟩ := hw
    exact (W3_arr m ρ c w).trans (((dat1 (V2 m ρ) c).arrAt_in w (h w rfl) _).trans (A_eq1 (V2 m ρ) c w))
  · exact W3_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W3_args (c : Dev nD) : ∀ a ∈ argRefs, W3 m ρ c (Proc.devRef .tc a) = m ((c : Thread nD τ).loc a) :=
  fun a ha => (W3_of m ρ c a (argsIn1 a ha)).trans (W2_args m ρ c a ha)
/-- The same read at the TensorCore's references (region 1's exit contents). -/
abbrev V3 : (c : Dev nD) → (b : Ref sig .tc) → Buf (Elt F) ((c : Thread nD τ).loc b) := fun c b => W3 m ρ c b
/-- At region 1's exit each of its arrays holds what the pipeline leaves (`hF1`) and every other buffer what it
    held at entry (`hrest1`): the two hypotheses of Lib/Pipeline/RegionsLoop.lean `unscopedBufs_of_arrays_shared`. -/
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- At region 2's exit: its arrays at what the pipeline leaves (the inputs as entered, each output's write-backs
    folded: `Dat.arrAt … N`), every other buffer as entered (Lib/Pipeline/FrameSuffix.lean `withArrays`) (region 3's entry). -/
def W4 (c : Dev nD) : Valuation τ sig (Elt F) :=
  Pipeline.withArrays spec2 c (W3 m ρ c) fun w => (dat2 (V3 m ρ) c).arrAt w cfg2.N
theorem W4_arr (c : Dev nD) (w : Fin cfg2.W) :
    W4 m ρ c (Proc.devRef .tc (Pipeline.arrRef spec2 w)) = (dat2 (V3 m ρ) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m ρ c (Proc.devRef .tc b) = W3 m ρ c (Proc.devRef .tc b) := by
  unfold W4; exact Pipeline.withArrays_of_ne spec2 c _ _ b hb
/-- A reference that is none of region 2's OUTPUT arrays keeps its entry contents across it: an input window's
    array is never written back (`Dat.arrAt_in`, `A_eq2`); any other buffer is left as is. -/
theorem W4_of (c : Dev nD) (r : Ref sig .tc) (h : ∀ w : Fin cfg2.W, Pipeline.arrRef spec2 w = r → (cfg2.win w).isOut = false) :
    W4 m ρ c (Proc.devRef .tc r) = W3 m ρ c (Proc.devRef .tc r) := by
  by_cases hw : ∃ w : Fin cfg2.W, Pipeline.arrRef spec2 w = r
  · obtain ⟨w, rfl⟩ := hw
    exact (W4_arr m ρ c w).trans (((dat2 (V3 m ρ) c).arrAt_in w (h w rfl) _).trans (A_eq2 (V3 m ρ) c w))
  · exact W4_of_ne m ρ c r fun w e => hw ⟨w, e⟩
/-- Every argument among region 2's arrays is an input window's (checked: each argument against each window). -/
theorem argsIn2 : ∀ a ∈ argRefs, ∀ w : Fin cfg2.W, Pipeline.arrRef spec2 w = a → (cfg2.win w).isOut = false :=
  ListAll.forall_mem_of_all_decide (by decide +kernel)
theorem W4_args (c : Dev nD) : ∀ a ∈ argRefs, W4 m ρ c (Proc.devRef .tc a) = m ((c : Thread nD τ).loc a) :=
  fun a ha => (W4_of m ρ c a (argsIn2 a ha)).trans (W3_args m ρ c a ha)
/-- The same read at the TensorCore's references (region 2's exit contents). -/
abbrev V4 : (c : Dev nD) → (b : Ref sig .tc) → Buf (Elt F) ((c : Thread nD τ).loc b) := fun c b => W4 m ρ c b
/-- At region 2's exit each of its arrays holds what the pipeline leaves (`hF2`) and every other buffer what it
    held at entry (`hrest2`): the two hypotheses of Lib/Pipeline/RegionsLoop.lean `unscopedBufs_of_arrays`. -/
theorem hF2 (c : Dev nD) (w : Fin cfg2.W) : (dat2 (V3 m ρ) c).arrAt w cfg2.N = V4 m ρ c (Pipeline.arrRef spec2 w) :=
  (W4_arr m ρ c w).symm
theorem hrest2 (c : Dev nD) : ∀ b, b ∉ Finset.univ.image (Pipeline.arrRef spec2) → V4 m ρ c b = V3 m ρ c b :=
  fun b hb => W4_of_ne m ρ c b fun w e => hb (Finset.mem_image.mpr ⟨w, Finset.mem_univ _, e⟩)

/-- At region 3's exit: its arrays at what the pipeline leaves (the inputs as entered, each output's write-backs
    folded: `Dat.arrAt … N`), every other buffer as entered (Lib/Pipeline/FrameSuffix.lean `withArrays`) (region 4's entry). -/
def W5 (c : Dev nD) : Valuation τ sig (Elt F) :=
  Pipeline.withArrays spec3 c (W4 m ρ c) fun w => (dat3 (V4 m ρ) c).arrAt w cfg3.N
theorem W5_arr (c : Dev nD) (w : Fin cfg3.W) :
    W5 m ρ c (Proc.devRef .tc (Pipeline.arrRef spec3 w)) = (dat3 (V4 m ρ) c).arrAt w cfg3.N := by
  unfold W5; exact Pipeline.withArrays_arr spec3 launch3.win.arr_inj c _ _ w
theorem W5_of_ne (c : Dev nD) (b : Ref sig .tc) (hb : ∀ w, Pipeline.arrRef spec3 w ≠ b) :
    W5 m ρ c (Proc.devRef .tc b) = W4 m ρ c (Proc.devRef .tc b) := by
  unfold W5; exact Pipeline.withArrays_of_ne spec3 c _ _ b hb
/-- A reference that is none of region 3's OUTPUT arrays keeps its entry contents across it: an input window's
    array is never written back (`Dat.arrAt_in`, `A_eq3`); any other buffer is left as is. -/
theorem W5_of (c : Dev nD) (r : Ref sig .tc) (h : ∀ w : Fin cfg3.W, Pipeline.arrRef spec3 w = r → (cfg3.win w).isOut = false) :
    W5 m ρ c (Proc.devRef .tc r) = W4 m ρ c (Proc.devRef .tc r) := by
  by_cases hw : ∃ w : Fin cfg3.W, Pipeline.arrRef spec3 w = r
  · obtain ⟨w, rfl⟩ := hw
    exact (W5_arr m ρ c w).trans (((dat3 (V4 m ρ) c).arrAt_in w (h w rfl) _).trans (A_eq3 (V4 m ρ) c w))
  · exact W5_of_ne m ρ c r fun w e => hw ⟨w, e⟩
/-- Every argument among region 3's arrays is an input window's (checked: each argument against each window). -/
theorem argsIn3 : ∀ a ∈ argRefs, ∀ w : Fin cfg3.W, Pipeline.arrRef spec3 w = a → (cfg3.win w).isOut = false :=
  ListAll.forall_mem_of_all_decide (by decide +kernel)
theorem W5_args (c : Dev nD) : ∀ a ∈ argRefs, W5 m ρ c (Proc.devRef .tc a) = m ((c : Thread nD τ).loc a) :=
  fun a ha => (W5_of m ρ c a (argsIn3 a ha)).trans (W4_args m ρ c a ha)
/-- The same read at the TensorCore's references (region 3's exit contents). -/
abbrev V5 : (c : Dev nD) → (b : Ref sig .tc) → Buf (Elt F) ((c : Thread nD τ).loc b) := fun c b => W5 m ρ c b
/-- At region 3's exit each of its arrays holds what the pipeline leaves (`hF3`) and every other buffer what it
    held at entry (`hrest3`): the two hypotheses of Lib/Pipeline/RegionsLoop.lean `unscopedBufs_of_arrays`. -/
theorem hF3 (c : Dev nD) (w : Fin cfg3.W) : (dat3 (V4 m ρ) c).arrAt w cfg3.N = V5 m ρ c (Pipeline.arrRef spec3 w) :=
  (W5_arr m ρ c w).symm
theorem hrest3 (c : Dev nD) : ∀ b, b ∉ Finset.univ.image (Pipeline.arrRef spec3) → V5 m ρ c b = V4 m ρ c b :=
  fun b hb => W5_of_ne m ρ c b fun w e => hb (Finset.mem_image.mpr ⟨w, Finset.mem_univ _, e⟩)

/-- At region 4's exit: its arrays at what the pipeline leaves (the inputs as entered, each output's write-backs
    folded: `Dat.arrAt … N`), every other buffer as entered (Lib/Pipeline/FrameSuffix.lean `withArrays`) (region 5's entry). -/
def W6 (c : Dev nD) : Valuation τ sig (Elt F) :=
  Pipeline.withArrays spec4 c (W5 m ρ c) fun w => (dat4 (V5 m ρ) c).arrAt w cfg4.N
theorem W6_arr (c : Dev nD) (w : Fin cfg4.W) :
    W6 m ρ c (Proc.devRef .tc (Pipeline.arrRef spec4 w)) = (dat4 (V5 m ρ) c).arrAt w cfg4.N := by
  unfold W6; exact Pipeline.withArrays_arr spec4 launch4.win.arr_inj c _ _ w
theorem W6_of_ne (c : Dev nD) (b : Ref sig .tc) (hb : ∀ w, Pipeline.arrRef spec4 w ≠ b) :
    W6 m ρ c (Proc.devRef .tc b) = W5 m ρ c (Proc.devRef .tc b) := by
  unfold W6; exact Pipeline.withArrays_of_ne spec4 c _ _ b hb
/-- A reference that is none of region 4's OUTPUT arrays keeps its entry contents across it: an input window's
    array is never written back (`Dat.arrAt_in`, `A_eq4`); any other buffer is left as is. -/
theorem W6_of (c : Dev nD) (r : Ref sig .tc) (h : ∀ w : Fin cfg4.W, Pipeline.arrRef spec4 w = r → (cfg4.win w).isOut = false) :
    W6 m ρ c (Proc.devRef .tc r) = W5 m ρ c (Proc.devRef .tc r) := by
  by_cases hw : ∃ w : Fin cfg4.W, Pipeline.arrRef spec4 w = r
  · obtain ⟨w, rfl⟩ := hw
    exact (W6_arr m ρ c w).trans (((dat4 (V5 m ρ) c).arrAt_in w (h w rfl) _).trans (A_eq4 (V5 m ρ) c w))
  · exact W6_of_ne m ρ c r fun w e => hw ⟨w, e⟩
/-- Every argument among region 4's arrays is an input window's (checked: each argument against each window). -/
theorem argsIn4 : ∀ a ∈ argRefs, ∀ w : Fin cfg4.W, Pipeline.arrRef spec4 w = a → (cfg4.win w).isOut = false :=
  ListAll.forall_mem_of_all_decide (by decide +kernel)
theorem W6_args (c : Dev nD) : ∀ a ∈ argRefs, W6 m ρ c (Proc.devRef .tc a) = m ((c : Thread nD τ).loc a) :=
  fun a ha => (W6_of m ρ c a (argsIn4 a ha)).trans (W5_args m ρ c a ha)
/-- The same read at the TensorCore's references (region 4's exit contents). -/
abbrev V6 : (c : Dev nD) → (b : Ref sig .tc) → Buf (Elt F) ((c : Thread nD τ).loc b) := fun c b => W6 m ρ c b
/-- At region 4's exit each of its arrays holds what the pipeline leaves (`hF4`) and every other buffer what it
    held at entry (`hrest4`): the two hypotheses of Lib/Pipeline/RegionsLoop.lean `unscopedBufs_of_arrays`. -/
theorem hF4 (c : Dev nD) (w : Fin cfg4.W) : (dat4 (V5 m ρ) c).arrAt w cfg4.N = V6 m ρ c (Pipeline.arrRef spec4 w) :=
  (W6_arr m ρ c w).symm
theorem hrest4 (c : Dev nD) : ∀ b, b ∉ Finset.univ.image (Pipeline.arrRef spec4) → V6 m ρ c b = V5 m ρ c b :=
  fun b hb => W6_of_ne m ρ c b fun w e => hb (Finset.mem_image.mpr ⟨w, Finset.mem_univ _, e⟩)

/-- At region 5's exit: its arrays at what the pipeline leaves (the inputs as entered, each output's write-backs
    folded: `Dat.arrAt … N`), every other buffer as entered (Lib/Pipeline/FrameSuffix.lean `withArrays`). -/
def W7 (c : Dev nD) : Valuation τ sig (Elt F) :=
  Pipeline.withArrays spec5 c (W6 m ρ c) fun w => (dat5 (V6 m ρ) c).arrAt w cfg5.N
theorem W7_arr (c : Dev nD) (w : Fin cfg5.W) :
    W7 m ρ c (Proc.devRef .tc (Pipeline.arrRef spec5 w)) = (dat5 (V6 m ρ) c).arrAt w cfg5.N := by
  unfold W7; exact Pipeline.withArrays_arr spec5 launch5.win.arr_inj c _ _ w
theorem W7_of_ne (c : Dev nD) (b : Ref sig .tc) (hb : ∀ w, Pipeline.arrRef spec5 w ≠ b) :
    W7 m ρ c (Proc.devRef .tc b) = W6 m ρ c (Proc.devRef .tc b) := by
  unfold W7; exact Pipeline.withArrays_of_ne spec5 c _ _ b hb
/-- A reference that is none of region 5's OUTPUT arrays keeps its entry contents across it: an input window's
    array is never written back (`Dat.arrAt_in`, `A_eq5`); any other buffer is left as is. -/
theorem W7_of (c : Dev nD) (r : Ref sig .tc) (h : ∀ w : Fin cfg5.W, Pipeline.arrRef spec5 w = r → (cfg5.win w).isOut = false) :
    W7 m ρ c (Proc.devRef .tc r) = W6 m ρ c (Proc.devRef .tc r) := by
  by_cases hw : ∃ w : Fin cfg5.W, Pipeline.arrRef spec5 w = r
  · obtain ⟨w, rfl⟩ := hw
    exact (W7_arr m ρ c w).trans (((dat5 (V6 m ρ) c).arrAt_in w (h w rfl) _).trans (A_eq5 (V6 m ρ) c w))
  · exact W7_of_ne m ρ c r fun w e => hw ⟨w, e⟩
/-- Every argument among region 5's arrays is an input window's (checked: each argument against each window). -/
theorem argsIn5 : ∀ a ∈ argRefs, ∀ w : Fin cfg5.W, Pipeline.arrRef spec5 w = a → (cfg5.win w).isOut = false :=
  ListAll.forall_mem_of_all_decide (by decide +kernel)
theorem W7_args (c : Dev nD) : ∀ a ∈ argRefs, W7 m ρ c (Proc.devRef .tc a) = m ((c : Thread nD τ).loc a) :=
  fun a ha => (W7_of m ρ c a (argsIn5 a ha)).trans (W6_args m ρ c a ha)
/-- The same read at the TensorCore's references (region 5's exit contents). -/
abbrev V7 : (c : Dev nD) → (b : Ref sig .tc) → Buf (Elt F) ((c : Thread nD τ).loc b) := fun c b => W7 m ρ c b
/-- At region 5's exit each of its arrays holds what the pipeline leaves (`hF5`) and every other buffer what it
    held at entry (`hrest5`): the two hypotheses of Lib/Pipeline/RegionsLoop.lean `unscopedBufs_of_arrays`. -/
theorem hF5 (c : Dev nD) (w : Fin cfg5.W) : (dat5 (V6 m ρ) c).arrAt w cfg5.N = V7 m ρ c (Pipeline.arrRef spec5 w) :=
  (W7_arr m ρ c w).symm
theorem hrest5 (c : Dev nD) : ∀ b, b ∉ Finset.univ.image (Pipeline.arrRef spec5) → V7 m ρ c b = V6 m ρ c b :=
  fun b hb => W7_of_ne m ρ c b fun w e => hb (Finset.mem_image.mpr ⟨w, Finset.mem_univ _, e⟩)

/-- After `hostOps6`. -/
abbrev W8 : Dev nD → Valuation τ sig (Elt F) := fun c => StableHlo.after hostOps6 (W7 m ρ c)
/-- A reference `hostOps6` does not write keeps its contents across it. -/
theorem W8_of (c : Dev nD) (r : Ref sig .tc) (h : r ∉ hostOps6_W) : W8 m ρ c (Proc.devRef .tc r) = W7 m ρ c (Proc.devRef .tc r) :=
  StableHlo.after_of_writes_sub hostOps6 _ hostOps6_writes h
theorem W8_args (c : Dev nD) : ∀ a ∈ argRefs, W8 m ρ c (Proc.devRef .tc a) = m ((c : Thread nD τ).loc a) :=
  fun a ha => (W8_of m ρ c a (hostOps6_args a ha)).trans (W7_args m ρ c a ha)

/-! ### The arguments end as launched: no host stretch writes one and no region may change one (a region reads it
    through an input window or bypasses it) -/

theorem W8_main_arg0 (c : Dev nD) : W8 m ρ c (Proc.devRef .tc main_arg0) = m ((c : Thread nD τ).loc main_arg0) :=
  W8_args m ρ c main_arg0 (by decide)
theorem W8_main_arg1 (c : Dev nD) : W8 m ρ c (Proc.devRef .tc main_arg1) = m ((c : Thread nD τ).loc main_arg1) :=
  W8_args m ρ c main_arg1 (by decide)
theorem W8_main_arg2 (c : Dev nD) : W8 m ρ c (Proc.devRef .tc main_arg2) = m ((c : Thread nD τ).loc main_arg2) :=
  W8_args m ρ c main_arg2 (by decide)
theorem W8_main_arg3 (c : Dev nD) : W8 m ρ c (Proc.devRef .tc main_arg3) = m ((c : Thread nD τ).loc main_arg3) :=
  W8_args m ρ c main_arg3 (by decide)
theorem W8_main_arg4 (c : Dev nD) : W8 m ρ c (Proc.devRef .tc main_arg4) = m ((c : Thread nD τ).loc main_arg4) :=
  W8_args m ρ c main_arg4 (by decide)
theorem W8_main_arg5 (c : Dev nD) : W8 m ρ c (Proc.devRef .tc main_arg5) = m ((c : Thread nD τ).loc main_arg5) :=
  W8_args m ρ c main_arg5 (by decide)
theorem W8_main_arg6 (c : Dev nD) : W8 m ρ c (Proc.devRef .tc main_arg6) = m ((c : Thread nD τ).loc main_arg6) :=
  W8_args m ρ c main_arg6 (by decide)
theorem W8_main_arg7 (c : Dev nD) : W8 m ρ c (Proc.devRef .tc main_arg7) = m ((c : Thread nD τ).loc main_arg7) :=
  W8_args m ρ c main_arg7 (by decide)
theorem W8_main_arg8 (c : Dev nD) : W8 m ρ c (Proc.devRef .tc main_arg8) = m ((c : Thread nD τ).loc main_arg8) :=
  W8_args m ρ c main_arg8 (by decide)
theorem W8_main_arg9 (c : Dev nD) : W8 m ρ c (Proc.devRef .tc main_arg9) = m ((c : Thread nD τ).loc main_arg9) :=
  W8_args m ρ c main_arg9 (by decide)
end Cert.Kernel.Whole

end
-- ==== Proof.WholeBits.State.lean ====
/-
  The proof data of the six calls, each at what the buffers hold when it is entered, and what a core holds between two calls.
-/
module

public import proofs.«01_k».proof.Proof.WholeBits.Fold

@[expose] public section

-- membership in a rectangle of production extents (`View.cover_of_tiled`): the elaborator's structural look
-- recurses once per coordinate of the long axes
set_option maxRecDepth 16384

noncomputable section

namespace Cert.Kernel.Whole

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data family and the thread state -/

/-- The prefetched tables' admissible contents: no pipeline has a table. -/
abbrev adm : (p : Fin 6) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 6) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
  | ⟨2, _⟩ => fun c => dat2 (V3 m ρ) c
  | ⟨3, _⟩ => fun c => dat3 (V4 m ρ) c
  | ⟨4, _⟩ => fun c => dat4 (V5 m ρ) c
  | ⟨5, _⟩ => fun c => dat5 (V6 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W8`, the generator register at some state. -/
abbrev Tₙ (c : Dev nD) : sProp 𝕄 := iprop(StableHlo.held (c : Thread nD τ) (Pipeline.ucRefs τ sig) (W8 m ρ c) ∗ ∃ r, prngReg c r)

end Cert.Kernel.Whole

end
-- ==== Proof.WholeBits.Record0.lean ====
/-
  The call number 0 of the kernel as a segment of the run of the whole kernel.
-/
module

public import proofs.«01_k».proof.Proof.WholeBits.State

@[expose] public section

-- membership in a rectangle of production extents (`View.cover_of_tiled`): the elaborator's structural look
-- recurses once per coordinate of the long axes
set_option maxRecDepth 16384

noncomputable section

namespace Cert.Kernel.Whole

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W1`, left at `W2`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine Idealize.SL.BI.Entails.trans ?_ (hin0 (V1 m ρ) c)
    show (_ : sProp 𝕄) ⊢ (_ : sProp 𝕄)
    unfold Pipeline.ΦA
    iintro ⟨Hp, -, Hr⟩
    isplitl [Hr]; · iexact Hr
    iexact Hp
  hout c := by
    rw [Pipeline.ownSems0_none]; refine Idealize.SL.BI.Entails.trans (hout0 (V1 m ρ) c) ?_
    show (_ : sProp 𝕄) ⊢ (_ : sProp 𝕄)
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Whole

end
-- ==== Proof.WholeBits.Record1.lean ====
/-
  The call number 1 of the kernel as a segment of the run of the whole kernel.
-/
module

public import proofs.«01_k».proof.Proof.WholeBits.State

@[expose] public section

-- membership in a rectangle of production extents (`View.cover_of_tiled`): the elaborator's structural look
-- recurses once per coordinate of the long axes
set_option maxRecDepth 16384

noncomputable section

namespace Cert.Kernel.Whole

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- `iapply` of a library lemma stated over `pin pcs a p` unifies with the pinned configuration only when unification may
-- unfold plain definitions in a metavariable's type
set_option backward.isDefEq.respectTransparency.types false in
/-- REGION 1 (custom_call 1) over the thread state: entered from every unscoped buffer at `W2`, left at `W3`
    (what the next segment is entered from). Its arrays split out of the unscoped buffers
    (`arrays_of_unscopedBufs_shared`) and put back at the exit contents (`unscopedBufs_of_arrays_shared`; its input windows on one array (`launch₀1.sharedIn`) each dealt their share of it, `Pipeline.shareOf`, by the proof data); the generator register into the
    class invariant `ΦA` and out; nothing owed; no semaphore of the kernel's own. -/
def reg1 : Pipeline.RegionSeg (pcfgs (F := F)) adm (pdats m ρ) () defs₀ 𝒱₀ L lv 1 where
  win := launch₀1.win
  block_pos := launch₀1.block_pos
  stage_whole := launch₀1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs_shared (p := 1) (pcfgs (F := F)) adm (pdats m ρ) launch₀1.win launch₀1.sharedIn launch₀1.arr_whole c
      (fun _ _ => rfl) (V2 m ρ c) (A_eq1 (V2 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine Idealize.SL.BI.Entails.trans ?_ (hin1 (V2 m ρ) c)
    show (_ : sProp 𝕄) ⊢ (_ : sProp 𝕄)
    unfold Pipeline.ΦA
    iintro ⟨Hp, -, Hr⟩
    isplitl [Hr]; · iexact Hr
    iexact Hp
  hout c := by
    rw [Pipeline.ownSems0_none]; refine Idealize.SL.BI.Entails.trans (hout1 (V2 m ρ) c) ?_
    show (_ : sProp 𝕄) ⊢ (_ : sProp 𝕄)
    unfold Pipeline.ΦA
    iintro ⟨Hr, Hp⟩
    isplitl [Hp]; · iexact Hp
    isplitr; · iempintro
    iexact Hr
  hexit c := by
    have hjoin := Pipeline.unscopedBufs_of_arrays_shared (p := 1) (pcfgs (F := F)) adm (Ix := Unit) (Name := ℕ) (U := UR sig nD τ) (Lvl := ℕ)
      launch₀1.win launch₀1.sharedIn launch₀1.arr_whole c (pdats m ρ) (fun _ _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Whole

end
-- ==== Proof.WholeBits.Record2.lean ====
/-
  The call number 2 of the kernel as a segment of the run of the whole kernel.
-/
module

public import proofs.«01_k».proof.Proof.WholeBits.State

@[expose] public section

-- membership in a rectangle of production extents (`View.cover_of_tiled`): the elaborator's structural look
-- recurses once per coordinate of the long axes
set_option maxRecDepth 16384

noncomputable section

namespace Cert.Kernel.Whole

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- `iapply` of a library lemma stated over `pin pcs a p` unifies with the pinned configuration only when unification may
-- unfold plain definitions in a metavariable's type
set_option backward.isDefEq.respectTransparency.types false in
/-- REGION 2 (custom_call 2) over the thread state: entered from every unscoped buffer at `W3`, left at `W4`
    (what the next segment is entered from). Its arrays split out of the unscoped buffers
    (`arrays_of_unscopedBufs`) and put back at the exit contents (`unscopedBufs_of_arrays`); the generator register into the
    class invariant `ΦA` and out; nothing owed; no semaphore of the kernel's own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V3 m ρ) c).loose
  hwaits := Pipeline.hwaits_of_owed_zero _ _ _ _ L lv 2 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec2 c (V3 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V3 m ρ c) (A_eq2 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine Idealize.SL.BI.Entails.trans ?_ (hin2 (V3 m ρ) c)
    show (_ : sProp 𝕄) ⊢ (_ : sProp 𝕄)
    unfold Pipeline.ΦA
    iintro ⟨Hp, -, Hr⟩
    isplitl [Hr]; · iexact Hr
    iexact Hp
  hout c := by
    rw [Pipeline.ownSems0_none]; refine Idealize.SL.BI.Entails.trans (hout2 (V3 m ρ) c) ?_
    show (_ : sProp 𝕄) ⊢ (_ : sProp 𝕄)
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V3 m ρ c) (V4 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Whole

end
-- ==== Proof.WholeBits.Record3.lean ====
/-
  The call number 3 of the kernel as a segment of the run of the whole kernel.
-/
module

public import proofs.«01_k».proof.Proof.WholeBits.State

@[expose] public section

-- membership in a rectangle of production extents (`View.cover_of_tiled`): the elaborator's structural look
-- recurses once per coordinate of the long axes
set_option maxRecDepth 16384

noncomputable section

namespace Cert.Kernel.Whole

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- `iapply` of a library lemma stated over `pin pcs a p` unifies with the pinned configuration only when unification may
-- unfold plain definitions in a metavariable's type
set_option backward.isDefEq.respectTransparency.types false in
/-- REGION 3 (custom_call 3) over the thread state: entered from every unscoped buffer at `W4`, left at `W5`
    (what the next segment is entered from). Its arrays split out of the unscoped buffers
    (`arrays_of_unscopedBufs`) and put back at the exit contents (`unscopedBufs_of_arrays`); the generator register into the
    class invariant `ΦA` and out; nothing owed; no semaphore of the kernel's own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V4 m ρ) c).loose
  hwaits := Pipeline.hwaits_of_owed_zero _ _ _ _ L lv 3 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec3 c (V4 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V4 m ρ c) (A_eq3 (V4 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V4 m ρ c) (V5 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Whole

end
-- ==== Proof.WholeBits.Record4.lean ====
/-
  The call number 4 of the kernel as a segment of the run of the whole kernel.
-/
module

public import proofs.«01_k».proof.Proof.WholeBits.State

@[expose] public section

-- membership in a rectangle of production extents (`View.cover_of_tiled`): the elaborator's structural look
-- recurses once per coordinate of the long axes
set_option maxRecDepth 16384

noncomputable section

namespace Cert.Kernel.Whole

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- `iapply` of a library lemma stated over `pin pcs a p` unifies with the pinned configuration only when unification may
-- unfold plain definitions in a metavariable's type
set_option backward.isDefEq.respectTransparency.types false in
/-- REGION 4 (custom_call 4) over the thread state: entered from every unscoped buffer at `W5`, left at `W6`
    (what the next segment is entered from). Its arrays split out of the unscoped buffers
    (`arrays_of_unscopedBufs`) and put back at the exit contents (`unscopedBufs_of_arrays`); the generator register into the
    class invariant `ΦA` and out; nothing owed; no semaphore of the kernel's own. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V5 m ρ) c).loose
  hwaits := Pipeline.hwaits_of_owed_zero _ _ _ _ L lv 4 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec4 c (V5 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V5 m ρ c) (A_eq4 (V5 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V5 m ρ c) (V6 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Whole

end
-- ==== Proof.WholeBits.Record5.lean ====
/-
  The call number 5 of the kernel as a segment of the run of the whole kernel.
-/
module

public import proofs.«01_k».proof.Proof.WholeBits.State

@[expose] public section

-- membership in a rectangle of production extents (`View.cover_of_tiled`): the elaborator's structural look
-- recurses once per coordinate of the long axes
set_option maxRecDepth 16384

noncomputable section

namespace Cert.Kernel.Whole

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- `iapply` of a library lemma stated over `pin pcs a p` unifies with the pinned configuration only when unification may
-- unfold plain definitions in a metavariable's type
set_option backward.isDefEq.respectTransparency.types false in
/-- REGION 5 (custom_call 5) over the thread state: entered from every unscoped buffer at `W6`, left at `W7`
    (what the next segment is entered from). Its arrays split out of the unscoped buffers
    (`arrays_of_unscopedBufs`) and put back at the exit contents (`unscopedBufs_of_arrays`); the generator register into the
    class invariant `ΦA` and out; nothing owed; no semaphore of the kernel's own. -/
def reg5 : Pipeline.RegionSeg (pcfgs (F := F)) adm (pdats m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (V6 m ρ) c).loose
  hwaits := Pipeline.hwaits_of_owed_zero _ _ _ _ L lv 5 fun _ _ => rfl
  pre c := iprop(StableHlo.held (c : Thread nD τ) (Pipeline.ucRefs τ sig) (W6 m ρ c) ∗ R c)
  post c := iprop(StableHlo.held (c : Thread nD τ) (Pipeline.ucRefs τ sig) (W7 m ρ c) ∗ R c)
  X c := iprop(∃ r, prngReg c r)
  Y c := iprop(∃ r, prngReg c r)
  Z c := Pipeline.unscopedRest (Ix := Unit) (Name := ℕ) (U := UR sig nD τ) (Lvl := ℕ) spec5 c (V6 m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun _ => rfl) (V6 m ρ c) (A_eq5 (V6 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine Idealize.SL.BI.Entails.trans ?_ (hin5 (V6 m ρ) c)
    show (_ : sProp 𝕄) ⊢ (_ : sProp 𝕄)
    unfold Pipeline.ΦA
    iintro ⟨Hp, -, Hr⟩
    isplitl [Hr]; · iexact Hr
    iexact Hp
  hout c := by
    rw [Pipeline.ownSems0_none]; refine Idealize.SL.BI.Entails.trans (hout5 (V6 m ρ) c) ?_
    show (_ : sProp 𝕄) ⊢ (_ : sProp 𝕄)
    unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m ρ) ((pdats m ρ 5 c).share_full fun _ => rfl)
      (V6 m ρ c) (V7 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Whole

end
-- ==== Proof.WholeBits.Run.lean ====
/-
  The run of the whole kernel: the segments in order, and what every buffer holds at the end.
-/
module

public import proofs.«01_k».proof.Proof.WholeBits.Record0
public import proofs.«01_k».proof.Proof.WholeBits.Record1
public import proofs.«01_k».proof.Proof.WholeBits.Record2
public import proofs.«01_k».proof.Proof.WholeBits.Record3
public import proofs.«01_k».proof.Proof.WholeBits.Record4
public import proofs.«01_k».proof.Proof.WholeBits.Record5

@[expose] public section

-- membership in a rectangle of production extents (`View.cover_of_tiled`): the elaborator's structural look
-- recurses once per coordinate of the long axes
set_option maxRecDepth 16384

noncomputable section

namespace Cert.Kernel.Whole

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main as segments, and the launch -/

/-- @main's 8 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .region (reg2 m ρ),
    .region (reg3 m ρ),
    .region (reg4 m ρ),
    .region (reg5 m ρ),
    .host (hseg hostOps6 hostOps6_sub hostOps6_fresh (W7 m ρ)) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- From any memory with zero counters every weakly fair run of the kernel terminates with nothing faulting; every unscoped
    buffer ends at what the fold of the segments (`W8`) gives it, and every semaphore counter at zero. -/
theorem run : θ_run defs (onTc (τ := τ) (main (F := F))) ⟨m, fun _ => 0, ρ⟩ (fun r => (∀ c : Dev nD, ∀ b ∈ Pipeline.ucRefs τ sig,
      r.2.mem (((c : Thread nD τ)).1, b) = W8 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h hz => ⟨h, funext fun g => hz g (.inr (no_unscoped g.2))⟩)

/-- The kernel terminates, faults nowhere, leaves every argument array as it was and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  (θ_run defs _ _).mono (fun _ hh => ⟨fun c =>
      have h := hh.1 c
      ⟨(h _ (mem_uc main_arg0 (by decide))).trans (W8_main_arg0 m ρ c),
       (h _ (mem_uc main_arg1 (by decide))).trans (W8_main_arg1 m ρ c),
       (h _ (mem_uc main_arg2 (by decide))).trans (W8_main_arg2 m ρ c),
       (h _ (mem_uc main_arg3 (by decide))).trans (W8_main_arg3 m ρ c),
       (h _ (mem_uc main_arg4 (by decide))).trans (W8_main_arg4 m ρ c),
       (h _ (mem_uc main_arg5 (by decide))).trans (W8_main_arg5 m ρ c),
       (h _ (mem_uc main_arg6 (by decide))).trans (W8_main_arg6 m ρ c),
       (h _ (mem_uc main_arg7 (by decide))).trans (W8_main_arg7 m ρ c),
       (h _ (mem_uc main_arg8 (by decide))).trans (W8_main_arg8 m ρ c),
       (h _ (mem_uc main_arg9 (by decide))).trans (W8_main_arg9 m ρ c)⟩, hh.2⟩) (run m ρ)

end Cert.Kernel.Whole

end
-- ==== Proof.Frame.lean ====
/-
  The printed kernel at the bits: it terminates, faults nowhere and leaves its arguments as they were.
-/
module

public import proofs.«01_k».proof.Defs
public import proofs.«01_k».proof.Proof.WholeBits.Run

@[expose] public section

namespace Cert.Proof

open Idealize.ShloMosaic Idealize.SL.Sem

/-- The kernel at the bits terminates, faults nowhere and leaves its arguments as they were. -/
theorem quiescent_bits : Cert.quiescent_Kernel (hKernel := Cert.Kernel.Gen.facts) :=
  fun m ρ _ => Cert.Kernel.Whole.frame (F := Bits) m ρ

end Cert.Proof
-- ==== Proof.Scale.lean ====
/-
  The scale of the quantiser over the reals. The kernel finds the binary exponent of the ratio `amax / 57344` bit by bit; the
  reference takes the least power of two above the ratio. Both give one scale, and the kernel's reciprocal is its reciprocal.
-/
module

public import Idealize.ShloMosaic.Lib.Pipeline.ValueKit

@[expose] public section

noncomputable section

namespace Cert.Proof

open Idealize.ShloMosaic

/-! ## Maxima of whole arrays -/

/-- Every element of a maximum along axes is at most `x` iff every element of the array is. -/
theorem reduce_le {s t : Shape} {axes : List (Fin s.rank)} (v : FVec Ideal s .f32) (h : s.Reduces axes t) (hφ) (hacc) (x : EReal) :
    (∀ j, multiReduction (F := Ideal) (φ := .f32) .maximumf axes t v 0xFF800000#32 h hφ hacc j ≤ x) ↔ ∀ i, v i ≤ x := by
  have hb : (FloatOps.ofBits (F := Ideal) .f32 0xFF800000#32 : EReal) ≤ x := by
    rw [Ideal.ofBits_def, show Ideal.ofBits .f32 0xFF800000#32 = ⊥ by simp [Ideal.ofBits, Ideal.ieee]]; exact bot_le
  constructor
  · intro H i
    have := H (h.drop i)
    rw [multiReduction_maximumf_eq_fold] at this
    exact ((Finset.fold_max_le (c := x)).mp this).2 i (Finset.mem_filter.mpr ⟨Finset.mem_univ _, rfl⟩)
  · intro H j
    rw [multiReduction_maximumf_eq_fold]
    exact (Finset.fold_max_le (c := x)).mpr ⟨hb, fun i _ => H i⟩

/-- Every element of a minimum along axes is at least `x` iff every element of the array is. -/
theorem le_reduce {s t : Shape} {axes : List (Fin s.rank)} (v : FVec Ideal s .f32) (h : s.Reduces axes t) (hφ) (hacc) (x : EReal) :
    (∀ j, x ≤ multiReduction (F := Ideal) (φ := .f32) .minimumf axes t v 0x7F800000#32 h hφ hacc j) ↔ ∀ i, x ≤ v i := by
  have hb : x ≤ (FloatOps.ofBits (F := Ideal) .f32 0x7F800000#32 : EReal) := by
    rw [Ideal.ofBits_def, show Ideal.ofBits .f32 0x7F800000#32 = ⊤ by simp [Ideal.ofBits, Ideal.ieee]]; exact le_top
  constructor
  · intro H i
    have := H (h.drop i)
    rw [multiReduction_minimumf_eq_fold] at this
    exact ((Finset.le_fold_min (c := x)).mp this).2 i (Finset.mem_filter.mpr ⟨Finset.mem_univ _, rfl⟩)
  · intro H j
    rw [multiReduction_minimumf_eq_fold]
    exact (Finset.le_fold_min (c := x)).mpr ⟨hb, fun i _ => H i⟩

/-- A reshaped array has the same elements. -/
theorem forall_cast {s t : Shape} {α : Type} (v : s.Idx → α) (h : s.ShapeCasts t) (p : α → Prop) :
    (∀ j, p (shapeCast t v h j)) ↔ ∀ i, p (v i) :=
  ⟨fun H i => by have := H ((Shape.reshapeEquiv h).symm i); unfold shapeCast at this; rwa [Equiv.apply_symm_apply] at this,
   fun H j => H _⟩

abbrev T1 : Shape := ⟨1, ![1]⟩
abbrev T111 : Shape := ⟨3, ![1, 1, 1]⟩

/-- An array of shape 1 has one index. -/
theorem one_index1 (i j : T1.Idx) : i = j :=
  funext fun a => match a with | ⟨0, _⟩ => Subsingleton.elim (α := Fin 1) _ _

section Whole
variable {s s' : Shape} {axes : List (Fin s'.rank)} (v : FVec Ideal s .f32) (hc : s.ShapeCasts s') (hr : s'.Reduces axes T1) (hφ)
  (h1 : T1.ShapeCasts T111) (hp : ∀ a, (![0, 0, 0] : Fin 3 → Nat) a < T111.size a)

/-- The maximum of a whole array, as the kernels write it. -/
abbrev wholeMax (hacc : 0xFF800000#32 = FKind.maximumf.neutral .f32 hφ) : EReal :=
  extractAt ![0, 0, 0] (shapeCast T111 (multiReduction (F := Ideal) (φ := .f32) .maximumf axes T1 (shapeCast s' v hc) 0xFF800000#32 hr hφ hacc) h1) hp

/-- The minimum of a whole array. -/
abbrev wholeMin (hacc : 0x7F800000#32 = FKind.minimumf.neutral .f32 hφ) : EReal :=
  extractAt ![0, 0, 0] (shapeCast T111 (multiReduction (F := Ideal) (φ := .f32) .minimumf axes T1 (shapeCast s' v hc) 0x7F800000#32 hr hφ hacc) h1) hp

theorem wholeMax_le (hacc) (x : EReal) : wholeMax v hc hr hφ h1 hp hacc ≤ x ↔ ∀ i, v i ≤ x := by
  rw [← forall_cast v hc (· ≤ x), ← reduce_le (shapeCast s' v hc) hr hφ hacc x]
  exact ⟨fun H j => by rw [one_index1 j (Shape.reshapeEquiv h1 fun a => ⟨(![0, 0, 0] : Fin 3 → Nat) a, hp a⟩)]; exact H, fun H => H _⟩

theorem le_wholeMin (hacc) (x : EReal) : x ≤ wholeMin v hc hr hφ h1 hp hacc ↔ ∀ i, x ≤ v i := by
  rw [← forall_cast v hc (x ≤ ·), ← le_reduce (shapeCast s' v hc) hr hφ hacc x]
  exact ⟨fun H j => by rw [one_index1 j (Shape.reshapeEquiv h1 fun a => ⟨(![0, 0, 0] : Fin 3 → Nat) a, hp a⟩)]; exact H, fun H => H _⟩

/-- Arrays with the same upper bounds have the same maximum. -/
theorem wholeMax_congr {u u' : Shape} {axes' : List (Fin u'.rank)} (v' : FVec Ideal u .f32) (hc' : u.ShapeCasts u') (hr' : u'.Reduces axes' T1) (hφ')
    (hacc) (hacc') (h : ∀ x : EReal, (∀ i, v i ≤ x) ↔ ∀ i, v' i ≤ x) :
    wholeMax v hc hr hφ h1 hp hacc = wholeMax v' hc' hr' hφ' h1 hp hacc' :=
  le_antisymm ((wholeMax_le v hc hr hφ h1 hp hacc _).mpr ((h _).mpr ((wholeMax_le v' hc' hr' hφ' h1 hp hacc' _).mp le_rfl)))
    ((wholeMax_le v' hc' hr' hφ' h1 hp hacc' _).mpr ((h _).mp ((wholeMax_le v hc hr hφ h1 hp hacc _).mp le_rfl)))

/-- The maximum of an array of one value is that value. -/
theorem wholeMax_const (hacc) (i₀ : s.Idx) (c : EReal) (h : ∀ i, v i = c) : wholeMax v hc hr hφ h1 hp hacc = c :=
  le_antisymm ((wholeMax_le v hc hr hφ h1 hp hacc c).mpr fun i => (h i).le)
    ((h i₀).symm.le.trans ((wholeMax_le v hc hr hφ h1 hp hacc _).mp le_rfl i₀))
end Whole

/-! ## The exponent, bit by bit -/

/-- The power of two with exponent field `n`. -/
def pw (n : ℕ) : EReal := (((2 : ℝ) ^ ((n : ℤ) - 127) : ℝ) : EReal)

theorem pw_le {a b : ℕ} : pw a ≤ pw b ↔ a ≤ b := by
  unfold pw; rw [EReal.coe_le_coe_iff, zpow_le_zpow_iff_right₀ (by norm_num : (1 : ℝ) < 2)]; omega
theorem pw_lt {a b : ℕ} : pw a < pw b ↔ a < b := by
  unfold pw; rw [EReal.coe_lt_coe_iff, zpow_lt_zpow_iff_right₀ (by norm_num : (1 : ℝ) < 2)]; omega

/-- The sign, exponent and fraction fields of the word with exponent field `k` and nothing else. -/
theorem field_bits : ∀ k : Fin 255, (IntOp.shli .vector (BitVec.ofNat 32 k.val) 23#32).extractLsb' 31 1 = 0#1
      ∧ ((IntOp.shli .vector (BitVec.ofNat 32 k.val) 23#32).extractLsb' 23 8).toNat = k.val
      ∧ ((IntOp.shli .vector (BitVec.ofNat 32 k.val) 23#32).extractLsb' 0 23).toNat = 0 := by decide +kernel

/-- A word with sign and fraction zero and exponent field `n` denotes that power. -/
theorem ieee_field (w : BitVec 32) (n : ℕ) (h1 : 1 ≤ n) (h2 : n ≤ 254) (e1 : w.extractLsb' 31 1 = 0#1) (e2 : (w.extractLsb' 23 8).toNat = n)
    (e3 : (w.extractLsb' 0 23).toNat = 0) : Ideal.ieee 8 23 w = pw n := by
  unfold Ideal.ieee
  dsimp only
  rw [show w.extractLsb' (8 + 23) 1 = 0#1 from e1, e2, e3]
  rw [if_neg (show ¬n = 2 ^ 8 - 1 by omega), if_neg (show ¬n = 0 by omega)]
  unfold pw
  refine congrArg (fun r : ℝ => (r : EReal)) ?_
  have : (2 : ℝ) ^ ((n : ℤ) - 127) = 2 ^ (23 : ℤ) * 2 ^ ((n : ℤ) - 127 - 23) := by
    rw [← zpow_add₀ (by norm_num : (2 : ℝ) ≠ 0)]; congr 1; omega
  rw [this]
  rw [show ((2 : ℤ) ^ (8 - 1) - 1) = 127 by norm_num]
  norm_num

/-- The word with exponent field `n` and nothing else denotes that power. -/
theorem ofBits_field (n : ℕ) (h1 : 1 ≤ n) (h2 : n ≤ 254) (w : BitVec 32) (hw : w = IntOp.shli .vector (BitVec.ofNat 32 n) 23#32) : Ideal.ofBits .f32 w = pw n := by
  subst hw
  obtain ⟨e1, e2, e3⟩ := field_bits ⟨n, by omega⟩
  exact ieee_field _ n h1 h2 e1 e2 e3

/-- One step of the search: take the bit `p` if the power with the bit set is not above `x`. -/
def stepW (x : EReal) (b p : BitVec 32) : BitVec 32 :=
  Scalar.select (FloatOps.cmpf (F := Ideal) (φ := .f32) .oge x (Ideal.ofBits .f32 (IntOp.shli .vector (IntOp.addi b p) 23#32))) (IntOp.addi b p) b

/-- The search: the eight bits of the exponent field, from the highest. -/
def search (x : EReal) : BitVec 32 :=
  stepW x (stepW x (stepW x (stepW x (stepW x (stepW x (stepW x (stepW x 0#32 128#32) 64#32) 32#32) 16#32) 8#32) 4#32) 2#32) 1#32

/-- What the search keeps after a step: `b` is taken only if its power is not above `x`, and the power `q` further on is above `x`. -/
def Good (x : EReal) (b q : ℕ) : Prop := (b = 0 ∨ pw b ≤ x) ∧ x < pw (b + q)

theorem step_good (x : EReal) (b p q : ℕ) (hp : 1 ≤ p) (hb : b + p ≤ 254) (hq : q = 2 * p) (h : Good x b q) (w : BitVec 32) (hw : w = BitVec.ofNat 32 b)
    (w' : BitVec 32) (hw' : w' = BitVec.ofNat 32 p) :
    ∃ b', stepW x w w' = BitVec.ofNat 32 b' ∧ (b' = b ∨ b' = b + p) ∧ Good x b' p := by
  have ha : IntOp.addi (BitVec.ofNat 32 b) (BitVec.ofNat 32 p) = BitVec.ofNat 32 (b + p) := by
    unfold IntOp.addi; rw [BitVec.ofNat_add]
  subst hw hw' hq
  unfold stepW
  rw [ha, ofBits_field (b + p) (by omega) hb _ rfl]
  by_cases hx : pw (b + p) ≤ x
  · refine ⟨b + p, ?_, .inr rfl, .inr hx, by rw [show b + p + p = b + 2 * p by omega]; exact h.2⟩
    rw [show FloatOps.cmpf (F := Ideal) (φ := .f32) .oge x (pw (b + p)) = 1#1 from by
      show BitVec.ofBool (decide (pw (b + p) ≤ x)) = 1#1; rw [decide_eq_true hx]; rfl]
    exact if_pos rfl
  · refine ⟨b, ?_, .inl rfl, h.1, not_le.mp hx⟩
    rw [show FloatOps.cmpf (F := Ideal) (φ := .f32) .oge x (pw (b + p)) = 0#1 from by
      show BitVec.ofBool (decide (pw (b + p) ≤ x)) = 0#1; rw [decide_eq_false hx]; rfl]
    exact if_neg (by decide)

/-- The search finds the exponent field of `x`, none above `top`. -/
theorem search_good (x : EReal) (top : ℕ) (ht : top ≤ 240) :
    ∃ r, search (min x (pw top)) = BitVec.ofNat 32 r ∧ r ≤ top ∧ (r = 0 ∨ pw r ≤ x) ∧ (r < top → x < pw (r + 1)) := by
  have hx : min x (pw top) ≤ pw top := min_le_right _ _
  have key : ∃ r, search (min x (pw top)) = BitVec.ofNat 32 r ∧ Good (min x (pw top)) r 1 := by
    generalize min x (pw top) = y at hx
    have le : ∀ b q, Good y b q → b ≤ 240 := fun b q h => by
      rcases h.1 with h | h
      · omega
      · exact (pw_le.mp (h.trans hx)).trans ht
    have g0 : Good y 0 256 := ⟨.inl rfl, hx.trans_lt (pw_lt.mpr (by omega))⟩
    obtain ⟨b1, e1, d1, g1⟩ := step_good y 0 128 256 (by omega) (by omega) rfl g0 0#32 rfl 128#32 rfl
    obtain ⟨b2, e2, d2, g2⟩ := step_good y b1 64 128 (by omega) (by omega) rfl g1 _ e1 64#32 rfl
    obtain ⟨b3, e3, d3, g3⟩ := step_good y b2 32 64 (by omega) (by omega) rfl g2 _ e2 32#32 rfl
    obtain ⟨b4, e4, d4, g4⟩ := step_good y b3 16 32 (by omega) (by omega) rfl g3 _ e3 16#32 rfl
    have := le _ _ g4
    obtain ⟨b5, e5, d5, g5⟩ := step_good y b4 8 16 (by omega) (by omega) rfl g4 _ e4 8#32 rfl
    have := le _ _ g5
    obtain ⟨b6, e6, d6, g6⟩ := step_good y b5 4 8 (by omega) (by omega) rfl g5 _ e5 4#32 rfl
    have := le _ _ g6
    obtain ⟨b7, e7, d7, g7⟩ := step_good y b6 2 4 (by omega) (by omega) rfl g6 _ e6 2#32 rfl
    have := le _ _ g7
    obtain ⟨b8, e8, d8, g8⟩ := step_good y b7 1 2 (by omega) (by omega) rfl g7 _ e7 1#32 rfl
    exact ⟨b8, e8, g8⟩
  obtain ⟨r, e, h1, h2⟩ := key
  refine ⟨r, e, ?_, ?_, ?_⟩
  · rcases h1 with h | h
    · omega
    · exact pw_le.mp (h.trans hx)
  · exact h1.imp_right fun h => h.trans (min_le_left _ _)
  · intro hr
    rcases min_lt_iff.mp h2 with h | h
    · exact h
    · exact absurd (pw_lt.mp h) (by omega)

/-! ## The scale -/

/-- The scale for exponent field `r`: one for field zero, else the power one above. -/
def scaleOf (r : ℕ) : EReal := if r = 0 then 1 else pw (r + 1)
/-- The field of the scale. -/
def fieldOf (r : ℕ) : ℕ := if r = 0 then 127 else r + 1

theorem pw_127 : pw 127 = 1 := by unfold pw; norm_num
theorem scaleOf_eq (r : ℕ) : scaleOf r = pw (fieldOf r) := by
  unfold scaleOf fieldOf; split
  · exact pw_127.symm
  · rfl

/-- `r` is the exponent field of the ratio `x`, cut at 239. -/
def IsField (x : EReal) (r : ℕ) : Prop := r ≤ 239 ∧ (r = 0 ∨ pw r ≤ x) ∧ (r < 239 → x < pw (r + 1))

/-- The kernel's exponent word of a field. -/
abbrev expW (w : BitVec 32) : BitVec 32 := Scalar.select (IntOp.cmpi .eq w 0#32) 0#32 (IntOp.subi w 126#32)

/-- The kernel's scale word and its reciprocal's word are the fields of the scale and of its reciprocal. -/
theorem words (r : ℕ) (h : r ≤ 239) :
    IntOp.addi (expW (BitVec.ofNat 32 r)) 127#32 = BitVec.ofNat 32 (fieldOf r)
    ∧ IntOp.subi 127#32 (expW (BitVec.ofNat 32 r)) = BitVec.ofNat 32 (254 - fieldOf r) := by
  have : ∀ k : Fin 240, IntOp.addi (expW (BitVec.ofNat 32 k.val)) 127#32 = BitVec.ofNat 32 (fieldOf k.val)
    ∧ IntOp.subi 127#32 (expW (BitVec.ofNat 32 k.val)) = BitVec.ofNat 32 (254 - fieldOf k.val) := by unfold fieldOf; decide +kernel
  exact this ⟨r, by omega⟩

theorem fieldOf_bounds (r : ℕ) (h : r ≤ 239) : 2 ≤ fieldOf r ∧ fieldOf r ≤ 240 := by
  unfold fieldOf; split <;> omega

/-- The reciprocal of a power of two. -/
theorem div_pw (n : ℕ) (h : n ≤ 254) : Ideal.div 1 (pw n) = pw (254 - n) := by
  have h0 : (2 : ℝ) ^ ((n : ℤ) - 127) ≠ 0 := zpow_ne_zero _ (by norm_num)
  unfold Ideal.div pw
  rw [if_neg (by rw [← EReal.coe_zero, EReal.coe_eq_coe_iff]; exact h0), one_mul, ← EReal.coe_inv, ← zpow_neg]
  congr 2; push_cast [h]; omega

/-- The field of a power of two is its own. -/
theorem field_pw (n : ℕ) (h1 : 1 ≤ n) (h2 : n ≤ 240) : search (min (pw n) (pw 240)) = BitVec.ofNat 32 n := by
  obtain ⟨r, e, hr, a, b⟩ := search_good (pw n) 240 le_rfl
  rw [e]; congr 1
  have b' : r < 240 → n < r + 1 := fun h => pw_lt.mp (b h)
  rcases a with a | a
  · subst a; omega
  · have := pw_le.mp a; omega

/-- The word the kernel subtracts the field from gives the reciprocal's word. -/
theorem rev_word (n : ℕ) (h1 : 1 ≤ n) (h2 : n ≤ 240) :
    IntOp.subi 2130706432#32 (IntOp.shli .vector (BitVec.ofNat 32 n) 23#32) = IntOp.shli .vector (BitVec.ofNat 32 (254 - n)) 23#32 := by
  have : ∀ k : Fin 241, IntOp.subi 2130706432#32 (IntOp.shli .vector (BitVec.ofNat 32 k.val) 23#32) = IntOp.shli .vector (BitVec.ofNat 32 (254 - k.val)) 23#32 := by
    decide +kernel
  exact this ⟨n, by omega⟩

end Cert.Proof

end
-- ==== Proof.RefScale.lean ====
/-
  The reference's scale: the least power of two above the ratio is the power one above the ratio's exponent field.
-/
module

public import proofs.«01_k».proof.Proof.Gen.RefIdeal.Skeleton
public import proofs.«01_k».proof.Proof.Scale
public import Idealize.ShloMosaic.Lib.Pipeline.ValueKit

@[expose] public section

set_option maxRecDepth 16384

noncomputable section

namespace Cert.Proof.Ref

open Idealize.ShloMosaic
open Cert.RefIdeal Cert.RefIdeal.Gen

/-- The power of lane `w` if it is in range and above the ratio, else the cap. -/
def lane (x : EReal) (w : BitVec 32) : EReal :=
  Scalar.select (IntOp.andi (IntOp.cmpi .slt w 113#32) (Ideal.cmp .ogt (Ideal.exp2 ((w.toInt : ℝ) : EReal)) x)) (Ideal.exp2 ((w.toInt : ℝ) : EReal))
    (Ideal.ofBits .f32 0x78000000#32)

/-- The word of lane `(a, b)`. -/
abbrev laneW (a b : ℕ) : BitVec 32 := IntOp.subi (IntOp.addi (IntOp.muli (BitVec.ofNat 32 a) 128#32) (BitVec.ofNat 32 b)) 125#32

theorem laneW_toInt (a : Fin 8) (b : Fin 128) : (laneW a.val b.val).toInt = (a.val * 128 + b.val : ℕ) - 125 := by
  have : ∀ (a : Fin 8) (b : Fin 128), (laneW a.val b.val).toInt = (a.val * 128 + b.val : ℕ) - 125 := by decide +kernel
  exact this a b

theorem laneW_slt (a : Fin 8) (b : Fin 128) : IntOp.cmpi .slt (laneW a.val b.val) 113#32 = BitVec.ofBool (decide (a.val * 128 + b.val < 238)) := by
  have : ∀ (a : Fin 8) (b : Fin 128), IntOp.cmpi .slt (laneW a.val b.val) 113#32 = BitVec.ofBool (decide (a.val * 128 + b.val < 238)) := by decide +kernel
  exact this a b

/-- The lane's value in numbers: the power with field `n + 2`, or the cap. -/
theorem lane_eq (x : EReal) (a : Fin 8) (b : Fin 128) : lane x (laneW a.val b.val)
    = if a.val * 128 + b.val < 238 ∧ x < pw (a.val * 128 + b.val + 2) then pw (a.val * 128 + b.val + 2) else pw 240 := by
  have e : Ideal.exp2 (((laneW a.val b.val).toInt : ℝ) : EReal) = pw (a.val * 128 + b.val + 2) := by
    rw [laneW_toInt, Ideal.exp2_coe]
    unfold pw
    refine congrArg (fun r : ℝ => (r : EReal)) ?_
    show (2 : ℝ) ^ (((((a.val * 128 + b.val : ℕ) : ℤ) - 125 : ℤ)) : ℝ) = _
    rw [Real.rpow_intCast]; congr 1; push_cast; omega
  unfold lane
  rw [e, laneW_slt, ofBits_field 240 (by omega) (by omega) _ (by decide)]
  rw [show Ideal.cmp .ogt (pw (a.val * 128 + b.val + 2)) x = BitVec.ofBool (decide (x < pw (a.val * 128 + b.val + 2))) from rfl]
  by_cases h1 : a.val * 128 + b.val < 238 <;> by_cases h2 : x < pw (a.val * 128 + b.val + 2)
  · rw [decide_eq_true h1, decide_eq_true h2, if_pos ⟨h1, h2⟩]; rfl
  · rw [decide_eq_true h1, decide_eq_false h2, if_neg (fun h => h2 h.2)]; rfl
  · rw [decide_eq_false h1, decide_eq_true h2, if_neg (fun h => h1 h.1)]; rfl
  · rw [decide_eq_false h1, decide_eq_false h2, if_neg (fun h => h1 h.1)]; rfl

/-- The lanes' values as an array. -/
def lanes (x : EReal) : FVec Ideal S8x128 .f32 := fun i => lane x (laneW (i 0).val (i 1).val)

/-- The same array as the reference writes it. -/
def lanesV (x : EReal) : FVec Ideal S8x128 .f32 :=
  have k : IVec S8x128 32 := subi (addi (muli (iota .tc S8x128 32 [0] iota_S8x128_d0_w32) (broadcast S8x128 128#32)) (iota .tc S8x128 32 [1] iota_S8x128_d1_w32)) (broadcast S8x128 125#32)
  have p : FVec Ideal S8x128 .f32 := exp2 (sitofp .f32 k)
  select (andi (cmpi .slt k (broadcast S8x128 113#32)) (cmpf .ogt p (broadcast S8x128 x))) p (broadcast S8x128 (Scalar.ofBits (F := Ideal) .f32 0x78000000#32))

theorem lanesV_eq (x : EReal) : lanesV x = lanes x := by
  funext i
  unfold lanesV lanes lane laneW
  pointwise []
  rfl

/-- The least of the lanes, for a ratio of field `r ≥ 1`. -/
theorem least (x : EReal) (r : ℕ) (h : IsField x r) (hr : r ≠ 0) (hc hr' hφ h1 hp hacc) :
    wholeMin (s' := S1x8x128) (axes := [1, 2]) (lanes x) hc hr' hφ h1 hp hacc = pw (r + 1) := by
  obtain ⟨h239, ha, hb⟩ := h
  have ha := ha.resolve_left hr
  refine le_antisymm (((le_wholeMin (lanes x) hc hr' hφ h1 hp hacc _).mp le_rfl (ix2 ⟨(r - 1) / 128, by omega⟩ ⟨(r - 1) % 128, by omega⟩)).trans ?_)
    ((le_wholeMin (lanes x) hc hr' hφ h1 hp hacc _).mpr fun i => ?_)
  · refine le_of_eq ((lane_eq x ⟨(r - 1) / 128, by omega⟩ ⟨(r - 1) % 128, by omega⟩).trans ?_)
    show (if (r - 1) / 128 * 128 + (r - 1) % 128 < 238 ∧ x < pw ((r - 1) / 128 * 128 + (r - 1) % 128 + 2) then pw ((r - 1) / 128 * 128 + (r - 1) % 128 + 2) else pw 240) = pw (r + 1)
    rw [show (r - 1) / 128 * 128 + (r - 1) % 128 = r - 1 by omega, show r - 1 + 2 = r + 1 by omega]
    by_cases h : r < 239
    · exact if_pos ⟨by omega, hb h⟩
    · rw [if_neg (fun h' => h (by omega)), show r + 1 = 240 by omega]
  · refine le_of_le_of_eq ?_ (lane_eq x (i 0) (i 1)).symm
    split
    · next h => exact pw_le.mpr (by have := pw_lt.mp (ha.trans_lt h.2); omega)
    · exact pw_le.mpr (by omega)

/-- The reference's scale of a ratio. -/
def scale (x least : EReal) : EReal :=
  Scalar.select (Scalar.cmpf (F := Ideal) (φ := .f32) .olt x (Scalar.ofBits (F := Ideal) .f32 0x00800000#32)) (Scalar.ofBits (F := Ideal) .f32 0x3F800000#32) least

theorem scale_eq (x y : EReal) (r : ℕ) (h : IsField x r) (hy : r ≠ 0 → y = pw (r + 1)) : scale x y = scaleOf r := by
  have e : scale x y = Scalar.select (Ideal.cmp .olt x (Ideal.ofBits .f32 0x00800000#32)) (Ideal.ofBits .f32 0x3F800000#32) y := rfl
  rw [e]
  unfold scaleOf
  rw [ofBits_field 1 (by omega) (by omega) _ (by decide), ofBits_field 127 (by omega) (by omega) _ (by decide),
    show Ideal.cmp .olt x (pw 1) = BitVec.ofBool (decide (x < pw 1)) from rfl]
  by_cases hr : r = 0
  · subst hr
    rw [if_pos rfl, decide_eq_true (h.2.2 (by omega) : x < pw 1)]; exact pw_127
  · rw [if_neg hr, decide_eq_false (not_lt.mpr ((pw_le.mpr (show 1 ≤ r by omega)).trans (h.2.1.resolve_left hr)))]
    exact hy hr

/-- The ratio of the first quantiser: the largest absolute value of `dy` over 57344. -/
abbrev ratioY (v0 : FVec Ideal S8192x7168 .bf16) : EReal :=
  Scalar.mulf (F := Ideal) (φ := .f32) (wholeMax (absf (k0_pay4 v0)) shapeCasts_S8192x7168_S1x8192x7168 reduces_S1x8192x7168_S1 (.inl rfl) shapeCasts_S1_S1x1x1 inpos_S1x1x1_p0_0_0 rfl)
    (Scalar.ofBits (F := Ideal) .f32 0x37924925#32)

theorem scaleY (v0 : Vec Ideal S8192x7168 .bf16) (r : ℕ) (h : IsField (ratioY v0) r) : k0_pay5 (F := Ideal) v0 = scaleOf r := by
  have e : k0_pay5 (F := Ideal) v0 = scale (ratioY v0) (wholeMin (s' := S1x8x128) (axes := [1, 2]) (lanesV (ratioY v0)) shapeCasts_S8x128_S1x8x128
      reduces_S1x8x128_S1 (.inl rfl) shapeCasts_S1_S1x1x1 inpos_S1x1x1_p0_0_0 rfl) := by
    unfold k0_pay5 scale lanesV; rfl
  rw [e, lanesV_eq]
  exact scale_eq _ _ r h fun hr => least _ r h hr _ _ _ _ _ _

/-- The ratio of the second quantiser, of the gradients `v63` side by side. -/
abbrev ratioH (v63 : FVec Ideal S8192x10240 .f32) : EReal :=
  Scalar.mulf (F := Ideal) (φ := .f32) (wholeMax (absf v63) shapeCasts_S8192x10240_S1x8192x10240 reduces_S1x8192x10240_S1 (.inl rfl) shapeCasts_S1_S1x1x1 inpos_S1x1x1_p0_0_0 rfl)
    (Scalar.ofBits (F := Ideal) .f32 0x37924925#32)

theorem scaleH (v30 v40 v41 v46) (r : ℕ) (h : IsField (ratioH (k0_pay8 (F := Ideal) v30 v40 v41 v46)) r) :
    k0_pay11 (F := Ideal) (k0_pay9 v30 v40 v41 v46) (k0_pay10 v30 v40 v41 v46) = scaleOf r := by
  have e1 : k0_pay9 (F := Ideal) v30 v40 v41 v46 = ratioH (k0_pay8 (F := Ideal) v30 v40 v41 v46) := by unfold k0_pay9; rfl
  have e2 : k0_pay10 (F := Ideal) v30 v40 v41 v46 = wholeMin (s' := S1x8x128) (axes := [1, 2]) (lanesV (k0_pay9 (F := Ideal) v30 v40 v41 v46)) shapeCasts_S8x128_S1x8x128
      reduces_S1x8x128_S1 (.inl rfl) shapeCasts_S1_S1x1x1 inpos_S1x1x1_p0_0_0 rfl := by unfold k0_pay10 lanesV; rfl
  have e3 (x y : EReal) : k0_pay11 (F := Ideal) x y = scale x y := by unfold k0_pay11 scale; rfl
  rw [e3, e2, e1, lanesV_eq]
  exact scale_eq _ _ r h fun hr => least _ r h hr _ _ _ _ _ _

end Cert.Proof.Ref

end
-- ==== Proof.Maths.lean ====
/-
  The steps of the reference as functions of whole arrays: its quantiser, its products and its gradients.
-/
module

public import proofs.«01_k».proof.Proof.RefScale

@[expose] public section

set_option maxRecDepth 16384

noncomputable section

namespace Cert.Proof.Ref

open Idealize.ShloMosaic
open Cert.RefIdeal Cert.RefIdeal.Gen

/-- The codes of an array under a scale: each value over the scale, clipped to ±57344. -/
def quant {s : Shape} (v : FVec Ideal s .f32) (σ : EReal) : FVec Ideal s .fp8e5m2 :=
  truncf (F := Ideal) (φ := .f32) .fp8e5m2 (minimumf (broadcast s (Scalar.ofBits (F := Ideal) .f32 0x47600000#32))
    (maximumf (broadcast s (Scalar.ofBits (F := Ideal) .f32 0xC7600000#32))
      (mulf v (broadcast s (Scalar.divf (F := Ideal) (φ := .f32) (Scalar.ofBits (F := Ideal) .f32 0x3F800000#32) σ))))) bitsLt_fp8e5m2_f32

/-- The code of one value times a reciprocal scale. -/
def quantBy (x d : EReal) : EReal :=
  FloatOps.minimumf (F := Ideal) (φ := .f32) (Scalar.ofBits (F := Ideal) .f32 0x47600000#32)
    (FloatOps.maximumf (F := Ideal) (φ := .f32) (Scalar.ofBits (F := Ideal) .f32 0xC7600000#32) (FloatOps.mulf (F := Ideal) (φ := .f32) x d))

/-- One over a scale. -/
abbrev recip (σ : EReal) : EReal := Scalar.divf (F := Ideal) (φ := .f32) (Scalar.ofBits (F := Ideal) .f32 0x3F800000#32) σ

theorem recip_pw (n : ℕ) (h : n ≤ 254) : recip (pw n) = pw (254 - n) := by
  show Ideal.div (Ideal.ofBits .f32 0x3F800000#32) (pw n) = _
  rw [ofBits_field 127 (by omega) (by omega) _ (by decide), pw_127, div_pw n h]

/-- One over the scale of a field. -/
theorem recip_scaleOf (r : ℕ) (h : r ≤ 239) : recip (scaleOf r) = pw (254 - fieldOf r) := by
  rw [scaleOf_eq, recip_pw _ (by have := fieldOf_bounds r h; omega)]

/-- The code of one value under a scale. -/
def quantOne (x σ : EReal) : EReal := quantBy x (recip σ)

theorem quant_at {s : Shape} (v : FVec Ideal s .f32) (σ : EReal) (i) : quant v σ i = quantOne (v i) σ := rfl

/-- The magnitude of a value. -/
def mag (x : EReal) : EReal := FloatOps.absf (F := Ideal) (φ := .f32) x

theorem mag_nonneg (x : EReal) : 0 ≤ mag x := by
  show 0 ≤ max x (-x)
  rcases le_total 0 x with h | h
  · exact le_max_of_le_left h
  · exact le_max_of_le_right (EReal.neg_nonneg.mpr h)

theorem absf_at {s : Shape} (v : FVec Ideal s .f32) (i) : absf v i = mag (v i) := rfl

/-- `dy` in f32 has the values of `dy`. -/
theorem pay4_at (v : Vec Ideal S8192x7168 .bf16) (i) : k0_pay4 (F := Ideal) v i = v i := by
  pointwise [k0_pay4]

/-- The product of the codes of `dy` with `w2`, before its scale. -/
def prodA (c : FVec Ideal S8192x7168 .fp8e5m2) (w : FVec Ideal S5120x7168 .fp8e4m3) : FVec Ideal S8192x5120 .f32 :=
  matmul (F := Ideal) dot_S8192x7168_S5120x7168_S8192x5120_1_1_0_0_n_n none c w (constant S8192x5120 .f32 0x00000000#32)

/-- The input gradient from the codes and scale of the hidden gradient. -/
def gradX (c : FVec Ideal S8192x10240 .fp8e5m2) (w : FVec Ideal S7168x10240 .fp8e4m3) (σ τ : EReal) : FVec Ideal S8192x7168 .bf16 :=
  truncf (F := Ideal) (φ := .f32) .bf16 (mulf (matmul (F := Ideal) dot_S8192x10240_S7168x10240_S8192x7168_1_1_0_0_n_n none c w (constant S8192x7168 .f32 0x00000000#32))
    (broadcast S8192x7168 (Scalar.mulf (F := Ideal) (φ := .f32) σ τ))) bitsLt_bf16_f32

/-- The first weight gradient from the codes and scale of the hidden gradient. -/
def gradW1 (x : FVec Ideal S8192x7168 .fp8e4m3) (c : FVec Ideal S8192x10240 .fp8e5m2) (σ τ : EReal) : FVec Ideal S7168x10240 .bf16 :=
  truncf (F := Ideal) (φ := .f32) .bf16 (mulf (matmul (F := Ideal) dot_S8192x7168_S8192x10240_S7168x10240_0_0_1_1_n_n none
      (shapeCast S8192x7168 x shapeCasts_S8192x7168_S8192x7168) c (constant S7168x10240 .f32 0x00000000#32))
    (broadcast S7168x10240 (Scalar.mulf (F := Ideal) (φ := .f32) σ τ))) bitsLt_bf16_f32

/-- The second weight gradient from the codes and scale of `dy`. -/
def gradW2 (a : FVec Ideal S8192x5120 .fp8e4m3) (c : FVec Ideal S8192x7168 .fp8e5m2) (σ τ : EReal) : FVec Ideal S5120x7168 .bf16 :=
  truncf (F := Ideal) (φ := .f32) .bf16 (mulf (matmul (F := Ideal) dot_S8192x5120_S8192x7168_S5120x7168_0_0_1_1_n_n none
      (shapeCast S8192x5120 a shapeCasts_S8192x5120_S8192x5120) c (constant S5120x7168 .f32 0x00000000#32))
    (broadcast S5120x7168 (Scalar.mulf (F := Ideal) (φ := .f32) σ τ))) bitsLt_bf16_f32

/-- The two hidden gradients side by side, from the codes of `dy`, `w2`, their scales and the forward values. -/
abbrev hidden (c : FVec Ideal S8192x7168 .fp8e5m2) (σ : EReal) (w : FVec Ideal S5120x7168 .fp8e4m3) (τ : Vec Ideal S1x1 .f32) (gu : Vec Ideal S8192x10240 .bf16) :
    FVec Ideal S8192x10240 .f32 := k0_pay8 (F := Ideal) σ (prodA c w) τ gu

/-- The scale of the hidden gradients. -/
abbrev scaleOfHidden (c : FVec Ideal S8192x7168 .fp8e5m2) (σ : EReal) (w : FVec Ideal S5120x7168 .fp8e4m3) (τ : Vec Ideal S1x1 .f32) (gu : Vec Ideal S8192x10240 .bf16) :
    EReal := k0_pay11 (F := Ideal) (k0_pay9 σ (prodA c w) τ gu) (k0_pay10 σ (prodA c w) τ gu)

/-- `dA` times its scales. -/
def scaledA (σ : EReal) (p : FVec Ideal S8192x5120 .f32) (τ : Vec Ideal S1x1 .f32) : FVec Ideal S8192x5120 .f32 :=
  mulf p (broadcast S8192x5120 (Scalar.mulf (F := Ideal) (φ := .f32) σ (extractAt ![0, 0] τ inpos_S1x1_p0_0)))

/-- The gate in f32. -/
def gate (gu : Vec Ideal S8192x10240 .bf16) : FVec Ideal S8192x5120 .f32 :=
  extf .f32 (extractStridedSlice S8192x5120 ![0, 0] (shapeCast S8192x10240 gu shapeCasts_S8192x10240_S8192x10240) slices_S8192x10240_o0_0_S8192x5120 : FVec Ideal S8192x5120 .bf16) bitsLt_bf16_f32

/-- The value that the gate multiplies, in f32. -/
def up (gu : Vec Ideal S8192x10240 .bf16) : FVec Ideal S8192x5120 .f32 :=
  extf .f32 (extractStridedSlice S8192x5120 ![0, 5120] (shapeCast S8192x10240 gu shapeCasts_S8192x10240_S8192x10240) slices_S8192x10240_o0_5120_S8192x5120 : FVec Ideal S8192x5120 .bf16) bitsLt_bf16_f32

/-- The gradient of the gate, from arrays of any shape. -/
def gateGrad {s : Shape} (a g u : FVec Ideal s .f32) : FVec Ideal s .f32 :=
  mulf (mulf (mulf a u) (logistic g)) (addf (broadcast s (Scalar.ofBits (F := Ideal) .f32 0x3F800000#32))
    (mulf g (subf (broadcast s (Scalar.ofBits (F := Ideal) .f32 0x3F800000#32)) (logistic g))))

/-- The gradient of the value that the gate multiplies. -/
def upGrad {s : Shape} (a g : FVec Ideal s .f32) : FVec Ideal s .f32 := mulf (mulf a g) (logistic g)

theorem gateGrad_at {s t : Shape} (a g u : FVec Ideal s .f32) (a' g' u' : FVec Ideal t .f32) (i j) (ha : a i = a' j) (hg : g i = g' j) (hu : u i = u' j) :
    gateGrad a g u i = gateGrad a' g' u' j := by
  simp only [gateGrad, mulf, addf, subf, logistic, broadcast, ha, hg, hu]

theorem upGrad_at {s t : Shape} (a g : FVec Ideal s .f32) (a' g' : FVec Ideal t .f32) (i j) (ha : a i = a' j) (hg : g i = g' j) :
    upGrad a g i = upGrad a' g' j := by
  simp only [upGrad, mulf, logistic, ha, hg]

/-- The hidden gradients are the two gradients side by side. -/
theorem pay8_eq (σ p τ gu) : k0_pay8 (F := Ideal) σ p τ gu = concatenate S8192x10240 1
    [⟨S8192x5120, gateGrad (scaledA σ p τ) (gate gu) (up gu)⟩, ⟨S8192x5120, upGrad (scaledA σ p τ) (gate gu)⟩] concatenates_S8192x5120_S8192x5120_S8192x10240_d1 := by
  unfold k0_pay8 gateGrad upGrad scaledA gate up; rfl

/-- The left half of two arrays side by side. -/
theorem concat_left {α : Type} (x y : S8192x5120.Idx → α) (i : S8192x5120.Idx) (j : S8192x10240.Idx) (h0 : (j 0).val = (i 0).val) (h1 : (j 1).val = (i 1).val) :
    concatenate S8192x10240 1 [⟨S8192x5120, x⟩, ⟨S8192x5120, y⟩] concatenates_S8192x5120_S8192x5120_S8192x10240_d1 j = x i :=
  concatenate_pair_apply_left 1 x y _ j rfl i fun b => match b with | ⟨0, _⟩ => h0.symm | ⟨1, _⟩ => h1.symm

/-- The right half of two arrays side by side. -/
theorem concat_right {α : Type} (x y : S8192x5120.Idx → α) (i : S8192x5120.Idx) (j : S8192x10240.Idx) (h0 : (j 0).val = (i 0).val) (h1 : (j 1).val = (i 1).val + 5120) :
    concatenate S8192x10240 1 [⟨S8192x5120, x⟩, ⟨S8192x5120, y⟩] concatenates_S8192x5120_S8192x5120_S8192x10240_d1 j = y i :=
  concatenate_pair_apply_right 1 x y _ j rfl rfl i (fun b hb => match b with | ⟨0, _⟩ => h0.symm | ⟨1, _⟩ => absurd rfl hb) h1.symm

/-- A property of every element of two arrays side by side is one of every element of both. -/
theorem forall_concat {α : Type} (x y : S8192x5120.Idx → α) (P : α → Prop) :
    (∀ j, P (concatenate S8192x10240 1 [⟨S8192x5120, x⟩, ⟨S8192x5120, y⟩] concatenates_S8192x5120_S8192x5120_S8192x10240_d1 j)) ↔ (∀ i, P (x i)) ∧ ∀ i, P (y i) := by
  refine ⟨fun H => ⟨fun i => ?_, fun i => ?_⟩, fun H j => ?_⟩
  · have h := (i 1).isLt
    rw [← concat_left x y i (ix2 (i 0) ⟨(i 1).val, lt_of_lt_of_le h (by decide)⟩) rfl rfl]; exact H _
  · have h : (i 1).val < 5120 := (i 1).isLt
    rw [← concat_right x y i (ix2 (i 0) ⟨(i 1).val + 5120, by omega⟩) rfl rfl]; exact H _
  · have h : (j 1).val < 10240 := (j 1).isLt
    by_cases h' : (j 1).val < 5120
    · rw [concat_left x y (ix2 (j 0) ⟨(j 1).val, h'⟩) j rfl rfl]; exact H.1 _
    · rw [concat_right x y (ix2 (j 0) ⟨(j 1).val - 5120, by omega⟩) j rfl (by show (j 1).val = (j 1).val - 5120 + 5120; omega)]; exact H.2 _

theorem pay6_eq (v : Vec Ideal S8192x7168 .bf16) : k0_pay6 (F := Ideal) v = quant (k0_pay4 v) (k0_pay5 v) := by
  unfold k0_pay6 quant; rfl

theorem pay7_eq (v : Vec Ideal S8192x7168 .bf16) (w) : k0_pay7 (F := Ideal) v w = prodA (k0_pay6 v) w := by
  unfold k0_pay7 prodA; rfl

theorem pay12_eq (h : FVec Ideal S8192x10240 .f32) (a b) : k0_pay12 (F := Ideal) h a b = quant h (k0_pay11 (F := Ideal) a b) := by
  unfold k0_pay12 quant; rfl

theorem pay13_eq (h : FVec Ideal S8192x10240 .f32) (a b w s) : k0_pay13 (F := Ideal) h a b w s
    = gradX (k0_pay12 (F := Ideal) h a b) w (k0_pay11 (F := Ideal) a b) (extractAt ![0, 0] s inpos_S1x1_p0_0) := by
  unfold k0_pay13 gradX; rfl

theorem pay14_eq (h : FVec Ideal S8192x10240 .f32) (a b x s) : k0_pay14 (F := Ideal) h a b x s
    = gradW1 x (k0_pay12 (F := Ideal) h a b) (extractAt ![0, 0] s inpos_S1x1_p0_0) (k0_pay11 (F := Ideal) a b) := by
  unfold k0_pay14 gradW1; rfl

theorem pay1_eq (σ : EReal) (c a s) : k0_pay1 (F := Ideal) σ (k0_pay15 c a) (k0_pay16 s)
    = gradW2 a c (extractAt ![0, 0] s inpos_S1x1_p0_0) σ := by
  unfold k0_pay1 k0_pay15 k0_pay16 gradW2; rfl

end Cert.Proof.Ref

end
-- ==== Proof.Common.lean ====
/-
  Facts about arrays of one element, which hold the scales of the calls.
-/
module

public import Idealize.ShloMosaic.Lib.Pipeline.ValueKit

@[expose] public section

noncomputable section

namespace Cert.Proof

open Idealize.ShloMosaic

/-- An array of shape 1×1 has one index. -/
theorem one_index (i j : (⟨2, ![1, 1]⟩ : Shape).Idx) : i = j :=
  funext fun a => match a with
    | ⟨0, _⟩ => Subsingleton.elim (α := Fin 1) _ _
    | ⟨1, _⟩ => Subsingleton.elim (α := Fin 1) _ _

/-- The scalar load of a one-element block reads its one element. -/
theorem ld_one {F : FTy → Type} [FloatOps F] {e : EltTy} (x : Vec F ⟨2, ![1, 1]⟩ e) (r : Rect ⟨2, ![1, 1]⟩) (k : r.shape.Idx) :
    View.ld x r k = x (ix2 0 0) := congrArg x (one_index _ _)

end Cert.Proof

end
-- ==== Proof.RefValue.lean ====
/-
  The results of the reference after its run, as the mathematics of its arguments: one call that reads whole arrays, so each result
  array is what its one store writes.
-/
module

public import proofs.«01_k».proof.Proof.Gen.RefIdeal.Frame
public import proofs.«01_k».proof.Proof.Maths
public import proofs.«01_k».proof.Proof.Common
public import Idealize.ShloMosaic.Lib.Pipeline.ValueKit

@[expose] public section

set_option maxRecDepth 16384

noncomputable section

namespace Cert.Proof.RefValue

open Idealize.ShloMosaic Idealize.ShloMosaic.TcCoe
open Idealize.ShloMosaic.Pipeline (Dat)
open Cert.RefIdeal Cert.RefIdeal.Gen

variable (m : (ℓ : Loc nD τ sig) → Buf (Elt Ideal) ℓ)

/-- Each input window's one block is its whole array. -/
theorem whole0 (c : Dev nD) (t : Fin cfg0.N) : iblk m c 0 t = V m c main_v0 := by
  obtain rfl : t = t0_0 := Fin.ext (by have : t.val < 1 := lt_of_lt_of_eq t.isLt N_0; show t.val = 0; omega)
  funext y
  have i0 : win0_0.index t0_0 = ![0, 0] := by decide +kernel
  blk_ext [iblk, V, i0]

theorem whole1 (c : Dev nD) (t : Fin cfg0.N) : iblk m c 1 t = V m c main_v1 := by
  obtain rfl : t = t0_0 := Fin.ext (by have : t.val < 1 := lt_of_lt_of_eq t.isLt N_0; show t.val = 0; omega)
  funext y
  have i0 : win0_1.index t0_0 = ![0, 0] := by decide +kernel
  blk_ext [iblk, V, i0]

theorem whole2 (c : Dev nD) (t : Fin cfg0.N) : iblk m c 2 t = V m c main_v2 := by
  obtain rfl : t = t0_0 := Fin.ext (by have : t.val < 1 := lt_of_lt_of_eq t.isLt N_0; show t.val = 0; omega)
  funext y
  have i0 : win0_2.index t0_0 = ![0, 0] := by decide +kernel
  blk_ext [iblk, V, i0]

theorem whole3 (c : Dev nD) (t : Fin cfg0.N) : iblk m c 3 t = V m c main_v3 := by
  obtain rfl : t = t0_0 := Fin.ext (by have : t.val < 1 := lt_of_lt_of_eq t.isLt N_0; show t.val = 0; omega)
  funext y
  have i0 : win0_3.index t0_0 = ![0, 0] := by decide +kernel
  blk_ext [iblk, V, i0]

theorem whole4 (c : Dev nD) (t : Fin cfg0.N) : iblk m c 4 t = V m c main_v4 := by
  obtain rfl : t = t0_0 := Fin.ext (by have : t.val < 1 := lt_of_lt_of_eq t.isLt N_0; show t.val = 0; omega)
  funext y
  have i0 : win0_4.index t0_0 = ![0, 0] := by decide +kernel
  blk_ext [iblk, V, i0]

theorem whole5 (c : Dev nD) (t : Fin cfg0.N) : iblk m c 5 t = V m c main_v5 := by
  obtain rfl : t = t0_0 := Fin.ext (by have : t.val < 1 := lt_of_lt_of_eq t.isLt N_0; show t.val = 0; omega)
  funext y
  have i0 : win0_5.index t0_0 = ![0, 0] := by decide +kernel
  blk_ext [iblk, V, i0]

theorem whole6 (c : Dev nD) (t : Fin cfg0.N) : iblk m c 6 t = V m c main_arg6 := by
  obtain rfl : t = t0_0 := Fin.ext (by have : t.val < 1 := lt_of_lt_of_eq t.isLt N_0; show t.val = 0; omega)
  funext y
  have i0 : win0_6.index t0_0 = ![0, 0] := by decide +kernel
  blk_ext [iblk, V, i0]

theorem whole7 (c : Dev nD) (t : Fin cfg0.N) : iblk m c 7 t = V m c main_v6 := by
  obtain rfl : t = t0_0 := Fin.ext (by have : t.val < 1 := lt_of_lt_of_eq t.isLt N_0; show t.val = 0; omega)
  funext y
  have i0 : win0_7.index t0_0 = ![0, 0] := by decide +kernel
  blk_ext [iblk, V, i0]

theorem whole8 (c : Dev nD) (t : Fin cfg0.N) : iblk m c 8 t = V m c main_arg8 := by
  obtain rfl : t = t0_0 := Fin.ext (by have : t.val < 1 := lt_of_lt_of_eq t.isLt N_0; show t.val = 0; omega)
  funext y
  have i0 : win0_8.index t0_0 = ![0, 0] := by decide +kernel
  blk_ext [iblk, V, i0]

theorem whole9 (c : Dev nD) (t : Fin cfg0.N) : iblk m c 9 t = V m c main_v7 := by
  obtain rfl : t = t0_0 := Fin.ext (by have : t.val < 1 := lt_of_lt_of_eq t.isLt N_0; show t.val = 0; omega)
  funext y
  have i0 : win0_9.index t0_0 = ![0, 0] := by decide +kernel
  blk_ext [iblk, V, i0]

theorem one (x : Vec Ideal S1x1 .f32) : extractAt ![0, 0] x inpos_S1x1_p0_0 = x (ix2 0 0) :=
  congrArg x (funext fun a => match a with | ⟨0, _⟩ => rfl | ⟨1, _⟩ => rfl)

theorem pay2_const (s : EReal) (y) : k0_pay2 (F := Ideal) s y = s := by
  unfold k0_pay2; rfl

theorem pay3_const (s : EReal) (y) : k0_pay3 (F := Ideal) s y = s := by
  unfold k0_pay3; rfl

/-- The codes of dy. -/
def codesY (x0 : Vec Ideal S8192x7168 .bf16) : Vec Ideal S8192x7168 .fp8e5m2 := k0_pay6 (F := Ideal) x0

/-- The scale of dy. -/
def scaleY (x0 : Vec Ideal S8192x7168 .bf16) : EReal := k0_pay5 (F := Ideal) x0

/-- The hidden gradients, from the codes and scale of dy. -/
def hiddenOf (c : Vec Ideal S8192x7168 .fp8e5m2) (σ : EReal) (w : Vec Ideal S5120x7168 .fp8e4m3) (τ : Vec Ideal S1x1 .f32) (gu : Vec Ideal S8192x10240 .bf16) : FVec Ideal S8192x10240 .f32 :=
  Ref.hidden c σ w τ gu

/-- Their scale. -/
def scaleH (c : Vec Ideal S8192x7168 .fp8e5m2) (σ : EReal) (w : Vec Ideal S5120x7168 .fp8e4m3) (τ : Vec Ideal S1x1 .f32) (gu : Vec Ideal S8192x10240 .bf16) : EReal :=
  Ref.scaleOfHidden c σ w τ gu

/-- Their codes. -/
def codesH (c : Vec Ideal S8192x7168 .fp8e5m2) (σ : EReal) (w : Vec Ideal S5120x7168 .fp8e4m3) (τ : Vec Ideal S1x1 .f32) (gu : Vec Ideal S8192x10240 .bf16) : Vec Ideal S8192x10240 .fp8e5m2 :=
  Ref.quant (hiddenOf c σ w τ gu) (scaleH c σ w τ gu)

theorem out10 (x0 : Vec Ideal S8192x7168 .bf16) (x1 : Vec Ideal S8192x10240 .bf16) (x2 : Vec Ideal S8192x7168 .fp8e4m3) (x3 : Vec Ideal S1x1 .f32) (x4 : Vec Ideal S8192x5120 .fp8e4m3) (x5 : Vec Ideal S1x1 .f32) (x6 : Vec Ideal S7168x10240 .fp8e4m3) (x7 : Vec Ideal S1x1 .f32) (x8 : Vec Ideal S5120x7168 .fp8e4m3) (x9 : Vec Ideal S1x1 .f32) : out0_10 (F := Ideal) x0 x1 x2 x3 x4 x5 x6 x7 x8 x9 = Ref.gradX (codesH (codesY x0) (scaleY x0) x8 x9 x1) x6 (scaleH (codesY x0) (scaleY x0) x8 x9 x1) (x7 (ix2 0 0)) := by
  funext y
  unfold_out out0_10
  frame_out
  rw [Ref.pay13_eq, Ref.pay12_eq, Ref.pay7_eq, one]; rfl

theorem final10 (c : Dev nD) (Z : Vec Ideal S8192x7168 .bf16) (h : out0_10 (F := Ideal) (V m c main_v0) (V m c main_v1) (V m c main_v2) (V m c main_v3) (V m c main_v4) (V m c main_v5) (V m c main_arg6) (V m c main_v6) (V m c main_arg8) (V m c main_v7) = Z) : (dats m 0 c).arrAt 10 (cfgs 0).N = Z := by
  refine (dats m 0 c).arrAt_eq_of_covers 10 _ (by decide +kernel) fun t _ y => ?_
  obtain rfl : t = t0_0 := Fin.ext (by have : t.val < 1 := lt_of_lt_of_eq t.isLt N_0; show t.val = 0; omega)
  have i0 : win0_10.index t0_0 = ![0, 0] := by decide +kernel
  blk_simp
  rw [after0_10, whole0, whole1, whole2, whole3, whole4, whole5, whole6, whole7, whole8, whole9, h]
  refine congrArg Z ?_
  blk_ext [i0]

theorem out11 (x0 : Vec Ideal S8192x7168 .bf16) (x1 : Vec Ideal S8192x10240 .bf16) (x2 : Vec Ideal S8192x7168 .fp8e4m3) (x3 : Vec Ideal S1x1 .f32) (x4 : Vec Ideal S8192x5120 .fp8e4m3) (x5 : Vec Ideal S1x1 .f32) (x6 : Vec Ideal S7168x10240 .fp8e4m3) (x7 : Vec Ideal S1x1 .f32) (x8 : Vec Ideal S5120x7168 .fp8e4m3) (x9 : Vec Ideal S1x1 .f32) : out0_11 (F := Ideal) x0 x1 x2 x3 x4 x5 x6 x7 x8 x9 = Ref.gradW1 x2 (codesH (codesY x0) (scaleY x0) x8 x9 x1) (x3 (ix2 0 0)) (scaleH (codesY x0) (scaleY x0) x8 x9 x1) := by
  funext y
  unfold_out out0_11
  frame_out
  rw [Ref.pay14_eq, Ref.pay12_eq, Ref.pay7_eq, one]; rfl

theorem final11 (c : Dev nD) (Z : Vec Ideal S7168x10240 .bf16) (h : out0_11 (F := Ideal) (V m c main_v0) (V m c main_v1) (V m c main_v2) (V m c main_v3) (V m c main_v4) (V m c main_v5) (V m c main_arg6) (V m c main_v6) (V m c main_arg8) (V m c main_v7) = Z) : (dats m 0 c).arrAt 11 (cfgs 0).N = Z := by
  refine (dats m 0 c).arrAt_eq_of_covers 11 _ (by decide +kernel) fun t _ y => ?_
  obtain rfl : t = t0_0 := Fin.ext (by have : t.val < 1 := lt_of_lt_of_eq t.isLt N_0; show t.val = 0; omega)
  have i0 : win0_11.index t0_0 = ![0, 0] := by decide +kernel
  blk_simp
  rw [after0_11, whole0, whole1, whole2, whole3, whole4, whole5, whole6, whole7, whole8, whole9, h]
  refine congrArg Z ?_
  blk_ext [i0]

theorem out12 (x0 : Vec Ideal S8192x7168 .bf16) (x1 : Vec Ideal S8192x10240 .bf16) (x2 : Vec Ideal S8192x7168 .fp8e4m3) (x3 : Vec Ideal S1x1 .f32) (x4 : Vec Ideal S8192x5120 .fp8e4m3) (x5 : Vec Ideal S1x1 .f32) (x6 : Vec Ideal S7168x10240 .fp8e4m3) (x7 : Vec Ideal S1x1 .f32) (x8 : Vec Ideal S5120x7168 .fp8e4m3) (x9 : Vec Ideal S1x1 .f32) : out0_12 (F := Ideal) x0 x1 x2 x3 x4 x5 x6 x7 x8 x9 = Ref.gradW2 x4 (codesY x0) (x5 (ix2 0 0)) (scaleY x0) := by
  funext y
  unfold_out out0_12
  frame_out
  rw [Ref.pay1_eq, one]; rfl

theorem final12 (c : Dev nD) (Z : Vec Ideal S5120x7168 .bf16) (h : out0_12 (F := Ideal) (V m c main_v0) (V m c main_v1) (V m c main_v2) (V m c main_v3) (V m c main_v4) (V m c main_v5) (V m c main_arg6) (V m c main_v6) (V m c main_arg8) (V m c main_v7) = Z) : (dats m 0 c).arrAt 12 (cfgs 0).N = Z := by
  refine (dats m 0 c).arrAt_eq_of_covers 12 _ (by decide +kernel) fun t _ y => ?_
  obtain rfl : t = t0_0 := Fin.ext (by have : t.val < 1 := lt_of_lt_of_eq t.isLt N_0; show t.val = 0; omega)
  have i0 : win0_12.index t0_0 = ![0, 0] := by decide +kernel
  blk_simp
  rw [after0_12, whole0, whole1, whole2, whole3, whole4, whole5, whole6, whole7, whole8, whole9, h]
  refine congrArg Z ?_
  blk_ext [i0]

theorem out13 (x0 : Vec Ideal S8192x7168 .bf16) (x1 : Vec Ideal S8192x10240 .bf16) (x2 : Vec Ideal S8192x7168 .fp8e4m3) (x3 : Vec Ideal S1x1 .f32) (x4 : Vec Ideal S8192x5120 .fp8e4m3) (x5 : Vec Ideal S1x1 .f32) (x6 : Vec Ideal S7168x10240 .fp8e4m3) (x7 : Vec Ideal S1x1 .f32) (x8 : Vec Ideal S5120x7168 .fp8e4m3) (x9 : Vec Ideal S1x1 .f32) : out0_13 (F := Ideal) x0 x1 x2 x3 x4 x5 x6 x7 x8 x9 = codesY x0 := by
  funext y
  unfold_out out0_13
  frame_out
  rfl

theorem final13 (c : Dev nD) (Z : Vec Ideal S8192x7168 .fp8e5m2) (h : out0_13 (F := Ideal) (V m c main_v0) (V m c main_v1) (V m c main_v2) (V m c main_v3) (V m c main_v4) (V m c main_v5) (V m c main_arg6) (V m c main_v6) (V m c main_arg8) (V m c main_v7) = Z) : (dats m 0 c).arrAt 13 (cfgs 0).N = Z := by
  refine (dats m 0 c).arrAt_eq_of_covers 13 _ (by decide +kernel) fun t _ y => ?_
  obtain rfl : t = t0_0 := Fin.ext (by have : t.val < 1 := lt_of_lt_of_eq t.isLt N_0; show t.val = 0; omega)
  have i0 : win0_13.index t0_0 = ![0, 0] := by decide +kernel
  blk_simp
  rw [after0_13, whole0, whole1, whole2, whole3, whole4, whole5, whole6, whole7, whole8, whole9, h]
  refine congrArg Z ?_
  blk_ext [i0]

theorem out14 (x0 : Vec Ideal S8192x7168 .bf16) (x1 : Vec Ideal S8192x10240 .bf16) (x2 : Vec Ideal S8192x7168 .fp8e4m3) (x3 : Vec Ideal S1x1 .f32) (x4 : Vec Ideal S8192x5120 .fp8e4m3) (x5 : Vec Ideal S1x1 .f32) (x6 : Vec Ideal S7168x10240 .fp8e4m3) (x7 : Vec Ideal S1x1 .f32) (x8 : Vec Ideal S5120x7168 .fp8e4m3) (x9 : Vec Ideal S1x1 .f32) : out0_14 (F := Ideal) x0 x1 x2 x3 x4 x5 x6 x7 x8 x9 = (fun _ => scaleY x0) := by
  funext y
  unfold_out out0_14
  frame_out
  unfold scaleY; exact pay2_const _ y

theorem final14 (c : Dev nD) (Z : Vec Ideal S1x1 .f32) (h : out0_14 (F := Ideal) (V m c main_v0) (V m c main_v1) (V m c main_v2) (V m c main_v3) (V m c main_v4) (V m c main_v5) (V m c main_arg6) (V m c main_v6) (V m c main_arg8) (V m c main_v7) = Z) : (dats m 0 c).arrAt 14 (cfgs 0).N = Z := by
  refine (dats m 0 c).arrAt_eq_of_covers 14 _ (by decide +kernel) fun t _ y => ?_
  obtain rfl : t = t0_0 := Fin.ext (by have : t.val < 1 := lt_of_lt_of_eq t.isLt N_0; show t.val = 0; omega)
  have i0 : win0_14.index t0_0 = ![0, 0] := by decide +kernel
  blk_simp
  rw [after0_14, whole0, whole1, whole2, whole3, whole4, whole5, whole6, whole7, whole8, whole9, h]
  refine congrArg Z ?_
  blk_ext [i0]

theorem out15 (x0 : Vec Ideal S8192x7168 .bf16) (x1 : Vec Ideal S8192x10240 .bf16) (x2 : Vec Ideal S8192x7168 .fp8e4m3) (x3 : Vec Ideal S1x1 .f32) (x4 : Vec Ideal S8192x5120 .fp8e4m3) (x5 : Vec Ideal S1x1 .f32) (x6 : Vec Ideal S7168x10240 .fp8e4m3) (x7 : Vec Ideal S1x1 .f32) (x8 : Vec Ideal S5120x7168 .fp8e4m3) (x9 : Vec Ideal S1x1 .f32) : out0_15 (F := Ideal) x0 x1 x2 x3 x4 x5 x6 x7 x8 x9 = codesH (codesY x0) (scaleY x0) x8 x9 x1 := by
  funext y
  unfold_out out0_15
  frame_out
  rw [Ref.pay12_eq, Ref.pay7_eq]; rfl

theorem final15 (c : Dev nD) (Z : Vec Ideal S8192x10240 .fp8e5m2) (h : out0_15 (F := Ideal) (V m c main_v0) (V m c main_v1) (V m c main_v2) (V m c main_v3) (V m c main_v4) (V m c main_v5) (V m c main_arg6) (V m c main_v6) (V m c main_arg8) (V m c main_v7) = Z) : (dats m 0 c).arrAt 15 (cfgs 0).N = Z := by
  refine (dats m 0 c).arrAt_eq_of_covers 15 _ (by decide +kernel) fun t _ y => ?_
  obtain rfl : t = t0_0 := Fin.ext (by have : t.val < 1 := lt_of_lt_of_eq t.isLt N_0; show t.val = 0; omega)
  have i0 : win0_15.index t0_0 = ![0, 0] := by decide +kernel
  blk_simp
  rw [after0_15, whole0, whole1, whole2, whole3, whole4, whole5, whole6, whole7, whole8, whole9, h]
  refine congrArg Z ?_
  blk_ext [i0]

theorem out16 (x0 : Vec Ideal S8192x7168 .bf16) (x1 : Vec Ideal S8192x10240 .bf16) (x2 : Vec Ideal S8192x7168 .fp8e4m3) (x3 : Vec Ideal S1x1 .f32) (x4 : Vec Ideal S8192x5120 .fp8e4m3) (x5 : Vec Ideal S1x1 .f32) (x6 : Vec Ideal S7168x10240 .fp8e4m3) (x7 : Vec Ideal S1x1 .f32) (x8 : Vec Ideal S5120x7168 .fp8e4m3) (x9 : Vec Ideal S1x1 .f32) : out0_16 (F := Ideal) x0 x1 x2 x3 x4 x5 x6 x7 x8 x9 = (fun _ => scaleH (codesY x0) (scaleY x0) x8 x9 x1) := by
  funext y
  unfold_out out0_16
  frame_out
  rw [Ref.pay7_eq]; unfold scaleH codesY scaleY; exact pay3_const _ y

theorem final16 (c : Dev nD) (Z : Vec Ideal S1x1 .f32) (h : out0_16 (F := Ideal) (V m c main_v0) (V m c main_v1) (V m c main_v2) (V m c main_v3) (V m c main_v4) (V m c main_v5) (V m c main_arg6) (V m c main_v6) (V m c main_arg8) (V m c main_v7) = Z) : (dats m 0 c).arrAt 16 (cfgs 0).N = Z := by
  refine (dats m 0 c).arrAt_eq_of_covers 16 _ (by decide +kernel) fun t _ y => ?_
  obtain rfl : t = t0_0 := Fin.ext (by have : t.val < 1 := lt_of_lt_of_eq t.isLt N_0; show t.val = 0; omega)
  have i0 : win0_16.index t0_0 = ![0, 0] := by decide +kernel
  blk_simp
  rw [after0_16, whole0, whole1, whole2, whole3, whole4, whole5, whole6, whole7, whole8, whole9, h]
  refine congrArg Z ?_
  blk_ext [i0]

end Cert.Proof.RefValue

end
-- ==== Proof.RefRun.lean ====
/-
  The run of the reference: its results are whatever the results of its one call, reshaped, are equal to.
-/
module

public import proofs.«01_k».proof.Defs
public import proofs.«01_k».proof.Proof.RefValue
public import Idealize.ShloMosaic.Lib.Pipeline.ValueKit

@[expose] public section

set_option maxRecDepth 16384

noncomputable section

namespace Cert.Proof.RefValue

open Idealize.ShloMosaic Idealize.ShloMosaic.TcCoe Idealize.SL.Sem

open Cert.RefIdeal Cert.RefIdeal.Gen

variable (m : (ℓ : Loc nD τ sig) → Buf (Elt Ideal) ℓ)

theorem in_main_v0 (c : Dev nD) : ∃ h, V m c main_v0 = shapeCast main_v0.ty.shape (m ((c : Thread nD τ).loc main_arg0)) h := by
  unfold V V0
  entry_read
  exact ⟨_, rfl⟩

theorem in_main_v1 (c : Dev nD) : ∃ h, V m c main_v1 = shapeCast main_v1.ty.shape (m ((c : Thread nD τ).loc main_arg1)) h := by
  unfold V V0
  entry_read
  exact ⟨_, rfl⟩

theorem in_main_v2 (c : Dev nD) : ∃ h, V m c main_v2 = shapeCast main_v2.ty.shape (m ((c : Thread nD τ).loc main_arg2)) h := by
  unfold V V0
  entry_read
  exact ⟨_, rfl⟩

theorem in_main_v3 (c : Dev nD) : ∃ h, V m c main_v3 = shapeCast main_v3.ty.shape (m ((c : Thread nD τ).loc main_arg3)) h := by
  unfold V V0
  entry_read
  exact ⟨_, rfl⟩

theorem in_main_v4 (c : Dev nD) : ∃ h, V m c main_v4 = shapeCast main_v4.ty.shape (m ((c : Thread nD τ).loc main_arg4)) h := by
  unfold V V0
  entry_read
  exact ⟨_, rfl⟩

theorem in_main_v5 (c : Dev nD) : ∃ h, V m c main_v5 = shapeCast main_v5.ty.shape (m ((c : Thread nD τ).loc main_arg5)) h := by
  unfold V V0
  entry_read
  exact ⟨_, rfl⟩

theorem in_main_v6 (c : Dev nD) : ∃ h, V m c main_v6 = shapeCast main_v6.ty.shape (m ((c : Thread nD τ).loc main_arg7)) h := by
  unfold V V0
  entry_read
  exact ⟨_, rfl⟩

theorem in_main_v7 (c : Dev nD) : ∃ h, V m c main_v7 = shapeCast main_v7.ty.shape (m ((c : Thread nD τ).loc main_arg9)) h := by
  unfold V V0
  entry_read
  exact ⟨_, rfl⟩

theorem tail_main_v9 (c : Dev nD) : ∃ h, Pipeline.afterTail₀ cfgs (dats m) 0 (V0 m) [hostOps1] c main_v9 = shapeCast main_v9.ty.shape ((dats m 0 c).arrAt 10 (cfgs 0).N) h := by
  have e := Pipeline.withArrays_arr spec0 launch0.win.arr_inj c (V0 m c) (fun w => (dats m 0 c).arrAt w (cfgs 0).N) 10
  show ∃ h, StableHlo.after hostOps1 (Pipeline.withArrays spec0 c (V0 m c) fun w => (dats m 0 c).arrAt w (cfgs 0).N) (Proc.devRef .tc main_v9) = _
  generalize Pipeline.withArrays spec0 c (V0 m c) (fun w => (dats m 0 c).arrAt w (cfgs 0).N) = W at e ⊢
  rw [← e]
  entry_read
  exact ⟨_, rfl⟩

theorem tail_main_v10 (c : Dev nD) : ∃ h, Pipeline.afterTail₀ cfgs (dats m) 0 (V0 m) [hostOps1] c main_v10 = shapeCast main_v10.ty.shape ((dats m 0 c).arrAt 13 (cfgs 0).N) h := by
  have e := Pipeline.withArrays_arr spec0 launch0.win.arr_inj c (V0 m c) (fun w => (dats m 0 c).arrAt w (cfgs 0).N) 13
  show ∃ h, StableHlo.after hostOps1 (Pipeline.withArrays spec0 c (V0 m c) fun w => (dats m 0 c).arrAt w (cfgs 0).N) (Proc.devRef .tc main_v10) = _
  generalize Pipeline.withArrays spec0 c (V0 m c) (fun w => (dats m 0 c).arrAt w (cfgs 0).N) = W at e ⊢
  rw [← e]
  entry_read
  exact ⟨_, rfl⟩

theorem tail_main_v11 (c : Dev nD) : ∃ h, Pipeline.afterTail₀ cfgs (dats m) 0 (V0 m) [hostOps1] c main_v11 = shapeCast main_v11.ty.shape ((dats m 0 c).arrAt 14 (cfgs 0).N) h := by
  have e := Pipeline.withArrays_arr spec0 launch0.win.arr_inj c (V0 m c) (fun w => (dats m 0 c).arrAt w (cfgs 0).N) 14
  show ∃ h, StableHlo.after hostOps1 (Pipeline.withArrays spec0 c (V0 m c) fun w => (dats m 0 c).arrAt w (cfgs 0).N) (Proc.devRef .tc main_v11) = _
  generalize Pipeline.withArrays spec0 c (V0 m c) (fun w => (dats m 0 c).arrAt w (cfgs 0).N) = W at e ⊢
  rw [← e]
  entry_read
  exact ⟨_, rfl⟩

theorem tail_main_v12 (c : Dev nD) : ∃ h, Pipeline.afterTail₀ cfgs (dats m) 0 (V0 m) [hostOps1] c main_v12 = shapeCast main_v12.ty.shape ((dats m 0 c).arrAt 15 (cfgs 0).N) h := by
  have e := Pipeline.withArrays_arr spec0 launch0.win.arr_inj c (V0 m c) (fun w => (dats m 0 c).arrAt w (cfgs 0).N) 15
  show ∃ h, StableHlo.after hostOps1 (Pipeline.withArrays spec0 c (V0 m c) fun w => (dats m 0 c).arrAt w (cfgs 0).N) (Proc.devRef .tc main_v12) = _
  generalize Pipeline.withArrays spec0 c (V0 m c) (fun w => (dats m 0 c).arrAt w (cfgs 0).N) = W at e ⊢
  rw [← e]
  entry_read
  exact ⟨_, rfl⟩

theorem tail_main_v13 (c : Dev nD) : ∃ h, Pipeline.afterTail₀ cfgs (dats m) 0 (V0 m) [hostOps1] c main_v13 = shapeCast main_v13.ty.shape ((dats m 0 c).arrAt 16 (cfgs 0).N) h := by
  have e := Pipeline.withArrays_arr spec0 launch0.win.arr_inj c (V0 m c) (fun w => (dats m 0 c).arrAt w (cfgs 0).N) 16
  show ∃ h, StableHlo.after hostOps1 (Pipeline.withArrays spec0 c (V0 m c) fun w => (dats m 0 c).arrAt w (cfgs 0).N) (Proc.devRef .tc main_v13) = _
  generalize Pipeline.withArrays spec0 c (V0 m c) (fun w => (dats m 0 c).arrAt w (cfgs 0).N) = W at e ⊢
  rw [← e]
  entry_read
  exact ⟨_, rfl⟩

set_option maxHeartbeats 2000000 in
theorem results (m' : (ℓ : Loc Cert.RefIdeal.nD Cert.RefIdeal.τ Cert.RefIdeal.sig) → Buf (Elt Ideal) ℓ) (g' : Dev Cert.RefIdeal.nD → PrngReg)
    (v0 : (c : Dev Cert.RefIdeal.nD) → Buf (Elt Ideal) ((c.tc : Thread Cert.RefIdeal.nD Cert.RefIdeal.τ).loc Cert.RefIdeal.main_v9))
    (v1 : (c : Dev Cert.RefIdeal.nD) → Buf (Elt Ideal) ((c.tc : Thread Cert.RefIdeal.nD Cert.RefIdeal.τ).loc Cert.RefIdeal.main_v8_1))
    (v2 : (c : Dev Cert.RefIdeal.nD) → Buf (Elt Ideal) ((c.tc : Thread Cert.RefIdeal.nD Cert.RefIdeal.τ).loc Cert.RefIdeal.main_v8_2))
    (v3 : (c : Dev Cert.RefIdeal.nD) → Buf (Elt Ideal) ((c.tc : Thread Cert.RefIdeal.nD Cert.RefIdeal.τ).loc Cert.RefIdeal.main_v10))
    (v4 : (c : Dev Cert.RefIdeal.nD) → Buf (Elt Ideal) ((c.tc : Thread Cert.RefIdeal.nD Cert.RefIdeal.τ).loc Cert.RefIdeal.main_v11))
    (v5 : (c : Dev Cert.RefIdeal.nD) → Buf (Elt Ideal) ((c.tc : Thread Cert.RefIdeal.nD Cert.RefIdeal.τ).loc Cert.RefIdeal.main_v12))
    (v6 : (c : Dev Cert.RefIdeal.nD) → Buf (Elt Ideal) ((c.tc : Thread Cert.RefIdeal.nD Cert.RefIdeal.τ).loc Cert.RefIdeal.main_v13))
    (h0 : ∀ c, Pipeline.afterTail₀ cfgs (dats m') 0 (V0 m') [hostOps1] c main_v9 = v0 c)
    (h1 : ∀ c, (dats m' 0 c).arrAt 11 (cfgs 0).N = v1 c) (h2 : ∀ c, (dats m' 0 c).arrAt 12 (cfgs 0).N = v2 c)
    (h3 : ∀ c, Pipeline.afterTail₀ cfgs (dats m') 0 (V0 m') [hostOps1] c main_v10 = v3 c)
    (h4 : ∀ c, Pipeline.afterTail₀ cfgs (dats m') 0 (V0 m') [hostOps1] c main_v11 = v4 c)
    (h5 : ∀ c, Pipeline.afterTail₀ cfgs (dats m') 0 (V0 m') [hostOps1] c main_v12 = v5 c)
    (h6 : ∀ c, Pipeline.afterTail₀ cfgs (dats m') 0 (V0 m') [hostOps1] c main_v13 = v6 c)
    : θ_run (Cert.RefIdeal.defs (F := Ideal)) (onTc (τ := Cert.RefIdeal.τ) (Cert.RefIdeal.main (F := Ideal))) ⟨m', fun _ => 0, g'⟩ (fun r => ∀ c : Dev Cert.RefIdeal.nD,
        r.2.mem ((c.tc : Thread Cert.RefIdeal.nD Cert.RefIdeal.τ).loc Cert.RefIdeal.main_v9) = v0 c
        ∧ r.2.mem ((c.tc : Thread Cert.RefIdeal.nD Cert.RefIdeal.τ).loc Cert.RefIdeal.main_v8_1) = v1 c
        ∧ r.2.mem ((c.tc : Thread Cert.RefIdeal.nD Cert.RefIdeal.τ).loc Cert.RefIdeal.main_v8_2) = v2 c
        ∧ r.2.mem ((c.tc : Thread Cert.RefIdeal.nD Cert.RefIdeal.τ).loc Cert.RefIdeal.main_v10) = v3 c
        ∧ r.2.mem ((c.tc : Thread Cert.RefIdeal.nD Cert.RefIdeal.τ).loc Cert.RefIdeal.main_v11) = v4 c
        ∧ r.2.mem ((c.tc : Thread Cert.RefIdeal.nD Cert.RefIdeal.τ).loc Cert.RefIdeal.main_v12) = v5 c
        ∧ r.2.mem ((c.tc : Thread Cert.RefIdeal.nD Cert.RefIdeal.τ).loc Cert.RefIdeal.main_v13) = v6 c) := by
  run_from Cert.RefIdeal.Gen.run_main m' g'
  · exact h0 c
  · exact h1 c
  · exact h2 c
  · exact h3 c
  · exact h4 c
  · exact h5 c
  · exact h6 c

end Cert.Proof.RefValue

end
-- ==== Proof.Whole.Region0.lean ====
/-
  The call number 0 of the kernel, at any contents `V` that the buffers have when the call is entered: the block of each
  window at a grid point, what the body leaves in its output windows and in the scratch memory it keeps from one point to the
  next, and the proof that the body does so.
-/
module

public import Idealize.ShloMosaic.Lib.Pipeline.ValueKit
public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Whole

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section Regions
-- the TensorCore's buffer contents when a region is entered: the parameter every region's half is stated at, which
-- the run instantiates per region
variable (V : (c : Dev nD) → (b : Ref sig .tc) → Buf (Elt F) ((c : Thread nD τ).loc b))

/-! # REGION 0 of @main: custom_call 0, `cc0_quant_dy` (pipeline 0), at the entry contents `V` — class R -/

/-! ## The windows' blocks -/

/-- Window `w`'s block at point `t`, read off its array as the region finds it (`V`). -/
noncomputable def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the points before point 32 — by arithmetic of the point. -/
theorem hcond0_0 : ∀ t : Fin cfg0.N, cond0_0 (grid0.coords t) ↔ t.val < 32 :=
  (fun t => by
    have ht : t.val < 64 := Nat.lt_of_lt_of_eq t.isLt N_0
    have e0 : (grid0.coords t 0).val = t.val / 32 % 2 := Pipeline.Grid.coords_val t 0 (by decide) rfl
    have e1 : (grid0.coords t 1).val = t.val / 1 % 32 := Pipeline.Grid.coords_val t 1 (by decide) rfl
    simp only [cond0_0, e0, e1]
    word_cmp
   : ∀ t : Fin grid0.N, cond0_0 (grid0.coords t) ↔ t.val < 32)

/-- The condition of the body's `scf.if` 1 (`k0_h2`), from the grid coordinates (the skeleton's scalar
    chain substituted). -/
abbrev cond0_1 (i : grid0.Coords) : Prop := k0_cond2 i = 1#1
/-- It holds at point 32 only — by arithmetic of the point. -/
theorem hcond0_1 : ∀ t : Fin cfg0.N, cond0_1 (grid0.coords t) ↔ t.val % 64 = 32 :=
  (fun t => by
    have ht : t.val < 64 := Nat.lt_of_lt_of_eq t.isLt N_0
    have e0 : (grid0.coords t 0).val = t.val / 32 % 2 := Pipeline.Grid.coords_val t 0 (by decide) rfl
    have e1 : (grid0.coords t 1).val = t.val / 1 % 32 := Pipeline.Grid.coords_val t 1 (by decide) rfl
    simp only [cond0_1, k0_cond2, e0, e1]
    word_cmp
   : ∀ t : Fin grid0.N, cond0_1 (grid0.coords t) ↔ t.val % 64 = 32)

/-- The condition of the body's `scf.if` 2 (`k0_h3`), from the grid coordinates (the skeleton's scalar
    chain substituted). -/
abbrev cond0_2 (i : grid0.Coords) : Prop := k0_cond3 i = 1#1
/-- It holds at the points from point 32 on — by arithmetic of the point. -/
theorem hcond0_2 : ∀ t : Fin cfg0.N, cond0_2 (grid0.coords t) ↔ 32 ≤ t.val :=
  (fun t => by
    have ht : t.val < 64 := Nat.lt_of_lt_of_eq t.isLt N_0
    have e0 : (grid0.coords t 0).val = t.val / 32 % 2 := Pipeline.Grid.coords_val t 0 (by decide) rfl
    have e1 : (grid0.coords t 1).val = t.val / 1 % 32 := Pipeline.Grid.coords_val t 1 (by decide) rfl
    simp only [cond0_2, k0_cond3, e0, e1]
    word_cmp
   : ∀ t : Fin grid0.N, cond0_2 (grid0.coords t) ↔ 32 ≤ t.val)

/-! ## Where the windows are idle (the printed configuration's table `Cfg.idle`) -/

/-- Window 0 is never idle (an input). -/
theorem liveAt0_0 : ∀ t : Fin cfg0.N, cfg0.idle 0 (grid0.coords t) = false := fun _ => rfl
/-- At the points of case A the printed configuration (`Cfg.idle`) calls output 1 idle: the case stores nothing into it. -/
theorem idleAt0_1_A : ∀ t : Fin cfg0.N, cond0_0 (grid0.coords t) → ¬cond0_1 (grid0.coords t) → ¬cond0_2 (grid0.coords t) → cfg0.idle 1 (grid0.coords t) = true := by decide +kernel
/-- At the points of case A the pipeline does not write output 1's block back. -/
theorem noFlush0_1_A : ∀ t : Fin cfg0.N, cond0_0 (grid0.coords t) → ¬cond0_1 (grid0.coords t) → ¬cond0_2 (grid0.coords t) → (cfg0.win 1).flush t = false := by decide +kernel
/-- At the points of case B the printed configuration (`Cfg.idle`) calls output 1 live: the case stores into it. -/
theorem liveAt0_1_B : ∀ t : Fin cfg0.N, ¬cond0_0 (grid0.coords t) → cond0_1 (grid0.coords t) → cond0_2 (grid0.coords t) → cfg0.idle 1 (grid0.coords t) = false := by decide +kernel
/-- At the points of case C the printed configuration (`Cfg.idle`) calls output 1 live: the case stores into it. -/
theorem liveAt0_1_C : ∀ t : Fin cfg0.N, ¬cond0_0 (grid0.coords t) → ¬cond0_1 (grid0.coords t) → cond0_2 (grid0.coords t) → cfg0.idle 1 (grid0.coords t) = false := by decide +kernel
/-- At the points of case A the printed configuration (`Cfg.idle`) calls output 2 idle: the case stores nothing into it. -/
theorem idleAt0_2_A : ∀ t : Fin cfg0.N, cond0_0 (grid0.coords t) → ¬cond0_1 (grid0.coords t) → ¬cond0_2 (grid0.coords t) → cfg0.idle 2 (grid0.coords t) = true := by decide +kernel
/-- At the points of case A the pipeline does not write output 2's block back. -/
theorem noFlush0_2_A : ∀ t : Fin cfg0.N, cond0_0 (grid0.coords t) → ¬cond0_1 (grid0.coords t) → ¬cond0_2 (grid0.coords t) → (cfg0.win 2).flush t = false := by decide +kernel
/-- At the points of case B the printed configuration (`Cfg.idle`) calls output 2 live: the case stores into it. -/
theorem liveAt0_2_B : ∀ t : Fin cfg0.N, ¬cond0_0 (grid0.coords t) → cond0_1 (grid0.coords t) → cond0_2 (grid0.coords t) → cfg0.idle 2 (grid0.coords t) = false := by decide +kernel
/-- At the points of case C the printed configuration (`Cfg.idle`) calls output 2 idle: the case stores nothing into it. -/
theorem idleAt0_2_C : ∀ t : Fin cfg0.N, ¬cond0_0 (grid0.coords t) → ¬cond0_1 (grid0.coords t) → cond0_2 (grid0.coords t) → cfg0.idle 2 (grid0.coords t) = true := by decide +kernel
/-- Output 2 is never fetched, and written back at the last point only. -/
theorem noFetch0_2 : ∀ t : Fin cfg0.N, (cfg0.win 2).fetch t = false := by decide +kernel
theorem flush0_2 : ∀ t : Fin cfg0.N, t.val ≠ 63 → (cfg0.win 2).flush t = false := by decide +kernel

/-! ## The kernel body on any staging memrefs: a subtype the run finds -/

/-- One staging buffer of output window 1, through which its contents are stated (`View.read_writes_of_cover`: the
    choice does not matter). -/
abbrev VO0_1 : View sig .tc .vmem S256x7168 .fp8e5m2 := (Memref.whole cc0_stg1_0 : Memref sig .tc .vmem S256x7168 .fp8e5m2).view
/-- One staging buffer of output window 2, through which its contents are stated (`View.read_writes_of_cover`: the
    choice does not matter). -/
abbrev VO0_2 : View sig .tc .smem S1x1 .f32 := (Memref.whole cc0_stg2_0 : Memref sig .tc .smem S1x1 .f32).view
/-- Each window's current staging memref at point `t`, spelled as the pipeline passes it (`bodyAt0`), and its wholeness. -/
abbrev ms0_0 (t : Fin cfg0.N) : Memref sig .tc .vmem S256x7168 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x7168 .fp8e5m2 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .smem S1x1 .f32 := win0_2.stage (cfg0.slots t 2)
abbrev hs0_2 (t : Fin cfg0.N) : (ms0_2 t).IsWhole := hstage0_2 ((cfg0.slots t 2).cast nbuf0_2)
/-- The scratch operands: whole scoped buffers of the kernel's own, passed beside the windows. -/
abbrev scM0_0 : Memref sig .tc .vmem S8x7168 .f32 := Memref.whole cc0_scratch0
abbrev scM0_1 : Memref sig .tc .vmem S8x128 .f32 := Memref.whole cc0_scratch1
/-- The scratch `arg5` the kernel carries between points, as a view: what it holds is stated through it. -/
abbrev VS0_0 : View sig .tc .vmem S8x7168 .f32 := scM0_0.view
/-- The scratch `arg6` the kernel carries between points, as a view: what it holds is stated through it. -/
abbrev VS0_1 : View sig .tc .vmem S8x128 .f32 := scM0_1.view

/-- `Gen.scopedRest0_split` as ONE chain: the kernel's own scratch buffers, each whole at some contents, then every
    other scoped buffer, unopened (`Pipeline.scopedRestBut`). -/
theorem scopedRest0_flat (c : Dev nD) :
    (Pipeline.scopedRest spec0 c : sProp 𝕄)
      = iprop((∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ Pipeline.scopedRestBut spec0 c [cc0_scratch0, cc0_scratch1]) := by
  have assoc : ∀ P Q R : sProp 𝕄, iprop((P ∗ Q) ∗ R) = iprop(P ∗ Q ∗ R) :=
    fun _ _ _ => Idealize.SL.BI.Entails.antisymm Idealize.SL.BI.sep_assoc Idealize.SL.BI.sep_assoc'
  rw [scopedRest0_split, assoc]

/-- The frame kit's invariant with the scratch operands as memrefs owned at some contents (`Gen.scopedRest0_flat`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ Pipeline.scopedRestBut spec0 c [cc0_scratch0, cc0_scratch1]) ∗ (∃ r, prngReg c r)) := by
  unfold Pipeline.ΦA; rw [scopedRest0_flat]; simp only [scM0_0, scM0_1, owns_whole]; try rfl

-- (the run's proof term is large: the definition's epilogue — `abstractNestedProofs` — walks it past the default budget)
set_option maxHeartbeats 1000000 in
/-- What the body's stores leave in each output's staging memref, as pieces (last first) IN CASE A (`scf.if` 0 taken, `scf.if` 1 not taken, `scf.if` 2 not taken: points 0, 1, … 31: 32 of 64), WITH the
    proof that on whole staging memrefs — the inputs' at their contents, the outputs it leaves idle (1, 2: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg2 : Memref sig .tc .vmem S256x7168 .bf16) (harg2 : arg2.IsWhole) (arg3 : Memref sig .tc .vmem S256x7168 .fp8e5m2) (harg3 : arg3.IsWhole) (arg4 : Memref sig .tc .smem S1x1 .f32) (harg4 : arg4.IsWhole) (arg5 : Memref sig .tc .vmem S8x7168 .f32) (harg5 : arg5.IsWhole) (arg6 : Memref sig .tc .vmem S8x128 .f32) (harg6 : arg6.IsWhole) (hc0 : cond0_0 i) (hc1 : ¬cond0_1 i) (hc2 : ¬cond0_2 i)
    (x0 : Vec F S256x7168 .bf16) (xs0 : Vec F S8x7168 .f32) :
    Σ' (L1 : List (View.Piece (Elt F) S256x7168 .fp8e5m2)), Σ' (L2 : List (View.Piece (Elt F) S1x1 .f32)), Σ' (LS0 : List (View.Piece (Elt F) S8x7168 .f32)), { LS1 : List (View.Piece (Elt F) S8x128 .f32) //
      ∀ (xi1 : Vec F S256x7168 .fp8e5m2) (xi2 : Vec F S1x1 .f32) (xs1 : Vec F S8x128 .f32) (E : Set ℕ) (K : PUnit → sProp 𝕄),
        iprop(owns (c : Thread nD τ) arg2 fullShare x0 ∗ owns (c : Thread nD τ) arg3 fullShare xi1 ∗ owns (c : Thread nD τ) arg4 fullShare xi2 ∗ owns (c : Thread nD τ) arg5 fullShare xs0 ∗ owns (c : Thread nD τ) arg6 fullShare xs1
            ∗ (iprop(owns (c : Thread nD τ) arg2 fullShare x0 ∗ owns (c : Thread nD τ) arg3 fullShare xi1 ∗ owns (c : Thread nD τ) arg4 fullShare xi2 ∗ (∃ f, arg5.view.loc (c : Thread nD τ) ↦[arg5.view.set]{fullShare} arg5.view.writes (Elt F) f LS0) ∗ owns (c : Thread nD τ) arg6 fullShare xs1) -∗ K ⟨⟩))
          ⊢ wp frame (wpE (defs₀ (F := F)) Variants.none c none) E (cc0_quant_dy i arg2 harg2 arg3 harg3 arg4 harg4 arg5 harg5 arg6 harg6) K } := by
  refine ⟨[], [], ?_, [], fun xi1 xi2 xs1 E K => ?run⟩
  case run =>
    simp only [cc0_quant_dy_eq_skeleton]; unfold cc0_quant_dy_skel
    unfold owns
    iintro ⟨⟨%f0, %hf0, H0⟩, ⟨%f1, %hf1, H1⟩, ⟨%f2, %hf2, H2⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hfs0; obtain rfl := harg6.eq_unread hfs1
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HS0]; · iexists _; iexact HS0
    iexists _; isplitr; · ipureintro; exact harg6.read_unread _
    iexact HS1

/-- Case A's pieces for scratch `arg5`, which the kernel carries between points, cover it: 1 piece of `S8x7168` tiling it (Lib/Ring.lean `Piece.tiledL`). -/
theorem scover0_A_0 (c : Dev nD) (i : grid0.Coords) (arg2 : Memref sig .tc .vmem S256x7168 .bf16) (harg2 : arg2.IsWhole) (arg3 : Memref sig .tc .vmem S256x7168 .fp8e5m2) (harg3 : arg3.IsWhole) (arg4 : Memref sig .tc .smem S1x1 .f32) (harg4 : arg4.IsWhole) (arg5 : Memref sig .tc .vmem S8x7168 .f32) (harg5 : arg5.IsWhole) (arg6 : Memref sig .tc .vmem S8x128 .f32) (harg6 : arg6.IsWhole) (hc0 : cond0_0 i) (hc1 : ¬cond0_1 i) (hc2 : ¬cond0_2 i)
    (x0 : Vec F S256x7168 .bf16) (xs0 : Vec F S8x7168 .f32) (y : S8x7168.Idx) :
    ∃ pc ∈ (kernelRun0_A c i arg2 harg2 arg3 harg3 arg4 harg4 arg5 harg5 arg6 harg6 hc0 hc1 hc2 x0 xs0).2.2.1, y ∈ pc.1.set :=
  View.cover_of_tiledL (kernelRun0_A c i arg2 harg2 arg3 harg3 arg4 harg4 arg5 harg5 arg6 harg6 hc0 hc1 hc2 x0 xs0).2.2.1 S8x7168.size (by sl_kernel_rfl) y

/-- What case A leaves in scratch `arg5`: its pieces read back over junk. -/
def sout0_A_0 (c : Dev nD) (i : grid0.Coords) (arg2 : Memref sig .tc .vmem S256x7168 .bf16) (harg2 : arg2.IsWhole) (arg3 : Memref sig .tc .vmem S256x7168 .fp8e5m2) (harg3 : arg3.IsWhole) (arg4 : Memref sig .tc .smem S1x1 .f32) (harg4 : arg4.IsWhole) (arg5 : Memref sig .tc .vmem S8x7168 .f32) (harg5 : arg5.IsWhole) (arg6 : Memref sig .tc .vmem S8x128 .f32) (harg6 : arg6.IsWhole) (hc0 : cond0_0 i) (hc1 : ¬cond0_1 i) (hc2 : ¬cond0_2 i)
    (x0 : Vec F S256x7168 .bf16) (xs0 : Vec F S8x7168 .f32) : Vec F S8x7168 .f32 :=
  VS0_0.read (Elt F) (VS0_0.writes (Elt F) VS0_0.junk (kernelRun0_A c i arg2 harg2 arg3 harg3 arg4 harg4 arg5 harg5 arg6 harg6 hc0 hc1 hc2 x0 xs0).2.2.1)

-- (the run's proof term is large: the definition's epilogue — `abstractNestedProofs` — walks it past the default budget)
set_option maxHeartbeats 1000000 in
/-- What the body's stores leave in each output's staging memref, as pieces (last first) IN CASE B (`scf.if` 0 not taken, `scf.if` 1 taken, `scf.if` 2 taken: points 32), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg2 : Memref sig .tc .vmem S256x7168 .bf16) (harg2 : arg2.IsWhole) (arg3 : Memref sig .tc .vmem S256x7168 .fp8e5m2) (harg3 : arg3.IsWhole) (arg4 : Memref sig .tc .smem S1x1 .f32) (harg4 : arg4.IsWhole) (arg5 : Memref sig .tc .vmem S8x7168 .f32) (harg5 : arg5.IsWhole) (arg6 : Memref sig .tc .vmem S8x128 .f32) (harg6 : arg6.IsWhole) (hc0 : ¬cond0_0 i) (hc1 : cond0_1 i) (hc2 : cond0_2 i)
    (x0 : Vec F S256x7168 .bf16) (xs0 : Vec F S8x7168 .f32) :
    Σ' (L1 : List (View.Piece (Elt F) S256x7168 .fp8e5m2)), Σ' (L2 : List (View.Piece (Elt F) S1x1 .f32)), Σ' (LS0 : List (View.Piece (Elt F) S8x7168 .f32)), { LS1 : List (View.Piece (Elt F) S8x128 .f32) //
      ∀ (E : Set ℕ) (K : PUnit → sProp 𝕄),
        iprop(owns (c : Thread nD τ) arg2 fullShare x0 ∗ (∃ d, owns (c : Thread nD τ) arg3 fullShare d) ∗ (∃ d, owns (c : Thread nD τ) arg4 fullShare d) ∗ owns (c : Thread nD τ) arg5 fullShare xs0 ∗ (∃ d, owns (c : Thread nD τ) arg6 fullShare d)
            ∗ (iprop(owns (c : Thread nD τ) arg2 fullShare x0 ∗ (∃ f, arg3.view.loc (c : Thread nD τ) ↦[arg3.view.set]{fullShare} arg3.view.writes (Elt F) f L1) ∗ (∃ f, arg4.view.loc (c : Thread nD τ) ↦[arg4.view.set]{fullShare} arg4.view.writes (Elt F) f L2) ∗ owns (c : Thread nD τ) arg5 fullShare xs0 ∗ (∃ f, arg6.view.loc (c : Thread nD τ) ↦[arg6.view.set]{fullShare} arg6.view.writes (Elt F) f LS1)) -∗ K ⟨⟩))
          ⊢ wp frame (wpE (defs₀ (F := F)) Variants.none c none) E (cc0_quant_dy i arg2 harg2 arg3 harg3 arg4 harg4 arg5 harg5 arg6 harg6) K } := by
  refine ⟨?_, ?_, [], ?_, fun E K => ?run⟩
  case run =>
    simp only [cc0_quant_dy_eq_skeleton]; unfold cc0_quant_dy_skel
    simp only [k0_part1_eq_skeleton, k0_part2_eq_skeleton]
    unfold owns
    iintro ⟨⟨%f0, %hf0, H0⟩, ⟨%d1, %f1, -, H1⟩, ⟨%d2, %f2, -, H2⟩, ⟨%fs0, %hfs0, HS0⟩, ⟨%ds1, %fs1, -, HS1⟩, Hk⟩
    obtain rfl := harg2.eq_unread hf0; obtain rfl := harg5.eq_unread hfs0
    sl_exec (disch := first | sl_exact hc0 | sl_exact hc1 | sl_exact hc2)
    sl_step
    iapply Hk
    isplitl [H0]
    · iexists _; isplitr; · ipureintro; exact harg2.read_unread _
      iexact H0
    isplitl [H1]; · iexists _; iexact H1
    isplitl [H2]; · iexists _; iexact H2
    isplitl [HS0]
    · iexists _; isplitr; · ipureintro; exact harg5.read_unread _
      iexact HS0
    iexists _; iexact HS1

/-- Case B's pieces for output 1 tile its block (1 store of `S256x7168`, checked by the kernel's evaluation: Lib/Ring.lean `Piece.tiledL`, linear in the pieces, through a loop's `@[irreducible]` trip theorem too), so they cover it. -/
theorem cover0_B_1 (c : Dev nD) (i : grid0.Coords) (arg2 : Memref sig .tc .vmem S256x7168 .bf16) (harg2 : arg2.IsWhole) (arg3 : Memref sig .tc .vmem S256x7168 .fp8e5m2) (harg3 : arg3.IsWhole) (arg4 : Memref sig .tc .smem S1x1 .f32) (harg4 : arg4.IsWhole) (arg5 : Memref sig .tc .vmem S8x7168 .f32) (harg5 : arg5.IsWhole) (arg6 : Memref sig .tc .vmem S8x128 .f32) (harg6 : arg6.IsWhole) (hc0 : ¬cond0_0 i) (hc1 : cond0_1 i) (hc2 : cond0_2 i)
    (x0 : Vec F S256x7168 .bf16) (xs0 : Vec F S8x7168 .f32) (y : S256x7168.Idx) :
    ∃ pc ∈ (kernelRun0_B c i arg2 harg2 arg3 harg3 arg4 harg4 arg5 harg5 arg6 harg6 hc0 hc1 hc2 x0 xs0).1, y ∈ pc.1.set :=
  View.cover_of_tiledL (kernelRun0_B c i arg2 harg2 arg3 harg3 arg4 harg4 arg5 harg5 arg6 harg6 hc0 hc1 hc2 x0 xs0).1 S256x7168.size (by sl_kernel_rfl) y

/-- What case B leaves in output 1's staging buffer: its pieces read back over junk. -/
def out0_B_1 (c : Dev nD) (i : grid0.Coords) (arg2 : Memref sig .tc .vmem S256x7168 .bf16) (harg2 : arg2.IsWhole) (arg3 : Memref sig .tc .vmem S256x7168 .fp8e5m2) (harg3 : arg3.IsWhole) (arg4 : Memref sig .tc .smem S1x1 .f32) (harg4 : arg4.IsWhole) (arg5 : Memref sig .tc .vmem S8x7168 .f32) (harg5 : arg5.IsWhole) (arg6 : Memref sig .tc .vmem S8x128 .f32) (harg6 : arg6.IsWhole) (hc0 : ¬cond0_0 i) (hc1 : cond0_1 i) (hc2 : cond0_2 i)
    (x0 : Vec F S256x7168 .bf16) (xs0 : Vec F S8x7168 .f32) : Vec F S256x7168 .fp8e5m2 :=
  VO0_1.read (Elt F) (VO0_1.writes (Elt F) VO0_1.junk (kernelRun0_B c i arg2 harg2 arg3 harg3 arg4 harg4 arg5 harg5 arg6 harg6 hc0 hc1 hc2 x0 xs0).1)

/-- Case B's pieces for output 2 tile its block (1 store of `S1x1`, checked by the kernel's evaluation: Lib/Ring.lean `Piece.tiledL`, linear in the pieces, through a loop's `@[irreducible]` trip theorem too), so they cover it. -/
theorem cover0_B_2 (c : Dev nD) (i : grid0.Coords) (arg2 : Memref sig .tc .vmem S256x7168 .bf16) (harg2 : arg2.IsWhole) (arg3 : Memref sig .tc .vmem S256x7168 .fp8e5m2) (harg3 : arg3.IsWhole) (arg4 : Memref sig .tc .smem S1x1 .f32) (harg4 : arg4.IsWhole) (arg5 : Memref sig .tc .vmem S8x7168 .f32) (harg5 : arg5.IsWhole) (arg6 : Memref sig .tc .vmem S8x128 .f32) (harg6 : arg6.IsWhole) (hc0 : ¬cond0_0 i) (hc1 : cond0_1 i) (hc2 : cond0_2 i)
    (x0 : Vec F S256x7168 .bf16) (xs0 : Vec F S8x7168 .f32) (y : S1x1.Idx) :
    ∃ pc ∈ (kernelRun0_B c i arg2 harg2 arg3 harg3 arg4 harg4 arg5 harg5 arg6 harg6 hc0 hc1 hc2 x0 xs0).2.1, y ∈ pc.1.set :=
  View.cover_of_tiledL (kernelRun0_B c i arg2 harg2 arg3 harg3 arg4 harg4 arg5 harg5 arg6 harg6 hc0 hc1 hc2 x0 xs0).2.1 S1x1.size (by sl_kernel_rfl) y

/-- What case B leaves in output 2's staging buffer: its pieces read back over junk. -/
def out0_B_2 (c : Dev nD) (i : grid0.Coords) (arg2 : Memref sig .tc .vmem S256x7168 .bf16) (harg2 : arg2.IsWhole) (arg3 : Memref sig .tc .vmem S256x7168 .fp8e5m2) (harg3 : arg3.IsWhole) (arg4 : Memref sig .tc .smem S1x1 .f32) (harg4 : arg4.IsWhole) (arg5 : Memref sig .tc .vmem S8x7168 .f32) (harg5 : arg5.IsWhole) (arg6 : Memref sig .tc .vmem S8x128 .f32) (harg6 : arg6.IsWhole) (hc0 : ¬cond0_0 i) (hc1 : cond0_1 i) (hc2 : cond0_2 i)
    (x0 : Vec F S256x7168 .bf16) (xs0 : Vec F S8x7168 .f32) : Vec F S1x1 .f32 :=
  VO0_2.read (Elt F) (VO0_2.writes (Elt F) VO0_2.junk (kernelRun0_B c i arg2 harg2 arg3 harg3 arg4 harg4 arg5 harg5 arg6 harg6 hc0 hc1 hc2 x0 xs0).2.1)

/-- Case B's pieces for scratch `arg6`, which the kernel carries between points, cover it: 1 piece of `S8x128` tiling it (Lib/Ring.lean `Piece.tiledL`). -/
theorem scover0_B_1 (c : Dev nD) (i : grid0.Coords) (arg2 : Memref sig .tc .vmem S256x7168 .bf16) (harg2 : arg2.IsWhole) (arg3 : Memref sig .tc .vmem S256x7168 .fp8e5m2) (harg3 : arg3.IsWhole) (arg4 : Memref sig .tc .smem S1x1 .f32) (harg4 : arg4.IsWhole) (arg5 : Memref sig .tc .vmem S8x7168 .f32) (harg5 : arg5.IsWhole) (arg6 : Memref sig .tc .vmem S8x128 .f32) (harg6 : arg6.IsWhole) (hc0 : ¬cond0_0 i) (hc1 : cond0_1 i) (hc2 : cond0_2 i)
    (x0 : Vec F S256x7168 .bf16) (xs0 : Vec F S8x7168 .f32) (y : S8x128.Idx) :
    ∃ pc ∈ (kernelRun0_B c i arg2 harg2 arg3 harg3 arg4 harg4 arg5 harg5 arg6 harg6 hc0 hc1 hc2 x0 xs0).2.2.2.1, y ∈ pc.1.set :=
  View.cover_of_tiledL (kernelRun0_B c i arg2 harg2 arg3 harg3 arg4 harg4 arg5 harg5 arg6 harg6 hc0 hc1 hc2 x0 xs0).2.2.2.1 S8x128.size (by sl_kernel_rfl) y

/-- What case B leaves in scratch `arg6`: its pieces read back over junk. -/
def sout0_B_1 (c : Dev nD) (i : grid0.Coords) (arg2 : Memref sig .tc .vmem S256x7168 .bf16) (harg2 : arg2.IsWhole) (arg3 : Memref sig .tc .vmem S256x7168 .fp8e5m2) (harg3 : arg3.IsWhole) (arg4 : Memref sig .tc .smem S1x1 .f32) (harg4 : arg4.IsWhole) (arg5 : Memref sig .tc .vmem S8x7168 .f32) (harg5 : arg5.IsWhole) (arg6 : Memref sig .tc .vmem S8x128 .f32) (harg6 : arg6.IsWhole) (hc0 : ¬cond0_0 i) (hc1 : cond0_1 i) (hc2 : cond0_2 i)
    (x0 : Vec F S256x7168 .bf16) (xs0 : Vec F S8x7168 .f32) : Vec F S8x128 .f32 :=
  VS0_1.read (Elt F) (VS0_1.writes (Elt F) VS0_1.junk (kernelRun0_B c i arg2 harg2 arg3 harg3 arg4 harg4 arg5 harg5 arg6 harg6 hc0 hc1 hc2 x0 xs0).2.2.2.1)

-- (the run's proof term is large: the definition's epilogue — `abstractNestedProofs` — walks it past the default budget)
set_option maxHeartbeats 1000000 in
/-- What the body's stores leave in each output's staging memref, as pieces (last first) IN CASE C (`scf.if` 0 not taken, `scf.if` 1 not taken, `scf.if` 2 taken: points 33, 34, … 63: 31 of 64), WITH the
    proof that on whole staging memrefs — the inputs' at their contents, the outputs it leaves idle (2: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_C (c : Dev nD) (i : grid0.Coords) (arg2 : Memref sig .tc .vmem S256x7168 .bf16) (harg2 : arg2.IsWhole) (arg3 : Memref sig .tc .vmem S256x7168 .fp8e5m2) (harg3 : arg3.IsWhole) (arg4 : Memref sig .tc .smem S1x1 .f32) (harg4 : arg4.IsWhole) (arg5 : Memref sig .tc .vmem S8x7168 .f32) (harg5 : arg5.IsWhole) (arg6 : Memref sig .tc .vmem S8x128 .f32) (harg6 : arg6.IsWhole) (hc0 : ¬cond0_0 i) (hc1 : ¬cond0_1 i) (hc2 : cond0_2 i)
    (x0 : Vec F S256x7168 .bf16) (xs0 : Vec F S8x7168 .f32) (xs1 : Vec F S8x128 .f32) :
    Σ' (L1 : List (View.Piece (Elt F) S256x7168 .fp8e5m2)), Σ' (L2 : List (View.Piece (Elt F) S1x1 .f32)), Σ' (LS0 : List (View.Piece (Elt F) S8x7168 .f32)), { LS1 : List (View.Piece (Elt F) S8x128 .f32) //
      ∀ (xi2 : Vec F S1x1 .f32) (E : Set ℕ) (K : PUnit → sProp 𝕄),
        iprop(owns (c : Thread nD τ) arg2 fullShare x0 ∗ (∃ d, owns (c : Thread nD τ) arg3 fullShare d) ∗ owns (c : Thread nD τ) arg4 fullShare xi2 ∗ owns (c : Thread nD τ) arg5 fullShare xs0 ∗ owns (c : Thread nD τ) arg6 fullShare xs1
            ∗ (iprop(owns (c : Thread nD τ) arg2 fullShare x0 ∗ (∃ f, arg3.view.loc (c : Thread nD τ) ↦[arg3.view.set]{fullShare} arg3.view.writes (Elt F) f L1) ∗ owns (c : Thread nD τ) arg4 fullShare xi2 ∗ owns (c : Thread nD τ) arg5 fullShare xs0 ∗ owns (c : Thread nD τ) arg6 fullShare xs1) -∗ K ⟨⟩))
          ⊢ wp frame (wpE (defs₀ (F := F)) Variants.none c none) E (cc0_quant_dy i arg2 harg2 arg3 harg3 arg4 harg4 arg5 harg5 arg6 harg6) K } := by
  refine ⟨?_, [], [], [], fun xi2 E K => ?run⟩
  case run =>
    simp only [cc0_quant_dy_eq_skeleton]; unfold cc0_quant_dy_skel
    unfold owns
    iintro ⟨⟨%f0, %hf0, H0⟩, ⟨%d1, %f1, -, H1⟩, ⟨%f2, %hf2, H2⟩, ⟨%fs0, %hfs0, HS0⟩, ⟨%fs1, %hfs1, HS1⟩, Hk⟩
    obtain rfl := harg2.eq_unread hf0; obtain rfl := harg4.eq_unread hf2; obtain rfl := harg5.eq_unread hfs0; obtain rfl := harg6.eq_unread hfs1
    sl_exec (disch := first | sl_exact hc0 | sl_exact hc1 | sl_exact hc2)
    sl_step
    iapply Hk
    isplitl [H0]
    · iexists _; isplitr; · ipureintro; exact harg2.read_unread _
      iexact H0
    isplitl [H1]; · iexists _; iexact H1
    isplitl [H2]
    · iexists _; isplitr; · ipureintro; exact harg4.read_unread _
      iexact H2
    isplitl [HS0]
    · iexists _; isplitr; · ipureintro; exact harg5.read_unread _
      iexact HS0
    iexists _; isplitr; · ipureintro; exact harg6.read_unread _
    iexact HS1

/-- Case C's pieces for output 1 tile its block (1 store of `S256x7168`, checked by the kernel's evaluation: Lib/Ring.lean `Piece.tiledL`, linear in the pieces, through a loop's `@[irreducible]` trip theorem too), so they cover it. -/
theorem cover0_C_1 (c : Dev nD) (i : grid0.Coords) (arg2 : Memref sig .tc .vmem S256x7168 .bf16) (harg2 : arg2.IsWhole) (arg3 : Memref sig .tc .vmem S256x7168 .fp8e5m2) (harg3 : arg3.IsWhole) (arg4 : Memref sig .tc .smem S1x1 .f32) (harg4 : arg4.IsWhole) (arg5 : Memref sig .tc .vmem S8x7168 .f32) (harg5 : arg5.IsWhole) (arg6 : Memref sig .tc .vmem S8x128 .f32) (harg6 : arg6.IsWhole) (hc0 : ¬cond0_0 i) (hc1 : ¬cond0_1 i) (hc2 : cond0_2 i)
    (x0 : Vec F S256x7168 .bf16) (xs0 : Vec F S8x7168 .f32) (xs1 : Vec F S8x128 .f32) (y : S256x7168.Idx) :
    ∃ pc ∈ (kernelRun0_C c i arg2 harg2 arg3 harg3 arg4 harg4 arg5 harg5 arg6 harg6 hc0 hc1 hc2 x0 xs0 xs1).1, y ∈ pc.1.set :=
  View.cover_of_tiledL (kernelRun0_C c i arg2 harg2 arg3 harg3 arg4 harg4 arg5 harg5 arg6 harg6 hc0 hc1 hc2 x0 xs0 xs1).1 S256x7168.size (by sl_kernel_rfl) y

/-- What case C leaves in output 1's staging buffer: its pieces read back over junk. -/
def out0_C_1 (c : Dev nD) (i : grid0.Coords) (arg2 : Memref sig .tc .vmem S256x7168 .bf16) (harg2 : arg2.IsWhole) (arg3 : Memref sig .tc .vmem S256x7168 .fp8e5m2) (harg3 : arg3.IsWhole) (arg4 : Memref sig .tc .smem S1x1 .f32) (harg4 : arg4.IsWhole) (arg5 : Memref sig .tc .vmem S8x7168 .f32) (harg5 : arg5.IsWhole) (arg6 : Memref sig .tc .vmem S8x128 .f32) (harg6 : arg6.IsWhole) (hc0 : ¬cond0_0 i) (hc1 : ¬cond0_1 i) (hc2 : cond0_2 i)
    (x0 : Vec F S256x7168 .bf16) (xs0 : Vec F S8x7168 .f32) (xs1 : Vec F S8x128 .f32) : Vec F S256x7168 .fp8e5m2 :=
  VO0_1.read (Elt F) (VO0_1.writes (Elt F) VO0_1.junk (kernelRun0_C c i arg2 harg2 arg3 harg3 arg4 harg4 arg5 harg5 arg6 harg6 hc0 hc1 hc2 x0 xs0 xs1).1)

/-! ## What the outputs hold after each point -/

/-- A point of the first sweep is not the point that takes the scale, nor one of the second sweep. -/
theorem notB0 (t : Fin cfg0.N) (h0 : t.val < 32) : ¬cond0_1 (grid0.coords t) := fun h => by
  have := (hcond0_1 t).mp h; omega
theorem notC0 (t : Fin cfg0.N) (h0 : t.val < 32) : ¬cond0_2 (grid0.coords t) := fun h => by
  have := (hcond0_2 t).mp h; omega

/-- What the output windows and the two scratch buffers hold: the codes, the scale, the running maximum, the reciprocal scale. -/
abbrev Tup0 (F : FTy → Type) [FloatOps F] := Vec F S256x7168 .fp8e5m2 × Vec F S1x1 .f32 × Vec F S8x7168 .f32 × Vec F S8x128 .f32

/-- One point of the grid, from what the point before left (`p`): in the first sweep the running maximum takes in the point's
    block; at the first point of the second sweep the scale and its reciprocal are taken from it and the first codes stored;
    at the others the codes of the point's block. -/
def step0 (c : Dev nD) (t : Fin cfg0.N) (p : Tup0 F) : Tup0 F :=
  if h0 : t.val < 32 then
    (p.1, p.2.1, sout0_A_0 c (grid0.coords t) (ms0_0 t) (hs0_0 t) (ms0_1 t) (hs0_1 t) (ms0_2 t) (hs0_2 t) scM0_0 (Memref.isWhole_whole _) scM0_1 (Memref.isWhole_whole _) ((hcond0_0 t).mpr h0) (notB0 t h0) (notC0 t h0) (iblk0 V c 0 t) p.2.2.1, p.2.2.2)
  else if h1 : t.val % 64 = 32 then
    (out0_B_1 c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h1) ((hcond0_2 t).mpr (Nat.le_of_not_lt h0)) (iblk0 V c 0 t) p.2.2.1, out0_B_2 c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h1) ((hcond0_2 t).mpr (Nat.le_of_not_lt h0)) (iblk0 V c 0 t) p.2.2.1, p.2.2.1, sout0_B_1 c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h1) ((hcond0_2 t).mpr (Nat.le_of_not_lt h0)) (iblk0 V c 0 t) p.2.2.1)
  else
    (out0_C_1 c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) (fun h => h1 ((hcond0_1 t).mp h)) ((hcond0_2 t).mpr (Nat.le_of_not_lt h0)) (iblk0 V c 0 t) p.2.2.1 p.2.2.2, p.2.1, p.2.2.1, p.2.2.2)

/-- What they hold before point `n`, from anything before the first. -/
def tr0 (c : Dev nD) : (n : ℕ) → n ≤ cfg0.N → Tup0 F
  | 0, _ => (VO0_1.read (Elt F) VO0_1.junk, VO0_2.read (Elt F) VO0_2.junk, VS0_0.read (Elt F) VS0_0.junk, VS0_1.read (Elt F) VS0_1.junk)
  | n + 1, hn => step0 V c ⟨n, hn⟩ (tr0 c n (Nat.le_of_lt hn))

theorem tr0_succ (c : Dev nD) (t : Fin cfg0.N) : tr0 V c (t.val + 1) t.isLt = step0 V c t (tr0 V c t.val (Nat.le_of_lt t.isLt)) := rfl

theorem tr0_A (c : Dev nD) (t : Fin cfg0.N) (h0 : t.val < 32) :
    tr0 V c (t.val + 1) t.isLt = ((tr0 V c t.val (Nat.le_of_lt t.isLt)).1, (tr0 V c t.val (Nat.le_of_lt t.isLt)).2.1, sout0_A_0 c (grid0.coords t) (ms0_0 t) (hs0_0 t) (ms0_1 t) (hs0_1 t) (ms0_2 t) (hs0_2 t) scM0_0 (Memref.isWhole_whole _) scM0_1 (Memref.isWhole_whole _) ((hcond0_0 t).mpr h0) (notB0 t h0) (notC0 t h0) (iblk0 V c 0 t) (tr0 V c t.val (Nat.le_of_lt t.isLt)).2.2.1, (tr0 V c t.val (Nat.le_of_lt t.isLt)).2.2.2) := by
  rw [tr0_succ]; unfold step0; rw [dif_pos h0]

theorem tr0_B (c : Dev nD) (t : Fin cfg0.N) (h0 : ¬t.val < 32) (h1 : t.val % 64 = 32) :
    tr0 V c (t.val + 1) t.isLt = (out0_B_1 c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h1) ((hcond0_2 t).mpr (Nat.le_of_not_lt h0)) (iblk0 V c 0 t) (tr0 V c t.val (Nat.le_of_lt t.isLt)).2.2.1, out0_B_2 c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h1) ((hcond0_2 t).mpr (Nat.le_of_not_lt h0)) (iblk0 V c 0 t) (tr0 V c t.val (Nat.le_of_lt t.isLt)).2.2.1, (tr0 V c t.val (Nat.le_of_lt t.isLt)).2.2.1, sout0_B_1 c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h1) ((hcond0_2 t).mpr (Nat.le_of_not_lt h0)) (iblk0 V c 0 t) (tr0 V c t.val (Nat.le_of_lt t.isLt)).2.2.1) := by
  rw [tr0_succ]; unfold step0; rw [dif_neg h0, dif_pos h1]

theorem tr0_C (c : Dev nD) (t : Fin cfg0.N) (h0 : ¬t.val < 32) (h1 : ¬t.val % 64 = 32) :
    tr0 V c (t.val + 1) t.isLt = (out0_C_1 c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) (fun h => h1 ((hcond0_1 t).mp h)) ((hcond0_2 t).mpr (Nat.le_of_not_lt h0)) (iblk0 V c 0 t) (tr0 V c t.val (Nat.le_of_lt t.isLt)).2.2.1 (tr0 V c t.val (Nat.le_of_lt t.isLt)).2.2.2, (tr0 V c t.val (Nat.le_of_lt t.isLt)).2.1, (tr0 V c t.val (Nat.le_of_lt t.isLt)).2.2.1, (tr0 V c t.val (Nat.le_of_lt t.isLt)).2.2.2) := by
  rw [tr0_succ]; unfold step0; rw [dif_neg h0, dif_neg h1]

/-- At the first point the running maximum starts at zero: what the scratch held before does not matter. -/
theorem first0 (c : Dev nD) (t : Fin cfg0.N) (hz : t.val = 0) (h0 : t.val < 32) (x : Vec F S256x7168 .bf16) (d d' : Vec F S8x7168 .f32) :
    sout0_A_0 c (grid0.coords t) (ms0_0 t) (hs0_0 t) (ms0_1 t) (hs0_1 t) (ms0_2 t) (hs0_2 t) scM0_0 (Memref.isWhole_whole _) scM0_1 (Memref.isWhole_whole _) ((hcond0_0 t).mpr h0) (notB0 t h0) (notC0 t h0) x d = sout0_A_0 c (grid0.coords t) (ms0_0 t) (hs0_0 t) (ms0_1 t) (hs0_1 t) (ms0_2 t) (hs0_2 t) scM0_0 (Memref.isWhole_whole _) scM0_1 (Memref.isWhole_whole _) ((hcond0_0 t).mpr h0) (notB0 t h0) (notC0 t h0) x d' := by
  have e : grid0.coords t = grid0.coords ⟨0, by decide⟩ := congrArg _ (Fin.ext hz)
  have k : ∀ z : Vec F S8x7168 .f32, sout0_A_0 c (grid0.coords t) (ms0_0 t) (hs0_0 t) (ms0_1 t) (hs0_1 t) (ms0_2 t) (hs0_2 t) scM0_0 (Memref.isWhole_whole _) scM0_1 (Memref.isWhole_whole _) ((hcond0_0 t).mpr h0) (notB0 t h0) (notC0 t h0) x z = k0_pay1 (grid0.coords t) x z := by
    intro z
    frame_out
    exact congrArg (k0_pay1 (grid0.coords t) x) ((Memref.isWhole_whole cc0_scratch0 : Memref.IsWhole _).read_unread (Val := Elt F) z)
  rw [k, k, e]
  rfl

/-- The invariant before point `n`: before the first point every scratch at anything; afterwards the running maximum at what
    the points before left, the reciprocal scale so too once it is taken (at anything before that), every other scoped
    buffer and the generator register at some state. -/
def PhiS0 (c : Dev nD) : (n : ℕ) → n ≤ cfg0.N → sProp 𝕄
  | 0, _ => Pipeline.ΦA spec0 c
  | n + 1, hn => iprop(iprop(owns (c : Thread nD τ) scM0_0 fullShare ((tr0 V c (n + 1) hn).2.2.1) ∗ (∃ d, ⌜32 ≤ n → d = (tr0 V c (n + 1) hn).2.2.2⌝ ∗ owns (c : Thread nD τ) scM0_1 fullShare d) ∗ Pipeline.scopedRestBut spec0 c [cc0_scratch0, cc0_scratch1]) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0_0 fullShare ((tr0 V c (n + 1) hn).2.2.1) ∗ (∃ d, ⌜32 ≤ n → d = (tr0 V c (n + 1) hn).2.2.2⌝ ∗ owns (c : Thread nD τ) scM0_1 fullShare d) ∗ Pipeline.scopedRestBut spec0 c [cc0_scratch0, cc0_scratch1]) ∗ (∃ r, prngReg c r)) := rfl

theorem PhiS0_pos (c : Dev nD) (n : ℕ) (h : n ≤ cfg0.N) (hz : n ≠ 0) :
    PhiS0 V c n h = iprop(iprop(owns (c : Thread nD τ) scM0_0 fullShare ((tr0 V c n h).2.2.1) ∗ (∃ d, ⌜32 < n → d = (tr0 V c n h).2.2.2⌝ ∗ owns (c : Thread nD τ) scM0_1 fullShare d) ∗ Pipeline.scopedRestBut spec0 c [cc0_scratch0, cc0_scratch1]) ∗ (∃ r, prngReg c r)) := by
  cases n with
  | zero => exact absurd rfl hz
  | succ n => rw [PhiS0_succ]; simp only [Nat.lt_succ_iff]

/-! ## The pipeline's proof data -/

/-- The proof data of pipeline 0 on core `c`: the arrays as the region finds them (`V`); after the body at
    point `t` each input's buffer at its block and the outputs' at `outsAt0`; the invariant the class's
    (`PhiS0`: the class's `ΦA` before the first point, then the scoped rest with the carried scratch at `outsAt0`'s component);
    nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => (tr0 V c (t.val + 1) t.isLt).1
    | ⟨2, _⟩ => (tr0 V c (t.val + 1) t.isLt).2.1
  Φ t := PhiS0 V c t.val (Nat.le_of_lt_succ t.isLt)
  q _ := fullShare
  owed _ := 0

/-- The proof data's arrays are the region-entry contents, by projecting the definition (`dsimp`): a region record cites
    this for its arrays rather than have Lean unfold `V`, the fold through @main up to the region's entry. -/
theorem A_eq0 (c : Dev nD) (w : Fin cfg0.W) : (dat0 V c).A w = V c (Pipeline.arrRef spec0 w) := by
  dsimp only [dat0]

/-- The invariant at a point's start (the proof data at `t.castSucc`), restated at `t.val`. -/
theorem PhiS0_castSucc (c : Dev nD) (t : Fin cfg0.N) :
    (dat0 V c).Φ t.castSucc = PhiS0 V c t.val (Nat.le_of_lt t.isLt) := by
  dsimp only [dat0]; exact Pipeline.Dat.Φ_castSucc (PhiS0 V c) t

/-- What the body leaves, window by window (the proof data's `match` reduced by `dsimp`). -/
theorem after0_0 (c : Dev nD) (t : Fin cfg0.N) : (dat0 V c).after 0 t = iblk0 V c 0 t := by dsimp only [dat0]
theorem after0_1 (c : Dev nD) (t : Fin cfg0.N) : (dat0 V c).after 1 t = (tr0 V c (t.val + 1) t.isLt).1 := by dsimp only [dat0]
theorem after0_2 (c : Dev nD) (t : Fin cfg0.N) : (dat0 V c).after 2 t = (tr0 V c (t.val + 1) t.isLt).2.1 := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d

/-- Past the point that takes the scale, window 2's buffer holds it: no later point stores there, and none before the last
    writes it back. -/
theorem before0_2 (c : Dev nD) (d) : ∀ (n : ℕ) (hn : n < cfg0.N), 32 < n →
    (dat0 V c).before 2 ⟨n, hn⟩ d = (tr0 V c n (Nat.le_of_lt hn)).2.1
  | 0, hn, h => absurd h (by omega)
  | n + 1, hn, h => by
    have hN : n + 1 < 64 := lt_of_lt_of_eq hn (show cfg0.N = 64 from N_0)
    have hp : n < cfg0.N := Nat.lt_of_succ_lt hn
    have h0 : ¬n < 32 := by omega
    rw [Dat.before_of_pos (dat0 V c) 2 ⟨n + 1, hn⟩ (Nat.succ_ne_zero n) (noFetch0_2 _) d]
    refine (if_neg (by rw [flush0_2 _ (by show n ≠ 63; omega)]; exact Bool.false_ne_true)).trans ?_
    show (dat0 V c).left 2 ⟨n, hp⟩ d = _
    unfold Dat.left
    by_cases h1 : n % 64 = 32
    · rw [liveAt0_2_B ⟨n, hp⟩ (fun h => h0 ((hcond0_0 ⟨n, hp⟩).mp h)) ((hcond0_1 ⟨n, hp⟩).mpr h1) ((hcond0_2 ⟨n, hp⟩).mpr (Nat.le_of_not_lt h0))]
      exact after0_2 V c ⟨n, hp⟩
    · rw [idleAt0_2_C ⟨n, hp⟩ (fun h => h0 ((hcond0_0 ⟨n, hp⟩).mp h)) (fun h => h1 ((hcond0_1 ⟨n, hp⟩).mp h)) ((hcond0_2 ⟨n, hp⟩).mpr (Nat.le_of_not_lt h0))]
      refine (before0_2 c d n hp ?_).trans (congrArg (fun p => p.2.1) (tr0_C V c ⟨n, hp⟩ h0 h1)).symm
      rcases Nat.lt_or_ge 32 n with h | h
      · exact h
      · exfalso; exact h1 (by rw [show n = 32 by omega])

/-- So a later point gives it back as the pipeline asks: as found, or, where it is written back, as the scale. -/
theorem leaves0_2 (c : Dev nD) (t : Fin cfg0.N) (d) (h0 : ¬t.val < 32) (h1 : ¬t.val % 64 = 32) :
    owns (c : Thread nD τ) (ms0_2 t) fullShare ((dat0 V c).before 2 t d) ⊢ (dat0 V c).leavesExact 2 t := by
  have hN : t.val < 64 := lt_of_lt_of_eq t.isLt (show cfg0.N = 64 from N_0)
  unfold Dat.leavesExact
  rw [idleAt0_2_C t (fun h => h0 ((hcond0_0 t).mp h)) (fun h => h1 ((hcond0_1 t).mp h)) ((hcond0_2 t).mpr (Nat.le_of_not_lt h0))]
  cases hf : (cfg0.win 2).flush t
  · dsimp only
    iintro H; iexists _; iexact H
  · dsimp only
    rw [before0_2 V c d t.val t.isLt (by rcases Nat.lt_or_ge 32 t.val with h | h; exact h; exfalso; exact h1 (by rw [show t.val = 32 by omega])), after0_2, tr0_C V c t h0 h1]

/-! ## The body obligation, at a generic point -/

/-- What the body is called with at point `t` (Lib/Pipeline.lean `BodyObligation`'s precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point: the inputs' memrefs hold their blocks (`before0_W`); the closed forms say which case the point is in (`by_cases`), an output the case reads before covering holds what the point before left (`before0_W_κ`); so the
    run applies; the invariant hands the body the carried scratch at what the point before left (`PhiS0_pos`; at anything at the first point, `PhiS0_zero`), the other scratch buffers and the generator register at some state, and takes the carried scratch back at this point's contents (`PhiS0_succ`, by `scoverK_κ_N`); the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).owesAt () t.succ = (dat0 V c).owesAt () t.castSucc from rfl]
  rw [show (dat0 V c).Φ t.succ = PhiS0 V c (t.val + 1) t.isLt from rfl, PhiS0_succ]
  have hN : t.val < 64 := lt_of_lt_of_eq t.isLt (show cfg0.N = 64 from N_0)
  by_cases h0 : t.val < 32
  · by_cases h1 : t.val % 64 = 32
    · exfalso; omega
    · by_cases h2 : 32 ≤ t.val
      · exfalso; omega
      · rw [show (dat0 V c).leavesExact 0 t = owns (c : Thread nD τ) (ms0_0 t) fullShare ((dat0 V c).after 0 t) from by
          unfold Dat.leavesExact; rw [liveAt0_0 t], after0_0]
        rw [Dat.leavesExact_idle (dat0 V c) 1 t (idleAt0_1_A t ((hcond0_0 t).mpr h0) (fun h => h1 ((hcond0_1 t).mp h)) (fun h => h2 ((hcond0_2 t).mp h))) (noFlush0_1_A t ((hcond0_0 t).mpr h0) (fun h => h1 ((hcond0_1 t).mp h)) (fun h => h2 ((hcond0_2 t).mp h)))]
        rw [Dat.leavesExact_idle (dat0 V c) 2 t (idleAt0_2_A t ((hcond0_0 t).mpr h0) (fun h => h1 ((hcond0_1 t).mp h)) (fun h => h2 ((hcond0_2 t).mp h))) (noFlush0_2_A t ((hcond0_0 t).mpr h0) (fun h => h1 ((hcond0_1 t).mp h)) (fun h => h2 ((hcond0_2 t).mp h)))]
        by_cases hz : t.val = 0
        · rw [PhiS0_castSucc V c t, PhiS0_zero V c _ _ hz, PhiA0_eq]
          rw [tr0_A V c t h0]
          (try dsimp only)
          iintro ⟨⟨⟨⟨%ds0, HS0⟩, ⟨%ds1, HS1⟩, HR2⟩, Hg⟩, Ho, ⟨%d0, H0⟩, ⟨%d1, H1⟩, ⟨%d2, H2⟩⟩
          iapply ((kernelRun0_A c (grid0.coords t) _ _ _ _ _ _ _ _ _ _ ((hcond0_0 t).mpr h0) (fun h => h1 ((hcond0_1 t).mp h)) (fun h => h2 ((hcond0_2 t).mp h)) (iblk0 V c 0 t) _).2.2.2.2 _ _ _ Set.univ _)
          isplitl [H0]; · iexact H0
          isplitl [H1]; · iexact H1
          isplitl [H2]; · iexact H2
          isplitl [HS0]; · iexact HS0
          isplitl [HS1]; · iexact HS1
          iintro ⟨H0, H1, H2, ⟨%es0, HS0⟩, HS1⟩
          isplitl [HS0 HS1 HR2 Hg]
          · isplitl [HS0 HS1 HR2]
            · isplitl [HS0]
              · unfold owns; iexists _; isplitr
                swap; · iexact HS0
                ipureintro; exact (View.read_writes_of_cover _ _ VS0_0 _ _ (scover0_A_0 c _ _ _ _ _ _ _ _ _ _ _ _ _ _ _ _)).trans (first0 c t hz h0 _ _ _)
              isplitl [HS1]
              · iexists _; isplitr
                swap; · iexact HS1
                ipureintro; exact fun h => absurd h (by omega)
              iexact HR2
            iexact Hg
          isplitl [Ho]; · iexact Ho
          isplitl [H0]; · iexact H0
          isplitl [H1]; · iexists _; iexact H1
          iexists _; iexact H2
        · rw [PhiS0_castSucc V c t, PhiS0_pos V c _ _ hz]
          rw [tr0_A V c t h0]
          (try dsimp only)
          iintro ⟨⟨⟨HS0, ⟨%ds1, %hds1, HS1⟩, HR2⟩, Hg⟩, Ho, ⟨%d0, H0⟩, ⟨%d1, H1⟩, ⟨%d2, H2⟩⟩
          iapply ((kernelRun0_A c (grid0.coords t) _ _ _ _ _ _ _ _ _ _ ((hcond0_0 t).mpr h0) (fun h => h1 ((hcond0_1 t).mp h)) (fun h => h2 ((hcond0_2 t).mp h)) (iblk0 V c 0 t) _).2.2.2.2 _ _ _ Set.univ _)
          isplitl [H0]; · iexact H0
          isplitl [H1]; · iexact H1
          isplitl [H2]; · iexact H2
          isplitl [HS0]; · iexact HS0
          isplitl [HS1]; · iexact HS1
          iintro ⟨H0, H1, H2, ⟨%es0, HS0⟩, HS1⟩
          isplitl [HS0 HS1 HR2 Hg]
          · isplitl [HS0 HS1 HR2]
            · isplitl [HS0]
              · unfold owns; iexists _; isplitr
                swap; · iexact HS0
                ipureintro; exact View.read_writes_of_cover _ _ _ _ _ (scover0_A_0 c _ _ _ _ _ _ _ _ _ _ _ _ _ _ _ _)
              isplitl [HS1]
              · iexists _; isplitr
                swap; · iexact HS1
                ipureintro; exact fun h => absurd h (by omega)
              iexact HR2
            iexact Hg
          isplitl [Ho]; · iexact Ho
          isplitl [H0]; · iexact H0
          isplitl [H1]; · iexists _; iexact H1
          iexists _; iexact H2
  · by_cases h1 : t.val % 64 = 32
    · by_cases h2 : 32 ≤ t.val
      · rw [show (dat0 V c).leavesExact 0 t = owns (c : Thread nD τ) (ms0_0 t) fullShare ((dat0 V c).after 0 t) from by
          unfold Dat.leavesExact; rw [liveAt0_0 t], after0_0]
        rw [show (dat0 V c).leavesExact 1 t = owns (c : Thread nD τ) (ms0_1 t) fullShare ((dat0 V c).after 1 t) from by
          unfold Dat.leavesExact; rw [liveAt0_1_B t (fun h => h0 ((hcond0_0 t).mp h)) ((hcond0_1 t).mpr h1) ((hcond0_2 t).mpr h2)], after0_1]
        rw [show (dat0 V c).leavesExact 2 t = owns (c : Thread nD τ) (ms0_2 t) fullShare ((dat0 V c).after 2 t) from by
          unfold Dat.leavesExact; rw [liveAt0_2_B t (fun h => h0 ((hcond0_0 t).mp h)) ((hcond0_1 t).mpr h1) ((hcond0_2 t).mpr h2)], after0_2]
        by_cases hz : t.val = 0
        · exfalso; have hN : t.val < 64 := lt_of_lt_of_eq t.isLt (show cfg0.N = 64 from N_0); omega
        · rw [PhiS0_castSucc V c t, PhiS0_pos V c _ _ hz]
          rw [tr0_B V c t h0 h1]
          (try dsimp only)
          iintro ⟨⟨⟨HS0, ⟨%ds1, %hds1, HS1⟩, HR2⟩, Hg⟩, Ho, ⟨%d0, H0⟩, ⟨%d1, H1⟩, ⟨%d2, H2⟩⟩
          iapply ((kernelRun0_B c (grid0.coords t) _ _ _ _ _ _ _ _ _ _ (fun h => h0 ((hcond0_0 t).mp h)) ((hcond0_1 t).mpr h1) ((hcond0_2 t).mpr h2) (iblk0 V c 0 t) _).2.2.2.2 Set.univ _)
          isplitl [H0]; · iexact H0
          isplitl [H1]; · iexists _; iexact H1
          isplitl [H2]; · iexists _; iexact H2
          isplitl [HS0]; · iexact HS0
          isplitl [HS1]; · iexists _; iexact HS1
          iintro ⟨H0, ⟨%e1, H1⟩, ⟨%e2, H2⟩, HS0, ⟨%es1, HS1⟩⟩
          isplitl [HS0 HS1 HR2 Hg]
          · isplitl [HS0 HS1 HR2]
            · isplitl [HS0]
              · iexact HS0
              isplitl [HS1]
              · iexists _; isplitr
                · ipureintro; exact fun _ => rfl
                unfold owns; iexists _; isplitr
                swap; · iexact HS1
                ipureintro; exact View.read_writes_of_cover _ _ _ _ _ (scover0_B_1 c _ _ _ _ _ _ _ _ _ _ _ _ _ _ _ _)
              iexact HR2
            iexact Hg
          isplitl [Ho]; · iexact Ho
          isplitl [H0]; · iexact H0
          isplitl [H1]
          · unfold owns; iexists _; isplitr
            swap; · iexact H1
            ipureintro; exact View.read_writes_of_cover _ _ _ _ _ (cover0_B_1 c _ _ _ _ _ _ _ _ _ _ _ _ _ _ _ _)
          unfold owns; iexists _; isplitr
          swap; · iexact H2
          ipureintro; exact View.read_writes_of_cover _ _ _ _ _ (cover0_B_2 c _ _ _ _ _ _ _ _ _ _ _ _ _ _ _ _)
      · exfalso; omega
    · by_cases h2 : 32 ≤ t.val
      · rw [show (dat0 V c).leavesExact 0 t = owns (c : Thread nD τ) (ms0_0 t) fullShare ((dat0 V c).after 0 t) from by
          unfold Dat.leavesExact; rw [liveAt0_0 t], after0_0]
        rw [show (dat0 V c).leavesExact 1 t = owns (c : Thread nD τ) (ms0_1 t) fullShare ((dat0 V c).after 1 t) from by
          unfold Dat.leavesExact; rw [liveAt0_1_C t (fun h => h0 ((hcond0_0 t).mp h)) (fun h => h1 ((hcond0_1 t).mp h)) ((hcond0_2 t).mpr h2)], after0_1]
        by_cases hz : t.val = 0
        · exfalso; have hN : t.val < 64 := lt_of_lt_of_eq t.isLt (show cfg0.N = 64 from N_0); omega
        · rw [PhiS0_castSucc V c t, PhiS0_pos V c _ _ hz]
          rw [tr0_C V c t h0 h1]
          (try dsimp only)
          iintro ⟨⟨⟨HS0, ⟨%ds1, %hds1, HS1⟩, HR2⟩, Hg⟩, Ho, ⟨%d0, H0⟩, ⟨%d1, H1⟩, ⟨%d2, H2⟩⟩
          obtain rfl := hds1 (by omega)
          iapply ((kernelRun0_C c (grid0.coords t) _ _ _ _ _ _ _ _ _ _ (fun h => h0 ((hcond0_0 t).mp h)) (fun h => h1 ((hcond0_1 t).mp h)) ((hcond0_2 t).mpr h2) (iblk0 V c 0 t) _ _).2.2.2.2 _ Set.univ _)
          isplitl [H0]; · iexact H0
          isplitl [H1]; · iexists _; iexact H1
          isplitl [H2]; · iexact H2
          isplitl [HS0]; · iexact HS0
          isplitl [HS1]; · iexact HS1
          iintro ⟨H0, ⟨%e1, H1⟩, H2, HS0, HS1⟩
          isplitl [HS0 HS1 HR2 Hg]
          · isplitl [HS0 HS1 HR2]
            · isplitl [HS0]
              · iexact HS0
              isplitl [HS1]
              · iexists _; isplitr
                swap; · iexact HS1
                ipureintro; exact fun _ => rfl
              iexact HR2
            iexact Hg
          isplitl [Ho]; · iexact Ho
          isplitl [H0]; · iexact H0
          isplitl [H1]
          · unfold owns; iexists _; isplitr
            swap; · iexact H1
            ipureintro; exact View.read_writes_of_cover _ _ _ _ _ (cover0_C_1 c _ _ _ _ _ _ _ _ _ _ _ _ _ _ _ _ _)
          iapply (leaves0_2 V c t d2 h0 h1); iexact H2
      · exfalso; omega

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

/-- What the launch hands the region (`ΦA`) is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point but the first the invariant gives `ΦA` back: the carried scratch's named contents are forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS0, ⟨%d, -, HS1⟩, HR⟩, Hg⟩
  isplitl [HS0 HS1 HR]
  · isplitl [HS0]
    · iexists _; iexact HS0
    isplitl [HS1]
    · iexists _; iexact HS1
    iexact HR
  iexact Hg

/-- The same after the last point. -/
theorem hout0 (c : Dev nD) : (dat0 V c).Φ (Fin.last cfg0.N) ⊢ Pipeline.ΦA spec0 c :=
  Phi_out0 V c _ (by rw [Fin.val_last]; have : cfg0.N = 64 := N_0; omega)

end Regions

end Cert.KernelIdeal.Whole

end
-- ==== Proof.Whole.Region1.lean ====
/-
  The call number 1 of the kernel, at any contents `V` that the buffers have when the call is entered: the block of each
  window at a grid point, what the body leaves in its output windows and in the scratch memory it keeps from one point to the
  next, and the proof that the body does so.
-/
module

public import Idealize.ShloMosaic.Lib.Pipeline.ValueKit
public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Whole

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section Regions
-- the TensorCore's buffer contents when a region is entered: the parameter every region's half is stated at, which
-- the run instantiates per region
variable (V : (c : Dev nD) → (b : Ref sig .tc) → Buf (Elt F) ((c : Thread nD τ).loc b))

/-! # REGION 1 of @main: custom_call 1, `cc1_dh` (pipeline 1), at the entry contents `V` — class R -/

/-! ## The windows' blocks -/

/-- Window `w`'s block at point `t`, read off its array as the region finds it (`V`). -/
noncomputable def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch conditions -/

/-- The condition of the body's `scf.if` 0 (`k1_h1`), from the grid coordinates (the skeleton's scalar
    chain substituted). -/
abbrev cond1_0 (i : grid1.Coords) : Prop := k1_cond1 i = 1#1
/-- It holds at the last point only — by arithmetic of the point. -/
theorem hcond1_0 : ∀ t : Fin cfg1.N, cond1_0 (grid1.coords t) ↔ t.val % 80 = 79 :=
  (fun t => by
    have ht : t.val < 80 := Nat.lt_of_lt_of_eq t.isLt N_1
    have e0 : (grid1.coords t 0).val = t.val / 10 % 8 := Pipeline.Grid.coords_val t 0 (by decide) rfl
    have e1 : (grid1.coords t 1).val = t.val / 1 % 10 := Pipeline.Grid.coords_val t 1 (by decide) rfl
    simp only [cond1_0, k1_cond1, e0, e1]
    word_cmp
   : ∀ t : Fin grid1.N, cond1_0 (grid1.coords t) ↔ t.val % 80 = 79)

/-! ## Where the windows are idle (the printed configuration's table `Cfg.idle`) -/

/-- Window 0 is never idle (an input). -/
theorem liveAt1_0 : ∀ t : Fin cfg1.N, cfg1.idle 0 (grid1.coords t) = false := fun _ => rfl
/-- Window 1 is never idle (an input). -/
theorem liveAt1_1 : ∀ t : Fin cfg1.N, cfg1.idle 1 (grid1.coords t) = false := fun _ => rfl
/-- Window 2 is never idle (an input). -/
theorem liveAt1_2 : ∀ t : Fin cfg1.N, cfg1.idle 2 (grid1.coords t) = false := fun _ => rfl
/-- Window 3 is never idle (an input). -/
theorem liveAt1_3 : ∀ t : Fin cfg1.N, cfg1.idle 3 (grid1.coords t) = false := fun _ => rfl
/-- Window 4 is never idle (an input). -/
theorem liveAt1_4 : ∀ t : Fin cfg1.N, cfg1.idle 4 (grid1.coords t) = false := fun _ => rfl
/-- Window 5 is never idle (an input). -/
theorem liveAt1_5 : ∀ t : Fin cfg1.N, cfg1.idle 5 (grid1.coords t) = false := fun _ => rfl
/-- Window 6 is never idle (an output stored at every point, under no condition). -/
theorem liveAt1_6 : ∀ t : Fin cfg1.N, cfg1.idle 6 (grid1.coords t) = false := fun _ => rfl
/-- Window 7 is never idle (an output stored at every point, under no condition). -/
theorem liveAt1_7 : ∀ t : Fin cfg1.N, cfg1.idle 7 (grid1.coords t) = false := fun _ => rfl
/-- At the points of case A the printed configuration (`Cfg.idle`) calls output 8 idle: the case stores nothing into it. -/
theorem idleAt1_8_A : ∀ t : Fin cfg1.N, ¬cond1_0 (grid1.coords t) → cfg1.idle 8 (grid1.coords t) = true := by decide +kernel
/-- At the points of case A the pipeline does not write output 8's block back. -/
theorem noFlush1_8_A : ∀ t : Fin cfg1.N, ¬cond1_0 (grid1.coords t) → (cfg1.win 8).flush t = false := by decide +kernel
/-- At the points of case B the printed configuration (`Cfg.idle`) calls output 8 live: the case stores into it. -/
theorem liveAt1_8_B : ∀ t : Fin cfg1.N, cond1_0 (grid1.coords t) → cfg1.idle 8 (grid1.coords t) = false := by decide +kernel

/-! ## The kernel body on any staging memrefs: a subtype the run finds -/

/-- One staging buffer of output window 6, through which its contents are stated (`View.read_writes_of_cover`: the
    choice does not matter). -/
abbrev VO1_6 : View sig .tc .vmem S1024x512 .f32 := (Memref.whole cc1_stg6_0 : Memref sig .tc .vmem S1024x512 .f32).view
/-- One staging buffer of output window 7, through which its contents are stated (`View.read_writes_of_cover`: the
    choice does not matter). -/
abbrev VO1_7 : View sig .tc .vmem S1024x512 .f32 := (Memref.whole cc1_stg7_0 : Memref sig .tc .vmem S1024x512 .f32).view
/-- One staging buffer of output window 8, through which its contents are stated (`View.read_writes_of_cover`: the
    choice does not matter). -/
abbrev VO1_8 : View sig .tc .smem S1x1 .f32 := (Memref.whole cc1_stg8_0 : Memref sig .tc .smem S1x1 .f32).view
/-- Each window's current staging memref at point `t`, spelled as the pipeline passes it (`bodyAt1`), and its wholeness. -/
abbrev ms1_0 (t : Fin cfg1.N) : Memref sig .tc .smem S1x1 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .smem S1x1 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x7168 .fp8e5m2 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S512x7168 .fp8e4m3 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1024x512 .bf16 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1024x512 .bf16 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1024x512 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S1024x512 .f32 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .smem S1x1 .f32 := win1_8.stage (cfg1.slots t 8)
abbrev hs1_8 (t : Fin cfg1.N) : (ms1_8 t).IsWhole := hstage1_8 ((cfg1.slots t 8).cast nbuf1_8)
/-- The scratch operands: whole scoped buffers of the kernel's own, passed beside the windows. -/
abbrev scM1_0 : Memref sig .tc .vmem S8x512 .f32 := Memref.whole cc1_scratch0
/-- The scratch `arg11` the kernel carries between points, as a view: what it holds is stated through it. -/
abbrev VS1_0 : View sig .tc .vmem S8x512 .f32 := scM1_0.view

/-- `Gen.scopedRest1_split` as ONE chain: the kernel's own scratch buffers, each whole at some contents, then every
    other scoped buffer, unopened (`Pipeline.scopedRestBut`). -/
theorem scopedRest1_flat (c : Dev nD) :
    (Pipeline.scopedRest spec1 c : sProp 𝕄)
      = iprop((∃ f : Buf (Elt F) ((c : Thread nD τ).loc cc1_scratch0), ((c : Thread nD τ).loc cc1_scratch0) ↦{fullShare} f) ∗ Pipeline.scopedRestBut spec1 c [cc1_scratch0]) := by
  rw [scopedRest1_split]

/-- The frame kit's invariant with the scratch operands as memrefs owned at some contents (`Gen.scopedRest1_flat`,
    Lib/Memref.lean `owns_whole`): what the body obligation hands the run and takes back. -/
theorem PhiA1_eq (c : Dev nD) :
    (Pipeline.ΦA spec1 c : sProp 𝕄)
      = iprop(iprop((∃ d, owns (c : Thread nD τ) scM1_0 fullShare d) ∗ Pipeline.scopedRestBut spec1 c [cc1_scratch0]) ∗ (∃ r, prngReg c r)) := by
  unfold Pipeline.ΦA; rw [scopedRest1_flat]; simp only [scM1_0, owns_whole]; try rfl

-- (the run's proof term is large: the definition's epilogue — `abstractNestedProofs` — walks it past the default budget)
set_option maxHeartbeats 1000000 in
/-- What the body's stores leave in each output's staging memref, as pieces (last first) IN CASE A (`scf.if` 0 not taken: points 0, 1, … 78: 79 of 80), WITH the
    proof that on whole staging memrefs — the inputs' at their contents, the outputs it leaves idle (8: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun1_A (c : Dev nD) (i : grid1.Coords) (arg2 : Memref sig .tc .smem S1x1 .f32) (harg2 : arg2.IsWhole) (arg3 : Memref sig .tc .smem S1x1 .f32) (harg3 : arg3.IsWhole) (arg4 : Memref sig .tc .vmem S1024x7168 .fp8e5m2) (harg4 : arg4.IsWhole) (arg5 : Memref sig .tc .vmem S512x7168 .fp8e4m3) (harg5 : arg5.IsWhole) (arg6 : Memref sig .tc .vmem S1024x512 .bf16) (harg6 : arg6.IsWhole) (arg7 : Memref sig .tc .vmem S1024x512 .bf16) (harg7 : arg7.IsWhole) (arg8 : Memref sig .tc .vmem S1024x512 .f32) (harg8 : arg8.IsWhole) (arg9 : Memref sig .tc .vmem S1024x512 .f32) (harg9 : arg9.IsWhole) (arg10 : Memref sig .tc .smem S1x1 .f32) (harg10 : arg10.IsWhole) (arg11 : Memref sig .tc .vmem S8x512 .f32) (harg11 : arg11.IsWhole) (hc0 : ¬cond1_0 i)
    (x0 : Vec F S1x1 .f32) (x1 : Vec F S1x1 .f32) (x2 : Vec F S1024x7168 .fp8e5m2) (x3 : Vec F S512x7168 .fp8e4m3) (x4 : Vec F S1024x512 .bf16) (x5 : Vec F S1024x512 .bf16) (xs0 : Vec F S8x512 .f32) :
    Σ' (L6 : List (View.Piece (Elt F) S1024x512 .f32)), Σ' (L7 : List (View.Piece (Elt F) S1024x512 .f32)), Σ' (L8 : List (View.Piece (Elt F) S1x1 .f32)), { LS0 : List (View.Piece (Elt F) S8x512 .f32) //
      ∀ (xi8 : Vec F S1x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ owns (c : Thread nD τ) arg10 fullShare xi8 ∗ owns (c : Thread nD τ) arg11 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ owns (c : Thread nD τ) arg10 fullShare xi8 ∗ (∃ f, arg11.view.loc (c : Thread nD τ) ↦[arg11.view.set]{fullShare} arg11.view.writes (Elt F) f LS0)) -∗ K ⟨⟩))
          ⊢ wp frame (wpE (defs₀ (F := F)) Variants.none c none) E (cc1_dh i arg2 harg2 arg3 harg3 arg4 harg4 arg5 harg5 arg6 harg6 arg7 harg7 arg8 harg8 arg9 harg9 arg10 harg10 arg11 harg11) K } := by
  refine ⟨?_, ?_, [], ?_, fun xi8 E K => ?run⟩
  case run =>
    simp only [cc1_dh_eq_skeleton]; unfold cc1_dh_skel
    simp only [k1_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%f8, %hf8, H8⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg10.eq_unread hf8; obtain rfl := harg11.eq_unread hfs0
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]; · iexists _; iexact H7
    isplitl [H8]
    · iexists _; isplitr; · ipureintro; exact harg10.read_unread _
      iexact H8
    iexists _; iexact HS0

/-- Case A's pieces for output 6 tile its block (1 store of `S1024x512`, checked by the kernel's evaluation: Lib/Ring.lean `Piece.tiledL`, linear in the pieces, through a loop's `@[irreducible]` trip theorem too), so they cover it. -/
theorem cover1_A_6 (c : Dev nD) (i : grid1.Coords) (arg2 : Memref sig .tc .smem S1x1 .f32) (harg2 : arg2.IsWhole) (arg3 : Memref sig .tc .smem S1x1 .f32) (harg3 : arg3.IsWhole) (arg4 : Memref sig .tc .vmem S1024x7168 .fp8e5m2) (harg4 : arg4.IsWhole) (arg5 : Memref sig .tc .vmem S512x7168 .fp8e4m3) (harg5 : arg5.IsWhole) (arg6 : Memref sig .tc .vmem S1024x512 .bf16) (harg6 : arg6.IsWhole) (arg7 : Memref sig .tc .vmem S1024x512 .bf16) (harg7 : arg7.IsWhole) (arg8 : Memref sig .tc .vmem S1024x512 .f32) (harg8 : arg8.IsWhole) (arg9 : Memref sig .tc .vmem S1024x512 .f32) (harg9 : arg9.IsWhole) (arg10 : Memref sig .tc .smem S1x1 .f32) (harg10 : arg10.IsWhole) (arg11 : Memref sig .tc .vmem S8x512 .f32) (harg11 : arg11.IsWhole) (hc0 : ¬cond1_0 i)
    (x0 : Vec F S1x1 .f32) (x1 : Vec F S1x1 .f32) (x2 : Vec F S1024x7168 .fp8e5m2) (x3 : Vec F S512x7168 .fp8e4m3) (x4 : Vec F S1024x512 .bf16) (x5 : Vec F S1024x512 .bf16) (xs0 : Vec F S8x512 .f32) (y : S1024x512.Idx) :
    ∃ pc ∈ (kernelRun1_A c i arg2 harg2 arg3 harg3 arg4 harg4 arg5 harg5 arg6 harg6 arg7 harg7 arg8 harg8 arg9 harg9 arg10 harg10 arg11 harg11 hc0 x0 x1 x2 x3 x4 x5 xs0).1, y ∈ pc.1.set :=
  View.cover_of_tiledL (kernelRun1_A c i arg2 harg2 arg3 harg3 arg4 harg4 arg5 harg5 arg6 harg6 arg7 harg7 arg8 harg8 arg9 harg9 arg10 harg10 arg11 harg11 hc0 x0 x1 x2 x3 x4 x5 xs0).1 S1024x512.size (by sl_kernel_rfl) y

/-- What case A leaves in output 6's staging buffer: its pieces read back over junk. -/
def out1_A_6 (c : Dev nD) (i : grid1.Coords) (arg2 : Memref sig .tc .smem S1x1 .f32) (harg2 : arg2.IsWhole) (arg3 : Memref sig .tc .smem S1x1 .f32) (harg3 : arg3.IsWhole) (arg4 : Memref sig .tc .vmem S1024x7168 .fp8e5m2) (harg4 : arg4.IsWhole) (arg5 : Memref sig .tc .vmem S512x7168 .fp8e4m3) (harg5 : arg5.IsWhole) (arg6 : Memref sig .tc .vmem S1024x512 .bf16) (harg6 : arg6.IsWhole) (arg7 : Memref sig .tc .vmem S1024x512 .bf16) (harg7 : arg7.IsWhole) (arg8 : Memref sig .tc .vmem S1024x512 .f32) (harg8 : arg8.IsWhole) (arg9 : Memref sig .tc .vmem S1024x512 .f32) (harg9 : arg9.IsWhole) (arg10 : Memref sig .tc .smem S1x1 .f32) (harg10 : arg10.IsWhole) (arg11 : Memref sig .tc .vmem S8x512 .f32) (harg11 : arg11.IsWhole) (hc0 : ¬cond1_0 i)
    (x0 : Vec F S1x1 .f32) (x1 : Vec F S1x1 .f32) (x2 : Vec F S1024x7168 .fp8e5m2) (x3 : Vec F S512x7168 .fp8e4m3) (x4 : Vec F S1024x512 .bf16) (x5 : Vec F S1024x512 .bf16) (xs0 : Vec F S8x512 .f32) : Vec F S1024x512 .f32 :=
  VO1_6.read (Elt F) (VO1_6.writes (Elt F) VO1_6.junk (kernelRun1_A c i arg2 harg2 arg3 harg3 arg4 harg4 arg5 harg5 arg6 harg6 arg7 harg7 arg8 harg8 arg9 harg9 arg10 harg10 arg11 harg11 hc0 x0 x1 x2 x3 x4 x5 xs0).1)

/-- Case A's pieces for output 7 tile its block (1 store of `S1024x512`, checked by the kernel's evaluation: Lib/Ring.lean `Piece.tiledL`, linear in the pieces, through a loop's `@[irreducible]` trip theorem too), so they cover it. -/
theorem cover1_A_7 (c : Dev nD) (i : grid1.Coords) (arg2 : Memref sig .tc .smem S1x1 .f32) (harg2 : arg2.IsWhole) (arg3 : Memref sig .tc .smem S1x1 .f32) (harg3 : arg3.IsWhole) (arg4 : Memref sig .tc .vmem S1024x7168 .fp8e5m2) (harg4 : arg4.IsWhole) (arg5 : Memref sig .tc .vmem S512x7168 .fp8e4m3) (harg5 : arg5.IsWhole) (arg6 : Memref sig .tc .vmem S1024x512 .bf16) (harg6 : arg6.IsWhole) (arg7 : Memref sig .tc .vmem S1024x512 .bf16) (harg7 : arg7.IsWhole) (arg8 : Memref sig .tc .vmem S1024x512 .f32) (harg8 : arg8.IsWhole) (arg9 : Memref sig .tc .vmem S1024x512 .f32) (harg9 : arg9.IsWhole) (arg10 : Memref sig .tc .smem S1x1 .f32) (harg10 : arg10.IsWhole) (arg11 : Memref sig .tc .vmem S8x512 .f32) (harg11 : arg11.IsWhole) (hc0 : ¬cond1_0 i)
    (x0 : Vec F S1x1 .f32) (x1 : Vec F S1x1 .f32) (x2 : Vec F S1024x7168 .fp8e5m2) (x3 : Vec F S512x7168 .fp8e4m3) (x4 : Vec F S1024x512 .bf16) (x5 : Vec F S1024x512 .bf16) (xs0 : Vec F S8x512 .f32) (y : S1024x512.Idx) :
    ∃ pc ∈ (kernelRun1_A c i arg2 harg2 arg3 harg3 arg4 harg4 arg5 harg5 arg6 harg6 arg7 harg7 arg8 harg8 arg9 harg9 arg10 harg10 arg11 harg11 hc0 x0 x1 x2 x3 x4 x5 xs0).2.1, y ∈ pc.1.set :=
  View.cover_of_tiledL (kernelRun1_A c i arg2 harg2 arg3 harg3 arg4 harg4 arg5 harg5 arg6 harg6 arg7 harg7 arg8 harg8 arg9 harg9 arg10 harg10 arg11 harg11 hc0 x0 x1 x2 x3 x4 x5 xs0).2.1 S1024x512.size (by sl_kernel_rfl) y

/-- What case A leaves in output 7's staging buffer: its pieces read back over junk. -/
def out1_A_7 (c : Dev nD) (i : grid1.Coords) (arg2 : Memref sig .tc .smem S1x1 .f32) (harg2 : arg2.IsWhole) (arg3 : Memref sig .tc .smem S1x1 .f32) (harg3 : arg3.IsWhole) (arg4 : Memref sig .tc .vmem S1024x7168 .fp8e5m2) (harg4 : arg4.IsWhole) (arg5 : Memref sig .tc .vmem S512x7168 .fp8e4m3) (harg5 : arg5.IsWhole) (arg6 : Memref sig .tc .vmem S1024x512 .bf16) (harg6 : arg6.IsWhole) (arg7 : Memref sig .tc .vmem S1024x512 .bf16) (harg7 : arg7.IsWhole) (arg8 : Memref sig .tc .vmem S1024x512 .f32) (harg8 : arg8.IsWhole) (arg9 : Memref sig .tc .vmem S1024x512 .f32) (harg9 : arg9.IsWhole) (arg10 : Memref sig .tc .smem S1x1 .f32) (harg10 : arg10.IsWhole) (arg11 : Memref sig .tc .vmem S8x512 .f32) (harg11 : arg11.IsWhole) (hc0 : ¬cond1_0 i)
    (x0 : Vec F S1x1 .f32) (x1 : Vec F S1x1 .f32) (x2 : Vec F S1024x7168 .fp8e5m2) (x3 : Vec F S512x7168 .fp8e4m3) (x4 : Vec F S1024x512 .bf16) (x5 : Vec F S1024x512 .bf16) (xs0 : Vec F S8x512 .f32) : Vec F S1024x512 .f32 :=
  VO1_7.read (Elt F) (VO1_7.writes (Elt F) VO1_7.junk (kernelRun1_A c i arg2 harg2 arg3 harg3 arg4 harg4 arg5 harg5 arg6 harg6 arg7 harg7 arg8 harg8 arg9 harg9 arg10 harg10 arg11 harg11 hc0 x0 x1 x2 x3 x4 x5 xs0).2.1)

/-- Case A's pieces for scratch `arg11`, which the kernel carries between points, cover it: 1 piece of `S8x512` tiling it (Lib/Ring.lean `Piece.tiledL`). -/
theorem scover1_A_0 (c : Dev nD) (i : grid1.Coords) (arg2 : Memref sig .tc .smem S1x1 .f32) (harg2 : arg2.IsWhole) (arg3 : Memref sig .tc .smem S1x1 .f32) (harg3 : arg3.IsWhole) (arg4 : Memref sig .tc .vmem S1024x7168 .fp8e5m2) (harg4 : arg4.IsWhole) (arg5 : Memref sig .tc .vmem S512x7168 .fp8e4m3) (harg5 : arg5.IsWhole) (arg6 : Memref sig .tc .vmem S1024x512 .bf16) (harg6 : arg6.IsWhole) (arg7 : Memref sig .tc .vmem S1024x512 .bf16) (harg7 : arg7.IsWhole) (arg8 : Memref sig .tc .vmem S1024x512 .f32) (harg8 : arg8.IsWhole) (arg9 : Memref sig .tc .vmem S1024x512 .f32) (harg9 : arg9.IsWhole) (arg10 : Memref sig .tc .smem S1x1 .f32) (harg10 : arg10.IsWhole) (arg11 : Memref sig .tc .vmem S8x512 .f32) (harg11 : arg11.IsWhole) (hc0 : ¬cond1_0 i)
    (x0 : Vec F S1x1 .f32) (x1 : Vec F S1x1 .f32) (x2 : Vec F S1024x7168 .fp8e5m2) (x3 : Vec F S512x7168 .fp8e4m3) (x4 : Vec F S1024x512 .bf16) (x5 : Vec F S1024x512 .bf16) (xs0 : Vec F S8x512 .f32) (y : S8x512.Idx) :
    ∃ pc ∈ (kernelRun1_A c i arg2 harg2 arg3 harg3 arg4 harg4 arg5 harg5 arg6 harg6 arg7 harg7 arg8 harg8 arg9 harg9 arg10 harg10 arg11 harg11 hc0 x0 x1 x2 x3 x4 x5 xs0).2.2.2.1, y ∈ pc.1.set :=
  View.cover_of_tiledL (kernelRun1_A c i arg2 harg2 arg3 harg3 arg4 harg4 arg5 harg5 arg6 harg6 arg7 harg7 arg8 harg8 arg9 harg9 arg10 harg10 arg11 harg11 hc0 x0 x1 x2 x3 x4 x5 xs0).2.2.2.1 S8x512.size (by sl_kernel_rfl) y

/-- What case A leaves in scratch `arg11`: its pieces read back over junk. -/
def sout1_A_0 (c : Dev nD) (i : grid1.Coords) (arg2 : Memref sig .tc .smem S1x1 .f32) (harg2 : arg2.IsWhole) (arg3 : Memref sig .tc .smem S1x1 .f32) (harg3 : arg3.IsWhole) (arg4 : Memref sig .tc .vmem S1024x7168 .fp8e5m2) (harg4 : arg4.IsWhole) (arg5 : Memref sig .tc .vmem S512x7168 .fp8e4m3) (harg5 : arg5.IsWhole) (arg6 : Memref sig .tc .vmem S1024x512 .bf16) (harg6 : arg6.IsWhole) (arg7 : Memref sig .tc .vmem S1024x512 .bf16) (harg7 : arg7.IsWhole) (arg8 : Memref sig .tc .vmem S1024x512 .f32) (harg8 : arg8.IsWhole) (arg9 : Memref sig .tc .vmem S1024x512 .f32) (harg9 : arg9.IsWhole) (arg10 : Memref sig .tc .smem S1x1 .f32) (harg10 : arg10.IsWhole) (arg11 : Memref sig .tc .vmem S8x512 .f32) (harg11 : arg11.IsWhole) (hc0 : ¬cond1_0 i)
    (x0 : Vec F S1x1 .f32) (x1 : Vec F S1x1 .f32) (x2 : Vec F S1024x7168 .fp8e5m2) (x3 : Vec F S512x7168 .fp8e4m3) (x4 : Vec F S1024x512 .bf16) (x5 : Vec F S1024x512 .bf16) (xs0 : Vec F S8x512 .f32) : Vec F S8x512 .f32 :=
  VS1_0.read (Elt F) (VS1_0.writes (Elt F) VS1_0.junk (kernelRun1_A c i arg2 harg2 arg3 harg3 arg4 harg4 arg5 harg5 arg6 harg6 arg7 harg7 arg8 harg8 arg9 harg9 arg10 harg10 arg11 harg11 hc0 x0 x1 x2 x3 x4 x5 xs0).2.2.2.1)

-- (the run's proof term is large: the definition's epilogue — `abstractNestedProofs` — walks it past the default budget)
set_option maxHeartbeats 1000000 in
/-- What the body's stores leave in each output's staging memref, as pieces (last first) IN CASE B (`scf.if` 0 taken: points 79), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun1_B (c : Dev nD) (i : grid1.Coords) (arg2 : Memref sig .tc .smem S1x1 .f32) (harg2 : arg2.IsWhole) (arg3 : Memref sig .tc .smem S1x1 .f32) (harg3 : arg3.IsWhole) (arg4 : Memref sig .tc .vmem S1024x7168 .fp8e5m2) (harg4 : arg4.IsWhole) (arg5 : Memref sig .tc .vmem S512x7168 .fp8e4m3) (harg5 : arg5.IsWhole) (arg6 : Memref sig .tc .vmem S1024x512 .bf16) (harg6 : arg6.IsWhole) (arg7 : Memref sig .tc .vmem S1024x512 .bf16) (harg7 : arg7.IsWhole) (arg8 : Memref sig .tc .vmem S1024x512 .f32) (harg8 : arg8.IsWhole) (arg9 : Memref sig .tc .vmem S1024x512 .f32) (harg9 : arg9.IsWhole) (arg10 : Memref sig .tc .smem S1x1 .f32) (harg10 : arg10.IsWhole) (arg11 : Memref sig .tc .vmem S8x512 .f32) (harg11 : arg11.IsWhole) (hc0 : cond1_0 i)
    (x0 : Vec F S1x1 .f32) (x1 : Vec F S1x1 .f32) (x2 : Vec F S1024x7168 .fp8e5m2) (x3 : Vec F S512x7168 .fp8e4m3) (x4 : Vec F S1024x512 .bf16) (x5 : Vec F S1024x512 .bf16) (xs0 : Vec F S8x512 .f32) :
    Σ' (L6 : List (View.Piece (Elt F) S1024x512 .f32)), Σ' (L7 : List (View.Piece (Elt F) S1024x512 .f32)), Σ' (L8 : List (View.Piece (Elt F) S1x1 .f32)), { LS0 : List (View.Piece (Elt F) S8x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ owns (c : Thread nD τ) arg11 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f LS0)) -∗ K ⟨⟩))
          ⊢ wp frame (wpE (defs₀ (F := F)) Variants.none c none) E (cc1_dh i arg2 harg2 arg3 harg3 arg4 harg4 arg5 harg5 arg6 harg6 arg7 harg7 arg8 harg8 arg9 harg9 arg10 harg10 arg11 harg11) K } := by
  refine ⟨?_, ?_, ?_, ?_, fun E K => ?run⟩
  case run =>
    simp only [cc1_dh_eq_skeleton]; unfold cc1_dh_skel
    simp only [k1_part3_eq_skeleton, k1_part1_eq_skeleton, k1_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg11.eq_unread hfs0
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]; · iexists _; iexact H7
    isplitl [H8]; · iexists _; iexact H8
    iexists _; iexact HS0

/-- Case B's pieces for output 6 tile its block (1 store of `S1024x512`, checked by the kernel's evaluation: Lib/Ring.lean `Piece.tiledL`, linear in the pieces, through a loop's `@[irreducible]` trip theorem too), so they cover it. -/
theorem cover1_B_6 (c : Dev nD) (i : grid1.Coords) (arg2 : Memref sig .tc .smem S1x1 .f32) (harg2 : arg2.IsWhole) (arg3 : Memref sig .tc .smem S1x1 .f32) (harg3 : arg3.IsWhole) (arg4 : Memref sig .tc .vmem S1024x7168 .fp8e5m2) (harg4 : arg4.IsWhole) (arg5 : Memref sig .tc .vmem S512x7168 .fp8e4m3) (harg5 : arg5.IsWhole) (arg6 : Memref sig .tc .vmem S1024x512 .bf16) (harg6 : arg6.IsWhole) (arg7 : Memref sig .tc .vmem S1024x512 .bf16) (harg7 : arg7.IsWhole) (arg8 : Memref sig .tc .vmem S1024x512 .f32) (harg8 : arg8.IsWhole) (arg9 : Memref sig .tc .vmem S1024x512 .f32) (harg9 : arg9.IsWhole) (arg10 : Memref sig .tc .smem S1x1 .f32) (harg10 : arg10.IsWhole) (arg11 : Memref sig .tc .vmem S8x512 .f32) (harg11 : arg11.IsWhole) (hc0 : cond1_0 i)
    (x0 : Vec F S1x1 .f32) (x1 : Vec F S1x1 .f32) (x2 : Vec F S1024x7168 .fp8e5m2) (x3 : Vec F S512x7168 .fp8e4m3) (x4 : Vec F S1024x512 .bf16) (x5 : Vec F S1024x512 .bf16) (xs0 : Vec F S8x512 .f32) (y : S1024x512.Idx) :
    ∃ pc ∈ (kernelRun1_B c i arg2 harg2 arg3 harg3 arg4 harg4 arg5 harg5 arg6 harg6 arg7 harg7 arg8 harg8 arg9 harg9 arg10 harg10 arg11 harg11 hc0 x0 x1 x2 x3 x4 x5 xs0).1, y ∈ pc.1.set :=
  View.cover_of_tiledL (kernelRun1_B c i arg2 harg2 arg3 harg3 arg4 harg4 arg5 harg5 arg6 harg6 arg7 harg7 arg8 harg8 arg9 harg9 arg10 harg10 arg11 harg11 hc0 x0 x1 x2 x3 x4 x5 xs0).1 S1024x512.size (by sl_kernel_rfl) y

/-- What case B leaves in output 6's staging buffer: its pieces read back over junk. -/
def out1_B_6 (c : Dev nD) (i : grid1.Coords) (arg2 : Memref sig .tc .smem S1x1 .f32) (harg2 : arg2.IsWhole) (arg3 : Memref sig .tc .smem S1x1 .f32) (harg3 : arg3.IsWhole) (arg4 : Memref sig .tc .vmem S1024x7168 .fp8e5m2) (harg4 : arg4.IsWhole) (arg5 : Memref sig .tc .vmem S512x7168 .fp8e4m3) (harg5 : arg5.IsWhole) (arg6 : Memref sig .tc .vmem S1024x512 .bf16) (harg6 : arg6.IsWhole) (arg7 : Memref sig .tc .vmem S1024x512 .bf16) (harg7 : arg7.IsWhole) (arg8 : Memref sig .tc .vmem S1024x512 .f32) (harg8 : arg8.IsWhole) (arg9 : Memref sig .tc .vmem S1024x512 .f32) (harg9 : arg9.IsWhole) (arg10 : Memref sig .tc .smem S1x1 .f32) (harg10 : arg10.IsWhole) (arg11 : Memref sig .tc .vmem S8x512 .f32) (harg11 : arg11.IsWhole) (hc0 : cond1_0 i)
    (x0 : Vec F S1x1 .f32) (x1 : Vec F S1x1 .f32) (x2 : Vec F S1024x7168 .fp8e5m2) (x3 : Vec F S512x7168 .fp8e4m3) (x4 : Vec F S1024x512 .bf16) (x5 : Vec F S1024x512 .bf16) (xs0 : Vec F S8x512 .f32) : Vec F S1024x512 .f32 :=
  VO1_6.read (Elt F) (VO1_6.writes (Elt F) VO1_6.junk (kernelRun1_B c i arg2 harg2 arg3 harg3 arg4 harg4 arg5 harg5 arg6 harg6 arg7 harg7 arg8 harg8 arg9 harg9 arg10 harg10 arg11 harg11 hc0 x0 x1 x2 x3 x4 x5 xs0).1)

/-- Case B's pieces for output 7 tile its block (1 store of `S1024x512`, checked by the kernel's evaluation: Lib/Ring.lean `Piece.tiledL`, linear in the pieces, through a loop's `@[irreducible]` trip theorem too), so they cover it. -/
theorem cover1_B_7 (c : Dev nD) (i : grid1.Coords) (arg2 : Memref sig .tc .smem S1x1 .f32) (harg2 : arg2.IsWhole) (arg3 : Memref sig .tc .smem S1x1 .f32) (harg3 : arg3.IsWhole) (arg4 : Memref sig .tc .vmem S1024x7168 .fp8e5m2) (harg4 : arg4.IsWhole) (arg5 : Memref sig .tc .vmem S512x7168 .fp8e4m3) (harg5 : arg5.IsWhole) (arg6 : Memref sig .tc .vmem S1024x512 .bf16) (harg6 : arg6.IsWhole) (arg7 : Memref sig .tc .vmem S1024x512 .bf16) (harg7 : arg7.IsWhole) (arg8 : Memref sig .tc .vmem S1024x512 .f32) (harg8 : arg8.IsWhole) (arg9 : Memref sig .tc .vmem S1024x512 .f32) (harg9 : arg9.IsWhole) (arg10 : Memref sig .tc .smem S1x1 .f32) (harg10 : arg10.IsWhole) (arg11 : Memref sig .tc .vmem S8x512 .f32) (harg11 : arg11.IsWhole) (hc0 : cond1_0 i)
    (x0 : Vec F S1x1 .f32) (x1 : Vec F S1x1 .f32) (x2 : Vec F S1024x7168 .fp8e5m2) (x3 : Vec F S512x7168 .fp8e4m3) (x4 : Vec F S1024x512 .bf16) (x5 : Vec F S1024x512 .bf16) (xs0 : Vec F S8x512 .f32) (y : S1024x512.Idx) :
    ∃ pc ∈ (kernelRun1_B c i arg2 harg2 arg3 harg3 arg4 harg4 arg5 harg5 arg6 harg6 arg7 harg7 arg8 harg8 arg9 harg9 arg10 harg10 arg11 harg11 hc0 x0 x1 x2 x3 x4 x5 xs0).2.1, y ∈ pc.1.set :=
  View.cover_of_tiledL (kernelRun1_B c i arg2 harg2 arg3 harg3 arg4 harg4 arg5 harg5 arg6 harg6 arg7 harg7 arg8 harg8 arg9 harg9 arg10 harg10 arg11 harg11 hc0 x0 x1 x2 x3 x4 x5 xs0).2.1 S1024x512.size (by sl_kernel_rfl) y

/-- What case B leaves in output 7's staging buffer: its pieces read back over junk. -/
def out1_B_7 (c : Dev nD) (i : grid1.Coords) (arg2 : Memref sig .tc .smem S1x1 .f32) (harg2 : arg2.IsWhole) (arg3 : Memref sig .tc .smem S1x1 .f32) (harg3 : arg3.IsWhole) (arg4 : Memref sig .tc .vmem S1024x7168 .fp8e5m2) (harg4 : arg4.IsWhole) (arg5 : Memref sig .tc .vmem S512x7168 .fp8e4m3) (harg5 : arg5.IsWhole) (arg6 : Memref sig .tc .vmem S1024x512 .bf16) (harg6 : arg6.IsWhole) (arg7 : Memref sig .tc .vmem S1024x512 .bf16) (harg7 : arg7.IsWhole) (arg8 : Memref sig .tc .vmem S1024x512 .f32) (harg8 : arg8.IsWhole) (arg9 : Memref sig .tc .vmem S1024x512 .f32) (harg9 : arg9.IsWhole) (arg10 : Memref sig .tc .smem S1x1 .f32) (harg10 : arg10.IsWhole) (arg11 : Memref sig .tc .vmem S8x512 .f32) (harg11 : arg11.IsWhole) (hc0 : cond1_0 i)
    (x0 : Vec F S1x1 .f32) (x1 : Vec F S1x1 .f32) (x2 : Vec F S1024x7168 .fp8e5m2) (x3 : Vec F S512x7168 .fp8e4m3) (x4 : Vec F S1024x512 .bf16) (x5 : Vec F S1024x512 .bf16) (xs0 : Vec F S8x512 .f32) : Vec F S1024x512 .f32 :=
  VO1_7.read (Elt F) (VO1_7.writes (Elt F) VO1_7.junk (kernelRun1_B c i arg2 harg2 arg3 harg3 arg4 harg4 arg5 harg5 arg6 harg6 arg7 harg7 arg8 harg8 arg9 harg9 arg10 harg10 arg11 harg11 hc0 x0 x1 x2 x3 x4 x5 xs0).2.1)

/-- Case B's pieces for output 8 tile its block (1 store of `S1x1`, checked by the kernel's evaluation: Lib/Ring.lean `Piece.tiledL`, linear in the pieces, through a loop's `@[irreducible]` trip theorem too), so they cover it. -/
theorem cover1_B_8 (c : Dev nD) (i : grid1.Coords) (arg2 : Memref sig .tc .smem S1x1 .f32) (harg2 : arg2.IsWhole) (arg3 : Memref sig .tc .smem S1x1 .f32) (harg3 : arg3.IsWhole) (arg4 : Memref sig .tc .vmem S1024x7168 .fp8e5m2) (harg4 : arg4.IsWhole) (arg5 : Memref sig .tc .vmem S512x7168 .fp8e4m3) (harg5 : arg5.IsWhole) (arg6 : Memref sig .tc .vmem S1024x512 .bf16) (harg6 : arg6.IsWhole) (arg7 : Memref sig .tc .vmem S1024x512 .bf16) (harg7 : arg7.IsWhole) (arg8 : Memref sig .tc .vmem S1024x512 .f32) (harg8 : arg8.IsWhole) (arg9 : Memref sig .tc .vmem S1024x512 .f32) (harg9 : arg9.IsWhole) (arg10 : Memref sig .tc .smem S1x1 .f32) (harg10 : arg10.IsWhole) (arg11 : Memref sig .tc .vmem S8x512 .f32) (harg11 : arg11.IsWhole) (hc0 : cond1_0 i)
    (x0 : Vec F S1x1 .f32) (x1 : Vec F S1x1 .f32) (x2 : Vec F S1024x7168 .fp8e5m2) (x3 : Vec F S512x7168 .fp8e4m3) (x4 : Vec F S1024x512 .bf16) (x5 : Vec F S1024x512 .bf16) (xs0 : Vec F S8x512 .f32) (y : S1x1.Idx) :
    ∃ pc ∈ (kernelRun1_B c i arg2 harg2 arg3 harg3 arg4 harg4 arg5 harg5 arg6 harg6 arg7 harg7 arg8 harg8 arg9 harg9 arg10 harg10 arg11 harg11 hc0 x0 x1 x2 x3 x4 x5 xs0).2.2.1, y ∈ pc.1.set :=
  View.cover_of_tiledL (kernelRun1_B c i arg2 harg2 arg3 harg3 arg4 harg4 arg5 harg5 arg6 harg6 arg7 harg7 arg8 harg8 arg9 harg9 arg10 harg10 arg11 harg11 hc0 x0 x1 x2 x3 x4 x5 xs0).2.2.1 S1x1.size (by sl_kernel_rfl) y

/-- What case B leaves in output 8's staging buffer: its pieces read back over junk. -/
def out1_B_8 (c : Dev nD) (i : grid1.Coords) (arg2 : Memref sig .tc .smem S1x1 .f32) (harg2 : arg2.IsWhole) (arg3 : Memref sig .tc .smem S1x1 .f32) (harg3 : arg3.IsWhole) (arg4 : Memref sig .tc .vmem S1024x7168 .fp8e5m2) (harg4 : arg4.IsWhole) (arg5 : Memref sig .tc .vmem S512x7168 .fp8e4m3) (harg5 : arg5.IsWhole) (arg6 : Memref sig .tc .vmem S1024x512 .bf16) (harg6 : arg6.IsWhole) (arg7 : Memref sig .tc .vmem S1024x512 .bf16) (harg7 : arg7.IsWhole) (arg8 : Memref sig .tc .vmem S1024x512 .f32) (harg8 : arg8.IsWhole) (arg9 : Memref sig .tc .vmem S1024x512 .f32) (harg9 : arg9.IsWhole) (arg10 : Memref sig .tc .smem S1x1 .f32) (harg10 : arg10.IsWhole) (arg11 : Memref sig .tc .vmem S8x512 .f32) (harg11 : arg11.IsWhole) (hc0 : cond1_0 i)
    (x0 : Vec F S1x1 .f32) (x1 : Vec F S1x1 .f32) (x2 : Vec F S1024x7168 .fp8e5m2) (x3 : Vec F S512x7168 .fp8e4m3) (x4 : Vec F S1024x512 .bf16) (x5 : Vec F S1024x512 .bf16) (xs0 : Vec F S8x512 .f32) : Vec F S1x1 .f32 :=
  VO1_8.read (Elt F) (VO1_8.writes (Elt F) VO1_8.junk (kernelRun1_B c i arg2 harg2 arg3 harg3 arg4 harg4 arg5 harg5 arg6 harg6 arg7 harg7 arg8 harg8 arg9 harg9 arg10 harg10 arg11 harg11 hc0 x0 x1 x2 x3 x4 x5 xs0).2.2.1)

/-- Case B's pieces for scratch `arg11`, which the kernel carries between points, cover it: 1 piece of `S8x512` tiling it (Lib/Ring.lean `Piece.tiledL`). -/
theorem scover1_B_0 (c : Dev nD) (i : grid1.Coords) (arg2 : Memref sig .tc .smem S1x1 .f32) (harg2 : arg2.IsWhole) (arg3 : Memref sig .tc .smem S1x1 .f32) (harg3 : arg3.IsWhole) (arg4 : Memref sig .tc .vmem S1024x7168 .fp8e5m2) (harg4 : arg4.IsWhole) (arg5 : Memref sig .tc .vmem S512x7168 .fp8e4m3) (harg5 : arg5.IsWhole) (arg6 : Memref sig .tc .vmem S1024x512 .bf16) (harg6 : arg6.IsWhole) (arg7 : Memref sig .tc .vmem S1024x512 .bf16) (harg7 : arg7.IsWhole) (arg8 : Memref sig .tc .vmem S1024x512 .f32) (harg8 : arg8.IsWhole) (arg9 : Memref sig .tc .vmem S1024x512 .f32) (harg9 : arg9.IsWhole) (arg10 : Memref sig .tc .smem S1x1 .f32) (harg10 : arg10.IsWhole) (arg11 : Memref sig .tc .vmem S8x512 .f32) (harg11 : arg11.IsWhole) (hc0 : cond1_0 i)
    (x0 : Vec F S1x1 .f32) (x1 : Vec F S1x1 .f32) (x2 : Vec F S1024x7168 .fp8e5m2) (x3 : Vec F S512x7168 .fp8e4m3) (x4 : Vec F S1024x512 .bf16) (x5 : Vec F S1024x512 .bf16) (xs0 : Vec F S8x512 .f32) (y : S8x512.Idx) :
    ∃ pc ∈ (kernelRun1_B c i arg2 harg2 arg3 harg3 arg4 harg4 arg5 harg5 arg6 harg6 arg7 harg7 arg8 harg8 arg9 harg9 arg10 harg10 arg11 harg11 hc0 x0 x1 x2 x3 x4 x5 xs0).2.2.2.1, y ∈ pc.1.set :=
  View.cover_of_tiledL (kernelRun1_B c i arg2 harg2 arg3 harg3 arg4 harg4 arg5 harg5 arg6 harg6 arg7 harg7 arg8 harg8 arg9 harg9 arg10 harg10 arg11 harg11 hc0 x0 x1 x2 x3 x4 x5 xs0).2.2.2.1 S8x512.size (by sl_kernel_rfl) y

/-- What case B leaves in scratch `arg11`: its pieces read back over junk. -/
def sout1_B_0 (c : Dev nD) (i : grid1.Coords) (arg2 : Memref sig .tc .smem S1x1 .f32) (harg2 : arg2.IsWhole) (arg3 : Memref sig .tc .smem S1x1 .f32) (harg3 : arg3.IsWhole) (arg4 : Memref sig .tc .vmem S1024x7168 .fp8e5m2) (harg4 : arg4.IsWhole) (arg5 : Memref sig .tc .vmem S512x7168 .fp8e4m3) (harg5 : arg5.IsWhole) (arg6 : Memref sig .tc .vmem S1024x512 .bf16) (harg6 : arg6.IsWhole) (arg7 : Memref sig .tc .vmem S1024x512 .bf16) (harg7 : arg7.IsWhole) (arg8 : Memref sig .tc .vmem S1024x512 .f32) (harg8 : arg8.IsWhole) (arg9 : Memref sig .tc .vmem S1024x512 .f32) (harg9 : arg9.IsWhole) (arg10 : Memref sig .tc .smem S1x1 .f32) (harg10 : arg10.IsWhole) (arg11 : Memref sig .tc .vmem S8x512 .f32) (harg11 : arg11.IsWhole) (hc0 : cond1_0 i)
    (x0 : Vec F S1x1 .f32) (x1 : Vec F S1x1 .f32) (x2 : Vec F S1024x7168 .fp8e5m2) (x3 : Vec F S512x7168 .fp8e4m3) (x4 : Vec F S1024x512 .bf16) (x5 : Vec F S1024x512 .bf16) (xs0 : Vec F S8x512 .f32) : Vec F S8x512 .f32 :=
  VS1_0.read (Elt F) (VS1_0.writes (Elt F) VS1_0.junk (kernelRun1_B c i arg2 harg2 arg3 harg3 arg4 harg4 arg5 harg5 arg6 harg6 arg7 harg7 arg8 harg8 arg9 harg9 arg10 harg10 arg11 harg11 hc0 x0 x1 x2 x3 x4 x5 xs0).2.2.2.1)

/-! ## What the outputs hold after each point -/

/-- What the output windows and the scratch buffer hold: the two halves of the gradient's block, the scale, the running maximum. -/
abbrev Tup1 (F : FTy → Type) [FloatOps F] := Vec F S1024x512 .f32 × Vec F S1024x512 .f32 × Vec F S1x1 .f32 × Vec F S8x512 .f32

/-- One point of the grid, from what the point before left (`p`): the two blocks are stored and the running maximum takes them
    in; at the last point the scale is taken from it. -/
def step1 (c : Dev nD) (t : Fin cfg1.N) (p : Tup1 F) : Tup1 F :=
  if h0 : t.val % 80 = 79 then
    (out1_B_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) ((hcond1_0 t).mpr h0) (iblk1 V c 0 t) (iblk1 V c 1 t) (iblk1 V c 2 t) (iblk1 V c 3 t) (iblk1 V c 4 t) (iblk1 V c 5 t) p.2.2.2, out1_B_7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) ((hcond1_0 t).mpr h0) (iblk1 V c 0 t) (iblk1 V c 1 t) (iblk1 V c 2 t) (iblk1 V c 3 t) (iblk1 V c 4 t) (iblk1 V c 5 t) p.2.2.2, out1_B_8 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) ((hcond1_0 t).mpr h0) (iblk1 V c 0 t) (iblk1 V c 1 t) (iblk1 V c 2 t) (iblk1 V c 3 t) (iblk1 V c 4 t) (iblk1 V c 5 t) p.2.2.2, sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) ((hcond1_0 t).mpr h0) (iblk1 V c 0 t) (iblk1 V c 1 t) (iblk1 V c 2 t) (iblk1 V c 3 t) (iblk1 V c 4 t) (iblk1 V c 5 t) p.2.2.2)
  else
    (out1_A_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) (fun h => h0 ((hcond1_0 t).mp h)) (iblk1 V c 0 t) (iblk1 V c 1 t) (iblk1 V c 2 t) (iblk1 V c 3 t) (iblk1 V c 4 t) (iblk1 V c 5 t) p.2.2.2, out1_A_7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) (fun h => h0 ((hcond1_0 t).mp h)) (iblk1 V c 0 t) (iblk1 V c 1 t) (iblk1 V c 2 t) (iblk1 V c 3 t) (iblk1 V c 4 t) (iblk1 V c 5 t) p.2.2.2, p.2.2.1, sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) (fun h => h0 ((hcond1_0 t).mp h)) (iblk1 V c 0 t) (iblk1 V c 1 t) (iblk1 V c 2 t) (iblk1 V c 3 t) (iblk1 V c 4 t) (iblk1 V c 5 t) p.2.2.2)

/-- What they hold before point `n`, from anything before the first. -/
def tr1 (c : Dev nD) : (n : ℕ) → n ≤ cfg1.N → Tup1 F
  | 0, _ => (VO1_6.read (Elt F) VO1_6.junk, VO1_7.read (Elt F) VO1_7.junk, VO1_8.read (Elt F) VO1_8.junk, VS1_0.read (Elt F) VS1_0.junk)
  | n + 1, hn => step1 V c ⟨n, hn⟩ (tr1 c n (Nat.le_of_lt hn))

theorem tr1_succ (c : Dev nD) (t : Fin cfg1.N) : tr1 V c (t.val + 1) t.isLt = step1 V c t (tr1 V c t.val (Nat.le_of_lt t.isLt)) := rfl

theorem tr1_A (c : Dev nD) (t : Fin cfg1.N) (h0 : ¬t.val % 80 = 79) :
    tr1 V c (t.val + 1) t.isLt = (out1_A_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) (fun h => h0 ((hcond1_0 t).mp h)) (iblk1 V c 0 t) (iblk1 V c 1 t) (iblk1 V c 2 t) (iblk1 V c 3 t) (iblk1 V c 4 t) (iblk1 V c 5 t) (tr1 V c t.val (Nat.le_of_lt t.isLt)).2.2.2, out1_A_7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) (fun h => h0 ((hcond1_0 t).mp h)) (iblk1 V c 0 t) (iblk1 V c 1 t) (iblk1 V c 2 t) (iblk1 V c 3 t) (iblk1 V c 4 t) (iblk1 V c 5 t) (tr1 V c t.val (Nat.le_of_lt t.isLt)).2.2.2, (tr1 V c t.val (Nat.le_of_lt t.isLt)).2.2.1, sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) (fun h => h0 ((hcond1_0 t).mp h)) (iblk1 V c 0 t) (iblk1 V c 1 t) (iblk1 V c 2 t) (iblk1 V c 3 t) (iblk1 V c 4 t) (iblk1 V c 5 t) (tr1 V c t.val (Nat.le_of_lt t.isLt)).2.2.2) := by
  rw [tr1_succ]; unfold step1; rw [dif_neg h0]

theorem tr1_B (c : Dev nD) (t : Fin cfg1.N) (h0 : t.val % 80 = 79) :
    tr1 V c (t.val + 1) t.isLt = (out1_B_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) ((hcond1_0 t).mpr h0) (iblk1 V c 0 t) (iblk1 V c 1 t) (iblk1 V c 2 t) (iblk1 V c 3 t) (iblk1 V c 4 t) (iblk1 V c 5 t) (tr1 V c t.val (Nat.le_of_lt t.isLt)).2.2.2, out1_B_7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) ((hcond1_0 t).mpr h0) (iblk1 V c 0 t) (iblk1 V c 1 t) (iblk1 V c 2 t) (iblk1 V c 3 t) (iblk1 V c 4 t) (iblk1 V c 5 t) (tr1 V c t.val (Nat.le_of_lt t.isLt)).2.2.2, out1_B_8 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) ((hcond1_0 t).mpr h0) (iblk1 V c 0 t) (iblk1 V c 1 t) (iblk1 V c 2 t) (iblk1 V c 3 t) (iblk1 V c 4 t) (iblk1 V c 5 t) (tr1 V c t.val (Nat.le_of_lt t.isLt)).2.2.2, sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) ((hcond1_0 t).mpr h0) (iblk1 V c 0 t) (iblk1 V c 1 t) (iblk1 V c 2 t) (iblk1 V c 3 t) (iblk1 V c 4 t) (iblk1 V c 5 t) (tr1 V c t.val (Nat.le_of_lt t.isLt)).2.2.2) := by
  rw [tr1_succ]; unfold step1; rw [dif_pos h0]

/-- The stored blocks do not depend on the running maximum, -/
theorem indep1_6 (c : Dev nD) (t : Fin cfg1.N) (h0 : ¬t.val % 80 = 79) (d d' : Vec F S8x512 .f32) :
    out1_A_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) (fun h => h0 ((hcond1_0 t).mp h)) (iblk1 V c 0 t) (iblk1 V c 1 t) (iblk1 V c 2 t) (iblk1 V c 3 t) (iblk1 V c 4 t) (iblk1 V c 5 t) d = out1_A_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) (fun h => h0 ((hcond1_0 t).mp h)) (iblk1 V c 0 t) (iblk1 V c 1 t) (iblk1 V c 2 t) (iblk1 V c 3 t) (iblk1 V c 4 t) (iblk1 V c 5 t) d' := rfl
theorem indep1_7 (c : Dev nD) (t : Fin cfg1.N) (h0 : ¬t.val % 80 = 79) (d d' : Vec F S8x512 .f32) :
    out1_A_7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) (fun h => h0 ((hcond1_0 t).mp h)) (iblk1 V c 0 t) (iblk1 V c 1 t) (iblk1 V c 2 t) (iblk1 V c 3 t) (iblk1 V c 4 t) (iblk1 V c 5 t) d = out1_A_7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) (fun h => h0 ((hcond1_0 t).mp h)) (iblk1 V c 0 t) (iblk1 V c 1 t) (iblk1 V c 2 t) (iblk1 V c 3 t) (iblk1 V c 4 t) (iblk1 V c 5 t) d' := rfl

/-- and at the first point the maximum starts at zero: what the scratch held before does not matter. -/
theorem first1 (c : Dev nD) (t : Fin cfg1.N) (hz : t.val = 0) (h0 : ¬t.val % 80 = 79) (d d' : Vec F S8x512 .f32) :
    sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) (fun h => h0 ((hcond1_0 t).mp h)) (iblk1 V c 0 t) (iblk1 V c 1 t) (iblk1 V c 2 t) (iblk1 V c 3 t) (iblk1 V c 4 t) (iblk1 V c 5 t) d = sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) (fun h => h0 ((hcond1_0 t).mp h)) (iblk1 V c 0 t) (iblk1 V c 1 t) (iblk1 V c 2 t) (iblk1 V c 3 t) (iblk1 V c 4 t) (iblk1 V c 5 t) d' := by
  obtain rfl : t = ⟨0, by decide⟩ := Fin.ext hz
  frame_out
  rfl

/-- The region invariant before position `n` with a scratch the kernel CARRIES between points: before the first point the
    class's (Lib/Pipeline/Frame.lean `ΦA`: every scratch at anything); afterwards the scoped rest with each carried scratch
    at what the point before left in it (`tr1`'s scratch components), the others at anything, and the generator register
    at some state. -/
def PhiS1 (c : Dev nD) : (n : ℕ) → n ≤ cfg1.N → sProp 𝕄
  | 0, _ => Pipeline.ΦA spec1 c
  | n + 1, hn => iprop(iprop(owns (c : Thread nD τ) scM1_0 fullShare ((tr1 V c (n + 1) hn).2.2.2) ∗ Pipeline.scopedRestBut spec1 c [cc1_scratch0]) ∗ (∃ r, prngReg c r))

theorem PhiS1_zero (c : Dev nD) (n : ℕ) (h : n ≤ cfg1.N) (hz : n = 0) : PhiS1 V c n h = Pipeline.ΦA spec1 c := by
  subst hz; rfl

/-- After point `n` (before point `n + 1`): the carried scratch at that point's contents. -/
theorem PhiS1_succ (c : Dev nD) (n : ℕ) (hn : n < cfg1.N) :
    PhiS1 V c (n + 1) hn = iprop(iprop(owns (c : Thread nD τ) scM1_0 fullShare ((tr1 V c (n + 1) hn).2.2.2) ∗ Pipeline.scopedRestBut spec1 c [cc1_scratch0]) ∗ (∃ r, prngReg c r)) := rfl

/-- Before a point that is not the first: the carried scratch at what the point before left. -/
theorem PhiS1_pos (c : Dev nD) (n : ℕ) (h : n ≤ cfg1.N) (hz : n ≠ 0) :
    PhiS1 V c n h = iprop(iprop(owns (c : Thread nD τ) scM1_0 fullShare ((tr1 V c n h).2.2.2) ∗ Pipeline.scopedRestBut spec1 c [cc1_scratch0]) ∗ (∃ r, prngReg c r)) := by
  cases n with
  | zero => exact absurd rfl hz
  | succ n => rfl

/-! ## The pipeline's proof data -/

/-- The proof data of pipeline 1 on core `c`: the arrays as the region finds them (`V`); after the body at
    point `t` each input's buffer at its block and the outputs' at `tr1`; the invariant the class's
    (`PhiS1`: the class's `ΦA` before the first point, then the scoped rest with the carried scratch at `tr1`'s component);
    nothing owed; each input's share of its array
    (`Pipeline.shareOf`: the full share of an array several windows stage, dealt among them). -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => (tr1 V c (t.val + 1) t.isLt).1
    | ⟨7, _⟩ => (tr1 V c (t.val + 1) t.isLt).2.1
    | ⟨8, _⟩ => (tr1 V c (t.val + 1) t.isLt).2.2.1
  Φ t := PhiS1 V c t.val (Nat.le_of_lt_succ t.isLt)
  q w := Pipeline.shareOf spec1 w
  owed _ := 0

/-- The proof data's arrays are the region-entry contents, by projecting the definition (`dsimp`): a region record cites
    this for its arrays rather than have Lean unfold `V`, the fold through @main up to the region's entry. -/
theorem A_eq1 (c : Dev nD) (w : Fin cfg1.W) : (dat1 V c).A w = V c (Pipeline.arrRef spec1 w) := by
  dsimp only [dat1]

/-- The invariant at a point's start (the proof data at `t.castSucc`), restated at `t.val`. -/
theorem PhiS1_castSucc (c : Dev nD) (t : Fin cfg1.N) :
    (dat1 V c).Φ t.castSucc = PhiS1 V c t.val (Nat.le_of_lt t.isLt) := by
  dsimp only [dat1]; exact Pipeline.Dat.Φ_castSucc (PhiS1 V c) t

/-- What the body leaves, window by window (the proof data's `match` reduced by `dsimp`). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = (tr1 V c (t.val + 1) t.isLt).1 := by dsimp only [dat1]
theorem after1_7 (c : Dev nD) (t : Fin cfg1.N) : (dat1 V c).after 7 t = (tr1 V c (t.val + 1) t.isLt).2.1 := by dsimp only [dat1]
theorem after1_8 (c : Dev nD) (t : Fin cfg1.N) : (dat1 V c).after 8 t = (tr1 V c (t.val + 1) t.isLt).2.2.1 := by dsimp only [dat1]

/-- Each input's current staging buffer holds its block at every point, fetched there or not (`beforeK_W_of`). -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-! ## The body obligation, at a generic point -/

/-- What the body is called with at point `t` (Lib/Pipeline.lean `BodyObligation`'s precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d))
    ∗ (∃ d, owns (c : Thread nD τ) (ms1_8 t) fullShare ((dat1 V c).before 8 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t
    ∗ (dat1 V c).leavesExact 8 t)

set_option maxHeartbeats 6400000 in
/-- The body at any point: the inputs' memrefs hold their blocks (`before1_W`); the closed forms say which case the point is in (`by_cases`), an output the case reads before covering holds what the point before left (`before1_W_κ`); so the
    run applies; the invariant hands the body the carried scratch at what the point before left (`PhiS1_pos`; at anything at the first point, `PhiS1_zero`), the other scratch buffers and the generator register at some state, and takes the carried scratch back at this point's contents (`PhiS1_succ`, by `scoverK_κ_N`); the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).owesAt () t.succ = (dat1 V c).owesAt () t.castSucc from rfl]
  rw [show (dat1 V c).Φ t.succ = PhiS1 V c (t.val + 1) t.isLt from rfl, PhiS1_succ]
  have hN : t.val < 80 := lt_of_lt_of_eq t.isLt (show cfg1.N = 80 from N_1)
  by_cases h0 : t.val % 80 = 79
  · rw [show (dat1 V c).leavesExact 0 t = owns (c : Thread nD τ) (ms1_0 t) fullShare ((dat1 V c).after 0 t) from by
      unfold Dat.leavesExact; rw [liveAt1_0 t], after1_0]
    rw [show (dat1 V c).leavesExact 1 t = owns (c : Thread nD τ) (ms1_1 t) fullShare ((dat1 V c).after 1 t) from by
      unfold Dat.leavesExact; rw [liveAt1_1 t], after1_1]
    rw [show (dat1 V c).leavesExact 2 t = owns (c : Thread nD τ) (ms1_2 t) fullShare ((dat1 V c).after 2 t) from by
      unfold Dat.leavesExact; rw [liveAt1_2 t], after1_2]
    rw [show (dat1 V c).leavesExact 3 t = owns (c : Thread nD τ) (ms1_3 t) fullShare ((dat1 V c).after 3 t) from by
      unfold Dat.leavesExact; rw [liveAt1_3 t], after1_3]
    rw [show (dat1 V c).leavesExact 4 t = owns (c : Thread nD τ) (ms1_4 t) fullShare ((dat1 V c).after 4 t) from by
      unfold Dat.leavesExact; rw [liveAt1_4 t], after1_4]
    rw [show (dat1 V c).leavesExact 5 t = owns (c : Thread nD τ) (ms1_5 t) fullShare ((dat1 V c).after 5 t) from by
      unfold Dat.leavesExact; rw [liveAt1_5 t], after1_5]
    rw [show (dat1 V c).leavesExact 6 t = owns (c : Thread nD τ) (ms1_6 t) fullShare ((dat1 V c).after 6 t) from by
      unfold Dat.leavesExact; rw [liveAt1_6 t], after1_6]
    rw [show (dat1 V c).leavesExact 7 t = owns (c : Thread nD τ) (ms1_7 t) fullShare ((dat1 V c).after 7 t) from by
      unfold Dat.leavesExact; rw [liveAt1_7 t], after1_7]
    rw [show (dat1 V c).leavesExact 8 t = owns (c : Thread nD τ) (ms1_8 t) fullShare ((dat1 V c).after 8 t) from by
      unfold Dat.leavesExact; rw [liveAt1_8_B t ((hcond1_0 t).mpr h0)], after1_8]
    by_cases hz : t.val = 0
    · exfalso; have hN : t.val < 80 := lt_of_lt_of_eq t.isLt (show cfg1.N = 80 from N_1); omega
    · rw [PhiS1_castSucc V c t, PhiS1_pos V c _ _ hz]
      rw [tr1_B V c t h0]
      (try dsimp only)
      iintro ⟨⟨⟨HS0, HR1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun1_B c (grid1.coords t) _ _ _ _ _ _ _ _ _ _ _ _ _ _ _ _ _ _ _ _ ((hcond1_0 t).mpr h0) (iblk1 V c 0 t) (iblk1 V c 1 t) (iblk1 V c 2 t) (iblk1 V c 3 t) (iblk1 V c 4 t) (iblk1 V c 5 t) _).2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [H8]; · iexists _; iexact H8
      isplitl [HS0]; · iexact HS0
      iintro ⟨H0, H1, H2, H3, H4, H5, ⟨%e6, H6⟩, ⟨%e7, H7⟩, ⟨%e8, H8⟩, ⟨%es0, HS0⟩⟩
      isplitl [HS0 HR1 Hg]
      · isplitl [HS0 HR1]
        · isplitl [HS0]
          · unfold owns; iexists _; isplitr
            swap; · iexact HS0
            ipureintro; exact View.read_writes_of_cover _ _ _ _ _ (scover1_B_0 c _ _ _ _ _ _ _ _ _ _ _ _ _ _ _ _ _ _ _ _ _ _ _ _ _ _ _ _ _)
          iexact HR1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover1_B_6 c _ _ _ _ _ _ _ _ _ _ _ _ _ _ _ _ _ _ _ _ _ _ _ _ _ _ _ _ _)
      isplitl [H7]
      · unfold owns; iexists _; isplitr
        swap; · iexact H7
        ipureintro; exact View.read_writes_of_cover _ _ _ _ _ (cover1_B_7 c _ _ _ _ _ _ _ _ _ _ _ _ _ _ _ _ _ _ _ _ _ _ _ _ _ _ _ _ _)
      unfold owns; iexists _; isplitr
      swap; · iexact H8
      ipureintro; exact View.read_writes_of_cover _ _ _ _ _ (cover1_B_8 c _ _ _ _ _ _ _ _ _ _ _ _ _ _ _ _ _ _ _ _ _ _ _ _ _ _ _ _ _)
  · rw [show (dat1 V c).leavesExact 0 t = owns (c : Thread nD τ) (ms1_0 t) fullShare ((dat1 V c).after 0 t) from by
      unfold Dat.leavesExact; rw [liveAt1_0 t], after1_0]
    rw [show (dat1 V c).leavesExact 1 t = owns (c : Thread nD τ) (ms1_1 t) fullShare ((dat1 V c).after 1 t) from by
      unfold Dat.leavesExact; rw [liveAt1_1 t], after1_1]
    rw [show (dat1 V c).leavesExact 2 t = owns (c : Thread nD τ) (ms1_2 t) fullShare ((dat1 V c).after 2 t) from by
      unfold Dat.leavesExact; rw [liveAt1_2 t], after1_2]
    rw [show (dat1 V c).leavesExact 3 t = owns (c : Thread nD τ) (ms1_3 t) fullShare ((dat1 V c).after 3 t) from by
      unfold Dat.leavesExact; rw [liveAt1_3 t], after1_3]
    rw [show (dat1 V c).leavesExact 4 t = owns (c : Thread nD τ) (ms1_4 t) fullShare ((dat1 V c).after 4 t) from by
      unfold Dat.leavesExact; rw [liveAt1_4 t], after1_4]
    rw [show (dat1 V c).leavesExact 5 t = owns (c : Thread nD τ) (ms1_5 t) fullShare ((dat1 V c).after 5 t) from by
      unfold Dat.leavesExact; rw [liveAt1_5 t], after1_5]
    rw [show (dat1 V c).leavesExact 6 t = owns (c : Thread nD τ) (ms1_6 t) fullShare ((dat1 V c).after 6 t) from by
      unfold Dat.leavesExact; rw [liveAt1_6 t], after1_6]
    rw [show (dat1 V c).leavesExact 7 t = owns (c : Thread nD τ) (ms1_7 t) fullShare ((dat1 V c).after 7 t) from by
      unfold Dat.leavesExact; rw [liveAt1_7 t], after1_7]
    rw [Dat.leavesExact_idle (dat1 V c) 8 t (idleAt1_8_A t (fun h => h0 ((hcond1_0 t).mp h))) (noFlush1_8_A t (fun h => h0 ((hcond1_0 t).mp h)))]
    by_cases hz : t.val = 0
    · rw [PhiS1_castSucc V c t, PhiS1_zero V c _ _ hz, PhiA1_eq]
      rw [tr1_A V c t h0]
      (try dsimp only)
      iintro ⟨⟨⟨⟨%ds0, HS0⟩, HR1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun1_A c (grid1.coords t) _ _ _ _ _ _ _ _ _ _ _ _ _ _ _ _ _ _ _ _ (fun h => h0 ((hcond1_0 t).mp h)) (iblk1 V c 0 t) (iblk1 V c 1 t) (iblk1 V c 2 t) (iblk1 V c 3 t) (iblk1 V c 4 t) (iblk1 V c 5 t) _).2.2.2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [H8]; · iexact H8
      isplitl [HS0]; · iexact HS0
      iintro ⟨H0, H1, H2, H3, H4, H5, ⟨%e6, H6⟩, ⟨%e7, H7⟩, H8, ⟨%es0, HS0⟩⟩
      isplitl [HS0 HR1 Hg]
      · isplitl [HS0 HR1]
        · isplitl [HS0]
          · unfold owns; iexists _; isplitr
            swap; · iexact HS0
            ipureintro; exact (View.read_writes_of_cover _ _ VS1_0 _ _ (scover1_A_0 c _ _ _ _ _ _ _ _ _ _ _ _ _ _ _ _ _ _ _ _ _ _ _ _ _ _ _ _ _)).trans (first1 V c t hz h0 ds0 _)
          iexact HR1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact (View.read_writes_of_cover _ _ VO1_6 _ _ (cover1_A_6 c _ _ _ _ _ _ _ _ _ _ _ _ _ _ _ _ _ _ _ _ _ _ _ _ _ _ _ _ _)).trans (indep1_6 V c t h0 ds0 _)
      isplitl [H7]
      · unfold owns; iexists _; isplitr
        swap; · iexact H7
        ipureintro; exact (View.read_writes_of_cover _ _ VO1_7 _ _ (cover1_A_7 c _ _ _ _ _ _ _ _ _ _ _ _ _ _ _ _ _ _ _ _ _ _ _ _ _ _ _ _ _)).trans (indep1_7 V c t h0 ds0 _)
      iexists _; iexact H8
    · rw [PhiS1_castSucc V c t, PhiS1_pos V c _ _ hz]
      rw [tr1_A V c t h0]
      (try dsimp only)
      iintro ⟨⟨⟨HS0, HR1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun1_A c (grid1.coords t) _ _ _ _ _ _ _ _ _ _ _ _ _ _ _ _ _ _ _ _ (fun h => h0 ((hcond1_0 t).mp h)) (iblk1 V c 0 t) (iblk1 V c 1 t) (iblk1 V c 2 t) (iblk1 V c 3 t) (iblk1 V c 4 t) (iblk1 V c 5 t) _).2.2.2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [H8]; · iexact H8
      isplitl [HS0]; · iexact HS0
      iintro ⟨H0, H1, H2, H3, H4, H5, ⟨%e6, H6⟩, ⟨%e7, H7⟩, H8, ⟨%es0, HS0⟩⟩
      isplitl [HS0 HR1 Hg]
      · isplitl [HS0 HR1]
        · isplitl [HS0]
          · unfold owns; iexists _; isplitr
            swap; · iexact HS0
            ipureintro; exact View.read_writes_of_cover _ _ _ _ _ (scover1_A_0 c _ _ _ _ _ _ _ _ _ _ _ _ _ _ _ _ _ _ _ _ _ _ _ _ _ _ _ _ _)
          iexact HR1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover1_A_6 c _ _ _ _ _ _ _ _ _ _ _ _ _ _ _ _ _ _ _ _ _ _ _ _ _ _ _ _ _)
      isplitl [H7]
      · unfold owns; iexists _; isplitr
        swap; · iexact H7
        ipureintro; exact View.read_writes_of_cover _ _ _ _ _ (cover1_A_7 c _ _ _ _ _ _ _ _ _ _ _ _ _ _ _ _ _ _ _ _ _ _ _ _ _ _ _ _ _)
      iexists _; iexact H8

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The library's body obligation, at every point: the body's triple restated (Lib/Pipeline/FrameBody.lean `triple_restated`). -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

/-- What the launch hands the region (`ΦA`) is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives `ΦA` back: the carried scratch's named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HS0, HR1⟩, Hg⟩
  isplitl [HS0 HR1]
  · isplitl [HS0]
    · iexists _; iexact HS0
    iexact HR1
  iexact Hg

/-- The same after the last point. -/
theorem hout1 (c : Dev nD) : (dat1 V c).Φ (Fin.last cfg1.N) ⊢ Pipeline.ΦA spec1 c :=
  Phi_out1 V c _ (by rw [Fin.val_last]; have : cfg1.N = 80 := N_1; omega)

end Regions

end Cert.KernelIdeal.Whole

end
-- ==== Proof.Whole.Region2.lean ====
/-
  The call number 2 of the kernel, at any contents `V` that the buffers have when the call is entered: the block of each
  window at a grid point, what the body leaves in its output windows and in the scratch memory it keeps from one point to the
  next, and the proof that the body does so.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Whole

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section Regions
-- the TensorCore's buffer contents when a region is entered: the parameter every region's half is stated at, which
-- the run instantiates per region
variable (V : (c : Dev nD) → (b : Ref sig .tc) → Buf (Elt F) ((c : Thread nD τ).loc b))

/-! # REGION 2 of @main: custom_call 2, `cc2_dw2` (pipeline 2), at the entry contents `V` — class R -/

/-! ## The windows' blocks -/

/-- Window `w`'s block at point `t`, read off its array as the region finds it (`V`). -/
noncomputable def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-! ## The body's branch conditions -/

/-- The condition of the body's `scf.if` 0 (`k2_h1`), from the grid coordinates (the skeleton's scalar
    chain substituted). -/
abbrev cond2_0 (i : grid2.Coords) : Prop := (Scalar.cmpi .ne (Scalar.extui (Scalar.cmpi .eq (BitVec.ofNat 32 (i 1).val) 0#32)) 0#32) = 1#1
/-- It holds at the points ≡ 0 (mod 14) — by arithmetic of the point. -/
theorem hcond2_0 : ∀ t : Fin cfg2.N, cond2_0 (grid2.coords t) ↔ t.val % 14 = 0 :=
  (fun t => by
    have ht : t.val < 70 := Nat.lt_of_lt_of_eq t.isLt N_2
    have e0 : (grid2.coords t 0).val = t.val / 14 % 5 := Pipeline.Grid.coords_val t 0 (by decide) rfl
    have e1 : (grid2.coords t 1).val = t.val / 1 % 14 := Pipeline.Grid.coords_val t 1 (by decide) rfl
    simp only [cond2_0, e0, e1]
    word_cmp
   : ∀ t : Fin grid2.N, cond2_0 (grid2.coords t) ↔ t.val % 14 = 0)

/-! ## The kernel body on any staging memrefs: a subtype the run finds -/

/-- One staging buffer of output window 4, through which its contents are stated (`View.read_writes_of_cover`: the
    choice does not matter). -/
abbrev VO2_4 : View sig .tc .vmem S1024x512 .bf16 := (Memref.whole cc2_stg4_0 : Memref sig .tc .vmem S1024x512 .bf16).view
/-- Each window's current staging memref at point `t`, spelled as the pipeline passes it (`bodyAt2`), and its wholeness. -/
abbrev ms2_0 (t : Fin cfg2.N) : Memref sig .tc .smem S1x1 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .smem S1x1 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S8192x1024 .fp8e4m3 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S8192x512 .fp8e5m2 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1024x512 .bf16 := win2_4.stage (cfg2.slots t 4)
abbrev hs2_4 (t : Fin cfg2.N) : (ms2_4 t).IsWhole := hstage2_4 ((cfg2.slots t 4).cast nbuf2_4)
/-- The scratch operands: whole scoped buffers of the kernel's own, passed beside the windows. -/
abbrev scM2_0 : Memref sig .tc .vmem S1024x8192 .fp8e4m3 := Memref.whole cc2_scratch0
/-- The scratch `arg7` the kernel carries between points, as a view: what it holds is stated through it. -/
abbrev VS2_0 : View sig .tc .vmem S1024x8192 .fp8e4m3 := scM2_0.view

/-- `Gen.scopedRest2_split` as ONE chain: the kernel's own scratch buffers, each whole at some contents, then every
    other scoped buffer, unopened (`Pipeline.scopedRestBut`). -/
theorem scopedRest2_flat (c : Dev nD) :
    (Pipeline.scopedRest spec2 c : sProp 𝕄)
      = iprop((∃ f : Buf (Elt F) ((c : Thread nD τ).loc cc2_scratch0), ((c : Thread nD τ).loc cc2_scratch0) ↦{fullShare} f) ∗ Pipeline.scopedRestBut spec2 c [cc2_scratch0]) := by
  rw [scopedRest2_split]

/-- The frame kit's invariant with the scratch operands as memrefs owned at some contents (`Gen.scopedRest2_flat`,
    Lib/Memref.lean `owns_whole`): what the body obligation hands the run and takes back. -/
theorem PhiA2_eq (c : Dev nD) :
    (Pipeline.ΦA spec2 c : sProp 𝕄)
      = iprop(iprop((∃ d, owns (c : Thread nD τ) scM2_0 fullShare d) ∗ Pipeline.scopedRestBut spec2 c [cc2_scratch0]) ∗ (∃ r, prngReg c r)) := by
  unfold Pipeline.ΦA; rw [scopedRest2_flat]; simp only [scM2_0, owns_whole]; try rfl

-- (the run's proof term is large: the definition's epilogue — `abstractNestedProofs` — walks it past the default budget)
set_option maxHeartbeats 1000000 in
/-- What the body's stores leave in each output's staging memref, as pieces (last first) IN CASE A (`scf.if` 0 taken: points 0, 14, 28, 42, 56), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun2_A (c : Dev nD) (i : grid2.Coords) (arg2 : Memref sig .tc .smem S1x1 .f32) (harg2 : arg2.IsWhole) (arg3 : Memref sig .tc .smem S1x1 .f32) (harg3 : arg3.IsWhole) (arg4 : Memref sig .tc .vmem S8192x1024 .fp8e4m3) (harg4 : arg4.IsWhole) (arg5 : Memref sig .tc .vmem S8192x512 .fp8e5m2) (harg5 : arg5.IsWhole) (arg6 : Memref sig .tc .vmem S1024x512 .bf16) (harg6 : arg6.IsWhole) (arg7 : Memref sig .tc .vmem S1024x8192 .fp8e4m3) (harg7 : arg7.IsWhole) (hc0 : cond2_0 i)
    (x0 : Vec F S1x1 .f32) (x1 : Vec F S1x1 .f32) (x2 : Vec F S8192x1024 .fp8e4m3) (x3 : Vec F S8192x512 .fp8e5m2) :
    Σ' (L4 : List (View.Piece (Elt F) S1024x512 .bf16)), { LS0 : List (View.Piece (Elt F) S1024x8192 .fp8e4m3) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc2_dw2 i arg2 harg2 arg3 harg3 arg4 harg4 arg5 harg5 arg6 harg6 arg7 harg7) K } := by
  refine ⟨?_, ?_, fun E K => ?run⟩
  case run =>
    simp only [cc2_dw2_eq_skeleton]; unfold cc2_dw2_skel
    unfold owns
    iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS0

/-- Case A's pieces for output 4 tile its block (1 store of `S1024x512`, checked by the kernel's evaluation: Lib/Ring.lean `Piece.tiledL`, linear in the pieces, through a loop's `@[irreducible]` trip theorem too), so they cover it. -/
theorem cover2_A_4 (c : Dev nD) (i : grid2.Coords) (arg2 : Memref sig .tc .smem S1x1 .f32) (harg2 : arg2.IsWhole) (arg3 : Memref sig .tc .smem S1x1 .f32) (harg3 : arg3.IsWhole) (arg4 : Memref sig .tc .vmem S8192x1024 .fp8e4m3) (harg4 : arg4.IsWhole) (arg5 : Memref sig .tc .vmem S8192x512 .fp8e5m2) (harg5 : arg5.IsWhole) (arg6 : Memref sig .tc .vmem S1024x512 .bf16) (harg6 : arg6.IsWhole) (arg7 : Memref sig .tc .vmem S1024x8192 .fp8e4m3) (harg7 : arg7.IsWhole) (hc0 : cond2_0 i)
    (x0 : Vec F S1x1 .f32) (x1 : Vec F S1x1 .f32) (x2 : Vec F S8192x1024 .fp8e4m3) (x3 : Vec F S8192x512 .fp8e5m2) (y : S1024x512.Idx) :
    ∃ pc ∈ (kernelRun2_A c i arg2 harg2 arg3 harg3 arg4 harg4 arg5 harg5 arg6 harg6 arg7 harg7 hc0 x0 x1 x2 x3).1, y ∈ pc.1.set :=
  View.cover_of_tiledL (kernelRun2_A c i arg2 harg2 arg3 harg3 arg4 harg4 arg5 harg5 arg6 harg6 arg7 harg7 hc0 x0 x1 x2 x3).1 S1024x512.size (by sl_kernel_rfl) y

/-- What case A leaves in output 4's staging buffer: its pieces read back over junk. -/
def out2_A_4 (c : Dev nD) (i : grid2.Coords) (arg2 : Memref sig .tc .smem S1x1 .f32) (harg2 : arg2.IsWhole) (arg3 : Memref sig .tc .smem S1x1 .f32) (harg3 : arg3.IsWhole) (arg4 : Memref sig .tc .vmem S8192x1024 .fp8e4m3) (harg4 : arg4.IsWhole) (arg5 : Memref sig .tc .vmem S8192x512 .fp8e5m2) (harg5 : arg5.IsWhole) (arg6 : Memref sig .tc .vmem S1024x512 .bf16) (harg6 : arg6.IsWhole) (arg7 : Memref sig .tc .vmem S1024x8192 .fp8e4m3) (harg7 : arg7.IsWhole) (hc0 : cond2_0 i)
    (x0 : Vec F S1x1 .f32) (x1 : Vec F S1x1 .f32) (x2 : Vec F S8192x1024 .fp8e4m3) (x3 : Vec F S8192x512 .fp8e5m2) : Vec F S1024x512 .bf16 :=
  VO2_4.read (Elt F) (VO2_4.writes (Elt F) VO2_4.junk (kernelRun2_A c i arg2 harg2 arg3 harg3 arg4 harg4 arg5 harg5 arg6 harg6 arg7 harg7 hc0 x0 x1 x2 x3).1)

/-- Case A's pieces for scratch `arg7`, which the kernel carries between points, cover it: 1 piece of `S1024x8192` tiling it (Lib/Ring.lean `Piece.tiledL`). -/
theorem scover2_A_0 (c : Dev nD) (i : grid2.Coords) (arg2 : Memref sig .tc .smem S1x1 .f32) (harg2 : arg2.IsWhole) (arg3 : Memref sig .tc .smem S1x1 .f32) (harg3 : arg3.IsWhole) (arg4 : Memref sig .tc .vmem S8192x1024 .fp8e4m3) (harg4 : arg4.IsWhole) (arg5 : Memref sig .tc .vmem S8192x512 .fp8e5m2) (harg5 : arg5.IsWhole) (arg6 : Memref sig .tc .vmem S1024x512 .bf16) (harg6 : arg6.IsWhole) (arg7 : Memref sig .tc .vmem S1024x8192 .fp8e4m3) (harg7 : arg7.IsWhole) (hc0 : cond2_0 i)
    (x0 : Vec F S1x1 .f32) (x1 : Vec F S1x1 .f32) (x2 : Vec F S8192x1024 .fp8e4m3) (x3 : Vec F S8192x512 .fp8e5m2) (y : S1024x8192.Idx) :
    ∃ pc ∈ (kernelRun2_A c i arg2 harg2 arg3 harg3 arg4 harg4 arg5 harg5 arg6 harg6 arg7 harg7 hc0 x0 x1 x2 x3).2.1, y ∈ pc.1.set :=
  View.cover_of_tiledL (kernelRun2_A c i arg2 harg2 arg3 harg3 arg4 harg4 arg5 harg5 arg6 harg6 arg7 harg7 hc0 x0 x1 x2 x3).2.1 S1024x8192.size (by sl_kernel_rfl) y

/-- What case A leaves in scratch `arg7`: its pieces read back over junk. -/
def sout2_A_0 (c : Dev nD) (i : grid2.Coords) (arg2 : Memref sig .tc .smem S1x1 .f32) (harg2 : arg2.IsWhole) (arg3 : Memref sig .tc .smem S1x1 .f32) (harg3 : arg3.IsWhole) (arg4 : Memref sig .tc .vmem S8192x1024 .fp8e4m3) (harg4 : arg4.IsWhole) (arg5 : Memref sig .tc .vmem S8192x512 .fp8e5m2) (harg5 : arg5.IsWhole) (arg6 : Memref sig .tc .vmem S1024x512 .bf16) (harg6 : arg6.IsWhole) (arg7 : Memref sig .tc .vmem S1024x8192 .fp8e4m3) (harg7 : arg7.IsWhole) (hc0 : cond2_0 i)
    (x0 : Vec F S1x1 .f32) (x1 : Vec F S1x1 .f32) (x2 : Vec F S8192x1024 .fp8e4m3) (x3 : Vec F S8192x512 .fp8e5m2) : Vec F S1024x8192 .fp8e4m3 :=
  VS2_0.read (Elt F) (VS2_0.writes (Elt F) VS2_0.junk (kernelRun2_A c i arg2 harg2 arg3 harg3 arg4 harg4 arg5 harg5 arg6 harg6 arg7 harg7 hc0 x0 x1 x2 x3).2.1)

-- (the run's proof term is large: the definition's epilogue — `abstractNestedProofs` — walks it past the default budget)
set_option maxHeartbeats 1000000 in
/-- What the body's stores leave in each output's staging memref, as pieces (last first) IN CASE B (`scf.if` 0 not taken: points 1, 2, … 69: 65 of 70), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun2_B (c : Dev nD) (i : grid2.Coords) (arg2 : Memref sig .tc .smem S1x1 .f32) (harg2 : arg2.IsWhole) (arg3 : Memref sig .tc .smem S1x1 .f32) (harg3 : arg3.IsWhole) (arg4 : Memref sig .tc .vmem S8192x1024 .fp8e4m3) (harg4 : arg4.IsWhole) (arg5 : Memref sig .tc .vmem S8192x512 .fp8e5m2) (harg5 : arg5.IsWhole) (arg6 : Memref sig .tc .vmem S1024x512 .bf16) (harg6 : arg6.IsWhole) (arg7 : Memref sig .tc .vmem S1024x8192 .fp8e4m3) (harg7 : arg7.IsWhole) (hc0 : ¬cond2_0 i)
    (x0 : Vec F S1x1 .f32) (x1 : Vec F S1x1 .f32) (x2 : Vec F S8192x1024 .fp8e4m3) (x3 : Vec F S8192x512 .fp8e5m2) (xs0 : Vec F S1024x8192 .fp8e4m3) :
    Σ' (L4 : List (View.Piece (Elt F) S1024x512 .bf16)), { LS0 : List (View.Piece (Elt F) S1024x8192 .fp8e4m3) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ owns (c : Thread nD τ) arg7 fullShare xs0) -∗ K ⟨⟩))
          ⊢ wp frame (wpE (defs₀ (F := F)) Variants.none c none) E (cc2_dw2 i arg2 harg2 arg3 harg3 arg4 harg4 arg5 harg5 arg6 harg6 arg7 harg7) K } := by
  refine ⟨?_, [], fun E K => ?run⟩
  case run =>
    simp only [cc2_dw2_eq_skeleton]; unfold cc2_dw2_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg7.eq_unread hfs0
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; isplitr; · ipureintro; exact harg7.read_unread _
    iexact HS0

/-- Case B's pieces for output 4 tile its block (1 store of `S1024x512`, checked by the kernel's evaluation: Lib/Ring.lean `Piece.tiledL`, linear in the pieces, through a loop's `@[irreducible]` trip theorem too), so they cover it. -/
theorem cover2_B_4 (c : Dev nD) (i : grid2.Coords) (arg2 : Memref sig .tc .smem S1x1 .f32) (harg2 : arg2.IsWhole) (arg3 : Memref sig .tc .smem S1x1 .f32) (harg3 : arg3.IsWhole) (arg4 : Memref sig .tc .vmem S8192x1024 .fp8e4m3) (harg4 : arg4.IsWhole) (arg5 : Memref sig .tc .vmem S8192x512 .fp8e5m2) (harg5 : arg5.IsWhole) (arg6 : Memref sig .tc .vmem S1024x512 .bf16) (harg6 : arg6.IsWhole) (arg7 : Memref sig .tc .vmem S1024x8192 .fp8e4m3) (harg7 : arg7.IsWhole) (hc0 : ¬cond2_0 i)
    (x0 : Vec F S1x1 .f32) (x1 : Vec F S1x1 .f32) (x2 : Vec F S8192x1024 .fp8e4m3) (x3 : Vec F S8192x512 .fp8e5m2) (xs0 : Vec F S1024x8192 .fp8e4m3) (y : S1024x512.Idx) :
    ∃ pc ∈ (kernelRun2_B c i arg2 harg2 arg3 harg3 arg4 harg4 arg5 harg5 arg6 harg6 arg7 harg7 hc0 x0 x1 x2 x3 xs0).1, y ∈ pc.1.set :=
  View.cover_of_tiledL (kernelRun2_B c i arg2 harg2 arg3 harg3 arg4 harg4 arg5 harg5 arg6 harg6 arg7 harg7 hc0 x0 x1 x2 x3 xs0).1 S1024x512.size (by sl_kernel_rfl) y

/-- What case B leaves in output 4's staging buffer: its pieces read back over junk. -/
def out2_B_4 (c : Dev nD) (i : grid2.Coords) (arg2 : Memref sig .tc .smem S1x1 .f32) (harg2 : arg2.IsWhole) (arg3 : Memref sig .tc .smem S1x1 .f32) (harg3 : arg3.IsWhole) (arg4 : Memref sig .tc .vmem S8192x1024 .fp8e4m3) (harg4 : arg4.IsWhole) (arg5 : Memref sig .tc .vmem S8192x512 .fp8e5m2) (harg5 : arg5.IsWhole) (arg6 : Memref sig .tc .vmem S1024x512 .bf16) (harg6 : arg6.IsWhole) (arg7 : Memref sig .tc .vmem S1024x8192 .fp8e4m3) (harg7 : arg7.IsWhole) (hc0 : ¬cond2_0 i)
    (x0 : Vec F S1x1 .f32) (x1 : Vec F S1x1 .f32) (x2 : Vec F S8192x1024 .fp8e4m3) (x3 : Vec F S8192x512 .fp8e5m2) (xs0 : Vec F S1024x8192 .fp8e4m3) : Vec F S1024x512 .bf16 :=
  VO2_4.read (Elt F) (VO2_4.writes (Elt F) VO2_4.junk (kernelRun2_B c i arg2 harg2 arg3 harg3 arg4 harg4 arg5 harg5 arg6 harg6 arg7 harg7 hc0 x0 x1 x2 x3 xs0).1)

/-- Case B stores nothing into scratch `arg7`: it holds what the point before left. -/
def sout2_B_0 (c : Dev nD) (i : grid2.Coords) (arg2 : Memref sig .tc .smem S1x1 .f32) (harg2 : arg2.IsWhole) (arg3 : Memref sig .tc .smem S1x1 .f32) (harg3 : arg3.IsWhole) (arg4 : Memref sig .tc .vmem S8192x1024 .fp8e4m3) (harg4 : arg4.IsWhole) (arg5 : Memref sig .tc .vmem S8192x512 .fp8e5m2) (harg5 : arg5.IsWhole) (arg6 : Memref sig .tc .vmem S1024x512 .bf16) (harg6 : arg6.IsWhole) (arg7 : Memref sig .tc .vmem S1024x8192 .fp8e4m3) (harg7 : arg7.IsWhole) (hc0 : ¬cond2_0 i)
    (x0 : Vec F S1x1 .f32) (x1 : Vec F S1x1 .f32) (x2 : Vec F S8192x1024 .fp8e4m3) (x3 : Vec F S8192x512 .fp8e5m2) (xs0 : Vec F S1024x8192 .fp8e4m3) : Vec F S1024x8192 .fp8e4m3 := xs0

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before2_W_κ`). An assignment of the conditions no point meets is no case (`False.elim`). -/
def outsAt2 (c : Dev nD) : (n : ℕ) → n < cfg2.N → Vec F S1024x512 .bf16 × Vec F S1024x8192 .fp8e4m3
  | 0, hn => (out2_A_4 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) scM2_0 (Memref.isWhole_whole _) ((hcond2_0 ⟨0, hn⟩).mpr (Nat.zero_mod _)) (iblk2 V c 0 ⟨0, hn⟩) (iblk2 V c 1 ⟨0, hn⟩) (iblk2 V c 2 ⟨0, hn⟩) (iblk2 V c 3 ⟨0, hn⟩), sout2_A_0 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) scM2_0 (Memref.isWhole_whole _) ((hcond2_0 ⟨0, hn⟩).mpr (Nat.zero_mod _)) (iblk2 V c 0 ⟨0, hn⟩) (iblk2 V c 1 ⟨0, hn⟩) (iblk2 V c 2 ⟨0, hn⟩) (iblk2 V c 3 ⟨0, hn⟩))
  | n + 1, hn =>
    if h0 : (n + 1) % 14 = 0 then
      (out2_A_4 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2_0 (Memref.isWhole_whole _) ((hcond2_0 ⟨n + 1, hn⟩).mpr h0) (iblk2 V c 0 ⟨n + 1, hn⟩) (iblk2 V c 1 ⟨n + 1, hn⟩) (iblk2 V c 2 ⟨n + 1, hn⟩) (iblk2 V c 3 ⟨n + 1, hn⟩), sout2_A_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2_0 (Memref.isWhole_whole _) ((hcond2_0 ⟨n + 1, hn⟩).mpr h0) (iblk2 V c 0 ⟨n + 1, hn⟩) (iblk2 V c 1 ⟨n + 1, hn⟩) (iblk2 V c 2 ⟨n + 1, hn⟩) (iblk2 V c 3 ⟨n + 1, hn⟩))
    else
      (out2_B_4 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2_0 (Memref.isWhole_whole _) (fun h => h0 ((hcond2_0 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (outsAt2 c n (Nat.lt_of_succ_lt hn)).2, sout2_B_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2_0 (Memref.isWhole_whole _) (fun h => h0 ((hcond2_0 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (outsAt2 c n (Nat.lt_of_succ_lt hn)).2)

/-- `outsAt2` at a point of case A: that case's contents. -/
theorem outsAt2_A (c : Dev nD) (t : Fin cfg2.N) (h0 : t.val % 14 = 0) :
    outsAt2 V c t.val t.isLt = (out2_A_4 c (grid2.coords t) (ms2_0 t) (hs2_0 t) (ms2_1 t) (hs2_1 t) (ms2_2 t) (hs2_2 t) (ms2_3 t) (hs2_3 t) (ms2_4 t) (hs2_4 t) scM2_0 (Memref.isWhole_whole _) ((hcond2_0 t).mpr h0) (iblk2 V c 0 t) (iblk2 V c 1 t) (iblk2 V c 2 t) (iblk2 V c 3 t), sout2_A_0 c (grid2.coords t) (ms2_0 t) (hs2_0 t) (ms2_1 t) (hs2_1 t) (ms2_2 t) (hs2_2 t) (ms2_3 t) (hs2_3 t) (ms2_4 t) (hs2_4 t) scM2_0 (Memref.isWhole_whole _) ((hcond2_0 t).mpr h0) (iblk2 V c 0 t) (iblk2 V c 1 t) (iblk2 V c 2 t) (iblk2 V c 3 t)) := by
  obtain ⟨n, hn⟩ := t
  cases n with
  | zero => exact rfl
  | succ n => exact (dif_pos h0).trans rfl

/-- `outsAt2` at a point of case B: that case's contents, over what the point before left. -/
theorem outsAt2_B (c : Dev nD) (t : Fin cfg2.N) (h0 : ¬t.val % 14 = 0) :
    outsAt2 V c t.val t.isLt = (out2_B_4 c (grid2.coords t) (ms2_0 t) (hs2_0 t) (ms2_1 t) (hs2_1 t) (ms2_2 t) (hs2_2 t) (ms2_3 t) (hs2_3 t) (ms2_4 t) (hs2_4 t) scM2_0 (Memref.isWhole_whole _) (fun h => h0 ((hcond2_0 t).mp h)) (iblk2 V c 0 t) (iblk2 V c 1 t) (iblk2 V c 2 t) (iblk2 V c 3 t) (outsAt2 V c (t.val - 1) (Nat.lt_of_le_of_lt (Nat.sub_le _ _) t.isLt)).2, sout2_B_0 c (grid2.coords t) (ms2_0 t) (hs2_0 t) (ms2_1 t) (hs2_1 t) (ms2_2 t) (hs2_2 t) (ms2_3 t) (hs2_3 t) (ms2_4 t) (hs2_4 t) scM2_0 (Memref.isWhole_whole _) (fun h => h0 ((hcond2_0 t).mp h)) (iblk2 V c 0 t) (iblk2 V c 1 t) (iblk2 V c 2 t) (iblk2 V c 3 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-- The region invariant before position `n` with a scratch the kernel CARRIES between points: before the first point the
    class's (Lib/Pipeline/Frame.lean `ΦA`: every scratch at anything); afterwards the scoped rest with each carried scratch
    at what the point before left in it (`outsAt2`'s scratch components), the others at anything, and the generator register
    at some state. -/
def PhiS2 (c : Dev nD) : (n : ℕ) → n ≤ cfg2.N → sProp 𝕄
  | 0, _ => Pipeline.ΦA spec2 c
  | n + 1, hn => iprop(iprop(owns (c : Thread nD τ) scM2_0 fullShare ((outsAt2 V c n hn).2) ∗ Pipeline.scopedRestBut spec2 c [cc2_scratch0]) ∗ (∃ r, prngReg c r))

theorem PhiS2_zero (c : Dev nD) (n : ℕ) (h : n ≤ cfg2.N) (hz : n = 0) : PhiS2 V c n h = Pipeline.ΦA spec2 c := by
  subst hz; rfl

/-- After point `n` (before point `n + 1`): the carried scratch at that point's contents. -/
theorem PhiS2_succ (c : Dev nD) (n : ℕ) (hn : n < cfg2.N) :
    PhiS2 V c (n + 1) hn = iprop(iprop(owns (c : Thread nD τ) scM2_0 fullShare ((outsAt2 V c n hn).2) ∗ Pipeline.scopedRestBut spec2 c [cc2_scratch0]) ∗ (∃ r, prngReg c r)) := rfl

/-- Before a point that is not the first: the carried scratch at what the point before left. -/
theorem PhiS2_pos (c : Dev nD) (n : ℕ) (h : n ≤ cfg2.N) (hz : n ≠ 0) :
    PhiS2 V c n h = iprop(iprop(owns (c : Thread nD τ) scM2_0 fullShare ((outsAt2 V c (n - 1) (by omega)).2) ∗ Pipeline.scopedRestBut spec2 c [cc2_scratch0]) ∗ (∃ r, prngReg c r)) := by
  cases n with
  | zero => exact absurd rfl hz
  | succ n => rfl

/-! ## The pipeline's proof data -/

/-- The proof data of pipeline 2 on core `c`: the arrays as the region finds them (`V`); after the body at
    point `t` each input's buffer at its block and the outputs' at `outsAt2`; the invariant the class's
    (`PhiS2`: the class's `ΦA` before the first point, then the scoped rest with the carried scratch at `outsAt2`'s component);
    nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => (outsAt2 V c t.val t.isLt).1
  Φ t := PhiS2 V c t.val (Nat.le_of_lt_succ t.isLt)
  q _ := fullShare
  owed _ := 0

/-- The proof data's arrays are the region-entry contents, by projecting the definition (`dsimp`): a region record cites
    this for its arrays rather than have Lean unfold `V`, the fold through @main up to the region's entry. -/
theorem A_eq2 (c : Dev nD) (w : Fin cfg2.W) : (dat2 V c).A w = V c (Pipeline.arrRef spec2 w) := by
  dsimp only [dat2]

/-- The invariant at a point's start (the proof data at `t.castSucc`), restated at `t.val`. -/
theorem PhiS2_castSucc (c : Dev nD) (t : Fin cfg2.N) :
    (dat2 V c).Φ t.castSucc = PhiS2 V c t.val (Nat.le_of_lt t.isLt) := by
  dsimp only [dat2]; exact Pipeline.Dat.Φ_castSucc (PhiS2 V c) t

/-- What the body leaves, window by window (the proof data's `match` reduced by `dsimp`). -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = (outsAt2 V c t.val t.isLt).1 := by dsimp only [dat2]

/-- Each input's current staging buffer holds its block at every point, fetched there or not (`beforeK_W_of`). -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-! ## The body obligation, at a generic point -/

/-- What the body is called with at point `t` (Lib/Pipeline.lean `BodyObligation`'s precondition, the windows one by one), -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d)))

/-- and what it returns. -/
def bodyPost2 (c : Dev nD) (t : Fin cfg2.N) : sProp 𝕄 :=
  iprop((dat2 V c).Φ t.succ ∗ (dat2 V c).owesAt () t.succ
    ∗ owns (c : Thread nD τ) (ms2_0 t) fullShare ((dat2 V c).after 0 t)
    ∗ owns (c : Thread nD τ) (ms2_1 t) fullShare ((dat2 V c).after 1 t)
    ∗ owns (c : Thread nD τ) (ms2_2 t) fullShare ((dat2 V c).after 2 t)
    ∗ owns (c : Thread nD τ) (ms2_3 t) fullShare ((dat2 V c).after 3 t)
    ∗ owns (c : Thread nD τ) (ms2_4 t) fullShare ((dat2 V c).after 4 t))

set_option maxHeartbeats 3200000 in
/-- The body at any point: the inputs' memrefs hold their blocks (`before2_W`); the closed forms say which case the point is in (`by_cases`), an output the case reads before covering holds what the point before left (`before2_W_κ`); so the
    run applies; the invariant hands the body the carried scratch at what the point before left (`PhiS2_pos`; at anything at the first point, `PhiS2_zero`), the other scratch buffers and the generator register at some state, and takes the carried scratch back at this point's contents (`PhiS2_succ`, by `scoverK_κ_N`); the core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).owesAt () t.succ = (dat2 V c).owesAt () t.castSucc from rfl,
    after2_0, after2_1, after2_2, after2_3, after2_4]
  rw [show (dat2 V c).Φ t.succ = PhiS2 V c (t.val + 1) t.isLt from rfl, PhiS2_succ]
  have hN : t.val < 70 := lt_of_lt_of_eq t.isLt (show cfg2.N = 70 from N_2)
  by_cases h0 : t.val % 14 = 0
  · by_cases hz : t.val = 0
    · rw [PhiS2_castSucc V c t, PhiS2_zero V c _ _ hz, PhiA2_eq]
      rw [outsAt2_A V c t h0]
      unfold out2_A_4 sout2_A_0; (try dsimp only)
      iintro ⟨⟨⟨HS0, HR1⟩, Hg⟩, Ho, ⟨%d0, H0⟩, ⟨%d1, H1⟩, ⟨%d2, H2⟩, ⟨%d3, H3⟩, ⟨%d4, H4⟩⟩
      iapply ((kernelRun2_A c (grid2.coords t) _ _ _ _ _ _ _ _ _ _ _ _ ((hcond2_0 t).mpr h0) (iblk2 V c 0 t) (iblk2 V c 1 t) (iblk2 V c 2 t) (iblk2 V c 3 t)).2.2 Set.univ _)
      isplitl [H0]; · iexact H0
      isplitl [H1]; · iexact H1
      isplitl [H2]; · iexact H2
      isplitl [H3]; · iexact H3
      isplitl [H4]; · iexists _; iexact H4
      isplitl [HS0]; · iexact HS0
      iintro ⟨H0, H1, H2, H3, ⟨%e4, H4⟩, ⟨%es0, HS0⟩⟩
      isplitl [HS0 HR1 Hg]
      · isplitl [HS0 HR1]
        · isplitl [HS0]
          · unfold owns; iexists _; isplitr
            swap; · iexact HS0
            ipureintro; exact View.read_writes_of_cover _ _ _ _ _ (scover2_A_0 c _ _ _ _ _ _ _ _ _ _ _ _ _ _ _ _ _ _)
          iexact HR1
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover2_A_4 c _ _ _ _ _ _ _ _ _ _ _ _ _ _ _ _ _ _)
    · rw [PhiS2_castSucc V c t, PhiS2_pos V c _ _ hz]
      rw [outsAt2_A V c t h0]
      unfold out2_A_4 sout2_A_0; (try dsimp only)
      iintro ⟨⟨⟨HS0, HR1⟩, Hg⟩, Ho, ⟨%d0, H0⟩, ⟨%d1, H1⟩, ⟨%d2, H2⟩, ⟨%d3, H3⟩, ⟨%d4, H4⟩⟩
      iapply ((kernelRun2_A c (grid2.coords t) _ _ _ _ _ _ _ _ _ _ _ _ ((hcond2_0 t).mpr h0) (iblk2 V c 0 t) (iblk2 V c 1 t) (iblk2 V c 2 t) (iblk2 V c 3 t)).2.2 Set.univ _)
      isplitl [H0]; · iexact H0
      isplitl [H1]; · iexact H1
      isplitl [H2]; · iexact H2
      isplitl [H3]; · iexact H3
      isplitl [H4]; · iexists _; iexact H4
      isplitl [HS0]; · iexists _; iexact HS0
      iintro ⟨H0, H1, H2, H3, ⟨%e4, H4⟩, ⟨%es0, HS0⟩⟩
      isplitl [HS0 HR1 Hg]
      · isplitl [HS0 HR1]
        · isplitl [HS0]
          · unfold owns; iexists _; isplitr
            swap; · iexact HS0
            ipureintro; exact View.read_writes_of_cover _ _ _ _ _ (scover2_A_0 c _ _ _ _ _ _ _ _ _ _ _ _ _ _ _ _ _ _)
          iexact HR1
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover2_A_4 c _ _ _ _ _ _ _ _ _ _ _ _ _ _ _ _ _ _)
  · by_cases hz : t.val = 0
    · exfalso; have hN : t.val < 70 := lt_of_lt_of_eq t.isLt (show cfg2.N = 70 from N_2); omega
    · rw [PhiS2_castSucc V c t, PhiS2_pos V c _ _ hz]
      rw [outsAt2_B V c t h0]
      unfold out2_B_4 sout2_B_0; (try dsimp only)
      iintro ⟨⟨⟨HS0, HR1⟩, Hg⟩, Ho, ⟨%d0, H0⟩, ⟨%d1, H1⟩, ⟨%d2, H2⟩, ⟨%d3, H3⟩, ⟨%d4, H4⟩⟩
      iapply ((kernelRun2_B c (grid2.coords t) _ _ _ _ _ _ _ _ _ _ _ _ (fun h => h0 ((hcond2_0 t).mp h)) (iblk2 V c 0 t) (iblk2 V c 1 t) (iblk2 V c 2 t) (iblk2 V c 3 t) _).2.2 Set.univ _)
      isplitl [H0]; · iexact H0
      isplitl [H1]; · iexact H1
      isplitl [H2]; · iexact H2
      isplitl [H3]; · iexact H3
      isplitl [H4]; · iexists _; iexact H4
      isplitl [HS0]; · iexact HS0
      iintro ⟨H0, H1, H2, H3, ⟨%e4, H4⟩, HS0⟩
      isplitl [HS0 HR1 Hg]
      · isplitl [HS0 HR1]
        · isplitl [HS0]
          · iexact HS0
          iexact HR1
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover2_B_4 c _ _ _ _ _ _ _ _ _ _ _ _ _ _ _ _ _ _ _)

/-- The body table's row at point `t`'s slots is the body as `bodyAt2` spells it. -/
theorem defs₀_row2 (t : Fin cfg2.N) :
    defs₀ (F := F) .tc cfg2.body (cfg2.bodyArgs t (cfg2.slots t)) = bodyAt2 t := by
  unfold defs₀; rw [Defs.onTc_tc]

/-- The library's body obligation, at every point: the body's triple restated (Lib/Pipeline/FrameBody.lean `triple_restated`). -/
theorem body_obligation2 (c : Dev nD) : BodyObligation (dat2 (F := F) V c) (defs₀ (F := F)) Variants.none () Set.univ := fun t => by
  rw [bigSep_W2, bigSep_W2, defs₀_row2]
  exact triple_restated (sound_body2 V c t) rfl .rfl fun _ => .rfl

/-- What the launch hands the region (`ΦA`) is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After any point but the first the invariant gives `ΦA` back: the carried scratch's named contents are forgotten. -/
theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  iintro ⟨⟨HS0, HR1⟩, Hg⟩
  isplitl [HS0 HR1]
  · isplitl [HS0]
    · iexists _; iexact HS0
    iexact HR1
  iexact Hg

/-- The same after the last point. -/
theorem hout2 (c : Dev nD) : (dat2 V c).Φ (Fin.last cfg2.N) ⊢ Pipeline.ΦA spec2 c :=
  Phi_out2 V c _ (by rw [Fin.val_last]; have : cfg2.N = 70 := N_2; omega)

end Regions

end Cert.KernelIdeal.Whole

end
-- ==== Proof.Whole.Region3.lean ====
/-
  The call number 3 of the kernel, at any contents `V` that the buffers have when the call is entered: the block of each
  window at a grid point, what the body leaves in its output windows and in the scratch memory it keeps from one point to the
  next, and the proof that the body does so.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Whole

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section Regions
-- the TensorCore's buffer contents when a region is entered: the parameter every region's half is stated at, which
-- the run instantiates per region
variable (V : (c : Dev nD) → (b : Ref sig .tc) → Buf (Elt F) ((c : Thread nD τ).loc b))

/-! # REGION 3 of @main: custom_call 3, `cc3_quant_dh` (pipeline 3), at the entry contents `V` — class R -/

/-! ## The windows' blocks -/

/-- Window `w`'s block at point `t`, read off its array as the region finds it (`V`). -/
noncomputable def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-! ## The kernel body on any staging memrefs: a subtype the run finds -/

/-- One staging buffer of output window 3, through which its contents are stated (`View.read_writes_of_cover`: the
    choice does not matter). -/
abbrev VO3_3 : View sig .tc .vmem S256x10240 .fp8e5m2 := (Memref.whole cc3_stg3_0 : Memref sig .tc .vmem S256x10240 .fp8e5m2).view
/-- Each window's current staging memref at point `t`, spelled as the pipeline passes it (`bodyAt3`), and its wholeness. -/
abbrev ms3_0 (t : Fin cfg3.N) : Memref sig .tc .smem S1x1 .f32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S256x5120 .f32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S256x5120 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S256x10240 .fp8e5m2 := win3_3.stage (cfg3.slots t 3)
abbrev hs3_3 (t : Fin cfg3.N) : (ms3_3 t).IsWhole := hstage3_3 ((cfg3.slots t 3).cast nbuf3_3)

-- (the run's proof term is large: the definition's epilogue — `abstractNestedProofs` — walks it past the default budget)
set_option maxHeartbeats 1000000 in
/-- What the body's stores leave in each output's staging memref, as pieces (last first), WITH the
    proof that on whole staging memrefs — the inputs' at their contents, the other outputs' at
    anything, the body runs to the continuation holding the inputs' as they were,
    each output's buffer with its pieces written: the printed functions are their skeletons
    (`Gen.*_eq_skeleton`), which `sl_exec` runs (Lib/Exec.lean); the pieces are
    the witness that run finds (assigned when `iexact` hands the buffer to the continuation). -/
noncomputable def kernelRun3_A (c : Dev nD) (i : grid3.Coords) (arg1 : Memref sig .tc .smem S1x1 .f32) (harg1 : arg1.IsWhole) (arg2 : Memref sig .tc .vmem S256x5120 .f32) (harg2 : arg2.IsWhole) (arg3 : Memref sig .tc .vmem S256x5120 .f32) (harg3 : arg3.IsWhole) (arg4 : Memref sig .tc .vmem S256x10240 .fp8e5m2) (harg4 : arg4.IsWhole)
    (x0 : Vec F S1x1 .f32) (x1 : Vec F S256x5120 .f32) (x2 : Vec F S256x5120 .f32) :
    { L3 : List (View.Piece (Elt F) S256x10240 .fp8e5m2) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d)
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3)) -∗ K ⟨⟩))
          ⊢ wp frame (wpE (defs₀ (F := F)) Variants.none c none) E (cc3_quant_dh i arg1 harg1 arg2 harg2 arg3 harg3 arg4 harg4) K } := by
  refine ⟨?_, fun E K => ?run⟩
  case run =>
    simp only [cc3_quant_dh_eq_skeleton]; unfold cc3_quant_dh_skel
    simp only [k3_part1_eq_skeleton, k3_part2_eq_skeleton]
    unfold owns
    iintro ⟨⟨%f0, %hf0, H0⟩, ⟨%f1, %hf1, H1⟩, ⟨%f2, %hf2, H2⟩, ⟨%d3, %f3, -, H3⟩, Hk⟩
    obtain rfl := harg1.eq_unread hf0; obtain rfl := harg2.eq_unread hf1; obtain rfl := harg3.eq_unread hf2
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact H3

/-- The run's pieces for output 3 tile its block (2 stores of `S256x5120`, checked by the kernel's evaluation: Lib/Ring.lean `Piece.tiledL`, linear in the pieces, through a loop's `@[irreducible]` trip theorem too), so they cover it. -/
theorem cover3_A_3 (c : Dev nD) (i : grid3.Coords) (arg1 : Memref sig .tc .smem S1x1 .f32) (harg1 : arg1.IsWhole) (arg2 : Memref sig .tc .vmem S256x5120 .f32) (harg2 : arg2.IsWhole) (arg3 : Memref sig .tc .vmem S256x5120 .f32) (harg3 : arg3.IsWhole) (arg4 : Memref sig .tc .vmem S256x10240 .fp8e5m2) (harg4 : arg4.IsWhole)
    (x0 : Vec F S1x1 .f32) (x1 : Vec F S256x5120 .f32) (x2 : Vec F S256x5120 .f32) (y : S256x10240.Idx) :
    ∃ pc ∈ (kernelRun3_A c i arg1 harg1 arg2 harg2 arg3 harg3 arg4 harg4 x0 x1 x2).1, y ∈ pc.1.set :=
  View.cover_of_tiledL (kernelRun3_A c i arg1 harg1 arg2 harg2 arg3 harg3 arg4 harg4 x0 x1 x2).1 S256x5120.size (by sl_kernel_rfl) y

/-- What the run leaves in output 3's staging buffer: its pieces read back over junk. -/
def out3_A_3 (c : Dev nD) (i : grid3.Coords) (arg1 : Memref sig .tc .smem S1x1 .f32) (harg1 : arg1.IsWhole) (arg2 : Memref sig .tc .vmem S256x5120 .f32) (harg2 : arg2.IsWhole) (arg3 : Memref sig .tc .vmem S256x5120 .f32) (harg3 : arg3.IsWhole) (arg4 : Memref sig .tc .vmem S256x10240 .fp8e5m2) (harg4 : arg4.IsWhole)
    (x0 : Vec F S1x1 .f32) (x1 : Vec F S256x5120 .f32) (x2 : Vec F S256x5120 .f32) : Vec F S256x10240 .fp8e5m2 :=
  VO3_3.read (Elt F) (VO3_3.writes (Elt F) VO3_3.junk (kernelRun3_A c i arg1 harg1 arg2 harg2 arg3 harg3 arg4 harg4 x0 x1 x2).1)

/-! ## What the outputs hold after each point -/

/-- What the outputs' staging buffers hold after the body at point `t`: the run's contents at
    the point's memrefs and input blocks. -/
def outsAt3 (c : Dev nD) (t : Fin cfg3.N) : Vec F S256x10240 .fp8e5m2 :=
  out3_A_3 c (grid3.coords t) (ms3_0 t) (hs3_0 t) (ms3_1 t) (hs3_1 t) (ms3_2 t) (hs3_2 t) (ms3_3 t) (hs3_3 t) (iblk3 V c 0 t) (iblk3 V c 1 t) (iblk3 V c 2 t)

/-! ## The pipeline's proof data -/

/-- The proof data of pipeline 3 on core `c`: the arrays as the region finds them (`V`); after the body at
    point `t` each input's buffer at its block and the outputs' at `outsAt3`; the invariant the class's
    (Lib/Pipeline/Frame.lean `ΦA`: the scoped rest and the generator register); nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => (outsAt3 V c t)
  Φ _ := Pipeline.ΦA spec3 c
  q _ := fullShare
  owed _ := 0

/-- The proof data's arrays are the region-entry contents, by projecting the definition (`dsimp`): a region record cites
    this for its arrays rather than have Lean unfold `V`, the fold through @main up to the region's entry. -/
theorem A_eq3 (c : Dev nD) (w : Fin cfg3.W) : (dat3 V c).A w = V c (Pipeline.arrRef spec3 w) := by
  dsimp only [dat3]

/-- What the body leaves, window by window (the proof data's `match` reduced by `dsimp`). -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = (outsAt3 V c t) := by dsimp only [dat3]

/-- Each input's current staging buffer holds its block at every point, fetched there or not (`beforeK_W_of`). -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-! ## The body obligation, at a generic point -/

/-- What the body is called with at point `t` (Lib/Pipeline.lean `BodyObligation`'s precondition, the windows one by one), -/
def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d)))

/-- and what it returns. -/
def bodyPost3 (c : Dev nD) (t : Fin cfg3.N) : sProp 𝕄 :=
  iprop((dat3 V c).Φ t.succ ∗ (dat3 V c).owesAt () t.succ
    ∗ owns (c : Thread nD τ) (ms3_0 t) fullShare ((dat3 V c).after 0 t)
    ∗ owns (c : Thread nD τ) (ms3_1 t) fullShare ((dat3 V c).after 1 t)
    ∗ owns (c : Thread nD τ) (ms3_2 t) fullShare ((dat3 V c).after 2 t)
    ∗ owns (c : Thread nD τ) (ms3_3 t) fullShare ((dat3 V c).after 3 t))

/-- The body at any point: the inputs' memrefs hold their blocks (`before3_W`); so the
    run applies; the invariant passes through unread; the core owes nothing throughout. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3]
  unfold outsAt3
  unfold out3_A_3
  iintro ⟨HΦ, Ho, ⟨%d0, H0⟩, ⟨%d1, H1⟩, ⟨%d2, H2⟩, ⟨%d3, H3⟩⟩
  iapply ((kernelRun3_A c (grid3.coords t) _ _ _ _ _ _ _ _ (iblk3 V c 0 t) (iblk3 V c 1 t) (iblk3 V c 2 t)).2 Set.univ _)
  isplitl [H0]; · iexact H0
  isplitl [H1]; · iexact H1
  isplitl [H2]; · iexact H2
  isplitl [H3]; · iexists _; iexact H3
  iintro ⟨H0, H1, H2, ⟨%e3, H3⟩⟩
  isplitl [HΦ]; · iexact HΦ
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (cover3_A_3 c _ _ _ _ _ _ _ _ _ _ _ _)

/-- The body table's row at point `t`'s slots is the body as `bodyAt3` spells it. -/
theorem defs₀_row3 (t : Fin cfg3.N) :
    defs₀ (F := F) .tc cfg3.body (cfg3.bodyArgs t (cfg3.slots t)) = bodyAt3 t := by
  unfold defs₀; rw [Defs.onTc_tc]

/-- The library's body obligation, at every point: the body's triple restated (Lib/Pipeline/FrameBody.lean `triple_restated`). -/
theorem body_obligation3 (c : Dev nD) : BodyObligation (dat3 (F := F) V c) (defs₀ (F := F)) Variants.none () Set.univ := fun t => by
  rw [bigSep_W3, bigSep_W3, defs₀_row3]
  exact triple_restated (sound_body3 V c t) rfl .rfl fun _ => .rfl

end Regions

end Cert.KernelIdeal.Whole

end
-- ==== Proof.Whole.Region4.lean ====
/-
  The call number 4 of the kernel, at any contents `V` that the buffers have when the call is entered: the block of each
  window at a grid point, what the body leaves in its output windows and in the scratch memory it keeps from one point to the
  next, and the proof that the body does so.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Whole

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section Regions
-- the TensorCore's buffer contents when a region is entered: the parameter every region's half is stated at, which
-- the run instantiates per region
variable (V : (c : Dev nD) → (b : Ref sig .tc) → Buf (Elt F) ((c : Thread nD τ).loc b))

/-! # REGION 4 of @main: custom_call 4, `cc4_dx` (pipeline 4), at the entry contents `V` — class R -/

/-! ## The windows' blocks -/

/-- Window `w`'s block at point `t`, read off its array as the region finds it (`V`). -/
noncomputable def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

/-! ## The kernel body on any staging memrefs: a subtype the run finds -/

/-- One staging buffer of output window 4, through which its contents are stated (`View.read_writes_of_cover`: the
    choice does not matter). -/
abbrev VO4_4 : View sig .tc .vmem S1024x512 .bf16 := (Memref.whole cc4_stg4_0 : Memref sig .tc .vmem S1024x512 .bf16).view
/-- Each window's current staging memref at point `t`, spelled as the pipeline passes it (`bodyAt4`), and its wholeness. -/
abbrev ms4_0 (t : Fin cfg4.N) : Memref sig .tc .smem S1x1 .f32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .smem S1x1 .f32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S1024x10240 .fp8e5m2 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S512x10240 .fp8e4m3 := win4_3.stage (cfg4.slots t 3)
abbrev hs4_3 (t : Fin cfg4.N) : (ms4_3 t).IsWhole := hstage4_3 ((cfg4.slots t 3).cast nbuf4_3)
abbrev ms4_4 (t : Fin cfg4.N) : Memref sig .tc .vmem S1024x512 .bf16 := win4_4.stage (cfg4.slots t 4)
abbrev hs4_4 (t : Fin cfg4.N) : (ms4_4 t).IsWhole := hstage4_4 ((cfg4.slots t 4).cast nbuf4_4)

-- (the run's proof term is large: the definition's epilogue — `abstractNestedProofs` — walks it past the default budget)
set_option maxHeartbeats 1000000 in
/-- What the body's stores leave in each output's staging memref, as pieces (last first), WITH the
    proof that on whole staging memrefs — the inputs' at their contents, the other outputs' at
    anything, the body runs to the continuation holding the inputs' as they were,
    each output's buffer with its pieces written: the printed functions are their skeletons
    (`Gen.*_eq_skeleton`), which `sl_exec` runs (Lib/Exec.lean); the pieces are
    the witness that run finds (assigned when `iexact` hands the buffer to the continuation). -/
noncomputable def kernelRun4_A (c : Dev nD) (i : grid4.Coords) (arg2 : Memref sig .tc .smem S1x1 .f32) (harg2 : arg2.IsWhole) (arg3 : Memref sig .tc .smem S1x1 .f32) (harg3 : arg3.IsWhole) (arg4 : Memref sig .tc .vmem S1024x10240 .fp8e5m2) (harg4 : arg4.IsWhole) (arg5 : Memref sig .tc .vmem S512x10240 .fp8e4m3) (harg5 : arg5.IsWhole) (arg6 : Memref sig .tc .vmem S1024x512 .bf16) (harg6 : arg6.IsWhole)
    (x0 : Vec F S1x1 .f32) (x1 : Vec F S1x1 .f32) (x2 : Vec F S1024x10240 .fp8e5m2) (x3 : Vec F S512x10240 .fp8e4m3) :
    { L4 : List (View.Piece (Elt F) S1024x512 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4)) -∗ K ⟨⟩))
          ⊢ wp frame (wpE (defs₀ (F := F)) Variants.none c none) E (cc4_dx i arg2 harg2 arg3 harg3 arg4 harg4 arg5 harg5 arg6 harg6) K } := by
  refine ⟨?_, fun E K => ?run⟩
  case run =>
    simp only [cc4_dx_eq_skeleton]; unfold cc4_dx_skel
    unfold owns
    iintro ⟨⟨%f0, %hf0, H0⟩, ⟨%f1, %hf1, H1⟩, ⟨%f2, %hf2, H2⟩, ⟨%f3, %hf3, H3⟩, ⟨%d4, %f4, -, H4⟩, Hk⟩
    obtain rfl := harg2.eq_unread hf0; obtain rfl := harg3.eq_unread hf1; obtain rfl := harg4.eq_unread hf2; obtain rfl := harg5.eq_unread hf3
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact H4

/-- The run's pieces for output 4 tile its block (1 store of `S1024x512`, checked by the kernel's evaluation: Lib/Ring.lean `Piece.tiledL`, linear in the pieces, through a loop's `@[irreducible]` trip theorem too), so they cover it. -/
theorem cover4_A_4 (c : Dev nD) (i : grid4.Coords) (arg2 : Memref sig .tc .smem S1x1 .f32) (harg2 : arg2.IsWhole) (arg3 : Memref sig .tc .smem S1x1 .f32) (harg3 : arg3.IsWhole) (arg4 : Memref sig .tc .vmem S1024x10240 .fp8e5m2) (harg4 : arg4.IsWhole) (arg5 : Memref sig .tc .vmem S512x10240 .fp8e4m3) (harg5 : arg5.IsWhole) (arg6 : Memref sig .tc .vmem S1024x512 .bf16) (harg6 : arg6.IsWhole)
    (x0 : Vec F S1x1 .f32) (x1 : Vec F S1x1 .f32) (x2 : Vec F S1024x10240 .fp8e5m2) (x3 : Vec F S512x10240 .fp8e4m3) (y : S1024x512.Idx) :
    ∃ pc ∈ (kernelRun4_A c i arg2 harg2 arg3 harg3 arg4 harg4 arg5 harg5 arg6 harg6 x0 x1 x2 x3).1, y ∈ pc.1.set :=
  View.cover_of_tiledL (kernelRun4_A c i arg2 harg2 arg3 harg3 arg4 harg4 arg5 harg5 arg6 harg6 x0 x1 x2 x3).1 S1024x512.size (by sl_kernel_rfl) y

/-- What the run leaves in output 4's staging buffer: its pieces read back over junk. -/
def out4_A_4 (c : Dev nD) (i : grid4.Coords) (arg2 : Memref sig .tc .smem S1x1 .f32) (harg2 : arg2.IsWhole) (arg3 : Memref sig .tc .smem S1x1 .f32) (harg3 : arg3.IsWhole) (arg4 : Memref sig .tc .vmem S1024x10240 .fp8e5m2) (harg4 : arg4.IsWhole) (arg5 : Memref sig .tc .vmem S512x10240 .fp8e4m3) (harg5 : arg5.IsWhole) (arg6 : Memref sig .tc .vmem S1024x512 .bf16) (harg6 : arg6.IsWhole)
    (x0 : Vec F S1x1 .f32) (x1 : Vec F S1x1 .f32) (x2 : Vec F S1024x10240 .fp8e5m2) (x3 : Vec F S512x10240 .fp8e4m3) : Vec F S1024x512 .bf16 :=
  VO4_4.read (Elt F) (VO4_4.writes (Elt F) VO4_4.junk (kernelRun4_A c i arg2 harg2 arg3 harg3 arg4 harg4 arg5 harg5 arg6 harg6 x0 x1 x2 x3).1)

/-! ## What the outputs hold after each point -/

/-- What the outputs' staging buffers hold after the body at point `t`: the run's contents at
    the point's memrefs and input blocks. -/
def outsAt4 (c : Dev nD) (t : Fin cfg4.N) : Vec F S1024x512 .bf16 :=
  out4_A_4 c (grid4.coords t) (ms4_0 t) (hs4_0 t) (ms4_1 t) (hs4_1 t) (ms4_2 t) (hs4_2 t) (ms4_3 t) (hs4_3 t) (ms4_4 t) (hs4_4 t) (iblk4 V c 0 t) (iblk4 V c 1 t) (iblk4 V c 2 t) (iblk4 V c 3 t)

/-! ## The pipeline's proof data -/

/-- The proof data of pipeline 4 on core `c`: the arrays as the region finds them (`V`); after the body at
    point `t` each input's buffer at its block and the outputs' at `outsAt4`; the invariant the class's
    (Lib/Pipeline/Frame.lean `ΦA`: the scoped rest and the generator register); nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => (outsAt4 V c t)
  Φ _ := Pipeline.ΦA spec4 c
  q _ := fullShare
  owed _ := 0

/-- The proof data's arrays are the region-entry contents, by projecting the definition (`dsimp`): a region record cites
    this for its arrays rather than have Lean unfold `V`, the fold through @main up to the region's entry. -/
theorem A_eq4 (c : Dev nD) (w : Fin cfg4.W) : (dat4 V c).A w = V c (Pipeline.arrRef spec4 w) := by
  dsimp only [dat4]

/-- What the body leaves, window by window (the proof data's `match` reduced by `dsimp`). -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = (outsAt4 V c t) := by dsimp only [dat4]

/-- Each input's current staging buffer holds its block at every point, fetched there or not (`beforeK_W_of`). -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d

/-! ## The body obligation, at a generic point -/

/-- What the body is called with at point `t` (Lib/Pipeline.lean `BodyObligation`'s precondition, the windows one by one), -/
def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d))
    ∗ (∃ d, owns (c : Thread nD τ) (ms4_3 t) fullShare ((dat4 V c).before 3 t d))
    ∗ (∃ d, owns (c : Thread nD τ) (ms4_4 t) fullShare ((dat4 V c).before 4 t d)))

/-- and what it returns. -/
def bodyPost4 (c : Dev nD) (t : Fin cfg4.N) : sProp 𝕄 :=
  iprop((dat4 V c).Φ t.succ ∗ (dat4 V c).owesAt () t.succ
    ∗ owns (c : Thread nD τ) (ms4_0 t) fullShare ((dat4 V c).after 0 t)
    ∗ owns (c : Thread nD τ) (ms4_1 t) fullShare ((dat4 V c).after 1 t)
    ∗ owns (c : Thread nD τ) (ms4_2 t) fullShare ((dat4 V c).after 2 t)
    ∗ owns (c : Thread nD τ) (ms4_3 t) fullShare ((dat4 V c).after 3 t)
    ∗ owns (c : Thread nD τ) (ms4_4 t) fullShare ((dat4 V c).after 4 t))

/-- The body at any point: the inputs' memrefs hold their blocks (`before4_W`); so the
    run applies; the invariant passes through unread; the core owes nothing throughout. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3]
  rw [show (dat4 V c).Φ t.succ = (dat4 V c).Φ t.castSucc from rfl,
    show (dat4 V c).owesAt () t.succ = (dat4 V c).owesAt () t.castSucc from rfl,
    after4_0, after4_1, after4_2, after4_3, after4_4]
  unfold outsAt4
  unfold out4_A_4
  iintro ⟨HΦ, Ho, ⟨%d0, H0⟩, ⟨%d1, H1⟩, ⟨%d2, H2⟩, ⟨%d3, H3⟩, ⟨%d4, H4⟩⟩
  iapply ((kernelRun4_A c (grid4.coords t) _ _ _ _ _ _ _ _ _ _ (iblk4 V c 0 t) (iblk4 V c 1 t) (iblk4 V c 2 t) (iblk4 V c 3 t)).2 Set.univ _)
  isplitl [H0]; · iexact H0
  isplitl [H1]; · iexact H1
  isplitl [H2]; · iexact H2
  isplitl [H3]; · iexact H3
  isplitl [H4]; · iexists _; iexact H4
  iintro ⟨H0, H1, H2, H3, ⟨%e4, H4⟩⟩
  isplitl [HΦ]; · iexact HΦ
  isplitl [Ho]; · iexact Ho
  isplitl [H0]; · iexact H0
  isplitl [H1]; · iexact H1
  isplitl [H2]; · iexact H2
  isplitl [H3]; · iexact H3
  unfold owns; iexists _; isplitr
  swap; · iexact H4
  ipureintro; exact View.read_writes_of_cover _ _ _ _ _ (cover4_A_4 c _ _ _ _ _ _ _ _ _ _ _ _ _ _ _)

/-- The body table's row at point `t`'s slots is the body as `bodyAt4` spells it. -/
theorem defs₀_row4 (t : Fin cfg4.N) :
    defs₀ (F := F) .tc cfg4.body (cfg4.bodyArgs t (cfg4.slots t)) = bodyAt4 t := by
  unfold defs₀; rw [Defs.onTc_tc]

/-- The library's body obligation, at every point: the body's triple restated (Lib/Pipeline/FrameBody.lean `triple_restated`). -/
theorem body_obligation4 (c : Dev nD) : BodyObligation (dat4 (F := F) V c) (defs₀ (F := F)) Variants.none () Set.univ := fun t => by
  rw [bigSep_W4, bigSep_W4, defs₀_row4]
  exact triple_restated (sound_body4 V c t) rfl .rfl fun _ => .rfl

end Regions

end Cert.KernelIdeal.Whole

end
-- ==== Proof.Whole.Region5.lean ====
/-
  The call number 5 of the kernel, at any contents `V` that the buffers have when the call is entered: the block of each
  window at a grid point, what the body leaves in its output windows and in the scratch memory it keeps from one point to the
  next, and the proof that the body does so.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Whole

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section Regions
-- the TensorCore's buffer contents when a region is entered: the parameter every region's half is stated at, which
-- the run instantiates per region
variable (V : (c : Dev nD) → (b : Ref sig .tc) → Buf (Elt F) ((c : Thread nD τ).loc b))

/-! # REGION 5 of @main: custom_call 5, `cc5_dw1` (pipeline 5), at the entry contents `V` — class R -/

/-! ## The windows' blocks -/

/-- Window `w`'s block at point `t`, read off its array as the region finds it (`V`). -/
noncomputable def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

/-! ## The body's branch conditions -/

/-- The condition of the body's `scf.if` 0 (`k5_h1`), from the grid coordinates (the skeleton's scalar
    chain substituted). -/
abbrev cond5_0 (i : grid5.Coords) : Prop := (Scalar.cmpi .ne (Scalar.extui (Scalar.cmpi .eq (BitVec.ofNat 32 (i 1).val) 0#32)) 0#32) = 1#1
/-- It holds at the points ≡ 0 (mod 20) — by arithmetic of the point. -/
theorem hcond5_0 : ∀ t : Fin cfg5.N, cond5_0 (grid5.coords t) ↔ t.val % 20 = 0 :=
  (fun t => by
    have ht : t.val < 140 := Nat.lt_of_lt_of_eq t.isLt N_5
    have e0 : (grid5.coords t 0).val = t.val / 20 % 7 := Pipeline.Grid.coords_val t 0 (by decide) rfl
    have e1 : (grid5.coords t 1).val = t.val / 1 % 20 := Pipeline.Grid.coords_val t 1 (by decide) rfl
    simp only [cond5_0, e0, e1]
    word_cmp
   : ∀ t : Fin grid5.N, cond5_0 (grid5.coords t) ↔ t.val % 20 = 0)

/-! ## The kernel body on any staging memrefs: a subtype the run finds -/

/-- One staging buffer of output window 4, through which its contents are stated (`View.read_writes_of_cover`: the
    choice does not matter). -/
abbrev VO5_4 : View sig .tc .vmem S1024x512 .bf16 := (Memref.whole cc5_stg4_0 : Memref sig .tc .vmem S1024x512 .bf16).view
/-- Each window's current staging memref at point `t`, spelled as the pipeline passes it (`bodyAt5`), and its wholeness. -/
abbrev ms5_0 (t : Fin cfg5.N) : Memref sig .tc .smem S1x1 .f32 := win5_0.stage (cfg5.slots t 0)
abbrev hs5_0 (t : Fin cfg5.N) : (ms5_0 t).IsWhole := hstage5_0 ((cfg5.slots t 0).cast nbuf5_0)
abbrev ms5_1 (t : Fin cfg5.N) : Memref sig .tc .smem S1x1 .f32 := win5_1.stage (cfg5.slots t 1)
abbrev hs5_1 (t : Fin cfg5.N) : (ms5_1 t).IsWhole := hstage5_1 ((cfg5.slots t 1).cast nbuf5_1)
abbrev ms5_2 (t : Fin cfg5.N) : Memref sig .tc .vmem S8192x1024 .fp8e4m3 := win5_2.stage (cfg5.slots t 2)
abbrev hs5_2 (t : Fin cfg5.N) : (ms5_2 t).IsWhole := hstage5_2 ((cfg5.slots t 2).cast nbuf5_2)
abbrev ms5_3 (t : Fin cfg5.N) : Memref sig .tc .vmem S8192x512 .fp8e5m2 := win5_3.stage (cfg5.slots t 3)
abbrev hs5_3 (t : Fin cfg5.N) : (ms5_3 t).IsWhole := hstage5_3 ((cfg5.slots t 3).cast nbuf5_3)
abbrev ms5_4 (t : Fin cfg5.N) : Memref sig .tc .vmem S1024x512 .bf16 := win5_4.stage (cfg5.slots t 4)
abbrev hs5_4 (t : Fin cfg5.N) : (ms5_4 t).IsWhole := hstage5_4 ((cfg5.slots t 4).cast nbuf5_4)
/-- The scratch operands: whole scoped buffers of the kernel's own, passed beside the windows. -/
abbrev scM5_0 : Memref sig .tc .vmem S1024x8192 .fp8e4m3 := Memref.whole cc5_scratch0
/-- The scratch `arg7` the kernel carries between points, as a view: what it holds is stated through it. -/
abbrev VS5_0 : View sig .tc .vmem S1024x8192 .fp8e4m3 := scM5_0.view

/-- `Gen.scopedRest5_split` as ONE chain: the kernel's own scratch buffers, each whole at some contents, then every
    other scoped buffer, unopened (`Pipeline.scopedRestBut`). -/
theorem scopedRest5_flat (c : Dev nD) :
    (Pipeline.scopedRest spec5 c : sProp 𝕄)
      = iprop((∃ f : Buf (Elt F) ((c : Thread nD τ).loc cc5_scratch0), ((c : Thread nD τ).loc cc5_scratch0) ↦{fullShare} f) ∗ Pipeline.scopedRestBut spec5 c [cc5_scratch0]) := by
  rw [scopedRest5_split]

/-- The frame kit's invariant with the scratch operands as memrefs owned at some contents (`Gen.scopedRest5_flat`,
    Lib/Memref.lean `owns_whole`): what the body obligation hands the run and takes back. -/
theorem PhiA5_eq (c : Dev nD) :
    (Pipeline.ΦA spec5 c : sProp 𝕄)
      = iprop(iprop((∃ d, owns (c : Thread nD τ) scM5_0 fullShare d) ∗ Pipeline.scopedRestBut spec5 c [cc5_scratch0]) ∗ (∃ r, prngReg c r)) := by
  unfold Pipeline.ΦA; rw [scopedRest5_flat]; simp only [scM5_0, owns_whole]; try rfl

-- (the run's proof term is large: the definition's epilogue — `abstractNestedProofs` — walks it past the default budget)
set_option maxHeartbeats 1000000 in
/-- What the body's stores leave in each output's staging memref, as pieces (last first) IN CASE A (`scf.if` 0 taken: points 0, 20, … 120: 7 of 140), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun5_A (c : Dev nD) (i : grid5.Coords) (arg2 : Memref sig .tc .smem S1x1 .f32) (harg2 : arg2.IsWhole) (arg3 : Memref sig .tc .smem S1x1 .f32) (harg3 : arg3.IsWhole) (arg4 : Memref sig .tc .vmem S8192x1024 .fp8e4m3) (harg4 : arg4.IsWhole) (arg5 : Memref sig .tc .vmem S8192x512 .fp8e5m2) (harg5 : arg5.IsWhole) (arg6 : Memref sig .tc .vmem S1024x512 .bf16) (harg6 : arg6.IsWhole) (arg7 : Memref sig .tc .vmem S1024x8192 .fp8e4m3) (harg7 : arg7.IsWhole) (hc0 : cond5_0 i)
    (x0 : Vec F S1x1 .f32) (x1 : Vec F S1x1 .f32) (x2 : Vec F S8192x1024 .fp8e4m3) (x3 : Vec F S8192x512 .fp8e5m2) :
    Σ' (L4 : List (View.Piece (Elt F) S1024x512 .bf16)), { LS0 : List (View.Piece (Elt F) S1024x8192 .fp8e4m3) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc5_dw1 i arg2 harg2 arg3 harg3 arg4 harg4 arg5 harg5 arg6 harg6 arg7 harg7) K } := by
  refine ⟨?_, ?_, fun E K => ?run⟩
  case run =>
    simp only [cc5_dw1_eq_skeleton]; unfold cc5_dw1_skel
    unfold owns
    iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS0

/-- Case A's pieces for output 4 tile its block (1 store of `S1024x512`, checked by the kernel's evaluation: Lib/Ring.lean `Piece.tiledL`, linear in the pieces, through a loop's `@[irreducible]` trip theorem too), so they cover it. -/
theorem cover5_A_4 (c : Dev nD) (i : grid5.Coords) (arg2 : Memref sig .tc .smem S1x1 .f32) (harg2 : arg2.IsWhole) (arg3 : Memref sig .tc .smem S1x1 .f32) (harg3 : arg3.IsWhole) (arg4 : Memref sig .tc .vmem S8192x1024 .fp8e4m3) (harg4 : arg4.IsWhole) (arg5 : Memref sig .tc .vmem S8192x512 .fp8e5m2) (harg5 : arg5.IsWhole) (arg6 : Memref sig .tc .vmem S1024x512 .bf16) (harg6 : arg6.IsWhole) (arg7 : Memref sig .tc .vmem S1024x8192 .fp8e4m3) (harg7 : arg7.IsWhole) (hc0 : cond5_0 i)
    (x0 : Vec F S1x1 .f32) (x1 : Vec F S1x1 .f32) (x2 : Vec F S8192x1024 .fp8e4m3) (x3 : Vec F S8192x512 .fp8e5m2) (y : S1024x512.Idx) :
    ∃ pc ∈ (kernelRun5_A c i arg2 harg2 arg3 harg3 arg4 harg4 arg5 harg5 arg6 harg6 arg7 harg7 hc0 x0 x1 x2 x3).1, y ∈ pc.1.set :=
  View.cover_of_tiledL (kernelRun5_A c i arg2 harg2 arg3 harg3 arg4 harg4 arg5 harg5 arg6 harg6 arg7 harg7 hc0 x0 x1 x2 x3).1 S1024x512.size (by sl_kernel_rfl) y

/-- What case A leaves in output 4's staging buffer: its pieces read back over junk. -/
def out5_A_4 (c : Dev nD) (i : grid5.Coords) (arg2 : Memref sig .tc .smem S1x1 .f32) (harg2 : arg2.IsWhole) (arg3 : Memref sig .tc .smem S1x1 .f32) (harg3 : arg3.IsWhole) (arg4 : Memref sig .tc .vmem S8192x1024 .fp8e4m3) (harg4 : arg4.IsWhole) (arg5 : Memref sig .tc .vmem S8192x512 .fp8e5m2) (harg5 : arg5.IsWhole) (arg6 : Memref sig .tc .vmem S1024x512 .bf16) (harg6 : arg6.IsWhole) (arg7 : Memref sig .tc .vmem S1024x8192 .fp8e4m3) (harg7 : arg7.IsWhole) (hc0 : cond5_0 i)
    (x0 : Vec F S1x1 .f32) (x1 : Vec F S1x1 .f32) (x2 : Vec F S8192x1024 .fp8e4m3) (x3 : Vec F S8192x512 .fp8e5m2) : Vec F S1024x512 .bf16 :=
  VO5_4.read (Elt F) (VO5_4.writes (Elt F) VO5_4.junk (kernelRun5_A c i arg2 harg2 arg3 harg3 arg4 harg4 arg5 harg5 arg6 harg6 arg7 harg7 hc0 x0 x1 x2 x3).1)

/-- Case A's pieces for scratch `arg7`, which the kernel carries between points, cover it: 1 piece of `S1024x8192` tiling it (Lib/Ring.lean `Piece.tiledL`). -/
theorem scover5_A_0 (c : Dev nD) (i : grid5.Coords) (arg2 : Memref sig .tc .smem S1x1 .f32) (harg2 : arg2.IsWhole) (arg3 : Memref sig .tc .smem S1x1 .f32) (harg3 : arg3.IsWhole) (arg4 : Memref sig .tc .vmem S8192x1024 .fp8e4m3) (harg4 : arg4.IsWhole) (arg5 : Memref sig .tc .vmem S8192x512 .fp8e5m2) (harg5 : arg5.IsWhole) (arg6 : Memref sig .tc .vmem S1024x512 .bf16) (harg6 : arg6.IsWhole) (arg7 : Memref sig .tc .vmem S1024x8192 .fp8e4m3) (harg7 : arg7.IsWhole) (hc0 : cond5_0 i)
    (x0 : Vec F S1x1 .f32) (x1 : Vec F S1x1 .f32) (x2 : Vec F S8192x1024 .fp8e4m3) (x3 : Vec F S8192x512 .fp8e5m2) (y : S1024x8192.Idx) :
    ∃ pc ∈ (kernelRun5_A c i arg2 harg2 arg3 harg3 arg4 harg4 arg5 harg5 arg6 harg6 arg7 harg7 hc0 x0 x1 x2 x3).2.1, y ∈ pc.1.set :=
  View.cover_of_tiledL (kernelRun5_A c i arg2 harg2 arg3 harg3 arg4 harg4 arg5 harg5 arg6 harg6 arg7 harg7 hc0 x0 x1 x2 x3).2.1 S1024x8192.size (by sl_kernel_rfl) y

/-- What case A leaves in scratch `arg7`: its pieces read back over junk. -/
def sout5_A_0 (c : Dev nD) (i : grid5.Coords) (arg2 : Memref sig .tc .smem S1x1 .f32) (harg2 : arg2.IsWhole) (arg3 : Memref sig .tc .smem S1x1 .f32) (harg3 : arg3.IsWhole) (arg4 : Memref sig .tc .vmem S8192x1024 .fp8e4m3) (harg4 : arg4.IsWhole) (arg5 : Memref sig .tc .vmem S8192x512 .fp8e5m2) (harg5 : arg5.IsWhole) (arg6 : Memref sig .tc .vmem S1024x512 .bf16) (harg6 : arg6.IsWhole) (arg7 : Memref sig .tc .vmem S1024x8192 .fp8e4m3) (harg7 : arg7.IsWhole) (hc0 : cond5_0 i)
    (x0 : Vec F S1x1 .f32) (x1 : Vec F S1x1 .f32) (x2 : Vec F S8192x1024 .fp8e4m3) (x3 : Vec F S8192x512 .fp8e5m2) : Vec F S1024x8192 .fp8e4m3 :=
  VS5_0.read (Elt F) (VS5_0.writes (Elt F) VS5_0.junk (kernelRun5_A c i arg2 harg2 arg3 harg3 arg4 harg4 arg5 harg5 arg6 harg6 arg7 harg7 hc0 x0 x1 x2 x3).2.1)

-- (the run's proof term is large: the definition's epilogue — `abstractNestedProofs` — walks it past the default budget)
set_option maxHeartbeats 1000000 in
/-- What the body's stores leave in each output's staging memref, as pieces (last first) IN CASE B (`scf.if` 0 not taken: points 1, 2, … 139: 133 of 140), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun5_B (c : Dev nD) (i : grid5.Coords) (arg2 : Memref sig .tc .smem S1x1 .f32) (harg2 : arg2.IsWhole) (arg3 : Memref sig .tc .smem S1x1 .f32) (harg3 : arg3.IsWhole) (arg4 : Memref sig .tc .vmem S8192x1024 .fp8e4m3) (harg4 : arg4.IsWhole) (arg5 : Memref sig .tc .vmem S8192x512 .fp8e5m2) (harg5 : arg5.IsWhole) (arg6 : Memref sig .tc .vmem S1024x512 .bf16) (harg6 : arg6.IsWhole) (arg7 : Memref sig .tc .vmem S1024x8192 .fp8e4m3) (harg7 : arg7.IsWhole) (hc0 : ¬cond5_0 i)
    (x0 : Vec F S1x1 .f32) (x1 : Vec F S1x1 .f32) (x2 : Vec F S8192x1024 .fp8e4m3) (x3 : Vec F S8192x512 .fp8e5m2) (xs0 : Vec F S1024x8192 .fp8e4m3) :
    Σ' (L4 : List (View.Piece (Elt F) S1024x512 .bf16)), { LS0 : List (View.Piece (Elt F) S1024x8192 .fp8e4m3) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ owns (c : Thread nD τ) arg7 fullShare xs0) -∗ K ⟨⟩))
          ⊢ wp frame (wpE (defs₀ (F := F)) Variants.none c none) E (cc5_dw1 i arg2 harg2 arg3 harg3 arg4 harg4 arg5 harg5 arg6 harg6 arg7 harg7) K } := by
  refine ⟨?_, [], fun E K => ?run⟩
  case run =>
    simp only [cc5_dw1_eq_skeleton]; unfold cc5_dw1_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg7.eq_unread hfs0
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; isplitr; · ipureintro; exact harg7.read_unread _
    iexact HS0

/-- Case B's pieces for output 4 tile its block (1 store of `S1024x512`, checked by the kernel's evaluation: Lib/Ring.lean `Piece.tiledL`, linear in the pieces, through a loop's `@[irreducible]` trip theorem too), so they cover it. -/
theorem cover5_B_4 (c : Dev nD) (i : grid5.Coords) (arg2 : Memref sig .tc .smem S1x1 .f32) (harg2 : arg2.IsWhole) (arg3 : Memref sig .tc .smem S1x1 .f32) (harg3 : arg3.IsWhole) (arg4 : Memref sig .tc .vmem S8192x1024 .fp8e4m3) (harg4 : arg4.IsWhole) (arg5 : Memref sig .tc .vmem S8192x512 .fp8e5m2) (harg5 : arg5.IsWhole) (arg6 : Memref sig .tc .vmem S1024x512 .bf16) (harg6 : arg6.IsWhole) (arg7 : Memref sig .tc .vmem S1024x8192 .fp8e4m3) (harg7 : arg7.IsWhole) (hc0 : ¬cond5_0 i)
    (x0 : Vec F S1x1 .f32) (x1 : Vec F S1x1 .f32) (x2 : Vec F S8192x1024 .fp8e4m3) (x3 : Vec F S8192x512 .fp8e5m2) (xs0 : Vec F S1024x8192 .fp8e4m3) (y : S1024x512.Idx) :
    ∃ pc ∈ (kernelRun5_B c i arg2 harg2 arg3 harg3 arg4 harg4 arg5 harg5 arg6 harg6 arg7 harg7 hc0 x0 x1 x2 x3 xs0).1, y ∈ pc.1.set :=
  View.cover_of_tiledL (kernelRun5_B c i arg2 harg2 arg3 harg3 arg4 harg4 arg5 harg5 arg6 harg6 arg7 harg7 hc0 x0 x1 x2 x3 xs0).1 S1024x512.size (by sl_kernel_rfl) y

/-- What case B leaves in output 4's staging buffer: its pieces read back over junk. -/
def out5_B_4 (c : Dev nD) (i : grid5.Coords) (arg2 : Memref sig .tc .smem S1x1 .f32) (harg2 : arg2.IsWhole) (arg3 : Memref sig .tc .smem S1x1 .f32) (harg3 : arg3.IsWhole) (arg4 : Memref sig .tc .vmem S8192x1024 .fp8e4m3) (harg4 : arg4.IsWhole) (arg5 : Memref sig .tc .vmem S8192x512 .fp8e5m2) (harg5 : arg5.IsWhole) (arg6 : Memref sig .tc .vmem S1024x512 .bf16) (harg6 : arg6.IsWhole) (arg7 : Memref sig .tc .vmem S1024x8192 .fp8e4m3) (harg7 : arg7.IsWhole) (hc0 : ¬cond5_0 i)
    (x0 : Vec F S1x1 .f32) (x1 : Vec F S1x1 .f32) (x2 : Vec F S8192x1024 .fp8e4m3) (x3 : Vec F S8192x512 .fp8e5m2) (xs0 : Vec F S1024x8192 .fp8e4m3) : Vec F S1024x512 .bf16 :=
  VO5_4.read (Elt F) (VO5_4.writes (Elt F) VO5_4.junk (kernelRun5_B c i arg2 harg2 arg3 harg3 arg4 harg4 arg5 harg5 arg6 harg6 arg7 harg7 hc0 x0 x1 x2 x3 xs0).1)

/-- Case B stores nothing into scratch `arg7`: it holds what the point before left. -/
def sout5_B_0 (c : Dev nD) (i : grid5.Coords) (arg2 : Memref sig .tc .smem S1x1 .f32) (harg2 : arg2.IsWhole) (arg3 : Memref sig .tc .smem S1x1 .f32) (harg3 : arg3.IsWhole) (arg4 : Memref sig .tc .vmem S8192x1024 .fp8e4m3) (harg4 : arg4.IsWhole) (arg5 : Memref sig .tc .vmem S8192x512 .fp8e5m2) (harg5 : arg5.IsWhole) (arg6 : Memref sig .tc .vmem S1024x512 .bf16) (harg6 : arg6.IsWhole) (arg7 : Memref sig .tc .vmem S1024x8192 .fp8e4m3) (harg7 : arg7.IsWhole) (hc0 : ¬cond5_0 i)
    (x0 : Vec F S1x1 .f32) (x1 : Vec F S1x1 .f32) (x2 : Vec F S8192x1024 .fp8e4m3) (x3 : Vec F S8192x512 .fp8e5m2) (xs0 : Vec F S1024x8192 .fp8e4m3) : Vec F S1024x8192 .fp8e4m3 := xs0

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before5_W_κ`). An assignment of the conditions no point meets is no case (`False.elim`). -/
def outsAt5 (c : Dev nD) : (n : ℕ) → n < cfg5.N → Vec F S1024x512 .bf16 × Vec F S1024x8192 .fp8e4m3
  | 0, hn => (out5_A_4 c (grid5.coords ⟨0, hn⟩) (ms5_0 ⟨0, hn⟩) (hs5_0 ⟨0, hn⟩) (ms5_1 ⟨0, hn⟩) (hs5_1 ⟨0, hn⟩) (ms5_2 ⟨0, hn⟩) (hs5_2 ⟨0, hn⟩) (ms5_3 ⟨0, hn⟩) (hs5_3 ⟨0, hn⟩) (ms5_4 ⟨0, hn⟩) (hs5_4 ⟨0, hn⟩) scM5_0 (Memref.isWhole_whole _) ((hcond5_0 ⟨0, hn⟩).mpr (Nat.zero_mod _)) (iblk5 V c 0 ⟨0, hn⟩) (iblk5 V c 1 ⟨0, hn⟩) (iblk5 V c 2 ⟨0, hn⟩) (iblk5 V c 3 ⟨0, hn⟩), sout5_A_0 c (grid5.coords ⟨0, hn⟩) (ms5_0 ⟨0, hn⟩) (hs5_0 ⟨0, hn⟩) (ms5_1 ⟨0, hn⟩) (hs5_1 ⟨0, hn⟩) (ms5_2 ⟨0, hn⟩) (hs5_2 ⟨0, hn⟩) (ms5_3 ⟨0, hn⟩) (hs5_3 ⟨0, hn⟩) (ms5_4 ⟨0, hn⟩) (hs5_4 ⟨0, hn⟩) scM5_0 (Memref.isWhole_whole _) ((hcond5_0 ⟨0, hn⟩).mpr (Nat.zero_mod _)) (iblk5 V c 0 ⟨0, hn⟩) (iblk5 V c 1 ⟨0, hn⟩) (iblk5 V c 2 ⟨0, hn⟩) (iblk5 V c 3 ⟨0, hn⟩))
  | n + 1, hn =>
    if h0 : (n + 1) % 20 = 0 then
      (out5_A_4 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) (ms5_4 ⟨n + 1, hn⟩) (hs5_4 ⟨n + 1, hn⟩) scM5_0 (Memref.isWhole_whole _) ((hcond5_0 ⟨n + 1, hn⟩).mpr h0) (iblk5 V c 0 ⟨n + 1, hn⟩) (iblk5 V c 1 ⟨n + 1, hn⟩) (iblk5 V c 2 ⟨n + 1, hn⟩) (iblk5 V c 3 ⟨n + 1, hn⟩), sout5_A_0 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) (ms5_4 ⟨n + 1, hn⟩) (hs5_4 ⟨n + 1, hn⟩) scM5_0 (Memref.isWhole_whole _) ((hcond5_0 ⟨n + 1, hn⟩).mpr h0) (iblk5 V c 0 ⟨n + 1, hn⟩) (iblk5 V c 1 ⟨n + 1, hn⟩) (iblk5 V c 2 ⟨n + 1, hn⟩) (iblk5 V c 3 ⟨n + 1, hn⟩))
    else
      (out5_B_4 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) (ms5_4 ⟨n + 1, hn⟩) (hs5_4 ⟨n + 1, hn⟩) scM5_0 (Memref.isWhole_whole _) (fun h => h0 ((hcond5_0 ⟨n + 1, hn⟩).mp h)) (iblk5 V c 0 ⟨n + 1, hn⟩) (iblk5 V c 1 ⟨n + 1, hn⟩) (iblk5 V c 2 ⟨n + 1, hn⟩) (iblk5 V c 3 ⟨n + 1, hn⟩) (outsAt5 c n (Nat.lt_of_succ_lt hn)).2, sout5_B_0 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) (ms5_4 ⟨n + 1, hn⟩) (hs5_4 ⟨n + 1, hn⟩) scM5_0 (Memref.isWhole_whole _) (fun h => h0 ((hcond5_0 ⟨n + 1, hn⟩).mp h)) (iblk5 V c 0 ⟨n + 1, hn⟩) (iblk5 V c 1 ⟨n + 1, hn⟩) (iblk5 V c 2 ⟨n + 1, hn⟩) (iblk5 V c 3 ⟨n + 1, hn⟩) (outsAt5 c n (Nat.lt_of_succ_lt hn)).2)

/-- `outsAt5` at a point of case A: that case's contents. -/
theorem outsAt5_A (c : Dev nD) (t : Fin cfg5.N) (h0 : t.val % 20 = 0) :
    outsAt5 V c t.val t.isLt = (out5_A_4 c (grid5.coords t) (ms5_0 t) (hs5_0 t) (ms5_1 t) (hs5_1 t) (ms5_2 t) (hs5_2 t) (ms5_3 t) (hs5_3 t) (ms5_4 t) (hs5_4 t) scM5_0 (Memref.isWhole_whole _) ((hcond5_0 t).mpr h0) (iblk5 V c 0 t) (iblk5 V c 1 t) (iblk5 V c 2 t) (iblk5 V c 3 t), sout5_A_0 c (grid5.coords t) (ms5_0 t) (hs5_0 t) (ms5_1 t) (hs5_1 t) (ms5_2 t) (hs5_2 t) (ms5_3 t) (hs5_3 t) (ms5_4 t) (hs5_4 t) scM5_0 (Memref.isWhole_whole _) ((hcond5_0 t).mpr h0) (iblk5 V c 0 t) (iblk5 V c 1 t) (iblk5 V c 2 t) (iblk5 V c 3 t)) := by
  obtain ⟨n, hn⟩ := t
  cases n with
  | zero => exact rfl
  | succ n => exact (dif_pos h0).trans rfl

/-- `outsAt5` at a point of case B: that case's contents, over what the point before left. -/
theorem outsAt5_B (c : Dev nD) (t : Fin cfg5.N) (h0 : ¬t.val % 20 = 0) :
    outsAt5 V c t.val t.isLt = (out5_B_4 c (grid5.coords t) (ms5_0 t) (hs5_0 t) (ms5_1 t) (hs5_1 t) (ms5_2 t) (hs5_2 t) (ms5_3 t) (hs5_3 t) (ms5_4 t) (hs5_4 t) scM5_0 (Memref.isWhole_whole _) (fun h => h0 ((hcond5_0 t).mp h)) (iblk5 V c 0 t) (iblk5 V c 1 t) (iblk5 V c 2 t) (iblk5 V c 3 t) (outsAt5 V c (t.val - 1) (Nat.lt_of_le_of_lt (Nat.sub_le _ _) t.isLt)).2, sout5_B_0 c (grid5.coords t) (ms5_0 t) (hs5_0 t) (ms5_1 t) (hs5_1 t) (ms5_2 t) (hs5_2 t) (ms5_3 t) (hs5_3 t) (ms5_4 t) (hs5_4 t) scM5_0 (Memref.isWhole_whole _) (fun h => h0 ((hcond5_0 t).mp h)) (iblk5 V c 0 t) (iblk5 V c 1 t) (iblk5 V c 2 t) (iblk5 V c 3 t) (outsAt5 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-- The region invariant before position `n` with a scratch the kernel CARRIES between points: before the first point the
    class's (Lib/Pipeline/Frame.lean `ΦA`: every scratch at anything); afterwards the scoped rest with each carried scratch
    at what the point before left in it (`outsAt5`'s scratch components), the others at anything, and the generator register
    at some state. -/
def PhiS5 (c : Dev nD) : (n : ℕ) → n ≤ cfg5.N → sProp 𝕄
  | 0, _ => Pipeline.ΦA spec5 c
  | n + 1, hn => iprop(iprop(owns (c : Thread nD τ) scM5_0 fullShare ((outsAt5 V c n hn).2) ∗ Pipeline.scopedRestBut spec5 c [cc5_scratch0]) ∗ (∃ r, prngReg c r))

theorem PhiS5_zero (c : Dev nD) (n : ℕ) (h : n ≤ cfg5.N) (hz : n = 0) : PhiS5 V c n h = Pipeline.ΦA spec5 c := by
  subst hz; rfl

/-- After point `n` (before point `n + 1`): the carried scratch at that point's contents. -/
theorem PhiS5_succ (c : Dev nD) (n : ℕ) (hn : n < cfg5.N) :
    PhiS5 V c (n + 1) hn = iprop(iprop(owns (c : Thread nD τ) scM5_0 fullShare ((outsAt5 V c n hn).2) ∗ Pipeline.scopedRestBut spec5 c [cc5_scratch0]) ∗ (∃ r, prngReg c r)) := rfl

/-- Before a point that is not the first: the carried scratch at what the point before left. -/
theorem PhiS5_pos (c : Dev nD) (n : ℕ) (h : n ≤ cfg5.N) (hz : n ≠ 0) :
    PhiS5 V c n h = iprop(iprop(owns (c : Thread nD τ) scM5_0 fullShare ((outsAt5 V c (n - 1) (by omega)).2) ∗ Pipeline.scopedRestBut spec5 c [cc5_scratch0]) ∗ (∃ r, prngReg c r)) := by
  cases n with
  | zero => exact absurd rfl hz
  | succ n => rfl

/-! ## The pipeline's proof data -/

/-- The proof data of pipeline 5 on core `c`: the arrays as the region finds them (`V`); after the body at
    point `t` each input's buffer at its block and the outputs' at `outsAt5`; the invariant the class's
    (`PhiS5`: the class's `ΦA` before the first point, then the scoped rest with the carried scratch at `outsAt5`'s component);
    nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => (outsAt5 V c t.val t.isLt).1
  Φ t := PhiS5 V c t.val (Nat.le_of_lt_succ t.isLt)
  q _ := fullShare
  owed _ := 0

/-- The proof data's arrays are the region-entry contents, by projecting the definition (`dsimp`): a region record cites
    this for its arrays rather than have Lean unfold `V`, the fold through @main up to the region's entry. -/
theorem A_eq5 (c : Dev nD) (w : Fin cfg5.W) : (dat5 V c).A w = V c (Pipeline.arrRef spec5 w) := by
  dsimp only [dat5]

/-- The invariant at a point's start (the proof data at `t.castSucc`), restated at `t.val`. -/
theorem PhiS5_castSucc (c : Dev nD) (t : Fin cfg5.N) :
    (dat5 V c).Φ t.castSucc = PhiS5 V c t.val (Nat.le_of_lt t.isLt) := by
  dsimp only [dat5]; exact Pipeline.Dat.Φ_castSucc (PhiS5 V c) t

/-- What the body leaves, window by window (the proof data's `match` reduced by `dsimp`). -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = (outsAt5 V c t.val t.isLt).1 := by dsimp only [dat5]

/-- Each input's current staging buffer holds its block at every point, fetched there or not (`beforeK_W_of`). -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d

/-! ## The body obligation, at a generic point -/

/-- What the body is called with at point `t` (Lib/Pipeline.lean `BodyObligation`'s precondition, the windows one by one), -/
def bodyPre5 (c : Dev nD) (t : Fin cfg5.N) : sProp 𝕄 :=
  iprop((dat5 V c).Φ t.castSucc ∗ (dat5 V c).owesAt () t.castSucc
    ∗ (∃ d, owns (c : Thread nD τ) (ms5_0 t) fullShare ((dat5 V c).before 0 t d))
    ∗ (∃ d, owns (c : Thread nD τ) (ms5_1 t) fullShare ((dat5 V c).before 1 t d))
    ∗ (∃ d, owns (c : Thread nD τ) (ms5_2 t) fullShare ((dat5 V c).before 2 t d))
    ∗ (∃ d, owns (c : Thread nD τ) (ms5_3 t) fullShare ((dat5 V c).before 3 t d))
    ∗ (∃ d, owns (c : Thread nD τ) (ms5_4 t) fullShare ((dat5 V c).before 4 t d)))

/-- and what it returns. -/
def bodyPost5 (c : Dev nD) (t : Fin cfg5.N) : sProp 𝕄 :=
  iprop((dat5 V c).Φ t.succ ∗ (dat5 V c).owesAt () t.succ
    ∗ owns (c : Thread nD τ) (ms5_0 t) fullShare ((dat5 V c).after 0 t)
    ∗ owns (c : Thread nD τ) (ms5_1 t) fullShare ((dat5 V c).after 1 t)
    ∗ owns (c : Thread nD τ) (ms5_2 t) fullShare ((dat5 V c).after 2 t)
    ∗ owns (c : Thread nD τ) (ms5_3 t) fullShare ((dat5 V c).after 3 t)
    ∗ owns (c : Thread nD τ) (ms5_4 t) fullShare ((dat5 V c).after 4 t))

set_option maxHeartbeats 3200000 in
/-- The body at any point: the inputs' memrefs hold their blocks (`before5_W`); the closed forms say which case the point is in (`by_cases`), an output the case reads before covering holds what the point before left (`before5_W_κ`); so the
    run applies; the invariant hands the body the carried scratch at what the point before left (`PhiS5_pos`; at anything at the first point, `PhiS5_zero`), the other scratch buffers and the generator register at some state, and takes the carried scratch back at this point's contents (`PhiS5_succ`, by `scoverK_κ_N`); the core owes nothing throughout. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3]
  rw [show (dat5 V c).owesAt () t.succ = (dat5 V c).owesAt () t.castSucc from rfl,
    after5_0, after5_1, after5_2, after5_3, after5_4]
  rw [show (dat5 V c).Φ t.succ = PhiS5 V c (t.val + 1) t.isLt from rfl, PhiS5_succ]
  have hN : t.val < 140 := lt_of_lt_of_eq t.isLt (show cfg5.N = 140 from N_5)
  by_cases h0 : t.val % 20 = 0
  · by_cases hz : t.val = 0
    · rw [PhiS5_castSucc V c t, PhiS5_zero V c _ _ hz, PhiA5_eq]
      rw [outsAt5_A V c t h0]
      unfold out5_A_4 sout5_A_0; (try dsimp only)
      iintro ⟨⟨⟨HS0, HR1⟩, Hg⟩, Ho, ⟨%d0, H0⟩, ⟨%d1, H1⟩, ⟨%d2, H2⟩, ⟨%d3, H3⟩, ⟨%d4, H4⟩⟩
      iapply ((kernelRun5_A c (grid5.coords t) _ _ _ _ _ _ _ _ _ _ _ _ ((hcond5_0 t).mpr h0) (iblk5 V c 0 t) (iblk5 V c 1 t) (iblk5 V c 2 t) (iblk5 V c 3 t)).2.2 Set.univ _)
      isplitl [H0]; · iexact H0
      isplitl [H1]; · iexact H1
      isplitl [H2]; · iexact H2
      isplitl [H3]; · iexact H3
      isplitl [H4]; · iexists _; iexact H4
      isplitl [HS0]; · iexact HS0
      iintro ⟨H0, H1, H2, H3, ⟨%e4, H4⟩, ⟨%es0, HS0⟩⟩
      isplitl [HS0 HR1 Hg]
      · isplitl [HS0 HR1]
        · isplitl [HS0]
          · unfold owns; iexists _; isplitr
            swap; · iexact HS0
            ipureintro; exact View.read_writes_of_cover _ _ _ _ _ (scover5_A_0 c _ _ _ _ _ _ _ _ _ _ _ _ _ _ _ _ _ _)
          iexact HR1
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover5_A_4 c _ _ _ _ _ _ _ _ _ _ _ _ _ _ _ _ _ _)
    · rw [PhiS5_castSucc V c t, PhiS5_pos V c _ _ hz]
      rw [outsAt5_A V c t h0]
      unfold out5_A_4 sout5_A_0; (try dsimp only)
      iintro ⟨⟨⟨HS0, HR1⟩, Hg⟩, Ho, ⟨%d0, H0⟩, ⟨%d1, H1⟩, ⟨%d2, H2⟩, ⟨%d3, H3⟩, ⟨%d4, H4⟩⟩
      iapply ((kernelRun5_A c (grid5.coords t) _ _ _ _ _ _ _ _ _ _ _ _ ((hcond5_0 t).mpr h0) (iblk5 V c 0 t) (iblk5 V c 1 t) (iblk5 V c 2 t) (iblk5 V c 3 t)).2.2 Set.univ _)
      isplitl [H0]; · iexact H0
      isplitl [H1]; · iexact H1
      isplitl [H2]; · iexact H2
      isplitl [H3]; · iexact H3
      isplitl [H4]; · iexists _; iexact H4
      isplitl [HS0]; · iexists _; iexact HS0
      iintro ⟨H0, H1, H2, H3, ⟨%e4, H4⟩, ⟨%es0, HS0⟩⟩
      isplitl [HS0 HR1 Hg]
      · isplitl [HS0 HR1]
        · isplitl [HS0]
          · unfold owns; iexists _; isplitr
            swap; · iexact HS0
            ipureintro; exact View.read_writes_of_cover _ _ _ _ _ (scover5_A_0 c _ _ _ _ _ _ _ _ _ _ _ _ _ _ _ _ _ _)
          iexact HR1
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover5_A_4 c _ _ _ _ _ _ _ _ _ _ _ _ _ _ _ _ _ _)
  · by_cases hz : t.val = 0
    · exfalso; have hN : t.val < 140 := lt_of_lt_of_eq t.isLt (show cfg5.N = 140 from N_5); omega
    · rw [PhiS5_castSucc V c t, PhiS5_pos V c _ _ hz]
      rw [outsAt5_B V c t h0]
      unfold out5_B_4 sout5_B_0; (try dsimp only)
      iintro ⟨⟨⟨HS0, HR1⟩, Hg⟩, Ho, ⟨%d0, H0⟩, ⟨%d1, H1⟩, ⟨%d2, H2⟩, ⟨%d3, H3⟩, ⟨%d4, H4⟩⟩
      iapply ((kernelRun5_B c (grid5.coords t) _ _ _ _ _ _ _ _ _ _ _ _ (fun h => h0 ((hcond5_0 t).mp h)) (iblk5 V c 0 t) (iblk5 V c 1 t) (iblk5 V c 2 t) (iblk5 V c 3 t) _).2.2 Set.univ _)
      isplitl [H0]; · iexact H0
      isplitl [H1]; · iexact H1
      isplitl [H2]; · iexact H2
      isplitl [H3]; · iexact H3
      isplitl [H4]; · iexists _; iexact H4
      isplitl [HS0]; · iexact HS0
      iintro ⟨H0, H1, H2, H3, ⟨%e4, H4⟩, HS0⟩
      isplitl [HS0 HR1 Hg]
      · isplitl [HS0 HR1]
        · isplitl [HS0]
          · iexact HS0
          iexact HR1
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover5_B_4 c _ _ _ _ _ _ _ _ _ _ _ _ _ _ _ _ _ _ _)

/-- The body table's row at point `t`'s slots is the body as `bodyAt5` spells it. -/
theorem defs₀_row5 (t : Fin cfg5.N) :
    defs₀ (F := F) .tc cfg5.body (cfg5.bodyArgs t (cfg5.slots t)) = bodyAt5 t := by
  unfold defs₀; rw [Defs.onTc_tc]

/-- The library's body obligation, at every point: the body's triple restated (Lib/Pipeline/FrameBody.lean `triple_restated`). -/
theorem body_obligation5 (c : Dev nD) : BodyObligation (dat5 (F := F) V c) (defs₀ (F := F)) Variants.none () Set.univ := fun t => by
  rw [bigSep_W5, bigSep_W5, defs₀_row5]
  exact triple_restated (sound_body5 V c t) rfl .rfl fun _ => .rfl

/-- What the launch hands the region (`ΦA`) is the invariant before the first point. -/
theorem hin5 (c : Dev nD) : Pipeline.ΦA spec5 c ⊢ (dat5 V c).Φ 0 := by
  rw [show (dat5 V c).Φ 0 = PhiS5 V c 0 (Nat.zero_le _) from rfl, PhiS5_zero V c 0 _ rfl]
  try exact Idealize.SL.BI.Entails.refl _

/-- After any point but the first the invariant gives `ΦA` back: the carried scratch's named contents are forgotten. -/
theorem Phi_out5 (c : Dev nD) (t : Fin (cfg5.N + 1)) (ht : t.val ≠ 0) : (dat5 V c).Φ t ⊢ Pipeline.ΦA spec5 c := by
  rw [show (dat5 V c).Φ t = PhiS5 V c t.val (Nat.le_of_lt_succ t.isLt) from rfl, PhiS5_pos V c _ _ ht, PhiA5_eq]
  iintro ⟨⟨HS0, HR1⟩, Hg⟩
  isplitl [HS0 HR1]
  · isplitl [HS0]
    · iexists _; iexact HS0
    iexact HR1
  iexact Hg

/-- The same after the last point. -/
theorem hout5 (c : Dev nD) : (dat5 V c).Φ (Fin.last cfg5.N) ⊢ Pipeline.ΦA spec5 c :=
  Phi_out5 V c _ (by rw [Fin.val_last]; have : cfg5.N = 140 := N_5; omega)

end Regions

end Cert.KernelIdeal.Whole

end
-- ==== Proof.Whole.Hosts.lean ====
/-
  The buffers that the host's reshapes write.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Whole

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # THE RUN: @main's segments from the launch to the return (Lib/Pipeline/Regions.lean `θ_run_regions_kit`) -/

/-- @main's argument arrays, as TensorCore references: what the frame claim reads back. -/
abbrev argRefs : List (Ref sig .tc) := [main_arg0, main_arg1, main_arg2, main_arg3, main_arg4, main_arg5, main_arg6, main_arg7, main_arg8, main_arg9]

/-! ## The host stretches: none allocates a buffer, and each lists the references its operations write, in order,
    so that a reference absent from the list keeps its contents across the stretch (Lib/StableHlo/Run.lean
    `after_of_writes_sub`) -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_v0, main_v1, main_v2, main_v3, main_v4, main_v5, main_v6, main_v7]
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-- No operation of `hostOps6` allocates a buffer. -/
theorem hostOps6_fresh : (hostOps6 : List (HloOp τ sig (Elt F))).Forall fun op => op.fresh = ∅ := by
  simp only [List.Forall]; repeat' constructor
/-- The reference each operation of `hostOps6` writes, in order. -/
abbrev hostOps6_W : List (Ref sig .tc) := [main_v14, main_v15, main_v16, main_v17, main_v18]
theorem hostOps6_writes : (hostOps6 : List (HloOp τ sig (Elt F))).Forall fun op => op.writes ⊆ (hostOps6_W.map (Proc.devRef (τ := τ) .tc)).toFinset :=
  StableHlo.forall_writes_sub_of_map rfl
/-- `hostOps6` writes none of the argument arrays (checked: each argument against each reference it writes). -/
theorem hostOps6_args : ∀ a ∈ argRefs, a ∉ hostOps6_W := ListAll.forall_mem_of_all_decide (by decide +kernel)

end Cert.KernelIdeal.Whole

end
-- ==== Proof.Whole.Fold.lean ====
/-
  What the buffers hold between the calls of the kernel: at launch, after the reshapes of the arguments, after each of the six
  calls, and after the reshapes of the results.
-/
module

public import proofs.«01_k».proof.Proof.Whole.Region0
public import proofs.«01_k».proof.Proof.Whole.Region1
public import proofs.«01_k».proof.Proof.Whole.Region2
public import proofs.«01_k».proof.Proof.Whole.Region3
public import proofs.«01_k».proof.Proof.Whole.Region4
public import proofs.«01_k».proof.Proof.Whole.Region5
public import proofs.«01_k».proof.Proof.Whole.Hosts

@[expose] public section

-- membership in a rectangle of production extents (`View.cover_of_tiled`): the elaborator's structural look
-- recurses once per coordinate of the long axes
set_option maxRecDepth 16384

noncomputable section

namespace Cert.KernelIdeal.Whole

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary: a fold through @main, and what each item leaves unchanged -/

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After `hostOps0` (region 0's entry). -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded: `Dat.arrAt … N`), every other buffer as entered (Lib/Pipeline/FrameSuffix.lean `withArrays`) (region 1's entry). -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A reference that is none of region 0's OUTPUT arrays keeps its entry contents across it: an input window's
    array is never written back (`Dat.arrAt_in`, `A_eq0`); any other buffer is left as is. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At region 1's exit: its arrays at what the pipeline leaves (the inputs as entered, each output's write-backs
    folded: `Dat.arrAt … N`), every other buffer as entered (Lib/Pipeline/FrameSuffix.lean `withArrays`) (region 2's entry). -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact (dat1 (V2 m ρ) c).withArrays_arrAt launch₀1.sharedIn _ (A_eq1 (V2 m ρ) c) w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- A reference that is none of region 1's OUTPUT arrays keeps its entry contents across it: an input window's
    array is never written back (`Dat.arrAt_in`, `A_eq1`); any other buffer is left as is. -/
theorem W3_of (c : Dev nD) (r : Ref sig .tc) (h : ∀ w : Fin cfg1.W, Pipeline.arrRef spec1 w = r → (cfg1.win w).isOut = false) :
    W3 m ρ c (Proc.devRef .tc r) = W2 m ρ c (Proc.devRef .tc r) := by
  by_cases hw : ∃ w : Fin cfg1.W, Pipeline.arrRef spec1 w = r
  · obtain ⟨w, rfl⟩ := hw
    exact (W3_arr m ρ c w).trans (((dat1 (V2 m ρ) c).arrAt_in w (h w rfl) _).trans (A_eq1 (V2 m ρ) c w))
  · exact W3_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W3_args (c : Dev nD) : ∀ a ∈ argRefs, W3 m ρ c (Proc.devRef .tc a) = m ((c : Thread nD τ).loc a) :=
  fun a ha => (W3_of m ρ c a (argsIn1 a ha)).trans (W2_args m ρ c a ha)
/-- The same read at the TensorCore's references (region 1's exit contents). -/
abbrev V3 : (c : Dev nD) → (b : Ref sig .tc) → Buf (Elt F) ((c : Thread nD τ).loc b) := fun c b => W3 m ρ c b
/-- At region 1's exit each of its arrays holds what the pipeline leaves (`hF1`) and every other buffer what it
    held at entry (`hrest1`): the two hypotheses of Lib/Pipeline/RegionsLoop.lean `unscopedBufs_of_arrays_shared`. -/
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- At region 2's exit: its arrays at what the pipeline leaves (the inputs as entered, each output's write-backs
    folded: `Dat.arrAt … N`), every other buffer as entered (Lib/Pipeline/FrameSuffix.lean `withArrays`) (region 3's entry). -/
def W4 (c : Dev nD) : Valuation τ sig (Elt F) :=
  Pipeline.withArrays spec2 c (W3 m ρ c) fun w => (dat2 (V3 m ρ) c).arrAt w cfg2.N
theorem W4_arr (c : Dev nD) (w : Fin cfg2.W) :
    W4 m ρ c (Proc.devRef .tc (Pipeline.arrRef spec2 w)) = (dat2 (V3 m ρ) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m ρ c (Proc.devRef .tc b) = W3 m ρ c (Proc.devRef .tc b) := by
  unfold W4; exact Pipeline.withArrays_of_ne spec2 c _ _ b hb
/-- A reference that is none of region 2's OUTPUT arrays keeps its entry contents across it: an input window's
    array is never written back (`Dat.arrAt_in`, `A_eq2`); any other buffer is left as is. -/
theorem W4_of (c : Dev nD) (r : Ref sig .tc) (h : ∀ w : Fin cfg2.W, Pipeline.arrRef spec2 w = r → (cfg2.win w).isOut = false) :
    W4 m ρ c (Proc.devRef .tc r) = W3 m ρ c (Proc.devRef .tc r) := by
  by_cases hw : ∃ w : Fin cfg2.W, Pipeline.arrRef spec2 w = r
  · obtain ⟨w, rfl⟩ := hw
    exact (W4_arr m ρ c w).trans (((dat2 (V3 m ρ) c).arrAt_in w (h w rfl) _).trans (A_eq2 (V3 m ρ) c w))
  · exact W4_of_ne m ρ c r fun w e => hw ⟨w, e⟩
/-- Every argument among region 2's arrays is an input window's (checked: each argument against each window). -/
theorem argsIn2 : ∀ a ∈ argRefs, ∀ w : Fin cfg2.W, Pipeline.arrRef spec2 w = a → (cfg2.win w).isOut = false :=
  ListAll.forall_mem_of_all_decide (by decide +kernel)
theorem W4_args (c : Dev nD) : ∀ a ∈ argRefs, W4 m ρ c (Proc.devRef .tc a) = m ((c : Thread nD τ).loc a) :=
  fun a ha => (W4_of m ρ c a (argsIn2 a ha)).trans (W3_args m ρ c a ha)
/-- The same read at the TensorCore's references (region 2's exit contents). -/
abbrev V4 : (c : Dev nD) → (b : Ref sig .tc) → Buf (Elt F) ((c : Thread nD τ).loc b) := fun c b => W4 m ρ c b
/-- At region 2's exit each of its arrays holds what the pipeline leaves (`hF2`) and every other buffer what it
    held at entry (`hrest2`): the two hypotheses of Lib/Pipeline/RegionsLoop.lean `unscopedBufs_of_arrays`. -/
theorem hF2 (c : Dev nD) (w : Fin cfg2.W) : (dat2 (V3 m ρ) c).arrAt w cfg2.N = V4 m ρ c (Pipeline.arrRef spec2 w) :=
  (W4_arr m ρ c w).symm
theorem hrest2 (c : Dev nD) : ∀ b, b ∉ Finset.univ.image (Pipeline.arrRef spec2) → V4 m ρ c b = V3 m ρ c b :=
  fun b hb => W4_of_ne m ρ c b fun w e => hb (Finset.mem_image.mpr ⟨w, Finset.mem_univ _, e⟩)

/-- At region 3's exit: its arrays at what the pipeline leaves (the inputs as entered, each output's write-backs
    folded: `Dat.arrAt … N`), every other buffer as entered (Lib/Pipeline/FrameSuffix.lean `withArrays`) (region 4's entry). -/
def W5 (c : Dev nD) : Valuation τ sig (Elt F) :=
  Pipeline.withArrays spec3 c (W4 m ρ c) fun w => (dat3 (V4 m ρ) c).arrAt w cfg3.N
theorem W5_arr (c : Dev nD) (w : Fin cfg3.W) :
    W5 m ρ c (Proc.devRef .tc (Pipeline.arrRef spec3 w)) = (dat3 (V4 m ρ) c).arrAt w cfg3.N := by
  unfold W5; exact Pipeline.withArrays_arr spec3 launch3.win.arr_inj c _ _ w
theorem W5_of_ne (c : Dev nD) (b : Ref sig .tc) (hb : ∀ w, Pipeline.arrRef spec3 w ≠ b) :
    W5 m ρ c (Proc.devRef .tc b) = W4 m ρ c (Proc.devRef .tc b) := by
  unfold W5; exact Pipeline.withArrays_of_ne spec3 c _ _ b hb
/-- A reference that is none of region 3's OUTPUT arrays keeps its entry contents across it: an input window's
    array is never written back (`Dat.arrAt_in`, `A_eq3`); any other buffer is left as is. -/
theorem W5_of (c : Dev nD) (r : Ref sig .tc) (h : ∀ w : Fin cfg3.W, Pipeline.arrRef spec3 w = r → (cfg3.win w).isOut = false) :
    W5 m ρ c (Proc.devRef .tc r) = W4 m ρ c (Proc.devRef .tc r) := by
  by_cases hw : ∃ w : Fin cfg3.W, Pipeline.arrRef spec3 w = r
  · obtain ⟨w, rfl⟩ := hw
    exact (W5_arr m ρ c w).trans (((dat3 (V4 m ρ) c).arrAt_in w (h w rfl) _).trans (A_eq3 (V4 m ρ) c w))
  · exact W5_of_ne m ρ c r fun w e => hw ⟨w, e⟩
/-- Every argument among region 3's arrays is an input window's (checked: each argument against each window). -/
theorem argsIn3 : ∀ a ∈ argRefs, ∀ w : Fin cfg3.W, Pipeline.arrRef spec3 w = a → (cfg3.win w).isOut = false :=
  ListAll.forall_mem_of_all_decide (by decide +kernel)
theorem W5_args (c : Dev nD) : ∀ a ∈ argRefs, W5 m ρ c (Proc.devRef .tc a) = m ((c : Thread nD τ).loc a) :=
  fun a ha => (W5_of m ρ c a (argsIn3 a ha)).trans (W4_args m ρ c a ha)
/-- The same read at the TensorCore's references (region 3's exit contents). -/
abbrev V5 : (c : Dev nD) → (b : Ref sig .tc) → Buf (Elt F) ((c : Thread nD τ).loc b) := fun c b => W5 m ρ c b
/-- At region 3's exit each of its arrays holds what the pipeline leaves (`hF3`) and every other buffer what it
    held at entry (`hrest3`): the two hypotheses of Lib/Pipeline/RegionsLoop.lean `unscopedBufs_of_arrays`. -/
theorem hF3 (c : Dev nD) (w : Fin cfg3.W) : (dat3 (V4 m ρ) c).arrAt w cfg3.N = V5 m ρ c (Pipeline.arrRef spec3 w) :=
  (W5_arr m ρ c w).symm
theorem hrest3 (c : Dev nD) : ∀ b, b ∉ Finset.univ.image (Pipeline.arrRef spec3) → V5 m ρ c b = V4 m ρ c b :=
  fun b hb => W5_of_ne m ρ c b fun w e => hb (Finset.mem_image.mpr ⟨w, Finset.mem_univ _, e⟩)

/-- At region 4's exit: its arrays at what the pipeline leaves (the inputs as entered, each output's write-backs
    folded: `Dat.arrAt … N`), every other buffer as entered (Lib/Pipeline/FrameSuffix.lean `withArrays`) (region 5's entry). -/
def W6 (c : Dev nD) : Valuation τ sig (Elt F) :=
  Pipeline.withArrays spec4 c (W5 m ρ c) fun w => (dat4 (V5 m ρ) c).arrAt w cfg4.N
theorem W6_arr (c : Dev nD) (w : Fin cfg4.W) :
    W6 m ρ c (Proc.devRef .tc (Pipeline.arrRef spec4 w)) = (dat4 (V5 m ρ) c).arrAt w cfg4.N := by
  unfold W6; exact Pipeline.withArrays_arr spec4 launch4.win.arr_inj c _ _ w
theorem W6_of_ne (c : Dev nD) (b : Ref sig .tc) (hb : ∀ w, Pipeline.arrRef spec4 w ≠ b) :
    W6 m ρ c (Proc.devRef .tc b) = W5 m ρ c (Proc.devRef .tc b) := by
  unfold W6; exact Pipeline.withArrays_of_ne spec4 c _ _ b hb
/-- A reference that is none of region 4's OUTPUT arrays keeps its entry contents across it: an input window's
    array is never written back (`Dat.arrAt_in`, `A_eq4`); any other buffer is left as is. -/
theorem W6_of (c : Dev nD) (r : Ref sig .tc) (h : ∀ w : Fin cfg4.W, Pipeline.arrRef spec4 w = r → (cfg4.win w).isOut = false) :
    W6 m ρ c (Proc.devRef .tc r) = W5 m ρ c (Proc.devRef .tc r) := by
  by_cases hw : ∃ w : Fin cfg4.W, Pipeline.arrRef spec4 w = r
  · obtain ⟨w, rfl⟩ := hw
    exact (W6_arr m ρ c w).trans (((dat4 (V5 m ρ) c).arrAt_in w (h w rfl) _).trans (A_eq4 (V5 m ρ) c w))
  · exact W6_of_ne m ρ c r fun w e => hw ⟨w, e⟩
/-- Every argument among region 4's arrays is an input window's (checked: each argument against each window). -/
theorem argsIn4 : ∀ a ∈ argRefs, ∀ w : Fin cfg4.W, Pipeline.arrRef spec4 w = a → (cfg4.win w).isOut = false :=
  ListAll.forall_mem_of_all_decide (by decide +kernel)
theorem W6_args (c : Dev nD) : ∀ a ∈ argRefs, W6 m ρ c (Proc.devRef .tc a) = m ((c : Thread nD τ).loc a) :=
  fun a ha => (W6_of m ρ c a (argsIn4 a ha)).trans (W5_args m ρ c a ha)
/-- The same read at the TensorCore's references (region 4's exit contents). -/
abbrev V6 : (c : Dev nD) → (b : Ref sig .tc) → Buf (Elt F) ((c : Thread nD τ).loc b) := fun c b => W6 m ρ c b
/-- At region 4's exit each of its arrays holds what the pipeline leaves (`hF4`) and every other buffer what it
    held at entry (`hrest4`): the two hypotheses of Lib/Pipeline/RegionsLoop.lean `unscopedBufs_of_arrays`. -/
theorem hF4 (c : Dev nD) (w : Fin cfg4.W) : (dat4 (V5 m ρ) c).arrAt w cfg4.N = V6 m ρ c (Pipeline.arrRef spec4 w) :=
  (W6_arr m ρ c w).symm
theorem hrest4 (c : Dev nD) : ∀ b, b ∉ Finset.univ.image (Pipeline.arrRef spec4) → V6 m ρ c b = V5 m ρ c b :=
  fun b hb => W6_of_ne m ρ c b fun w e => hb (Finset.mem_image.mpr ⟨w, Finset.mem_univ _, e⟩)

/-- At region 5's exit: its arrays at what the pipeline leaves (the inputs as entered, each output's write-backs
    folded: `Dat.arrAt … N`), every other buffer as entered (Lib/Pipeline/FrameSuffix.lean `withArrays`). -/
def W7 (c : Dev nD) : Valuation τ sig (Elt F) :=
  Pipeline.withArrays spec5 c (W6 m ρ c) fun w => (dat5 (V6 m ρ) c).arrAt w cfg5.N
theorem W7_arr (c : Dev nD) (w : Fin cfg5.W) :
    W7 m ρ c (Proc.devRef .tc (Pipeline.arrRef spec5 w)) = (dat5 (V6 m ρ) c).arrAt w cfg5.N := by
  unfold W7; exact Pipeline.withArrays_arr spec5 launch5.win.arr_inj c _ _ w
theorem W7_of_ne (c : Dev nD) (b : Ref sig .tc) (hb : ∀ w, Pipeline.arrRef spec5 w ≠ b) :
    W7 m ρ c (Proc.devRef .tc b) = W6 m ρ c (Proc.devRef .tc b) := by
  unfold W7; exact Pipeline.withArrays_of_ne spec5 c _ _ b hb
/-- A reference that is none of region 5's OUTPUT arrays keeps its entry contents across it: an input window's
    array is never written back (`Dat.arrAt_in`, `A_eq5`); any other buffer is left as is. -/
theorem W7_of (c : Dev nD) (r : Ref sig .tc) (h : ∀ w : Fin cfg5.W, Pipeline.arrRef spec5 w = r → (cfg5.win w).isOut = false) :
    W7 m ρ c (Proc.devRef .tc r) = W6 m ρ c (Proc.devRef .tc r) := by
  by_cases hw : ∃ w : Fin cfg5.W, Pipeline.arrRef spec5 w = r
  · obtain ⟨w, rfl⟩ := hw
    exact (W7_arr m ρ c w).trans (((dat5 (V6 m ρ) c).arrAt_in w (h w rfl) _).trans (A_eq5 (V6 m ρ) c w))
  · exact W7_of_ne m ρ c r fun w e => hw ⟨w, e⟩
/-- Every argument among region 5's arrays is an input window's (checked: each argument against each window). -/
theorem argsIn5 : ∀ a ∈ argRefs, ∀ w : Fin cfg5.W, Pipeline.arrRef spec5 w = a → (cfg5.win w).isOut = false :=
  ListAll.forall_mem_of_all_decide (by decide +kernel)
theorem W7_args (c : Dev nD) : ∀ a ∈ argRefs, W7 m ρ c (Proc.devRef .tc a) = m ((c : Thread nD τ).loc a) :=
  fun a ha => (W7_of m ρ c a (argsIn5 a ha)).trans (W6_args m ρ c a ha)
/-- The same read at the TensorCore's references (region 5's exit contents). -/
abbrev V7 : (c : Dev nD) → (b : Ref sig .tc) → Buf (Elt F) ((c : Thread nD τ).loc b) := fun c b => W7 m ρ c b
/-- At region 5's exit each of its arrays holds what the pipeline leaves (`hF5`) and every other buffer what it
    held at entry (`hrest5`): the two hypotheses of Lib/Pipeline/RegionsLoop.lean `unscopedBufs_of_arrays`. -/
theorem hF5 (c : Dev nD) (w : Fin cfg5.W) : (dat5 (V6 m ρ) c).arrAt w cfg5.N = V7 m ρ c (Pipeline.arrRef spec5 w) :=
  (W7_arr m ρ c w).symm
theorem hrest5 (c : Dev nD) : ∀ b, b ∉ Finset.univ.image (Pipeline.arrRef spec5) → V7 m ρ c b = V6 m ρ c b :=
  fun b hb => W7_of_ne m ρ c b fun w e => hb (Finset.mem_image.mpr ⟨w, Finset.mem_univ _, e⟩)

/-- After `hostOps6`. -/
abbrev W8 : Dev nD → Valuation τ sig (Elt F) := fun c => StableHlo.after hostOps6 (W7 m ρ c)
/-- A reference `hostOps6` does not write keeps its contents across it. -/
theorem W8_of (c : Dev nD) (r : Ref sig .tc) (h : r ∉ hostOps6_W) : W8 m ρ c (Proc.devRef .tc r) = W7 m ρ c (Proc.devRef .tc r) :=
  StableHlo.after_of_writes_sub hostOps6 _ hostOps6_writes h
theorem W8_args (c : Dev nD) : ∀ a ∈ argRefs, W8 m ρ c (Proc.devRef .tc a) = m ((c : Thread nD τ).loc a) :=
  fun a ha => (W8_of m ρ c a (hostOps6_args a ha)).trans (W7_args m ρ c a ha)

/-! ### The arguments end as launched: no host stretch writes one and no region may change one (a region reads it
    through an input window or bypasses it) -/

theorem W8_main_arg0 (c : Dev nD) : W8 m ρ c (Proc.devRef .tc main_arg0) = m ((c : Thread nD τ).loc main_arg0) :=
  W8_args m ρ c main_arg0 (by decide)
theorem W8_main_arg1 (c : Dev nD) : W8 m ρ c (Proc.devRef .tc main_arg1) = m ((c : Thread nD τ).loc main_arg1) :=
  W8_args m ρ c main_arg1 (by decide)
theorem W8_main_arg2 (c : Dev nD) : W8 m ρ c (Proc.devRef .tc main_arg2) = m ((c : Thread nD τ).loc main_arg2) :=
  W8_args m ρ c main_arg2 (by decide)
theorem W8_main_arg3 (c : Dev nD) : W8 m ρ c (Proc.devRef .tc main_arg3) = m ((c : Thread nD τ).loc main_arg3) :=
  W8_args m ρ c main_arg3 (by decide)
theorem W8_main_arg4 (c : Dev nD) : W8 m ρ c (Proc.devRef .tc main_arg4) = m ((c : Thread nD τ).loc main_arg4) :=
  W8_args m ρ c main_arg4 (by decide)
theorem W8_main_arg5 (c : Dev nD) : W8 m ρ c (Proc.devRef .tc main_arg5) = m ((c : Thread nD τ).loc main_arg5) :=
  W8_args m ρ c main_arg5 (by decide)
theorem W8_main_arg6 (c : Dev nD) : W8 m ρ c (Proc.devRef .tc main_arg6) = m ((c : Thread nD τ).loc main_arg6) :=
  W8_args m ρ c main_arg6 (by decide)
theorem W8_main_arg7 (c : Dev nD) : W8 m ρ c (Proc.devRef .tc main_arg7) = m ((c : Thread nD τ).loc main_arg7) :=
  W8_args m ρ c main_arg7 (by decide)
theorem W8_main_arg8 (c : Dev nD) : W8 m ρ c (Proc.devRef .tc main_arg8) = m ((c : Thread nD τ).loc main_arg8) :=
  W8_args m ρ c main_arg8 (by decide)
theorem W8_main_arg9 (c : Dev nD) : W8 m ρ c (Proc.devRef .tc main_arg9) = m ((c : Thread nD τ).loc main_arg9) :=
  W8_args m ρ c main_arg9 (by decide)
end Cert.KernelIdeal.Whole

end
-- ==== Proof.Whole.State.lean ====
/-
  The proof data of the six calls, each at what the buffers hold when it is entered, and what a core holds between two calls.
-/
module

public import proofs.«01_k».proof.Proof.Whole.Fold

@[expose] public section

-- membership in a rectangle of production extents (`View.cover_of_tiled`): the elaborator's structural look
-- recurses once per coordinate of the long axes
set_option maxRecDepth 16384

noncomputable section

namespace Cert.KernelIdeal.Whole

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data family and the thread state -/

/-- The prefetched tables' admissible contents: no pipeline has a table. -/
abbrev adm : (p : Fin 6) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 6) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
  | ⟨2, _⟩ => fun c => dat2 (V3 m ρ) c
  | ⟨3, _⟩ => fun c => dat3 (V4 m ρ) c
  | ⟨4, _⟩ => fun c => dat4 (V5 m ρ) c
  | ⟨5, _⟩ => fun c => dat5 (V6 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W8`, the generator register at some state. -/
abbrev Tₙ (c : Dev nD) : sProp 𝕄 := iprop(StableHlo.held (c : Thread nD τ) (Pipeline.ucRefs τ sig) (W8 m ρ c) ∗ ∃ r, prngReg c r)

end Cert.KernelIdeal.Whole

end
-- ==== Proof.Whole.Record0.lean ====
/-
  The call number 0 of the kernel as a segment of the run of the whole kernel.
-/
module

public import proofs.«01_k».proof.Proof.Whole.State

@[expose] public section

-- membership in a rectangle of production extents (`View.cover_of_tiled`): the elaborator's structural look
-- recurses once per coordinate of the long axes
set_option maxRecDepth 16384

noncomputable section

namespace Cert.KernelIdeal.Whole

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W1`, left at `W2`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine Idealize.SL.BI.Entails.trans ?_ (hin0 (V1 m ρ) c)
    show (_ : sProp 𝕄) ⊢ (_ : sProp 𝕄)
    unfold Pipeline.ΦA
    iintro ⟨Hp, -, Hr⟩
    isplitl [Hr]; · iexact Hr
    iexact Hp
  hout c := by
    rw [Pipeline.ownSems0_none]; refine Idealize.SL.BI.Entails.trans (hout0 (V1 m ρ) c) ?_
    show (_ : sProp 𝕄) ⊢ (_ : sProp 𝕄)
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Whole

end
-- ==== Proof.Whole.Record1.lean ====
/-
  The call number 1 of the kernel as a segment of the run of the whole kernel.
-/
module

public import proofs.«01_k».proof.Proof.Whole.State

@[expose] public section

-- membership in a rectangle of production extents (`View.cover_of_tiled`): the elaborator's structural look
-- recurses once per coordinate of the long axes
set_option maxRecDepth 16384

noncomputable section

namespace Cert.KernelIdeal.Whole

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- `iapply` of a library lemma stated over `pin pcs a p` unifies with the pinned configuration only when unification may
-- unfold plain definitions in a metavariable's type
set_option backward.isDefEq.respectTransparency.types false in
/-- REGION 1 (custom_call 1) over the thread state: entered from every unscoped buffer at `W2`, left at `W3`
    (what the next segment is entered from). Its arrays split out of the unscoped buffers
    (`arrays_of_unscopedBufs_shared`) and put back at the exit contents (`unscopedBufs_of_arrays_shared`; its input windows on one array (`launch₀1.sharedIn`) each dealt their share of it, `Pipeline.shareOf`, by the proof data); the generator register into the
    class invariant `ΦA` and out; nothing owed; no semaphore of the kernel's own. -/
def reg1 : Pipeline.RegionSeg (pcfgs (F := F)) adm (pdats m ρ) () defs₀ 𝒱₀ L lv 1 where
  win := launch₀1.win
  block_pos := launch₀1.block_pos
  stage_whole := launch₀1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs_shared (p := 1) (pcfgs (F := F)) adm (pdats m ρ) launch₀1.win launch₀1.sharedIn launch₀1.arr_whole c
      (fun _ _ => rfl) (V2 m ρ c) (A_eq1 (V2 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine Idealize.SL.BI.Entails.trans ?_ (hin1 (V2 m ρ) c)
    show (_ : sProp 𝕄) ⊢ (_ : sProp 𝕄)
    unfold Pipeline.ΦA
    iintro ⟨Hp, -, Hr⟩
    isplitl [Hr]; · iexact Hr
    iexact Hp
  hout c := by
    rw [Pipeline.ownSems0_none]; refine Idealize.SL.BI.Entails.trans (hout1 (V2 m ρ) c) ?_
    show (_ : sProp 𝕄) ⊢ (_ : sProp 𝕄)
    unfold Pipeline.ΦA
    iintro ⟨Hr, Hp⟩
    isplitl [Hp]; · iexact Hp
    isplitr; · iempintro
    iexact Hr
  hexit c := by
    have hjoin := Pipeline.unscopedBufs_of_arrays_shared (p := 1) (pcfgs (F := F)) adm (Ix := Unit) (Name := ℕ) (U := UR sig nD τ) (Lvl := ℕ)
      launch₀1.win launch₀1.sharedIn launch₀1.arr_whole c (pdats m ρ) (fun _ _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Whole

end
-- ==== Proof.Whole.Record2.lean ====
/-
  The call number 2 of the kernel as a segment of the run of the whole kernel.
-/
module

public import proofs.«01_k».proof.Proof.Whole.State

@[expose] public section

-- membership in a rectangle of production extents (`View.cover_of_tiled`): the elaborator's structural look
-- recurses once per coordinate of the long axes
set_option maxRecDepth 16384

noncomputable section

namespace Cert.KernelIdeal.Whole

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- `iapply` of a library lemma stated over `pin pcs a p` unifies with the pinned configuration only when unification may
-- unfold plain definitions in a metavariable's type
set_option backward.isDefEq.respectTransparency.types false in
/-- REGION 2 (custom_call 2) over the thread state: entered from every unscoped buffer at `W3`, left at `W4`
    (what the next segment is entered from). Its arrays split out of the unscoped buffers
    (`arrays_of_unscopedBufs`) and put back at the exit contents (`unscopedBufs_of_arrays`); the generator register into the
    class invariant `ΦA` and out; nothing owed; no semaphore of the kernel's own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V3 m ρ) c).loose
  hwaits := Pipeline.hwaits_of_owed_zero _ _ _ _ L lv 2 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec2 c (V3 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V3 m ρ c) (A_eq2 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine Idealize.SL.BI.Entails.trans ?_ (hin2 (V3 m ρ) c)
    show (_ : sProp 𝕄) ⊢ (_ : sProp 𝕄)
    unfold Pipeline.ΦA
    iintro ⟨Hp, -, Hr⟩
    isplitl [Hr]; · iexact Hr
    iexact Hp
  hout c := by
    rw [Pipeline.ownSems0_none]; refine Idealize.SL.BI.Entails.trans (hout2 (V3 m ρ) c) ?_
    show (_ : sProp 𝕄) ⊢ (_ : sProp 𝕄)
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V3 m ρ c) (V4 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Whole

end
-- ==== Proof.Whole.Record3.lean ====
/-
  The call number 3 of the kernel as a segment of the run of the whole kernel.
-/
module

public import proofs.«01_k».proof.Proof.Whole.State

@[expose] public section

-- membership in a rectangle of production extents (`View.cover_of_tiled`): the elaborator's structural look
-- recurses once per coordinate of the long axes
set_option maxRecDepth 16384

noncomputable section

namespace Cert.KernelIdeal.Whole

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- `iapply` of a library lemma stated over `pin pcs a p` unifies with the pinned configuration only when unification may
-- unfold plain definitions in a metavariable's type
set_option backward.isDefEq.respectTransparency.types false in
/-- REGION 3 (custom_call 3) over the thread state: entered from every unscoped buffer at `W4`, left at `W5`
    (what the next segment is entered from). Its arrays split out of the unscoped buffers
    (`arrays_of_unscopedBufs`) and put back at the exit contents (`unscopedBufs_of_arrays`); the generator register into the
    class invariant `ΦA` and out; nothing owed; no semaphore of the kernel's own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V4 m ρ) c).loose
  hwaits := Pipeline.hwaits_of_owed_zero _ _ _ _ L lv 3 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec3 c (V4 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V4 m ρ c) (A_eq3 (V4 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V4 m ρ c) (V5 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Whole

end
-- ==== Proof.Whole.Record4.lean ====
/-
  The call number 4 of the kernel as a segment of the run of the whole kernel.
-/
module

public import proofs.«01_k».proof.Proof.Whole.State

@[expose] public section

-- membership in a rectangle of production extents (`View.cover_of_tiled`): the elaborator's structural look
-- recurses once per coordinate of the long axes
set_option maxRecDepth 16384

noncomputable section

namespace Cert.KernelIdeal.Whole

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- `iapply` of a library lemma stated over `pin pcs a p` unifies with the pinned configuration only when unification may
-- unfold plain definitions in a metavariable's type
set_option backward.isDefEq.respectTransparency.types false in
/-- REGION 4 (custom_call 4) over the thread state: entered from every unscoped buffer at `W5`, left at `W6`
    (what the next segment is entered from). Its arrays split out of the unscoped buffers
    (`arrays_of_unscopedBufs`) and put back at the exit contents (`unscopedBufs_of_arrays`); the generator register into the
    class invariant `ΦA` and out; nothing owed; no semaphore of the kernel's own. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V5 m ρ) c).loose
  hwaits := Pipeline.hwaits_of_owed_zero _ _ _ _ L lv 4 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec4 c (V5 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V5 m ρ c) (A_eq4 (V5 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V5 m ρ c) (V6 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Whole

end
-- ==== Proof.Whole.Record5.lean ====
/-
  The call number 5 of the kernel as a segment of the run of the whole kernel.
-/
module

public import proofs.«01_k».proof.Proof.Whole.State

@[expose] public section

-- membership in a rectangle of production extents (`View.cover_of_tiled`): the elaborator's structural look
-- recurses once per coordinate of the long axes
set_option maxRecDepth 16384

noncomputable section

namespace Cert.KernelIdeal.Whole

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- `iapply` of a library lemma stated over `pin pcs a p` unifies with the pinned configuration only when unification may
-- unfold plain definitions in a metavariable's type
set_option backward.isDefEq.respectTransparency.types false in
/-- REGION 5 (custom_call 5) over the thread state: entered from every unscoped buffer at `W6`, left at `W7`
    (what the next segment is entered from). Its arrays split out of the unscoped buffers
    (`arrays_of_unscopedBufs`) and put back at the exit contents (`unscopedBufs_of_arrays`); the generator register into the
    class invariant `ΦA` and out; nothing owed; no semaphore of the kernel's own. -/
def reg5 : Pipeline.RegionSeg (pcfgs (F := F)) adm (pdats m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (V6 m ρ) c).loose
  hwaits := Pipeline.hwaits_of_owed_zero _ _ _ _ L lv 5 fun _ _ => rfl
  pre c := iprop(StableHlo.held (c : Thread nD τ) (Pipeline.ucRefs τ sig) (W6 m ρ c) ∗ R c)
  post c := iprop(StableHlo.held (c : Thread nD τ) (Pipeline.ucRefs τ sig) (W7 m ρ c) ∗ R c)
  X c := iprop(∃ r, prngReg c r)
  Y c := iprop(∃ r, prngReg c r)
  Z c := Pipeline.unscopedRest (Ix := Unit) (Name := ℕ) (U := UR sig nD τ) (Lvl := ℕ) spec5 c (V6 m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun _ => rfl) (V6 m ρ c) (A_eq5 (V6 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine Idealize.SL.BI.Entails.trans ?_ (hin5 (V6 m ρ) c)
    show (_ : sProp 𝕄) ⊢ (_ : sProp 𝕄)
    unfold Pipeline.ΦA
    iintro ⟨Hp, -, Hr⟩
    isplitl [Hr]; · iexact Hr
    iexact Hp
  hout c := by
    rw [Pipeline.ownSems0_none]; refine Idealize.SL.BI.Entails.trans (hout5 (V6 m ρ) c) ?_
    show (_ : sProp 𝕄) ⊢ (_ : sProp 𝕄)
    unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m ρ) ((pdats m ρ 5 c).share_full fun _ => rfl)
      (V6 m ρ c) (V7 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Whole

end
-- ==== Proof.Whole.Run.lean ====
/-
  The run of the whole kernel: the segments in order, and what every buffer holds at the end.
-/
module

public import proofs.«01_k».proof.Proof.Whole.Record0
public import proofs.«01_k».proof.Proof.Whole.Record1
public import proofs.«01_k».proof.Proof.Whole.Record2
public import proofs.«01_k».proof.Proof.Whole.Record3
public import proofs.«01_k».proof.Proof.Whole.Record4
public import proofs.«01_k».proof.Proof.Whole.Record5

@[expose] public section

-- membership in a rectangle of production extents (`View.cover_of_tiled`): the elaborator's structural look
-- recurses once per coordinate of the long axes
set_option maxRecDepth 16384

noncomputable section

namespace Cert.KernelIdeal.Whole

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main as segments, and the launch -/

/-- @main's 8 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .region (reg2 m ρ),
    .region (reg3 m ρ),
    .region (reg4 m ρ),
    .region (reg5 m ρ),
    .host (hseg hostOps6 hostOps6_sub hostOps6_fresh (W7 m ρ)) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- From any memory with zero counters every weakly fair run of the kernel terminates with nothing faulting; every unscoped
    buffer ends at what the fold of the segments (`W8`) gives it, and every semaphore counter at zero. -/
theorem run : θ_run defs (onTc (τ := τ) (main (F := F))) ⟨m, fun _ => 0, ρ⟩ (fun r => (∀ c : Dev nD, ∀ b ∈ Pipeline.ucRefs τ sig,
      r.2.mem (((c : Thread nD τ)).1, b) = W8 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h hz => ⟨h, funext fun g => hz g (.inr (no_unscoped g.2))⟩)

/-- The kernel terminates, faults nowhere, leaves every argument array as it was and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  (θ_run defs _ _).mono (fun _ hh => ⟨fun c =>
      have h := hh.1 c
      ⟨(h _ (mem_uc main_arg0 (by decide))).trans (W8_main_arg0 m ρ c),
       (h _ (mem_uc main_arg1 (by decide))).trans (W8_main_arg1 m ρ c),
       (h _ (mem_uc main_arg2 (by decide))).trans (W8_main_arg2 m ρ c),
       (h _ (mem_uc main_arg3 (by decide))).trans (W8_main_arg3 m ρ c),
       (h _ (mem_uc main_arg4 (by decide))).trans (W8_main_arg4 m ρ c),
       (h _ (mem_uc main_arg5 (by decide))).trans (W8_main_arg5 m ρ c),
       (h _ (mem_uc main_arg6 (by decide))).trans (W8_main_arg6 m ρ c),
       (h _ (mem_uc main_arg7 (by decide))).trans (W8_main_arg7 m ρ c),
       (h _ (mem_uc main_arg8 (by decide))).trans (W8_main_arg8 m ρ c),
       (h _ (mem_uc main_arg9 (by decide))).trans (W8_main_arg9 m ρ c)⟩, hh.2⟩) (run m ρ)

end Cert.KernelIdeal.Whole

end
-- ==== Proof.KernelScale.lean ====
/-
  The kernel's scales: each is the scale of its ratio's exponent field, and the reciprocals are the reciprocal powers.
-/
module

public import proofs.«01_k».proof.Proof.Gen.KernelIdeal.Skeleton
public import proofs.«01_k».proof.Proof.Scale

@[expose] public section

set_option maxRecDepth 16384

noncomputable section

namespace Cert.Proof.Kernel

open Idealize.ShloMosaic
open Cert.KernelIdeal Cert.KernelIdeal.Gen

/-- The exponent field the search finds in a ratio. -/
theorem field_exists (x : EReal) : ∃ r, search (min x (Ideal.ofBits .f32 0x77800000#32)) = BitVec.ofNat 32 r ∧ IsField x r := by
  rw [ofBits_field 239 (by omega) (by omega) _ (by decide)]
  obtain ⟨r, e, h⟩ := search_good x 239 (by omega)
  exact ⟨r, e, h⟩

/-- A step of the search on all lanes, as the kernel writes it. -/
def stepV (v : FVec Ideal S8x128 .f32) (b : IVec S8x128 32) (p : BitVec 32) : IVec S8x128 32 :=
  select (cmpf .oge v (bitcastToFloat .f32 (shli (addi b (broadcast S8x128 p)) (broadcast S8x128 23#32)))) (addi b (broadcast S8x128 p)) b

/-- The search on all lanes. -/
def searchV (v : FVec Ideal S8x128 .f32) : IVec S8x128 32 :=
  stepV v (stepV v (stepV v (stepV v (stepV v (stepV v (stepV v (stepV v (broadcast S8x128 0#32) 128#32) 64#32) 32#32) 16#32) 8#32) 4#32) 2#32) 1#32

theorem stepV_at (v : FVec Ideal S8x128 .f32) (b : IVec S8x128 32) (p : BitVec 32) (i) : stepV v b p i = stepW (v i) (b i) p := rfl

/-- Each lane of the search on all lanes is the search on that lane. -/
theorem searchV_at (v : FVec Ideal S8x128 .f32) (i) : searchV v i = search (v i) := by
  unfold searchV search
  simp only [stepV_at]
  rfl

/-- The ratio `quant_dy` takes from its running maximum. -/
abbrev ratio0 (v : FVec Ideal S8x7168 .f32) : EReal :=
  Scalar.mulf (F := Ideal) (φ := .f32) (wholeMax v shapeCasts_S8x7168_S1x8x7168 reduces_S1x8x7168_S1 (.inl rfl) shapeCasts_S1_S1x1x1 inpos_S1x1x1_p0_0_0 rfl)
    (Scalar.ofBits (F := Ideal) .f32 0x37924925#32)

/-- The vector of the clamped ratio, on all lanes. -/
def clamped (x : EReal) (w : BitVec 32) : FVec Ideal S8x128 .f32 := minimumf (broadcast S8x128 x) (broadcast S8x128 (Scalar.ofBits (F := Ideal) .f32 w))

theorem clamped_at (x : EReal) (w : BitVec 32) (i) : clamped x w i = min x (Ideal.ofBits .f32 w) := rfl

/-- The exponent of the scale on all lanes, from the words found. -/
def expV (w : IVec S8x128 32) : IVec S8x128 32 :=
  select (cmpi .eq w (broadcast S8x128 0#32)) (broadcast S8x128 0#32) (subi w (broadcast S8x128 126#32))

theorem expV_at (w : IVec S8x128 32) (i) : expV w i = expW (w i) := rfl

theorem clamp_eq (x c : EReal) (w : BitVec 32) : minimumf (F := Ideal) (φ := .f32) (mulf (broadcast S8x128 x) (broadcast S8x128 c)) (broadcast S8x128 (Scalar.ofBits (F := Ideal) .f32 w))
    = clamped (Scalar.mulf (F := Ideal) (φ := .f32) x c) w := rfl

theorem clamp0 (v : Vec Ideal S8x7168 .f32) : k0_pay6 (F := Ideal) v = clamped (ratio0 v) 0x77800000#32 := by
  refine Eq.trans ?_ (clamp_eq (wholeMax v shapeCasts_S8x7168_S1x8x7168 reduces_S1x8x7168_S1 (.inl rfl) shapeCasts_S1_S1x1x1 inpos_S1x1x1_p0_0_0 rfl) (Scalar.ofBits (F := Ideal) .f32 0x37924925#32) 0x77800000#32)
  unfold k0_pay6; rfl

theorem steps0a (v : Vec Ideal S8x7168 .f32) : k0_pay7 (F := Ideal) v
    = stepV (k0_pay6 v) (stepV (k0_pay6 v) (stepV (k0_pay6 v) (broadcast S8x128 0#32) 128#32) 64#32) 32#32 := by
  unfold k0_pay7; rfl

theorem steps0b (v : FVec Ideal S8x128 .f32) (b : IVec S8x128 32) :
    k0_pay9 (F := Ideal) v b (bitcastToFloat .f32 (shli (addi b (broadcast S8x128 16#32)) (broadcast S8x128 23#32)))
      = stepV v (stepV v (stepV v (stepV v (stepV v b 16#32) 8#32) 4#32) 2#32) 1#32 := by
  unfold k0_pay9; rfl

theorem steps0c (v : Vec Ideal S8x7168 .f32) : k0_pay8 (F := Ideal) v
    = bitcastToFloat .f32 (shli (addi (k0_pay7 (F := Ideal) v) (broadcast S8x128 16#32)) (broadcast S8x128 23#32)) := by
  unfold k0_pay8; rfl

/-- The word `quant_dy` finds is the search in its clamped ratio. -/
theorem word0 (v : Vec Ideal S8x7168 .f32) : k0_pay9 (F := Ideal) (k0_pay6 v) (k0_pay7 v) (k0_pay8 v) = searchV (clamped (ratio0 v) 0x77800000#32) := by
  rw [steps0c, steps0b, steps0a, clamp0]; unfold searchV; rfl

theorem exp0 (v : FVec Ideal S8x128 .f32) (b w) : k0_pay2 (k0_pay10 (F := Ideal) v b w) (k0_pay11 (F := Ideal) v b w) 0#32 = expV (k0_pay9 (F := Ideal) v b w) := by
  unfold k0_pay2 k0_pay10 k0_pay11 expV; rfl

theorem inv0 (a b) : k0_pay3 (F := Ideal) a b 0#32
    = shapeCast S8x128 (bitcastToFloat (F := Ideal) .f32 (shli (subi (broadcast S8x128 127#32) (k0_pay2 a b 0#32)) (broadcast S8x128 23#32))) shapeCasts_S8x128_S8x128 := by
  unfold k0_pay3; rfl

theorem scl0 (a b) : k0_pay4 (F := Ideal) a b 0#32
    = wholeMax (bitcastToFloat (F := Ideal) .f32 (shli (addi (k0_pay2 a b 0#32) (broadcast S8x128 127#32)) (broadcast S8x128 23#32)))
        shapeCasts_S8x128_S1x8x128 reduces_S1x8x128_S1 (.inl rfl) shapeCasts_S1_S1x1x1 inpos_S1x1x1_p0_0_0 rfl := by
  unfold k0_pay4; rfl

/-- One lane of the word of the reciprocal. -/
theorem inv_at (e : IVec S8x128 32) (i) : bitcastToFloat (F := Ideal) .f32 (shli (subi (broadcast S8x128 127#32) e) (broadcast S8x128 23#32)) i
    = Ideal.ofBits .f32 (IntOp.shli .vector (IntOp.subi 127#32 (e i)) 23#32) := rfl

/-- One lane of the word of the scale. -/
theorem scl_at (e : IVec S8x128 32) (i) : bitcastToFloat (F := Ideal) .f32 (shli (addi e (broadcast S8x128 127#32)) (broadcast S8x128 23#32)) i
    = Ideal.ofBits .f32 (IntOp.shli .vector (IntOp.addi (e i) 127#32) 23#32) := rfl

/-- `quant_dy`'s reciprocal scale and scale, from its running maximum. -/
theorem scale0 (v : Vec Ideal S8x7168 .f32) : ∃ r, IsField (ratio0 v) r
    ∧ (∀ j, k0_pay3 (F := Ideal) (k0_pay10 (F := Ideal) (k0_pay6 v) (k0_pay7 v) (k0_pay8 v)) (k0_pay11 (F := Ideal) (k0_pay6 v) (k0_pay7 v) (k0_pay8 v)) 0#32 j = pw (254 - fieldOf r))
    ∧ k0_pay4 (F := Ideal) (k0_pay10 (F := Ideal) (k0_pay6 v) (k0_pay7 v) (k0_pay8 v)) (k0_pay11 (F := Ideal) (k0_pay6 v) (k0_pay7 v) (k0_pay8 v)) 0#32 = scaleOf r := by
  generalize hx : ratio0 v = x
  obtain ⟨r, e, h⟩ := field_exists x
  have hw := words r h.1
  have hf := fieldOf_bounds r h.1
  refine ⟨r, h, fun j => ?_, ?_⟩
  · rw [inv0, exp0, word0, hx]
    unfold shapeCast
    rw [inv_at, expV_at, searchV_at, clamped_at, e, hw.2]
    exact ofBits_field _ (by omega) (by omega) _ rfl
  · rw [scl0, exp0, word0, hx]
    refine wholeMax_const _ _ _ _ _ _ _ (ix2 0 0) (scaleOf r) fun i => ?_
    rw [scl_at, expV_at, searchV_at, clamped_at, e, hw.1, scaleOf_eq]
    exact ofBits_field _ (by omega) (by omega) _ rfl

/-- The ratio `dh` takes from its running maximum. -/
abbrev ratio1 (v : FVec Ideal S8x512 .f32) : EReal :=
  Scalar.mulf (F := Ideal) (φ := .f32) (wholeMax v shapeCasts_S8x512_S1x8x512 reduces_S1x8x512_S1 (.inl rfl) shapeCasts_S1_S1x1x1 inpos_S1x1x1_p0_0_0 rfl)
    (Scalar.ofBits (F := Ideal) .f32 0x37924925#32)

theorem clamp1 (v : Vec Ideal S8x512 .f32) : k1_pay3 (F := Ideal) v = clamped (ratio1 v) 0x77800000#32 := by
  refine Eq.trans ?_ (clamp_eq (wholeMax v shapeCasts_S8x512_S1x8x512 reduces_S1x8x512_S1 (.inl rfl) shapeCasts_S1_S1x1x1 inpos_S1x1x1_p0_0_0 rfl) (Scalar.ofBits (F := Ideal) .f32 0x37924925#32) 0x77800000#32)
  unfold k1_pay3; rfl

theorem steps1a (v : Vec Ideal S8x512 .f32) : k1_pay4 (F := Ideal) v
    = stepV (k1_pay3 v) (stepV (k1_pay3 v) (stepV (k1_pay3 v) (broadcast S8x128 0#32) 128#32) 64#32) 32#32 := by
  unfold k1_pay4; rfl

theorem steps1b (v : FVec Ideal S8x128 .f32) (b : IVec S8x128 32) :
    k1_pay6 (F := Ideal) v b (bitcastToFloat .f32 (shli (addi b (broadcast S8x128 16#32)) (broadcast S8x128 23#32)))
      = stepV v (stepV v (stepV v (stepV v (stepV v b 16#32) 8#32) 4#32) 2#32) 1#32 := by
  unfold k1_pay6; rfl

theorem steps1c (v : Vec Ideal S8x512 .f32) : k1_pay5 (F := Ideal) v
    = bitcastToFloat .f32 (shli (addi (k1_pay4 (F := Ideal) v) (broadcast S8x128 16#32)) (broadcast S8x128 23#32)) := by
  unfold k1_pay5; rfl

/-- The word `dh` finds is the search in its clamped ratio. -/
theorem word1 (v : Vec Ideal S8x512 .f32) : k1_pay6 (F := Ideal) (k1_pay3 v) (k1_pay4 v) (k1_pay5 v) = searchV (clamped (ratio1 v) 0x77800000#32) := by
  rw [steps1c, steps1b, steps1a, clamp1]; unfold searchV; rfl

theorem scl1 (v : FVec Ideal S8x128 .f32) (b w) : k1_pay2 (F := Ideal) (k1_pay7 (F := Ideal) v b w) (k1_pay8 (F := Ideal) v b w) 0#32
    = wholeMax (bitcastToFloat (F := Ideal) .f32 (shli (addi (expV (k1_pay6 (F := Ideal) v b w)) (broadcast S8x128 127#32)) (broadcast S8x128 23#32)))
        shapeCasts_S8x128_S1x8x128 reduces_S1x8x128_S1 (.inl rfl) shapeCasts_S1_S1x1x1 inpos_S1x1x1_p0_0_0 rfl := by
  unfold k1_pay2 k1_pay7 k1_pay8 expV; rfl

/-- `dh`'s scale from its running maximum. -/
theorem scale1 (v : Vec Ideal S8x512 .f32) : ∃ r, IsField (ratio1 v) r
    ∧ k1_pay2 (F := Ideal) (k1_pay7 (F := Ideal) (k1_pay3 v) (k1_pay4 v) (k1_pay5 v)) (k1_pay8 (F := Ideal) (k1_pay3 v) (k1_pay4 v) (k1_pay5 v)) 0#32 = scaleOf r := by
  generalize hx : ratio1 v = x
  obtain ⟨r, e, h⟩ := field_exists x
  have hw := words r h.1
  have hf := fieldOf_bounds r h.1
  refine ⟨r, h, ?_⟩
  rw [scl1, word1, hx]
  refine wholeMax_const _ _ _ _ _ _ _ (ix2 0 0) (scaleOf r) fun i => ?_
  rw [scl_at, expV_at, searchV_at, clamped_at, e, hw.1, scaleOf_eq]
  exact ofBits_field _ (by omega) (by omega) _ rfl

theorem clamp3 (x : Elt Ideal .f32) : k3_pay3 (F := Ideal) x = clamped x 0x78000000#32 := by
  unfold k3_pay3 clamped; rfl

theorem steps3a (x : Elt Ideal .f32) : k3_pay4 (F := Ideal) x
    = stepV (k3_pay3 x) (stepV (k3_pay3 x) (stepV (k3_pay3 x) (stepV (k3_pay3 x) (broadcast S8x128 0#32) 128#32) 64#32) 32#32) 16#32 := by
  unfold k3_pay4; rfl

theorem steps3b (v : FVec Ideal S8x128 .f32) (b : IVec S8x128 32) : k3_pay6 (F := Ideal) v b k3_pay5
    = wholeMax (bitcastToFloat (F := Ideal) .f32 (subi (broadcast S8x128 2130706432#32) (shli (stepV v (stepV v (stepV v (stepV v b 8#32) 4#32) 2#32) 1#32) (broadcast S8x128 23#32))))
        shapeCasts_S8x128_S1x8x128 reduces_S1x8x128_S1 (.inl rfl) shapeCasts_S1_S1x1x1 inpos_S1x1x1_p0_0_0 rfl := by
  unfold k3_pay6 k3_pay5; rfl

theorem rev_at (w : IVec S8x128 32) (i) : bitcastToFloat (F := Ideal) .f32 (subi (broadcast S8x128 2130706432#32) (shli w (broadcast S8x128 23#32))) i
    = Ideal.ofBits .f32 (IntOp.subi 2130706432#32 (IntOp.shli .vector (w i) 23#32)) := rfl

/-- `quant_dh`'s reciprocal of a power of two. -/
theorem inv3 (n : ℕ) (h1 : 1 ≤ n) (h2 : n ≤ 240) : k3_pay6 (F := Ideal) (k3_pay3 (F := Ideal) (pw n)) (k3_pay4 (F := Ideal) (pw n)) k3_pay5 = pw (254 - n) := by
  rw [steps3b, steps3a, clamp3]
  refine wholeMax_const _ _ _ _ _ _ _ (ix2 0 0) _ fun i => ?_
  rw [rev_at]
  have e : search (min (pw n) (Ideal.ofBits .f32 0x78000000#32)) = BitVec.ofNat 32 n := by
    rw [ofBits_field 240 (by omega) (by omega) 0x78000000#32 (by decide), field_pw n h1 h2]
  have e' := searchV_at (clamped (pw n) 0x78000000#32) i
  rw [clamped_at, e] at e'
  unfold searchV at e'
  rw [e', rev_word n h1 h2]
  exact ofBits_field _ (by omega) (by omega) _ rfl

end Cert.Proof.Kernel

end
-- ==== Proof.RegionQdy.lean ====
/-
  The value of the call `quant_dy`: the first sweep's running maximum is the maximum of the whole array, so the scale and the codes of
  the second sweep are the reference's.
-/
module

public import proofs.«01_k».proof.Proof.Whole.Region0
public import proofs.«01_k».proof.Proof.Maths
public import proofs.«01_k».proof.Proof.KernelScale
public import proofs.«01_k».proof.Proof.Common
public import Idealize.ShloMosaic.Lib.Pipeline.ValueKit

@[expose] public section

set_option maxRecDepth 16384

noncomputable section

namespace Cert.Proof.RegionQdy

open Idealize.ShloMosaic Idealize.ShloMosaic.TcCoe
open Idealize.ShloMosaic.Pipeline (Dat)
open Cert.KernelIdeal Cert.KernelIdeal.Gen Cert.KernelIdeal.Whole

variable (V : (c : Dev nD) → (b : Ref sig .tc) → Buf (Elt Ideal) ((c : Thread nD τ).loc b))

/-- The blocks of point `t`: both sweeps read block `t % 32`, the second writes it. -/
theorem idx : ∀ t : Fin cfg0.N, win0_0.index t = ![t.val % 32, 0] ∧ win0_1.index t = ![t.val - 32, 0] := (by decide +kernel : ∀ t : Fin grid0.N, _)

theorem coord : ∀ t : Fin cfg0.N, (grid0.coords t 1).val = t.val % 32 := (by decide +kernel : ∀ t : Fin grid0.N, _)

/-- The magnitudes of a block. -/
abbrev mags (B : Vec Ideal S256x7168 .bf16) : FVec Ideal S256x7168 .f32 :=
  absf (extf .f32 (shapeCast S256x7168 B shapeCasts_S256x7168_S256x7168) bitsLt_bf16_f32)

/-- What the running maximum is before a point takes in its block: zero at the first of a sweep. -/
abbrev before (i : grid0.Coords) (M : Vec Ideal S8x7168 .f32) : FVec Ideal S8x7168 .f32 :=
  Scalar.select (Scalar.cmpi .eq (BitVec.ofNat 32 (i 1).val) 0#32) (broadcast S8x7168 (Scalar.ofBits (F := Ideal) .f32 0x00000000#32)) M

theorem pay1_eq (i : grid0.Coords) (B : Vec Ideal S256x7168 .bf16) (M : Vec Ideal S8x7168 .f32) : k0_pay1 (F := Ideal) i B M
    = shapeCast S8x7168 (maximumf (before i M) (multiReduction .maximumf [0] S8x7168 (shapeCast S32x8x7168 (mags B) shapeCasts_S256x7168_S32x8x7168)
        0xFF800000#32 reduces_S32x8x7168_S8x7168 (.inl rfl) rfl)) shapeCasts_S8x7168_S8x7168 := by
  unfold k0_pay1; rfl

theorem mags_at (B : Vec Ideal S256x7168 .bf16) (y) : mags B y = Ref.mag (B y) := by
  pointwise []
  rfl

/-- The upper bounds of the running maximum after a point. -/
theorem pay1_le (i : grid0.Coords) (B : Vec Ideal S256x7168 .bf16) (M : Vec Ideal S8x7168 .f32) (x : EReal) :
    (∀ j, k0_pay1 (F := Ideal) i B M j ≤ x) ↔ (∀ j, before i M j ≤ x) ∧ ∀ y, Ref.mag (B y) ≤ x := by
  rw [pay1_eq, forall_cast _ _ (· ≤ x)]
  have k : ∀ (p q : FVec Ideal S8x7168 .f32), (∀ j, maximumf p q j ≤ x) ↔ (∀ j, p j ≤ x) ∧ ∀ j, q j ≤ x := fun p q =>
    ⟨fun H => ⟨fun j => (le_max_left _ _).trans (H j), fun j => (le_max_right _ _).trans (H j)⟩, fun H j => max_le (H.1 j) (H.2 j)⟩
  rw [k]
  exact and_congr_right fun _ => (reduce_le _ _ _ _ x).trans ((forall_cast (mags B) _ (· ≤ x)).trans (forall_congr' fun y => by rw [mags_at]))

/-- The running maximum before point `n`. -/
abbrev run (c : Dev nD) (n : ℕ) (hn : n ≤ cfg0.N) : Vec Ideal S8x7168 .f32 := (tr0 V c n hn).2.2.1

theorem run_A (c : Dev nD) (t : Fin cfg0.N) (h0 : t.val < 32) :
    run V c (t.val + 1) t.isLt = k0_pay1 (grid0.coords t) (iblk0 V c 0 t) (run V c t.val (Nat.le_of_lt t.isLt)) := by
  unfold run
  rw [tr0_A V c t h0]; dsimp only
  generalize (tr0 V c t.val (Nat.le_of_lt t.isLt)).2.2.1 = z
  frame_out
  exact congrArg (k0_pay1 (grid0.coords t) (iblk0 V c 0 t)) ((Memref.isWhole_whole cc0_scratch0 : Memref.IsWhole _).read_unread (Val := Elt Ideal) z)

theorem run_le (c : Dev nD) (x : EReal) : ∀ (n : ℕ) (hn : n + 1 ≤ cfg0.N) (h : n < 32), (∀ j, run V c (n + 1) hn j ≤ x)
    ↔ ∀ t : Fin cfg0.N, t.val ≤ n → ∀ y, Ref.mag (iblk0 V c 0 t y) ≤ x
  | 0, hn, h => by
    rw [run_A V c ⟨0, hn⟩ h, pay1_le]
    have e : before (grid0.coords ⟨0, hn⟩) (run V c 0 (Nat.le_of_lt hn)) = broadcast S8x7168 (Scalar.ofBits (F := Ideal) .f32 0x00000000#32) := by
      unfold before; rw [coord]; rfl
    have z : (Scalar.ofBits (F := Ideal) .f32 0x00000000#32 : EReal) = 0 := by
      show Ideal.ofBits .f32 0x00000000#32 = 0; simp [Ideal.ofBits, Ideal.ieee]
    refine ⟨fun H t ht y => ?_, fun H => ⟨fun j => ?_, fun y => H ⟨0, hn⟩ le_rfl y⟩⟩
    · obtain rfl : t = ⟨0, hn⟩ := Fin.ext (Nat.le_zero.mp ht)
      exact H.2 y
    · refine le_trans (le_of_eq ?_) ((Ref.mag_nonneg _).trans (H ⟨0, hn⟩ le_rfl (ix2 0 0)))
      rw [e]; exact z
  | n + 1, hn, h => by
    rw [run_A V c ⟨n + 1, hn⟩ h, pay1_le]
    have e : before (grid0.coords ⟨n + 1, hn⟩) (run V c (n + 1) (Nat.le_of_lt hn)) = run V c (n + 1) (Nat.le_of_lt hn) := by
      have k : ∀ k : Fin 31, Scalar.cmpi .eq (BitVec.ofNat 32 (k.val + 1)) 0#32 = 0#1 := by decide +kernel
      unfold before; rw [coord, show (⟨n + 1, hn⟩ : Fin cfg0.N).val % 32 = n + 1 from Nat.mod_eq_of_lt h]
      rw [show Scalar.cmpi .eq (BitVec.ofNat 32 (n + 1)) 0#32 = 0#1 from k ⟨n, by omega⟩]; rfl
    rw [e, run_le c x n (Nat.le_of_lt hn) (by omega)]
    refine ⟨fun H t ht y => ?_, fun H => ⟨fun t ht y => H t (by omega) y, fun y => H ⟨n + 1, hn⟩ le_rfl y⟩⟩
    rcases Nat.lt_or_ge n t.val with h' | h'
    · obtain rfl : t = ⟨n + 1, hn⟩ := Fin.ext (by show t.val = n + 1; omega)
      exact H.2 y
    · exact H.1 t h' y

/-- After the first sweep the running maximum has the upper bounds of the whole array's magnitudes. -/
theorem run_all (c : Dev nD) (x : EReal) : (∀ j, run V c 32 (by decide) j ≤ x)
    ↔ ∀ i, absf (Cert.RefIdeal.Gen.k0_pay4 (F := Ideal) (V c main_v7)) i ≤ x := by
  rw [run_le V c x 31 (by decide) (by decide)]
  have b : ∀ (t : Fin cfg0.N) (y : S256x7168.Idx) (i : S8192x7168.Idx), (i 0).val = (t.val % 32) * 256 + (y 0).val → (i 1).val = (y 1).val →
      iblk0 V c 0 t y = V c main_v7 i := by
    intro t y i e0 e1
    have e : i = ix2 (⟨(t.val % 32) * 256 + (y 0).val, e0 ▸ (i 0).isLt⟩ : Fin 8192) (⟨(y 1).val, (y 1).isLt⟩ : Fin 7168) :=
      funext fun a => match a with | ⟨0, _⟩ => Fin.ext e0 | ⟨1, _⟩ => Fin.ext e1
    rw [e]
    blk_point [iblk0, idx t]
  constructor
  · intro H i
    rw [Ref.absf_at, Ref.pay4_at]
    have hi : (i 0).val < 8192 := (i 0).isLt
    have hN : cfg0.N = 64 := N_0
    have := H ⟨(i 0).val / 256, by omega⟩ (by show (i 0).val / 256 ≤ 31; omega) (ix2 ⟨(i 0).val % 256, by omega⟩ (i 1))
    rw [b _ _ i (by show (i 0).val = (i 0).val / 256 % 32 * 256 + (i 0).val % 256; omega) rfl] at this
    exact this
  · intro H t ht y
    have h0 : (y 0).val < 256 := (y 0).isLt
    have := H (ix2 ⟨(t.val % 32) * 256 + (y 0).val, by omega⟩ (y 1))
    rw [Ref.absf_at, Ref.pay4_at] at this
    rw [b t y (ix2 ⟨(t.val % 32) * 256 + (y 0).val, by omega⟩ (y 1)) rfl rfl]; exact this

/-- The ratio of the running maximum is the reference's. -/
theorem ratio_eq (c : Dev nD) : Kernel.ratio0 (run V c 32 (by decide)) = Ref.ratioY (V c main_v7) :=
  congrArg (fun z => Scalar.mulf (F := Ideal) (φ := .f32) z (Scalar.ofBits (F := Ideal) .f32 0x37924925#32))
    (wholeMax_congr _ _ _ _ _ _ _ _ _ _ _ _ (run_all V c))

/-- What a point of the second sweep stores at `y`, from a reciprocal that is one over the scale. -/
theorem pay5_at (B : Vec Ideal S256x7168 .bf16) (w : Vec Ideal S8x128 .f32) (σ : EReal)
    (hw : ∀ j, w j = Scalar.divf (F := Ideal) (φ := .f32) (Scalar.ofBits (F := Ideal) .f32 0x3F800000#32) σ) (y) :
    k0_pay5 (F := Ideal) B w y = Ref.quantOne (B y) σ := by
  have e : wholeMax w shapeCasts_S8x128_S1x8x128 reduces_S1x8x128_S1 (.inl rfl) shapeCasts_S1_S1x1x1 inpos_S1x1x1_p0_0_0 rfl
      = Scalar.divf (F := Ideal) (φ := .f32) (Scalar.ofBits (F := Ideal) .f32 0x3F800000#32) σ := wholeMax_const _ _ _ _ _ _ _ (ix2 0 0) _ hw
  have k : k0_pay5 (F := Ideal) B w = truncf (F := Ideal) (φ := .f32) .fp8e5m2 (minimumf (broadcast S256x7168 (Scalar.ofBits (F := Ideal) .f32 0x47600000#32))
    (maximumf (broadcast S256x7168 (Scalar.ofBits (F := Ideal) .f32 0xC7600000#32))
      (mulf (extf .f32 (shapeCast S256x7168 B shapeCasts_S256x7168_S256x7168) bitsLt_bf16_f32) (broadcast S256x7168 (wholeMax w shapeCasts_S8x128_S1x8x128 reduces_S1x8x128_S1 (.inl rfl) shapeCasts_S1_S1x1x1 inpos_S1x1x1_p0_0_0 rfl))))) bitsLt_fp8e5m2_f32 := by
    unfold k0_pay5; rfl
  rw [k, e]
  unfold Ref.quantOne Ref.recip
  generalize Scalar.divf (F := Ideal) (φ := .f32) (Scalar.ofBits (F := Ideal) .f32 0x3F800000#32) σ = d
  pointwise []
  rfl

/-- What the second sweep keeps: the reciprocal and the scale. -/
theorem second (c : Dev nD) : ∀ (n : ℕ) (hn : n + 1 ≤ cfg0.N) (h : 32 ≤ n), run V c (n + 1) hn = run V c 32 (by decide)
    ∧ (∀ j, (tr0 V c (n + 1) hn).2.2.2 j = Scalar.divf (F := Ideal) (φ := .f32) (Scalar.ofBits (F := Ideal) .f32 0x3F800000#32) (Cert.RefIdeal.Gen.k0_pay5 (F := Ideal) (V c main_v7)))
    ∧ (∀ j, (tr0 V c (n + 1) hn).2.1 j = Cert.RefIdeal.Gen.k0_pay5 (F := Ideal) (V c main_v7))
    ∧ ∀ y, (tr0 V c (n + 1) hn).1 y = Ref.quantOne (iblk0 V c 0 ⟨n, hn⟩ y) (Cert.RefIdeal.Gen.k0_pay5 (F := Ideal) (V c main_v7)) := by
  obtain ⟨r, hr, hi, hs⟩ := Kernel.scale0 (run V c 32 (by decide))
  rw [ratio_eq] at hr
  have hd : Scalar.divf (F := Ideal) (φ := .f32) (Scalar.ofBits (F := Ideal) .f32 0x3F800000#32) (scaleOf r) = pw (254 - fieldOf r) := Ref.recip_scaleOf r hr.1
  rw [Ref.scaleY (V c main_v7) r hr]
  intro n
  induction n with
  | zero => intro hn h; omega
  | succ n ih =>
    intro hn h
    have hN : cfg0.N = 64 := N_0
    have h0 : ¬(⟨n + 1, hn⟩ : Fin cfg0.N).val < 32 := by show ¬n + 1 < 32; omega
    by_cases h1 : (n + 1) % 64 = 32
    · obtain rfl : n = 31 := by omega
      unfold run
      have e : tr0 V c (31 + 1) (Nat.le_of_lt hn) = tr0 V c 32 (by decide) := rfl
      rw [show tr0 V c (31 + 1 + 1) hn = _ from tr0_B V c ⟨31 + 1, hn⟩ h0 h1]; dsimp only
      unfold run at hi hs
      generalize (tr0 V c 32 (by decide)).2.2.1 = z at hi hs
      have e := (Memref.isWhole_whole cc0_scratch0 : Memref.IsWhole _).read_unread (Val := Elt Ideal) z
      rw [← e] at hi hs
      refine ⟨rfl, fun j => ?_, fun j => ?_, fun y => ?_⟩
      · frame_out
        exact (hi j).trans hd.symm
      · frame_out
        exact hs
      · frame_out
        exact pay5_at _ _ _ (fun j => (hi j).trans hd.symm) y
    · obtain ⟨i1, i2, i3, i4⟩ := ih (Nat.le_of_lt hn) (by omega)
      rw [show tr0 V c (n + 1 + 1) hn = _ from tr0_C V c ⟨n + 1, hn⟩ h0 h1]
      unfold run at i1
      unfold run
      rw [show tr0 V c (n + 1 + 1) hn = _ from tr0_C V c ⟨n + 1, hn⟩ h0 h1]
      dsimp only
      refine ⟨i1, i2, i3, fun y => ?_⟩
      generalize (tr0 V c (n + 1) (Nat.le_of_lt hn)).2.2.1 = z at *
      generalize (tr0 V c (n + 1) (Nat.le_of_lt hn)).2.2.2 = z' at *
      frame_out
      have e := (Memref.isWhole_whole cc0_scratch1 : Memref.IsWhole _).read_unread (Val := Elt Ideal) z'
      exact pay5_at _ _ _ (fun j => (congrFun e j).trans (i2 j)) y

/-- The array of codes `quant_dy` leaves. -/
theorem codes (c : Dev nD) : (dat0 V c).arrAt 1 cfg0.N = Cert.RefIdeal.Gen.k0_pay6 (F := Ideal) (V c main_v7) := by
  rw [Ref.pay6_eq]
  refine (dat0 V c).arrAt_eq_of_covers 1 _ (by decide +kernel) fun t hf y => ?_
  blk_simp
  rw [after0_1]
  have h : 32 ≤ t.val := by
    by_contra h
    have h' : t.val < 32 := by omega
    rw [noFlush0_1_A t ((hcond0_0 t).mpr h') (notB0 t h') (notC0 t h')] at hf
    exact Bool.false_ne_true hf
  refine ((second V c t.val t.isLt h).2.2.2 y).trans ?_
  rw [Ref.quant_at, Ref.pay4_at]
  refine congrArg (fun z => Ref.quantOne z _) ?_
  have e : win0_0.index t = win0_1.index t := by
    rw [(idx t).1, (idx t).2, show t.val % 32 = t.val - 32 by have : t.val < 64 := lt_of_lt_of_eq t.isLt N_0; omega]
  blk_point [iblk0, idx t, e]

theorem scale_of (c : Dev nD) (s : EReal)
    (k : ∀ (n : ℕ) (hn : n + 1 ≤ cfg0.N), 32 ≤ n → ∀ j, (tr0 V c (n + 1) hn).2.1 j = s) : (dat0 V c).arrAt 2 cfg0.N = fun _ => s := by
  refine (dat0 V c).arrAt_eq_of_covers 2 _ (by decide +kernel) fun t hf y => ?_
  blk_simp
  rw [after0_2]
  have h : t.val = 63 := by
    by_contra h
    rw [flush0_2 t h] at hf
    exact Bool.false_ne_true hf
  exact k t.val t.isLt (by omega) y

/-- The scale `quant_dy` leaves. -/
theorem scale (c : Dev nD) : (dat0 V c).arrAt 2 cfg0.N = fun _ => Cert.RefIdeal.Gen.k0_pay5 (F := Ideal) (V c main_v7) :=
  scale_of V c _ fun n hn h => (second V c n hn h).2.2.1

end Cert.Proof.RegionQdy

end
-- ==== Proof.RegionDh.lean ====
/-
  The value of the call `dh`: its blocks are the blocks of the reference's hidden gradients, and its running maximum is the maximum of
  both, so its scale is the reference's.
-/
module

public import proofs.«01_k».proof.Proof.Whole.Region1
public import proofs.«01_k».proof.Proof.Maths
public import proofs.«01_k».proof.Proof.KernelScale
public import proofs.«01_k».proof.Proof.Common
public import Idealize.ShloMosaic.Lib.Pipeline.ValueKit

@[expose] public section

set_option maxRecDepth 16384

noncomputable section

namespace Cert.Proof.RegionDh

open Idealize.ShloMosaic Idealize.ShloMosaic.TcCoe
open Idealize.ShloMosaic.Pipeline (Dat)
open Cert.KernelIdeal Cert.KernelIdeal.Gen Cert.KernelIdeal.Whole

variable (V : (c : Dev nD) → (b : Ref sig .tc) → Buf (Elt Ideal) ((c : Thread nD τ).loc b))

/-- The blocks of point `t`: row block `t / 10`, column block `t % 10`; the up values lie ten column blocks to the right. -/
theorem idx : ∀ t : Fin cfg1.N, win1_0.index t = ![0, 0] ∧ win1_1.index t = ![0, 0] ∧ win1_2.index t = ![t.val / 10, 0] ∧ win1_3.index t = ![t.val % 10, 0]
    ∧ win1_4.index t = ![t.val / 10, t.val % 10] ∧ win1_5.index t = ![t.val / 10, t.val % 10 + 10]
    ∧ win1_6.index t = ![t.val / 10, t.val % 10] ∧ win1_7.index t = ![t.val / 10, t.val % 10] := (by decide +kernel : ∀ t : Fin grid1.N, _)

theorem coord : ∀ t : Fin cfg1.N, (grid1.coords t 0).val = t.val / 10 ∧ (grid1.coords t 1).val = t.val % 10 := (by decide +kernel : ∀ t : Fin grid1.N, _)

/-- The whole arrays: `dA` with its scales, the gate and the up values, from what the call reads. -/
abbrev wholeA (c : Dev nD) : FVec Ideal Cert.RefIdeal.S8192x5120 .f32 :=
  Ref.scaledA (V c main_v8_1 (ix2 0 0)) (Ref.prodA (V c main_v8_0) (V c main_arg8)) (V c main_v3)
abbrev wholeGate (c : Dev nD) : FVec Ideal Cert.RefIdeal.S8192x5120 .f32 := Ref.gate (V c main_v4)
abbrev wholeUp (c : Dev nD) : FVec Ideal Cert.RefIdeal.S8192x5120 .f32 := Ref.up (V c main_v4)

/-- The place in a whole array of index `y` of the block of point `t`. -/
abbrev place (t : Fin cfg1.N) (y : S1024x512.Idx) : Cert.RefIdeal.S8192x5120.Idx := ((cfg1.win 6).blk t).view.emb y

theorem pointA (c : Dev nD) (t : Fin cfg1.N) (y) (a b : EReal) (ha : a = iblk1 V c 0 t (ix2 0 0)) (hb : b = iblk1 V c 1 t (ix2 0 0)) :
    k1_pay9 (F := Ideal) (iblk1 V c 2 t) (iblk1 V c 3 t) a b y = wholeA V c (place t y) := by
  subst ha hb
  pointwise [k1_pay9, wholeA, Ref.scaledA, Ref.prodA]
  unfold place
  blk_point [iblk1, idx t]

theorem pointG (c : Dev nD) (t : Fin cfg1.N) (y) : k1_pay10 (F := Ideal) (iblk1 V c 4 t) y = wholeGate V c (place t y) := by
  pointwise [k1_pay10, wholeGate, Ref.gate]
  unfold place
  blk_point [iblk1, idx t]

/-- The up values of a block in f32. -/
abbrev upBlock (B : Vec Ideal S1024x512 .bf16) : FVec Ideal S1024x512 .f32 :=
  extf .f32 (shapeCast S1024x512 B shapeCasts_S1024x512_S1024x512 : FVec Ideal S1024x512 .bf16) bitsLt_bf16_f32

theorem pointU (c : Dev nD) (t : Fin cfg1.N) (y) : upBlock (iblk1 V c 5 t) y = wholeUp V c (place t y) := by
  pointwise [upBlock, wholeUp, Ref.up]
  unfold place
  blk_point [iblk1, idx t]

theorem pay12_eq (x w a b) (g u : Vec Ideal S1024x512 .bf16) : k1_pay12 (F := Ideal) x w a b g u = Ref.gateGrad (k1_pay9 (F := Ideal) x w a b) (k1_pay10 (F := Ideal) g) (upBlock u) := by
  unfold k1_pay12 k1_pay11 Ref.gateGrad; rfl

theorem pay13_eq (x w a b) (g : Vec Ideal S1024x512 .bf16) : k1_pay13 (F := Ideal) x w a b g = Ref.upGrad (k1_pay9 (F := Ideal) x w a b) (k1_pay10 (F := Ideal) g) := by
  unfold k1_pay13 k1_pay11 Ref.upGrad; rfl

/-- The two hidden gradients. -/
abbrev wholeDg (c : Dev nD) : FVec Ideal Cert.RefIdeal.S8192x5120 .f32 := Ref.gateGrad (wholeA V c) (wholeGate V c) (wholeUp V c)
abbrev wholeDu (c : Dev nD) : FVec Ideal Cert.RefIdeal.S8192x5120 .f32 := Ref.upGrad (wholeA V c) (wholeGate V c)

theorem pointDg (c : Dev nD) (t : Fin cfg1.N) (y) (a b : EReal) (ha : a = iblk1 V c 0 t (ix2 0 0)) (hb : b = iblk1 V c 1 t (ix2 0 0)) :
    k1_pay12 (F := Ideal) (iblk1 V c 2 t) (iblk1 V c 3 t) a b (iblk1 V c 4 t) (iblk1 V c 5 t) y = wholeDg V c (place t y) := by
  rw [pay12_eq]
  exact Ref.gateGrad_at _ _ _ _ _ _ _ _ (pointA V c t y a b ha hb) (pointG V c t y) (pointU V c t y)

theorem pointDu (c : Dev nD) (t : Fin cfg1.N) (y) (a b : EReal) (ha : a = iblk1 V c 0 t (ix2 0 0)) (hb : b = iblk1 V c 1 t (ix2 0 0)) :
    k1_pay13 (F := Ideal) (iblk1 V c 2 t) (iblk1 V c 3 t) a b (iblk1 V c 4 t) y = wholeDu V c (place t y) := by
  rw [pay13_eq]
  exact Ref.upGrad_at _ _ _ _ _ _ (pointA V c t y a b ha hb) (pointG V c t y)

/-- Every place of a whole array lies in the block of some point. -/
theorem place_all (i : Cert.RefIdeal.S8192x5120.Idx) : ∃ t y, place t y = i := by
  obtain ⟨t, -, h⟩ := Pipeline.Window.Covers.cover (cfg1.win 6) (by decide +kernel) (Memref.isWhole_whole _) i
  obtain ⟨y, e⟩ := View.exists_emb_of_mem_set _ h
  exact ⟨t, y, e⟩

/-! ## The running maximum -/

/-- What the running maximum is before a point takes in its blocks: zero at the first. -/
abbrev before (a b : BitVec 32) (M : Vec Ideal S8x512 .f32) : FVec Ideal S8x512 .f32 :=
  Scalar.select (Scalar.andi (Scalar.cmpi .eq a 0#32) (Scalar.cmpi .eq b 0#32)) (broadcast S8x512 (Scalar.ofBits (F := Ideal) .f32 0x00000000#32)) M

theorem pay1_eq (a b : BitVec 32) (P : FVec Ideal S8x512 .f32) (M : Vec Ideal S8x512 .f32) : k1_pay1 (F := Ideal) a b P M
    = shapeCast S8x512 (maximumf (before a b M) P) shapeCasts_S8x512_S8x512 := by
  unfold k1_pay1; rfl

theorem max_le_iff (p q : FVec Ideal S8x512 .f32) (x : EReal) : (∀ j, maximumf p q j ≤ x) ↔ (∀ j, p j ≤ x) ∧ ∀ j, q j ≤ x :=
  ⟨fun H => ⟨fun j => (le_max_left _ _).trans (H j), fun j => (le_max_right _ _).trans (H j)⟩, fun H j => max_le (H.1 j) (H.2 j)⟩

/-- The maximum over the row groups of a block's magnitudes. -/
abbrev fold (d : FVec Ideal S1024x512 .f32) : FVec Ideal S8x512 .f32 :=
  multiReduction .maximumf [0] S8x512 (shapeCast S128x8x512 (absf d) shapeCasts_S1024x512_S128x8x512) 0xFF800000#32 reduces_S128x8x512_S8x512 (.inl rfl) rfl

theorem fold_le (d : FVec Ideal S1024x512 .f32) (x : EReal) : (∀ j, fold d j ≤ x) ↔ ∀ y, Ref.mag (d y) ≤ x :=
  (reduce_le _ _ _ _ x).trans (forall_cast (absf d) _ (· ≤ x))

theorem pay14_eq (x w a b) (g u : Vec Ideal S1024x512 .bf16) : k1_pay14 (F := Ideal) x w a b g u
    = maximumf (fold (k1_pay12 (F := Ideal) x w a b g u)) (fold (k1_pay13 (F := Ideal) x w a b g)) := by
  unfold k1_pay14; rfl

/-- The upper bounds of the running maximum after a point. -/
theorem pay1_le (p q : BitVec 32) (x w a b) (g u : Vec Ideal S1024x512 .bf16) (M : Vec Ideal S8x512 .f32) (z : EReal) :
    (∀ j, k1_pay1 (F := Ideal) p q (k1_pay14 (F := Ideal) x w a b g u) M j ≤ z)
    ↔ (∀ j, before p q M j ≤ z) ∧ (∀ y, Ref.mag (k1_pay12 (F := Ideal) x w a b g u y) ≤ z) ∧ ∀ y, Ref.mag (k1_pay13 (F := Ideal) x w a b g y) ≤ z := by
  rw [pay1_eq, forall_cast _ _ (· ≤ z), max_le_iff, pay14_eq, max_le_iff, fold_le, fold_le]

/-- The running maximum before point `n`. -/
abbrev run (c : Dev nD) (n : ℕ) (hn : n ≤ cfg1.N) : Vec Ideal S8x512 .f32 := (tr1 V c n hn).2.2.2

theorem run_step (c : Dev nD) (t : Fin cfg1.N) : ∃ a b : EReal, a = iblk1 V c 0 t (ix2 0 0) ∧ b = iblk1 V c 1 t (ix2 0 0) ∧
    run V c (t.val + 1) t.isLt = k1_pay1 (F := Ideal) (BitVec.ofNat 32 (grid1.coords t 0).val) (BitVec.ofNat 32 (grid1.coords t 1).val)
      (k1_pay14 (F := Ideal) (iblk1 V c 2 t) (iblk1 V c 3 t) a b (iblk1 V c 4 t) (iblk1 V c 5 t)) (run V c t.val (Nat.le_of_lt t.isLt)) := by
  unfold run
  refine ⟨_, _, ld_one (iblk1 V c 0 t) (Rect.unit ![0, 0] ![1, 1] inb_S1x1_S1x1_0_0) (Shape.Idx.first (by decide)), ld_one (iblk1 V c 1 t) (Rect.unit ![0, 0] ![1, 1] inb_S1x1_S1x1_0_0) (Shape.Idx.first (by decide)), ?_⟩
  by_cases h0 : t.val % 80 = 79
  · rw [tr1_B V c t h0]; dsimp only
    generalize (tr1 V c t.val (Nat.le_of_lt t.isLt)).2.2.2 = z
    frame_out
    exact congrArg (k1_pay1 (F := Ideal) _ _ _) ((Memref.isWhole_whole cc1_scratch0 : Memref.IsWhole _).read_unread (Val := Elt Ideal) z)
  · rw [tr1_A V c t h0]; dsimp only
    generalize (tr1 V c t.val (Nat.le_of_lt t.isLt)).2.2.2 = z
    frame_out
    exact congrArg (k1_pay1 (F := Ideal) _ _ _) ((Memref.isWhole_whole cc1_scratch0 : Memref.IsWhole _).read_unread (Val := Elt Ideal) z)

theorem run_le (c : Dev nD) (x : EReal) : ∀ (n : ℕ) (hn : n + 1 ≤ cfg1.N), (∀ j, run V c (n + 1) hn j ≤ x)
    ↔ ∀ t : Fin cfg1.N, t.val ≤ n → (∀ y, Ref.mag (wholeDg V c (place t y)) ≤ x) ∧ ∀ y, Ref.mag (wholeDu V c (place t y)) ≤ x
  | 0, hn => by
    obtain ⟨a, b, ha, hb, e⟩ := run_step V c ⟨0, hn⟩
    rw [show run V c (0 + 1) hn = _ from e, pay1_le]
    have e : before (BitVec.ofNat 32 (grid1.coords (⟨0, hn⟩ : Fin cfg1.N) 0).val) (BitVec.ofNat 32 (grid1.coords (⟨0, hn⟩ : Fin cfg1.N) 1).val) (run V c 0 (Nat.le_of_lt hn))
        = broadcast S8x512 (Scalar.ofBits (F := Ideal) .f32 0x00000000#32) := by
      have k : Scalar.andi (Scalar.cmpi .eq (BitVec.ofNat 32 (0 / 10)) 0#32) (Scalar.cmpi .eq (BitVec.ofNat 32 (0 % 10)) 0#32) = 1#1 := by decide
      unfold before; rw [(coord ⟨0, hn⟩).1, (coord ⟨0, hn⟩).2]
      show Scalar.select (Scalar.andi (Scalar.cmpi .eq (BitVec.ofNat 32 (0 / 10)) 0#32) (Scalar.cmpi .eq (BitVec.ofNat 32 (0 % 10)) 0#32)) _ _ = _
      rw [k]; rfl
    have z : (Scalar.ofBits (F := Ideal) .f32 0x00000000#32 : EReal) = 0 := by
      show Ideal.ofBits .f32 0x00000000#32 = 0; simp [Ideal.ofBits, Ideal.ieee]
    refine ⟨fun H t ht => ?_, fun H => ⟨fun j => ?_, fun y => ?_, fun y => ?_⟩⟩
    · obtain rfl : t = ⟨0, hn⟩ := Fin.ext (Nat.le_zero.mp ht)
      exact ⟨fun y => pointDg V c _ y a b ha hb ▸ H.2.1 y, fun y => pointDu V c _ y a b ha hb ▸ H.2.2 y⟩
    · refine le_trans (le_of_eq ?_) ((Ref.mag_nonneg _).trans ((H ⟨0, hn⟩ le_rfl).1 (ix2 0 0)))
      exact (congrFun e j).trans z
    · rw [pointDg V c _ y a b ha hb]; exact (H ⟨0, hn⟩ le_rfl).1 y
    · rw [pointDu V c _ y a b ha hb]; exact (H ⟨0, hn⟩ le_rfl).2 y
  | n + 1, hn => by
    obtain ⟨a, b, ha, hb, e⟩ := run_step V c ⟨n + 1, hn⟩
    rw [show run V c (n + 1 + 1) hn = _ from e, pay1_le]
    have hN : n + 1 < 80 := lt_of_lt_of_eq hn N_1
    have e : before (BitVec.ofNat 32 (grid1.coords (⟨n + 1, hn⟩ : Fin cfg1.N) 0).val) (BitVec.ofNat 32 (grid1.coords (⟨n + 1, hn⟩ : Fin cfg1.N) 1).val) (run V c (n + 1) (Nat.le_of_lt hn))
        = run V c (n + 1) (Nat.le_of_lt hn) := by
      have k : ∀ k : Fin 79, Scalar.andi (Scalar.cmpi .eq (BitVec.ofNat 32 ((k.val + 1) / 10)) 0#32) (Scalar.cmpi .eq (BitVec.ofNat 32 ((k.val + 1) % 10)) 0#32) = 0#1 := by decide +kernel
      unfold before; rw [(coord ⟨n + 1, hn⟩).1, (coord ⟨n + 1, hn⟩).2]
      rw [show Scalar.andi (Scalar.cmpi .eq (BitVec.ofNat 32 ((n + 1) / 10)) 0#32) (Scalar.cmpi .eq (BitVec.ofNat 32 ((n + 1) % 10)) 0#32) = 0#1 from k ⟨n, by omega⟩]; rfl
    have e' : (∀ j, before (BitVec.ofNat 32 (grid1.coords (⟨n + 1, hn⟩ : Fin cfg1.N) 0).val) (BitVec.ofNat 32 (grid1.coords (⟨n + 1, hn⟩ : Fin cfg1.N) 1).val) (run V c (n + 1) (Nat.le_of_lt hn)) j ≤ x)
        ↔ ∀ j, run V c (n + 1) (Nat.le_of_lt hn) j ≤ x := forall_congr' fun j => by rw [e]
    refine (and_congr_left' (e'.trans (run_le c x n (Nat.le_of_lt hn)))).trans ?_
    refine ⟨fun H t ht => ?_, fun H => ⟨fun t ht => H t (by omega), fun y => ?_, fun y => ?_⟩⟩
    · rcases Nat.lt_or_ge n t.val with h' | h'
      · obtain rfl : t = ⟨n + 1, hn⟩ := Fin.ext (by show t.val = n + 1; omega)
        exact ⟨fun y => pointDg V c _ y a b ha hb ▸ H.2.1 y, fun y => pointDu V c _ y a b ha hb ▸ H.2.2 y⟩
      · exact H.1 t h'
    · rw [pointDg V c _ y a b ha hb]; exact (H ⟨n + 1, hn⟩ le_rfl).1 y
    · rw [pointDu V c _ y a b ha hb]; exact (H ⟨n + 1, hn⟩ le_rfl).2 y

/-- The two hidden gradients side by side. -/
abbrev wholeH (c : Dev nD) : FVec Ideal Cert.RefIdeal.S8192x10240 .f32 :=
  Ref.hidden (V c main_v8_0) (V c main_v8_1 (ix2 0 0)) (V c main_arg8) (V c main_v3) (V c main_v4)

/-- After the last point the running maximum has the upper bounds of the magnitudes of both gradients. -/
theorem run_all (c : Dev nD) (n : ℕ) (hn : n + 1 ≤ cfg1.N) (hl : n = 79) (x : EReal) : (∀ j, run V c (n + 1) hn j ≤ x) ↔ ∀ i, absf (wholeH V c) i ≤ x := by
  rw [run_le V c x n hn]
  have e : (∀ i, absf (wholeH V c) i ≤ x) ↔ ∀ i, Ref.mag (wholeH V c i) ≤ x := forall_congr' fun i => by rw [Ref.absf_at]
  rw [e, show wholeH V c = _ from Ref.pay8_eq _ _ _ _, Ref.forall_concat _ _ (fun z => Ref.mag z ≤ x)]
  refine ⟨fun H => ⟨fun i => ?_, fun i => ?_⟩, fun H t _ => ⟨fun y => H.1 _, fun y => H.2 _⟩⟩
  · obtain ⟨t, y, rfl⟩ := place_all i
    exact (H t (by have : t.val < 80 := lt_of_lt_of_eq t.isLt N_1; omega)).1 y
  · obtain ⟨t, y, rfl⟩ := place_all i
    exact (H t (by have : t.val < 80 := lt_of_lt_of_eq t.isLt N_1; omega)).2 y

/-- The ratio of the running maximum is the reference's. -/
theorem ratio_eq (c : Dev nD) (n : ℕ) (hn : n + 1 ≤ cfg1.N) (hl : n = 79) : Kernel.ratio1 (run V c (n + 1) hn) = Ref.ratioH (wholeH V c) :=
  congrArg (fun z => Scalar.mulf (F := Ideal) (φ := .f32) z (Scalar.ofBits (F := Ideal) .f32 0x37924925#32))
    (wholeMax_congr _ _ _ _ _ _ _ _ _ _ _ _ (run_all V c n hn hl))

/-- The two gradients a point leaves. -/
theorem left_at (c : Dev nD) (t : Fin cfg1.N) : (∀ y, (tr1 V c (t.val + 1) t.isLt).1 y = wholeDg V c (place t y))
    ∧ ∀ y, (tr1 V c (t.val + 1) t.isLt).2.1 y = wholeDu V c (place t y) := by
  by_cases h0 : t.val % 80 = 79
  · rw [tr1_B V c t h0]; dsimp only
    refine ⟨fun y => ?_, fun y => ?_⟩
    · frame_out; exact pointDg V c t y _ _ (ld_one _ _ _) (ld_one _ _ _)
    · frame_out; exact pointDu V c t y _ _ (ld_one _ _ _) (ld_one _ _ _)
  · rw [tr1_A V c t h0]; dsimp only
    refine ⟨fun y => ?_, fun y => ?_⟩
    · frame_out; exact pointDg V c t y _ _ (ld_one _ _ _) (ld_one _ _ _)
    · frame_out; exact pointDu V c t y _ _ (ld_one _ _ _) (ld_one _ _ _)

/-- The gradient of the gate that `dh` leaves. -/
theorem dg (c : Dev nD) : (dat1 V c).arrAt 6 cfg1.N = wholeDg V c := by
  refine (dat1 V c).arrAt_eq_of_covers 6 _ (by decide +kernel) fun t hf y => ?_
  blk_simp
  rw [after1_6]
  exact (left_at V c t).1 y

/-- The gradient of the up values that `dh` leaves. -/
theorem du (c : Dev nD) : (dat1 V c).arrAt 7 cfg1.N = wholeDu V c := by
  refine (dat1 V c).arrAt_eq_of_covers 7 _ (by decide +kernel) fun t hf y => ?_
  blk_simp
  rw [after1_7]
  refine ((left_at V c t).2 y).trans (congrArg (wholeDu V c) ?_)
  unfold place
  blk_ext [idx t]

/-- The scale that a running maximum gives. -/
def scaleFrom (M : Vec Ideal S8x512 .f32) : EReal :=
  k1_pay2 (F := Ideal) (k1_pay7 (F := Ideal) (k1_pay3 M) (k1_pay4 M) (k1_pay5 M)) (k1_pay8 (F := Ideal) (k1_pay3 M) (k1_pay4 M) (k1_pay5 M)) 0#32

/-- Equal ratios give the same scale, a power of two. -/
theorem pow_of (M : Vec Ideal S8x512 .f32) (v30 v40 v41 v46) (h : Kernel.ratio1 M = Ref.ratioH (Cert.RefIdeal.Gen.k0_pay8 (F := Ideal) v30 v40 v41 v46)) :
    ∃ r, r ≤ 239 ∧ Cert.RefIdeal.Gen.k0_pay11 (F := Ideal) (Cert.RefIdeal.Gen.k0_pay9 v30 v40 v41 v46) (Cert.RefIdeal.Gen.k0_pay10 v30 v40 v41 v46) = scaleOf r ∧ scaleFrom M = scaleOf r := by
  obtain ⟨r, hr, hs⟩ := Kernel.scale1 M
  rw [h] at hr
  exact ⟨r, hr.1, Ref.scaleH v30 v40 v41 v46 r hr, hs⟩

/-- The scale that the last point stores is the one of the running maximum after it. -/
theorem last (c : Dev nD) (t : Fin cfg1.N) (h0 : t.val % 80 = 79) (s : EReal)
    (k : scaleFrom (run V c (t.val + 1) t.isLt) = s) (y) : (tr1 V c (t.val + 1) t.isLt).2.2.1 y = s := by
  unfold run at k
  rw [tr1_B V c t h0] at k ⊢; dsimp only at k ⊢
  generalize (tr1 V c t.val (Nat.le_of_lt t.isLt)).2.2.2 = z at k ⊢
  refine Eq.trans ?_ k
  frame_out
  unfold scaleFrom
  rfl

theorem scale_of (c : Dev nD) (s : EReal) (k : ∀ (n : ℕ) (hn : n + 1 ≤ cfg1.N), n = 79 → scaleFrom (run V c (n + 1) hn) = s) : (dat1 V c).arrAt 8 cfg1.N = fun _ => s := by
  refine (dat1 V c).arrAt_eq_of_covers 8 _ (by decide +kernel) fun t hf y => ?_
  blk_simp
  rw [after1_8]
  have h : t.val % 80 = 79 := by
    by_contra h
    rw [noFlush1_8_A t fun e => h ((hcond1_0 t).mp e)] at hf
    exact Bool.false_ne_true hf
  have ht : t.val < 80 := lt_of_lt_of_eq t.isLt N_1
  exact last V c t h s (k _ _ (by omega)) y

/-- The scale of the hidden gradients. -/
def wholeScale (c : Dev nD) : EReal := Ref.scaleOfHidden (V c main_v8_0) (V c main_v8_1 (ix2 0 0)) (V c main_arg8) (V c main_v3) (V c main_v4)

/-- A maximum with the hidden gradients' ratio gives their scale, a power of two. -/
theorem scale_pow (c : Dev nD) (M : Vec Ideal S8x512 .f32) (h : Kernel.ratio1 M = Ref.ratioH (wholeH V c)) :
    ∃ r, r ≤ 239 ∧ wholeScale V c = scaleOf r ∧ scaleFrom M = scaleOf r := by
  unfold wholeScale
  have := pow_of _ _ _ _ _ h
  exact this

theorem scale_at (c : Dev nD) (n : ℕ) (hn : n + 1 ≤ cfg1.N) (hl : n = 79) : scaleFrom (run V c (n + 1) hn) = wholeScale V c := by
  obtain ⟨r, _, h1, h2⟩ := scale_pow V c (run V c (n + 1) hn) (ratio_eq V c n hn hl)
  exact h2.trans h1.symm

/-- The scale that `dh` leaves. -/
theorem scale (c : Dev nD) : (dat1 V c).arrAt 8 cfg1.N = fun _ => wholeScale V c :=
  scale_of V c _ (scale_at V c)

/-- That scale is a power of two. -/
theorem field (c : Dev nD) : ∃ r, r ≤ 239 ∧ wholeScale V c = scaleOf r := by
  obtain ⟨n, hl⟩ : ∃ n, n = 79 := ⟨_, rfl⟩
  have hn : n + 1 ≤ cfg1.N := by have : cfg1.N = 80 := N_1; omega
  obtain ⟨r, h, h1, _⟩ := scale_pow V c (run V c (n + 1) hn) (ratio_eq V c n hn hl)
  exact ⟨r, h, h1⟩

end Cert.Proof.RegionDh

end
-- ==== Proof.RegionDw2.lean ====
/-
  The value of the call `dw2`: its block products over a transposed panel are the blocks of the one product of the reference.
-/
module

public import proofs.«01_k».proof.Proof.Whole.Region2
public import proofs.«01_k».proof.Proof.Maths
public import proofs.«01_k».proof.Proof.Common
public import Idealize.ShloMosaic.Lib.Pipeline.ValueKit

@[expose] public section

set_option maxRecDepth 16384

noncomputable section

namespace Cert.Proof.RegionDw2

open Idealize.ShloMosaic Idealize.ShloMosaic.TcCoe
open Idealize.ShloMosaic.Pipeline (Dat)
open Cert.KernelIdeal Cert.KernelIdeal.Gen Cert.KernelIdeal.Whole

variable (V : (c : Dev nD) → (b : Ref sig .tc) → Buf (Elt Ideal) ((c : Thread nD τ).loc b))

/-- The block each window of point `t` reads or writes: the panel of the left codes is `t / 14`, the column block `t % 14`. -/
theorem idx : ∀ t : Fin cfg2.N, win2_0.index t = ![0, 0] ∧ win2_1.index t = ![0, 0] ∧ win2_2.index t = ![0, t.val / 14]
    ∧ win2_3.index t = ![0, t.val % 14] ∧ win2_4.index t = ![t.val / 14, t.val % 14] := (by decide +kernel : ∀ t : Fin grid2.N, _)

/-- Points of one panel read the same block of the left codes. -/
theorem panel (c : Dev nD) (t t' : Fin cfg2.N) (h : t.val / 14 = t'.val / 14) : iblk2 V c 2 t = iblk2 V c 2 t' := by
  funext j
  have e : win2_2.index t = win2_2.index t' := by rw [(idx t).2.2.1, (idx t').2.2.1, h]
  blk_ext [iblk2, idx t, idx t']

/-- After point `n` the scratch memory holds the transpose of the panel that the point reads. -/
theorem scratch (c : Dev nD) : ∀ (n : ℕ) (hn : n < cfg2.N), (outsAt2 V c n hn).2 = k2_pay1 (iblk2 V c 2 ⟨n, hn⟩)
  | 0, hn => by
    rw [outsAt2_A V c ⟨0, hn⟩ (Nat.zero_mod _)]; frame_out
  | n + 1, hn => by
    by_cases h : (n + 1) % 14 = 0
    · rw [outsAt2_A V c ⟨n + 1, hn⟩ h]; frame_out
    · rw [outsAt2_B V c ⟨n + 1, hn⟩ h]; frame_out
      have ih := scratch c n (Nat.lt_of_succ_lt hn)
      refine ih.trans (congrArg _ (panel V c _ _ ?_))
      show n / 14 = (n + 1) / 14
      omega

/-- What point `t` stores at index `y` of its block is the reference's product at the place of `y` in the array. -/
theorem point (c : Dev nD) (t : Fin cfg2.N) (y) (a b : EReal) (ha : a = iblk2 V c 0 t (ix2 0 0)) (hb : b = iblk2 V c 1 t (ix2 0 0)) :
    k2_pay2 (k2_pay1 (iblk2 V c 2 t)) (iblk2 V c 3 t) a b y
    = Ref.gradW2 (V c main_v6) (V c main_v8_0) (V c main_v1 (ix2 0 0)) (V c main_v8_1 (ix2 0 0)) (((cfg2.win 4).blk t).view.emb y) := by
  subst ha hb
  pointwise [k2_pay1, k2_pay2, Ref.gradW2]
  blk_point [iblk2, idx t]

/-- The kernel's result array after the run is the reference's product. -/
theorem final (c : Dev nD) : (dat2 V c).arrAt 4 cfg2.N
    = Ref.gradW2 (V c main_v6) (V c main_v8_0) (V c main_v1 (ix2 0 0)) (V c main_v8_1 (ix2 0 0)) := by
  refine (dat2 V c).arrAt_eq_of_covers 4 _ (by decide +kernel) fun t _ y => ?_
  blk_simp
  rw [after2_4]
  by_cases h : t.val % 14 = 0
  · rw [outsAt2_A V c t h]; frame_out
    exact point V c t y _ _ (ld_one _ _ _) (ld_one _ _ _)
  · have h1 : 0 < t.val := Nat.pos_of_ne_zero fun e => h (by rw [e])
    rw [outsAt2_B V c t h]; frame_out
    have hs := (scratch V c (t.val - 1) (Nat.lt_of_le_of_lt (Nat.sub_le _ _) t.isLt)).trans
      (congrArg k2_pay1 (panel V c ⟨t.val - 1, _⟩ t (by show (t.val - 1) / 14 = t.val / 14; omega)))
    rw [hs]
    have e := (Memref.isWhole_whole cc2_scratch0 : Memref.IsWhole _).read_unread (Val := Elt Ideal) (k2_pay1 (iblk2 V c 2 t))
    refine (congrFun (congrArg (fun z => k2_pay2 z (iblk2 V c 3 t) _ _) e) y).trans ?_
    exact point V c t y _ _ (ld_one _ _ _) (ld_one _ _ _)

end Cert.Proof.RegionDw2

end
-- ==== Proof.RegionQdh.lean ====
/-
  The value of the call `quant_dh`: the codes of the two gradients side by side, when the scale it is given is a power of two.
-/
module

public import proofs.«01_k».proof.Proof.Whole.Region3
public import proofs.«01_k».proof.Proof.Maths
public import proofs.«01_k».proof.Proof.KernelScale
public import proofs.«01_k».proof.Proof.Common
public import Idealize.ShloMosaic.Lib.Pipeline.ValueKit

@[expose] public section

set_option maxRecDepth 16384

noncomputable section

namespace Cert.Proof.RegionQdh

open Idealize.ShloMosaic Idealize.ShloMosaic.TcCoe
open Idealize.ShloMosaic.Pipeline (Dat)
open Cert.KernelIdeal Cert.KernelIdeal.Gen Cert.KernelIdeal.Whole

variable (V : (c : Dev nD) → (b : Ref sig .tc) → Buf (Elt Ideal) ((c : Thread nD τ).loc b))

/-- The row block of point `t` is `t`. -/
theorem idx : ∀ t : Fin cfg3.N, win3_0.index t = ![0, 0] ∧ win3_1.index t = ![t.val, 0] ∧ win3_2.index t = ![t.val, 0] ∧ win3_3.index t = ![t.val, 0] :=
  (by decide +kernel : ∀ t : Fin grid3.N, _)

theorem pay1_at (d : EReal) (B : Vec Ideal S256x5120 .f32) (y) : k3_pay1 (F := Ideal) d B y = Ref.quantBy (B y) d := by
  pointwise [k3_pay1]
  rfl

theorem pay2_at (d : EReal) (B : Vec Ideal S256x5120 .f32) (y) : k3_pay2 (F := Ideal) d B y = Ref.quantBy (B y) d := by
  pointwise [k3_pay2]
  rfl

/-- The two gradients side by side. -/
abbrev joined (x y : FVec Ideal Cert.RefIdeal.S8192x5120 .f32) : FVec Ideal Cert.RefIdeal.S8192x10240 .f32 :=
  concatenate Cert.RefIdeal.S8192x10240 1 [⟨Cert.RefIdeal.S8192x5120, x⟩, ⟨Cert.RefIdeal.S8192x5120, y⟩] Cert.RefIdeal.Gen.concatenates_S8192x5120_S8192x5120_S8192x10240_d1

/-- The array of codes that `quant_dh` leaves. -/
theorem codes (c : Dev nD) (r : ℕ) (hr : r ≤ 239) (hs : V c main_v9_2 (ix2 0 0) = scaleOf r) : (dat3 V c).arrAt 3 cfg3.N
    = Ref.quant (joined (V c main_v9_0) (V c main_v9_1)) (scaleOf r) := by
  have hi : ∀ t : Fin cfg3.N, iblk3 V c 0 t (ix2 0 0) = pw (fieldOf r) := by
    intro t
    rw [← scaleOf_eq, ← hs]
    blk_ext [iblk3, idx t]
  have hp : ∀ a : EReal, a = pw (fieldOf r) → k3_pay6 (F := Ideal) (k3_pay3 (F := Ideal) a) (k3_pay4 (F := Ideal) a) k3_pay5 = Ref.recip (scaleOf r) := by
    intro a ha
    obtain ⟨h1, h2⟩ := fieldOf_bounds r hr
    rw [ha, Kernel.inv3 _ (by omega) h2, Ref.recip_scaleOf r hr]
  refine (dat3 V c).arrAt_eq_of_covers 3 _ (by decide +kernel) fun t hf y => ?_
  blk_simp
  rw [after3_3, Ref.quant_at]; unfold outsAt3 Ref.quantOne; frame_out
  have hc (t : Fin cfg3.N) : t.val < 32 := lt_of_lt_of_eq t.isLt N_3
  canon_tiles x h
  · rw [pay2_at, hp _ ((ld_one _ _ _).trans (hi t))]
    refine congrArg (fun z => Ref.quantBy z _) ?_
    have g : t.val * 256 + (x 0).val < 8192 := by have := hc t; omega
    refine Eq.trans ?_ (Ref.concat_right _ _ (ix2 (⟨t.val * 256 + (x 0).val, g⟩ : Fin 8192) (⟨(x 1).val, x1_lt⟩ : Fin 5120)) _ ?_ ?_).symm
    · blk_point [iblk3, idx t]
    · blk_simp; rw [(idx t).2.2.2]; exact congrArg (t.val * 256 + ·) h0
    · blk_simp; rw [(idx t).2.2.2]; show 0 * 10240 + (y 1).val = (x 1).val + 5120; omega
  · rw [pay1_at, hp _ ((ld_one _ _ _).trans (hi t))]
    refine congrArg (fun z => Ref.quantBy z _) ?_
    have g : t.val * 256 + (x 0).val < 8192 := by have := hc t; omega
    refine Eq.trans ?_ (Ref.concat_left _ _ (ix2 (⟨t.val * 256 + (x 0).val, g⟩ : Fin 8192) (⟨(x 1).val, x1_lt⟩ : Fin 5120)) _ ?_ ?_).symm
    · blk_point [iblk3, idx t]
    · blk_simp; rw [(idx t).2.2.2]; exact congrArg (t.val * 256 + ·) h0
    · blk_simp; rw [(idx t).2.2.2]; show 0 * 10240 + (y 1).val = (x 1).val; omega

end Cert.Proof.RegionQdh

end
-- ==== Proof.RegionDx.lean ====
/-
  The value of the call `dx`: its block products are the blocks of the one product of the reference.
-/
module

public import proofs.«01_k».proof.Proof.Whole.Region4
public import proofs.«01_k».proof.Proof.Maths
public import proofs.«01_k».proof.Proof.Common
public import Idealize.ShloMosaic.Lib.Pipeline.ValueKit

@[expose] public section

set_option maxRecDepth 16384

noncomputable section

namespace Cert.Proof.RegionDx

open Idealize.ShloMosaic Idealize.ShloMosaic.TcCoe
open Idealize.ShloMosaic.Pipeline (Dat)
open Cert.KernelIdeal Cert.KernelIdeal.Gen Cert.KernelIdeal.Whole

variable (V : (c : Dev nD) → (b : Ref sig .tc) → Buf (Elt Ideal) ((c : Thread nD τ).loc b))

/-- The block each window of point `t` reads or writes: the row block is `t / 14`, the column block `t % 14`. -/
theorem idx : ∀ t : Fin cfg4.N, win4_0.index t = ![0, 0] ∧ win4_1.index t = ![0, 0] ∧ win4_2.index t = ![t.val / 14, 0]
    ∧ win4_3.index t = ![t.val % 14, 0] ∧ win4_4.index t = ![t.val / 14, t.val % 14] := (by decide +kernel : ∀ t : Fin grid4.N, _)

/-- What point `t` stores at index `y` of its block is the reference's product at the place of `y` in the array. -/
theorem point (c : Dev nD) (t : Fin cfg4.N) (y) (a b : EReal) (ha : a = iblk4 V c 0 t (ix2 0 0)) (hb : b = iblk4 V c 1 t (ix2 0 0)) :
    k4_pay1 (iblk4 V c 2 t) (iblk4 V c 3 t) a b y
    = Ref.gradX (V c main_v11) (V c main_arg6) (V c main_v9_2 (ix2 0 0)) (V c main_v2 (ix2 0 0)) (((cfg4.win 4).blk t).view.emb y) := by
  subst ha hb
  pointwise [k4_pay1, Ref.gradX]
  blk_point [iblk4, idx t]

/-- The array `dx` leaves. -/
theorem final (c : Dev nD) : (dat4 V c).arrAt 4 cfg4.N
    = Ref.gradX (V c main_v11) (V c main_arg6) (V c main_v9_2 (ix2 0 0)) (V c main_v2 (ix2 0 0)) := by
  refine (dat4 V c).arrAt_eq_of_covers 4 _ (by decide +kernel) fun t _ y => ?_
  blk_simp
  rw [after4_4]; unfold outsAt4; frame_out
  exact point V c t y _ _ (ld_one _ _ _) (ld_one _ _ _)

end Cert.Proof.RegionDx

end
-- ==== Proof.RegionDw1.lean ====
/-
  The value of the call `dw1`: its block products over a transposed panel are the blocks of the one product of the reference.
-/
module

public import proofs.«01_k».proof.Proof.Whole.Region5
public import proofs.«01_k».proof.Proof.Maths
public import proofs.«01_k».proof.Proof.Common
public import Idealize.ShloMosaic.Lib.Pipeline.ValueKit

@[expose] public section

set_option maxRecDepth 16384

noncomputable section

namespace Cert.Proof.RegionDw1

open Idealize.ShloMosaic Idealize.ShloMosaic.TcCoe
open Idealize.ShloMosaic.Pipeline (Dat)
open Cert.KernelIdeal Cert.KernelIdeal.Gen Cert.KernelIdeal.Whole

variable (V : (c : Dev nD) → (b : Ref sig .tc) → Buf (Elt Ideal) ((c : Thread nD τ).loc b))

/-- The block each window of point `t` reads or writes: the panel of the left codes is `t / 20`, the column block `t % 20`. -/
theorem idx : ∀ t : Fin cfg5.N, win5_0.index t = ![0, 0] ∧ win5_1.index t = ![0, 0] ∧ win5_2.index t = ![0, t.val / 20]
    ∧ win5_3.index t = ![0, t.val % 20] ∧ win5_4.index t = ![t.val / 20, t.val % 20] := (by decide +kernel : ∀ t : Fin grid5.N, _)

/-- Points of one panel read the same block of the left codes. -/
theorem panel (c : Dev nD) (t t' : Fin cfg5.N) (h : t.val / 20 = t'.val / 20) : iblk5 V c 2 t = iblk5 V c 2 t' := by
  funext j
  have e : win5_2.index t = win5_2.index t' := by rw [(idx t).2.2.1, (idx t').2.2.1, h]
  blk_ext [iblk5, idx t, idx t']

/-- After point `n` the scratch memory holds the transpose of the panel that the point reads. -/
theorem scratch (c : Dev nD) : ∀ (n : ℕ) (hn : n < cfg5.N), (outsAt5 V c n hn).2 = k5_pay1 (iblk5 V c 2 ⟨n, hn⟩)
  | 0, hn => by
    rw [outsAt5_A V c ⟨0, hn⟩ (Nat.zero_mod _)]; frame_out
  | n + 1, hn => by
    by_cases h : (n + 1) % 20 = 0
    · rw [outsAt5_A V c ⟨n + 1, hn⟩ h]; frame_out
    · rw [outsAt5_B V c ⟨n + 1, hn⟩ h]; frame_out
      have ih := scratch c n (Nat.lt_of_succ_lt hn)
      refine ih.trans (congrArg _ (panel V c _ _ ?_))
      show n / 20 = (n + 1) / 20
      omega

/-- What point `t` stores at index `y` of its block is the reference's product at the place of `y` in the array. -/
theorem point (c : Dev nD) (t : Fin cfg5.N) (y) (a b : EReal) (ha : a = iblk5 V c 0 t (ix2 0 0)) (hb : b = iblk5 V c 1 t (ix2 0 0)) :
    k5_pay2 (k5_pay1 (iblk5 V c 2 t)) (iblk5 V c 3 t) a b y
    = Ref.gradW1 (V c main_v5) (V c main_v11) (V c main_v0 (ix2 0 0)) (V c main_v9_2 (ix2 0 0)) (((cfg5.win 4).blk t).view.emb y) := by
  subst ha hb
  pointwise [k5_pay1, k5_pay2, Ref.gradW1]
  blk_point [iblk5, idx t]

/-- The kernel's result array after the run is the reference's product. -/
theorem final (c : Dev nD) : (dat5 V c).arrAt 4 cfg5.N
    = Ref.gradW1 (V c main_v5) (V c main_v11) (V c main_v0 (ix2 0 0)) (V c main_v9_2 (ix2 0 0)) := by
  refine (dat5 V c).arrAt_eq_of_covers 4 _ (by decide +kernel) fun t _ y => ?_
  blk_simp
  rw [after5_4]
  by_cases h : t.val % 20 = 0
  · rw [outsAt5_A V c t h]; frame_out
    exact point V c t y _ _ (ld_one _ _ _) (ld_one _ _ _)
  · have h1 : 0 < t.val := Nat.pos_of_ne_zero fun e => h (by rw [e])
    rw [outsAt5_B V c t h]; frame_out
    have hs := (scratch V c (t.val - 1) (Nat.lt_of_le_of_lt (Nat.sub_le _ _) t.isLt)).trans
      (congrArg k5_pay1 (panel V c ⟨t.val - 1, _⟩ t (by show (t.val - 1) / 20 = t.val / 20; omega)))
    rw [hs]
    have e := (Memref.isWhole_whole cc5_scratch0 : Memref.IsWhole _).read_unread (Val := Elt Ideal) (k5_pay1 (iblk5 V c 2 t))
    refine (congrFun (congrArg (fun z => k5_pay2 z (iblk5 V c 3 t) _ _) e) y).trans ?_
    exact point V c t y _ _ (ld_one _ _ _) (ld_one _ _ _)

end Cert.Proof.RegionDw1

end
-- ==== Proof.Chain.lean ====
/-
  The values of the kernel's seven results after its run, over the reals: each call's arrays are the mathematics of what it was given,
  and the calls are put together here.
-/
module

public import proofs.«01_k».proof.Proof.Whole.Run
public import proofs.«01_k».proof.Proof.RefValue
public import proofs.«01_k».proof.Proof.RegionQdy
public import proofs.«01_k».proof.Proof.RegionDh
public import proofs.«01_k».proof.Proof.RegionDw2
public import proofs.«01_k».proof.Proof.RegionQdh
public import proofs.«01_k».proof.Proof.RegionDx
public import proofs.«01_k».proof.Proof.RegionDw1
public import Idealize.ShloMosaic.Lib.Pipeline.ValueKit

@[expose] public section

set_option maxRecDepth 16384

noncomputable section

namespace Cert.Proof.Chain

open Idealize.ShloMosaic Idealize.ShloMosaic.TcCoe
open Idealize.ShloMosaic.Pipeline (Dat)
open Cert.KernelIdeal Cert.KernelIdeal.Gen Cert.KernelIdeal.Whole

variable (m : (ℓ : Loc nD τ sig) → Buf (Elt Ideal) ℓ) (ρ : Dev nD → PrngReg)

/-- The codes of dy, after the first call. -/
theorem codesY (c : Dev nD) : W2 m ρ c main_v8_0 = RefValue.codesY (W1 m ρ c main_v7) :=
  (W2_arr m ρ c 1).trans (RegionQdy.codes (V1 m ρ) c)

/-- The scale of dy, after the first call. -/
theorem scaleY (c : Dev nD) : W2 m ρ c main_v8_1 = fun _ => RefValue.scaleY (W1 m ρ c main_v7) :=
  (W2_arr m ρ c 2).trans (RegionQdy.scale (V1 m ρ) c)

theorem w2_2 (c : Dev nD) : W2 m ρ c main_arg8 = W1 m ρ c main_arg8 := W2_of m ρ c main_arg8 (by decide)
theorem s2_2 (c : Dev nD) : W2 m ρ c main_v3 = W1 m ρ c main_v3 := W2_of m ρ c main_v3 (by decide)
theorem gu_2 (c : Dev nD) : W2 m ρ c main_v4 = W1 m ρ c main_v4 := W2_of m ρ c main_v4 (by decide)

/-- The scale of the hidden gradients, from the arguments. -/
def sH (c : Dev nD) : EReal := RefValue.scaleH (RefValue.codesY (W1 m ρ c main_v7)) (RefValue.scaleY (W1 m ρ c main_v7)) (W1 m ρ c main_arg8) (W1 m ρ c main_v3) (W1 m ρ c main_v4)

/-- The codes of the hidden gradients, from the arguments. -/
def cH (c : Dev nD) : FVec Ideal S8192x10240 .fp8e5m2 := RefValue.codesH (RefValue.codesY (W1 m ρ c main_v7)) (RefValue.scaleY (W1 m ρ c main_v7)) (W1 m ρ c main_arg8) (W1 m ρ c main_v3) (W1 m ρ c main_v4)

theorem scale_2 (c : Dev nD) : RegionDh.wholeScale (V2 m ρ) c = sH m ρ c := by
  unfold RegionDh.wholeScale sH RefValue.scaleH
  rw [show V2 m ρ c main_v8_0 = _ from codesY m ρ c, show V2 m ρ c main_v8_1 = _ from scaleY m ρ c, show V2 m ρ c main_arg8 = _ from w2_2 m ρ c,
    show V2 m ρ c main_v3 = _ from s2_2 m ρ c, show V2 m ρ c main_v4 = _ from gu_2 m ρ c]

theorem hidden_2 (c : Dev nD) : RegionQdh.joined (RegionDh.wholeDg (V2 m ρ) c) (RegionDh.wholeDu (V2 m ρ) c)
    = RefValue.hiddenOf (RefValue.codesY (W1 m ρ c main_v7)) (RefValue.scaleY (W1 m ρ c main_v7)) (W1 m ρ c main_arg8) (W1 m ρ c main_v3) (W1 m ρ c main_v4) := by
  refine Eq.trans (Eq.symm (Ref.pay8_eq _ _ _ _)) ?_
  unfold RefValue.hiddenOf
  rw [show V2 m ρ c main_v8_0 = _ from codesY m ρ c, show V2 m ρ c main_v8_1 = _ from scaleY m ρ c, show V2 m ρ c main_arg8 = _ from w2_2 m ρ c,
    show V2 m ρ c main_v3 = _ from s2_2 m ρ c, show V2 m ρ c main_v4 = _ from gu_2 m ρ c]

/-- The scale of the hidden gradients, after the second call. -/
theorem scaleH (c : Dev nD) : W3 m ρ c main_v9_2 = fun _ => sH m ρ c :=
  (W3_arr m ρ c 8).trans ((RegionDh.scale (V2 m ρ) c).trans (by rw [scale_2]))

theorem gH (c : Dev nD) : W3 m ρ c main_v9_0 = RegionDh.wholeDg (V2 m ρ) c := (W3_arr m ρ c 6).trans (RegionDh.dg (V2 m ρ) c)
theorem uH (c : Dev nD) : W3 m ρ c main_v9_1 = RegionDh.wholeDu (V2 m ρ) c := (W3_arr m ρ c 7).trans (RegionDh.du (V2 m ρ) c)

theorem codesY3 (c : Dev nD) : W3 m ρ c main_v8_0 = RefValue.codesY (W1 m ρ c main_v7) := (W3_of m ρ c main_v8_0 (by decide)).trans (codesY m ρ c)
theorem scaleY3 (c : Dev nD) : W3 m ρ c main_v8_1 = fun _ => RefValue.scaleY (W1 m ρ c main_v7) := (W3_of m ρ c main_v8_1 (by decide)).trans (scaleY m ρ c)

theorem a3 (c : Dev nD) : W3 m ρ c main_v6 = W1 m ρ c main_v6 := (W3_of m ρ c main_v6 (by decide)).trans (W2_of m ρ c main_v6 (by decide))
theorem sa3 (c : Dev nD) : W3 m ρ c main_v1 = W1 m ρ c main_v1 := (W3_of m ρ c main_v1 (by decide)).trans (W2_of m ρ c main_v1 (by decide))

/-- The second weight gradient, after the third call. -/
theorem gradW2 (c : Dev nD) : W4 m ρ c main_v10 = Ref.gradW2 (W1 m ρ c main_v6) (RefValue.codesY (W1 m ρ c main_v7)) (W1 m ρ c main_v1 (ix2 0 0)) (RefValue.scaleY (W1 m ρ c main_v7)) := by
  refine (W4_arr m ρ c 4).trans ((RegionDw2.final (V3 m ρ) c).trans ?_)
  rw [show V3 m ρ c main_v8_0 = _ from codesY3 m ρ c, show V3 m ρ c main_v8_1 = _ from scaleY3 m ρ c, show V3 m ρ c main_v6 = _ from a3 m ρ c, show V3 m ρ c main_v1 = _ from sa3 m ρ c]

theorem scaleH4 (c : Dev nD) : W4 m ρ c main_v9_2 = fun _ => sH m ρ c := (W4_of m ρ c main_v9_2 (by decide)).trans (scaleH m ρ c)
theorem gH4 (c : Dev nD) : W4 m ρ c main_v9_0 = RegionDh.wholeDg (V2 m ρ) c := (W4_of m ρ c main_v9_0 (by decide)).trans (gH m ρ c)
theorem uH4 (c : Dev nD) : W4 m ρ c main_v9_1 = RegionDh.wholeDu (V2 m ρ) c := (W4_of m ρ c main_v9_1 (by decide)).trans (uH m ρ c)

/-- The codes of the hidden gradients, after the fourth call. -/
theorem codesH (c : Dev nD) : W5 m ρ c main_v11 = cH m ρ c := by
  obtain ⟨r, hr, hs⟩ := RegionDh.field (V2 m ρ) c
  rw [scale_2] at hs
  refine (W5_arr m ρ c 3).trans ((RegionQdh.codes (V4 m ρ) c r hr ((congrFun (scaleH4 m ρ c) _).trans hs)).trans ?_)
  rw [show V4 m ρ c main_v9_0 = _ from gH4 m ρ c, show V4 m ρ c main_v9_1 = _ from uH4 m ρ c, hidden_2, ← hs]
  unfold cH RefValue.codesH sH
  rfl

theorem scaleH5 (c : Dev nD) : W5 m ρ c main_v9_2 = fun _ => sH m ρ c := (W5_of m ρ c main_v9_2 (by decide)).trans (scaleH4 m ρ c)
theorem keep5 (c : Dev nD) (r : Ref sig .tc) (h0 : ∀ w : Fin cfg0.W, Pipeline.arrRef spec0 w = r → (cfg0.win w).isOut = false) (h1 : ∀ w : Fin cfg1.W, Pipeline.arrRef spec1 w = r → (cfg1.win w).isOut = false) (h2 : ∀ w : Fin cfg2.W, Pipeline.arrRef spec2 w = r → (cfg2.win w).isOut = false) (h3 : ∀ w : Fin cfg3.W, Pipeline.arrRef spec3 w = r → (cfg3.win w).isOut = false) :
    W5 m ρ c (Proc.devRef .tc r) = W1 m ρ c (Proc.devRef .tc r) :=
  (W5_of m ρ c r h3).trans ((W4_of m ρ c r h2).trans ((W3_of m ρ c r h1).trans (W2_of m ρ c r h0)))

/-- The input gradient, after the fifth call. -/
theorem gradX (c : Dev nD) : W6 m ρ c main_v12 = Ref.gradX (cH m ρ c) (W1 m ρ c main_arg6) (sH m ρ c) (W1 m ρ c main_v2 (ix2 0 0)) := by
  refine (W6_arr m ρ c 4).trans ((RegionDx.final (V5 m ρ) c).trans ?_)
  rw [show V5 m ρ c main_v11 = _ from codesH m ρ c, show V5 m ρ c main_v9_2 = _ from scaleH5 m ρ c,
    show V5 m ρ c main_arg6 = _ from keep5 m ρ c main_arg6 (by decide) (by decide) (by decide) (by decide),
    show V5 m ρ c main_v2 = _ from keep5 m ρ c main_v2 (by decide) (by decide) (by decide) (by decide)]

theorem scaleH6 (c : Dev nD) : W6 m ρ c main_v9_2 = fun _ => sH m ρ c := (W6_of m ρ c main_v9_2 (by decide)).trans (scaleH5 m ρ c)
theorem codesH6 (c : Dev nD) : W6 m ρ c main_v11 = cH m ρ c := (W6_of m ρ c main_v11 (by decide)).trans (codesH m ρ c)

/-- The first weight gradient, after the sixth call. -/
theorem gradW1 (c : Dev nD) : W7 m ρ c main_v13 = Ref.gradW1 (W1 m ρ c main_v5) (cH m ρ c) (W1 m ρ c main_v0 (ix2 0 0)) (sH m ρ c) := by
  refine (W7_arr m ρ c 4).trans ((RegionDw1.final (V6 m ρ) c).trans ?_)
  rw [show V6 m ρ c main_v11 = _ from codesH6 m ρ c, show V6 m ρ c main_v9_2 = _ from scaleH6 m ρ c,
    show V6 m ρ c main_v5 = _ from (W6_of m ρ c main_v5 (by decide)).trans (keep5 m ρ c main_v5 (by decide) (by decide) (by decide) (by decide)),
    show V6 m ρ c main_v0 = _ from (W6_of m ρ c main_v0 (by decide)).trans (keep5 m ρ c main_v0 (by decide) (by decide) (by decide) (by decide))]

theorem gradX7 (c : Dev nD) : W7 m ρ c main_v12 = Ref.gradX (cH m ρ c) (W1 m ρ c main_arg6) (sH m ρ c) (W1 m ρ c main_v2 (ix2 0 0)) :=
  (W7_of m ρ c main_v12 (by decide)).trans (gradX m ρ c)
theorem scaleH7 (c : Dev nD) : W7 m ρ c main_v9_2 = fun _ => sH m ρ c := (W7_of m ρ c main_v9_2 (by decide)).trans (scaleH6 m ρ c)
theorem codesH7 (c : Dev nD) : W7 m ρ c main_v11 = cH m ρ c := (W7_of m ρ c main_v11 (by decide)).trans (codesH6 m ρ c)
theorem gradW2_7 (c : Dev nD) : W7 m ρ c main_v10 = Ref.gradW2 (W1 m ρ c main_v6) (RefValue.codesY (W1 m ρ c main_v7)) (W1 m ρ c main_v1 (ix2 0 0)) (RefValue.scaleY (W1 m ρ c main_v7)) :=
  (W7_of m ρ c main_v10 (by decide)).trans ((W6_of m ρ c main_v10 (by decide)).trans ((W5_of m ρ c main_v10 (by decide)).trans (gradW2 m ρ c)))
theorem codesY7 (c : Dev nD) : W7 m ρ c main_v8_0 = RefValue.codesY (W1 m ρ c main_v7) :=
  (W7_of m ρ c main_v8_0 (by decide)).trans ((W6_of m ρ c main_v8_0 (by decide)).trans ((W5_of m ρ c main_v8_0 (by decide)).trans ((W4_of m ρ c main_v8_0 (by decide)).trans (codesY3 m ρ c))))
theorem scaleY7 (c : Dev nD) : W7 m ρ c main_v8_1 = fun _ => RefValue.scaleY (W1 m ρ c main_v7) :=
  (W7_of m ρ c main_v8_1 (by decide)).trans ((W6_of m ρ c main_v8_1 (by decide)).trans ((W5_of m ρ c main_v8_1 (by decide)).trans ((W4_of m ρ c main_v8_1 (by decide)).trans (scaleY3 m ρ c))))

end Cert.Proof.Chain

end
-- ==== Proof.Algebraic.lean ====
/-
  Kernel and reference, over the reals: from equal arguments the seven results are equal.
-/
module

public import proofs.«01_k».proof.Defs
public import proofs.«01_k».proof.Proof.Chain
public import Idealize.ShloMosaic.Lib.Pipeline.ValueKit

@[expose] public section

set_option maxRecDepth 16384

noncomputable section

namespace Cert.Proof.Chain

open Idealize.ShloMosaic Idealize.ShloMosaic.TcCoe Idealize.SL.Sem

open Cert.KernelIdeal Cert.KernelIdeal.Gen Cert.KernelIdeal.Whole

/-- The run of the kernel, its results as the arrays after the last host operation. -/
theorem kernel_run (m : (ℓ : Loc nD τ sig) → Buf (Elt Ideal) ℓ) (g : Dev nD → PrngReg) : θ_run defs (onTc (τ := τ) (main (F := Ideal))) ⟨m, fun _ => 0, g⟩ (fun r => ∀ c : Dev nD,
      r.2.mem ((c.tc : Thread nD τ).loc main_v14) = W8 m g c main_v14
      ∧ r.2.mem ((c.tc : Thread nD τ).loc main_v13) = W8 m g c main_v13
      ∧ r.2.mem ((c.tc : Thread nD τ).loc main_v10) = W8 m g c main_v10
      ∧ r.2.mem ((c.tc : Thread nD τ).loc main_v15) = W8 m g c main_v15
      ∧ r.2.mem ((c.tc : Thread nD τ).loc main_v16) = W8 m g c main_v16
      ∧ r.2.mem ((c.tc : Thread nD τ).loc main_v17) = W8 m g c main_v17
      ∧ r.2.mem ((c.tc : Thread nD τ).loc main_v18) = W8 m g c main_v18
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ hh c =>
    have h := hh.1 c
    ⟨h _ (mem_uc main_v14 (by decide)),
     h _ (mem_uc main_v13 (by decide)),
     h _ (mem_uc main_v10 (by decide)),
     h _ (mem_uc main_v15 (by decide)),
     h _ (mem_uc main_v16 (by decide)),
     h _ (mem_uc main_v17 (by decide)),
     h _ (mem_uc main_v18 (by decide)),
     (h _ (mem_uc main_arg0 (by decide))).trans (W8_main_arg0 m g c),
     (h _ (mem_uc main_arg1 (by decide))).trans (W8_main_arg1 m g c),
     (h _ (mem_uc main_arg2 (by decide))).trans (W8_main_arg2 m g c),
     (h _ (mem_uc main_arg3 (by decide))).trans (W8_main_arg3 m g c),
     (h _ (mem_uc main_arg4 (by decide))).trans (W8_main_arg4 m g c),
     (h _ (mem_uc main_arg5 (by decide))).trans (W8_main_arg5 m g c),
     (h _ (mem_uc main_arg6 (by decide))).trans (W8_main_arg6 m g c),
     (h _ (mem_uc main_arg7 (by decide))).trans (W8_main_arg7 m g c),
     (h _ (mem_uc main_arg8 (by decide))).trans (W8_main_arg8 m g c),
     (h _ (mem_uc main_arg9 (by decide))).trans (W8_main_arg9 m g c)⟩) (run m g)

variable (m : (ℓ : Loc nD τ sig) → Buf (Elt Ideal) ℓ) (ρ : Dev nD → PrngReg)

theorem in_main_v0 (c : Dev nD) : ∃ h, W1 m ρ c main_v0 = shapeCast main_v0.ty.shape (m ((c : Thread nD τ).loc main_arg3)) h := by
  unfold W1
  entry_read
  rw [W0_args m ρ c main_arg3 (by decide)]
  exact ⟨_, rfl⟩

theorem in_main_v1 (c : Dev nD) : ∃ h, W1 m ρ c main_v1 = shapeCast main_v1.ty.shape (m ((c : Thread nD τ).loc main_arg5)) h := by
  unfold W1
  entry_read
  rw [W0_args m ρ c main_arg5 (by decide)]
  exact ⟨_, rfl⟩

theorem in_main_v2 (c : Dev nD) : ∃ h, W1 m ρ c main_v2 = shapeCast main_v2.ty.shape (m ((c : Thread nD τ).loc main_arg7)) h := by
  unfold W1
  entry_read
  rw [W0_args m ρ c main_arg7 (by decide)]
  exact ⟨_, rfl⟩

theorem in_main_v3 (c : Dev nD) : ∃ h, W1 m ρ c main_v3 = shapeCast main_v3.ty.shape (m ((c : Thread nD τ).loc main_arg9)) h := by
  unfold W1
  entry_read
  rw [W0_args m ρ c main_arg9 (by decide)]
  exact ⟨_, rfl⟩

theorem in_main_v4 (c : Dev nD) : ∃ h, W1 m ρ c main_v4 = shapeCast main_v4.ty.shape (m ((c : Thread nD τ).loc main_arg1)) h := by
  unfold W1
  entry_read
  rw [W0_args m ρ c main_arg1 (by decide)]
  exact ⟨_, rfl⟩

theorem in_main_v5 (c : Dev nD) : ∃ h, W1 m ρ c main_v5 = shapeCast main_v5.ty.shape (m ((c : Thread nD τ).loc main_arg2)) h := by
  unfold W1
  entry_read
  rw [W0_args m ρ c main_arg2 (by decide)]
  exact ⟨_, rfl⟩

theorem in_main_v6 (c : Dev nD) : ∃ h, W1 m ρ c main_v6 = shapeCast main_v6.ty.shape (m ((c : Thread nD τ).loc main_arg4)) h := by
  unfold W1
  entry_read
  rw [W0_args m ρ c main_arg4 (by decide)]
  exact ⟨_, rfl⟩

theorem in_main_v7 (c : Dev nD) : ∃ h, W1 m ρ c main_v7 = shapeCast main_v7.ty.shape (m ((c : Thread nD τ).loc main_arg0)) h := by
  unfold W1
  entry_read
  rw [W0_args m ρ c main_arg0 (by decide)]
  exact ⟨_, rfl⟩

theorem out_main_v14 (c : Dev nD) : ∃ h, W8 m ρ c main_v14 = shapeCast main_v14.ty.shape (W7 m ρ c main_v12) h := by
  unfold W8
  entry_read
  exact ⟨_, rfl⟩

theorem out_main_v15 (c : Dev nD) : ∃ h, W8 m ρ c main_v15 = shapeCast main_v15.ty.shape (W7 m ρ c main_v8_0) h := by
  unfold W8
  entry_read
  exact ⟨_, rfl⟩

theorem out_main_v16 (c : Dev nD) : ∃ h, W8 m ρ c main_v16 = shapeCast main_v16.ty.shape (W7 m ρ c main_v8_1) h := by
  unfold W8
  entry_read
  exact ⟨_, rfl⟩

theorem out_main_v17 (c : Dev nD) : ∃ h, W8 m ρ c main_v17 = shapeCast main_v17.ty.shape (W7 m ρ c main_v11) h := by
  unfold W8
  entry_read
  exact ⟨_, rfl⟩

theorem out_main_v18 (c : Dev nD) : ∃ h, W8 m ρ c main_v18 = shapeCast main_v18.ty.shape (W7 m ρ c main_v9_2) h := by
  unfold W8
  entry_read
  exact ⟨_, rfl⟩

theorem out_main_v13 (c : Dev nD) : W8 m ρ c main_v13 = W7 m ρ c main_v13 := W8_of m ρ c main_v13 (by decide)
theorem out_main_v10 (c : Dev nD) : W8 m ρ c main_v10 = W7 m ρ c main_v10 := W8_of m ρ c main_v10 (by decide)
theorem arg6 (c : Dev nD) : W1 m ρ c main_arg6 = m ((c : Thread nD τ).loc main_arg6) := W1_args m ρ c main_arg6 (by decide)
theorem arg8 (c : Dev nD) : W1 m ρ c main_arg8 = m ((c : Thread nD τ).loc main_arg8) := W1_args m ρ c main_arg8 (by decide)

end Cert.Proof.Chain

end
-- ==== Proof.Final.lean ====
/-
  Kernel and reference, over the reals: from equal arguments the seven results are equal.
-/
module

public import proofs.«01_k».proof.Defs
public import proofs.«01_k».proof.Proof.RefRun
public import proofs.«01_k».proof.Proof.Algebraic
public import Idealize.ShloMosaic.Lib.Pipeline.ValueKit

@[expose] public section

set_option maxRecDepth 16384

noncomputable section

namespace Cert.Proof

open Idealize.ShloMosaic Idealize.ShloMosaic.TcCoe Idealize.SL.Sem
open Cert.KernelIdeal.Whole (W1 W7 W8)

set_option maxHeartbeats 1000000 in
/-- Kernel and reference, over the reals: from equal arguments all seven results are equal. -/
theorem algebraic : Cert.algebraic_KernelIdeal_RefIdeal (hKernelIdeal := Cert.KernelIdeal.Gen.facts) (hRefIdeal := Cert.RefIdeal.Gen.facts) := by
  intro m g m' g' _ ha
  refine ⟨fun c => W8 m g c Cert.KernelIdeal.main_v14, fun c => W8 m g c Cert.KernelIdeal.main_v13, fun c => W8 m g c Cert.KernelIdeal.main_v10, fun c => W8 m g c Cert.KernelIdeal.main_v15, fun c => W8 m g c Cert.KernelIdeal.main_v16, fun c => W8 m g c Cert.KernelIdeal.main_v17, fun c => W8 m g c Cert.KernelIdeal.main_v18, Chain.kernel_run m g, ?_⟩
  have e0 (c) : Cert.RefIdeal.Gen.V m' c Cert.RefIdeal.main_v0 = W1 m g c Cert.KernelIdeal.main_v7 := by
    obtain ⟨p, e⟩ := RefValue.in_main_v0 m' c
    obtain ⟨q, k⟩ := Chain.in_main_v7 m g c
    exact e.trans ((congrArg (fun z => shapeCast _ z p) (ha c).1).trans k.symm)
  have e1 (c) : Cert.RefIdeal.Gen.V m' c Cert.RefIdeal.main_v1 = W1 m g c Cert.KernelIdeal.main_v4 := by
    obtain ⟨p, e⟩ := RefValue.in_main_v1 m' c
    obtain ⟨q, k⟩ := Chain.in_main_v4 m g c
    exact e.trans ((congrArg (fun z => shapeCast _ z p) (ha c).2.1).trans k.symm)
  have e2 (c) : Cert.RefIdeal.Gen.V m' c Cert.RefIdeal.main_v2 = W1 m g c Cert.KernelIdeal.main_v5 := by
    obtain ⟨p, e⟩ := RefValue.in_main_v2 m' c
    obtain ⟨q, k⟩ := Chain.in_main_v5 m g c
    exact e.trans ((congrArg (fun z => shapeCast _ z p) (ha c).2.2.1).trans k.symm)
  have e3 (c) : Cert.RefIdeal.Gen.V m' c Cert.RefIdeal.main_v3 = W1 m g c Cert.KernelIdeal.main_v0 := by
    obtain ⟨p, e⟩ := RefValue.in_main_v3 m' c
    obtain ⟨q, k⟩ := Chain.in_main_v0 m g c
    exact e.trans ((congrArg (fun z => shapeCast _ z p) (ha c).2.2.2.1).trans k.symm)
  have e4 (c) : Cert.RefIdeal.Gen.V m' c Cert.RefIdeal.main_v4 = W1 m g c Cert.KernelIdeal.main_v6 := by
    obtain ⟨p, e⟩ := RefValue.in_main_v4 m' c
    obtain ⟨q, k⟩ := Chain.in_main_v6 m g c
    exact e.trans ((congrArg (fun z => shapeCast _ z p) (ha c).2.2.2.2.1).trans k.symm)
  have e5 (c) : Cert.RefIdeal.Gen.V m' c Cert.RefIdeal.main_v5 = W1 m g c Cert.KernelIdeal.main_v1 := by
    obtain ⟨p, e⟩ := RefValue.in_main_v5 m' c
    obtain ⟨q, k⟩ := Chain.in_main_v1 m g c
    exact e.trans ((congrArg (fun z => shapeCast _ z p) (ha c).2.2.2.2.2.1).trans k.symm)
  have e6 (c) : Cert.RefIdeal.Gen.V m' c Cert.RefIdeal.main_v6 = W1 m g c Cert.KernelIdeal.main_v2 := by
    obtain ⟨p, e⟩ := RefValue.in_main_v6 m' c
    obtain ⟨q, k⟩ := Chain.in_main_v2 m g c
    exact e.trans ((congrArg (fun z => shapeCast _ z p) (ha c).2.2.2.2.2.2.2.1).trans k.symm)
  have e7 (c) : Cert.RefIdeal.Gen.V m' c Cert.RefIdeal.main_v7 = W1 m g c Cert.KernelIdeal.main_v3 := by
    obtain ⟨p, e⟩ := RefValue.in_main_v7 m' c
    obtain ⟨q, k⟩ := Chain.in_main_v3 m g c
    exact e.trans ((congrArg (fun z => shapeCast _ z p) (ha c).2.2.2.2.2.2.2.2.2).trans k.symm)
  have e8 (c) : Cert.RefIdeal.Gen.V m' c Cert.RefIdeal.main_arg6 = W1 m g c Cert.KernelIdeal.main_arg6 :=
    (Cert.RefIdeal.Gen.V_main_arg6 m' c).trans ((ha c).2.2.2.2.2.2.1.trans (Chain.arg6 m g c).symm)
  have e9 (c) : Cert.RefIdeal.Gen.V m' c Cert.RefIdeal.main_arg8 = W1 m g c Cert.KernelIdeal.main_arg8 :=
    (Cert.RefIdeal.Gen.V_main_arg8 m' c).trans ((ha c).2.2.2.2.2.2.2.2.1.trans (Chain.arg8 m g c).symm)
  refine θ_run_and (RefValue.results m' g' _ _ _ _ _ _ _ ?_ ?_ ?_ ?_ ?_ ?_ ?_) (Cert.RefIdeal.Gen.unchanged m' g') |> fun h => (θ_run _ _ _).mono (fun r h c => ⟨(h.1 c).1, (h.1 c).2.1, (h.1 c).2.2.1, (h.1 c).2.2.2.1, (h.1 c).2.2.2.2.1, (h.1 c).2.2.2.2.2.1, (h.1 c).2.2.2.2.2.2, h.2 c⟩) h
  · intro c
    have z := (RefValue.final10 m' c _ (RefValue.out10 _ _ _ _ _ _ _ _ _ _))
    simp only [e0, e1, e2, e3, e4, e5, e6, e7, e8, e9] at z
    have z := z.trans (Chain.gradX7 m g c).symm
    obtain ⟨p, e⟩ := RefValue.tail_main_v9 m' c
    obtain ⟨q, k⟩ := Chain.out_main_v14 m g c
    exact e.trans ((congrArg (fun z => shapeCast _ z p) z).trans k.symm)
  · intro c
    have z := (RefValue.final11 m' c _ (RefValue.out11 _ _ _ _ _ _ _ _ _ _))
    simp only [e0, e1, e2, e3, e4, e5, e6, e7, e8, e9] at z
    have z := z.trans (Chain.gradW1 m g c).symm
    exact z.trans (Chain.out_main_v13 m g c).symm
  · intro c
    have z := (RefValue.final12 m' c _ (RefValue.out12 _ _ _ _ _ _ _ _ _ _))
    simp only [e0, e1, e2, e3, e4, e5, e6, e7, e8, e9] at z
    have z := z.trans (Chain.gradW2_7 m g c).symm
    exact z.trans (Chain.out_main_v10 m g c).symm
  · intro c
    have z := (RefValue.final13 m' c _ (RefValue.out13 _ _ _ _ _ _ _ _ _ _))
    simp only [e0, e1, e2, e3, e4, e5, e6, e7, e8, e9] at z
    have z := z.trans (Chain.codesY7 m g c).symm
    obtain ⟨p, e⟩ := RefValue.tail_main_v10 m' c
    obtain ⟨q, k⟩ := Chain.out_main_v15 m g c
    exact e.trans ((congrArg (fun z => shapeCast _ z p) z).trans k.symm)
  · intro c
    have z := (RefValue.final14 m' c _ (RefValue.out14 _ _ _ _ _ _ _ _ _ _))
    simp only [e0, e1, e2, e3, e4, e5, e6, e7, e8, e9] at z
    have z := z.trans (Chain.scaleY7 m g c).symm
    obtain ⟨p, e⟩ := RefValue.tail_main_v11 m' c
    obtain ⟨q, k⟩ := Chain.out_main_v16 m g c
    exact e.trans ((congrArg (fun z => shapeCast _ z p) z).trans k.symm)
  · intro c
    have z := (RefValue.final15 m' c _ (RefValue.out15 _ _ _ _ _ _ _ _ _ _))
    simp only [e0, e1, e2, e3, e4, e5, e6, e7, e8, e9] at z
    have z := z.trans (Chain.codesH7 m g c).symm
    obtain ⟨p, e⟩ := RefValue.tail_main_v12 m' c
    obtain ⟨q, k⟩ := Chain.out_main_v17 m g c
    exact e.trans ((congrArg (fun z => shapeCast _ z p) z).trans k.symm)
  · intro c
    have z := (RefValue.final16 m' c _ (RefValue.out16 _ _ _ _ _ _ _ _ _ _))
    simp only [e0, e1, e2, e3, e4, e5, e6, e7, e8, e9] at z
    have z := z.trans (Chain.scaleH7 m g c).symm
    obtain ⟨p, e⟩ := RefValue.tail_main_v13 m' c
    obtain ⟨q, k⟩ := Chain.out_main_v18 m g c
    exact e.trans ((congrArg (fun z => shapeCast _ z p) z).trans k.symm)

end Cert.Proof

end
-- ==== Proof.lean ====
/-
  The proof of `Cert.Claim`: the frames of the kernel, its idealisation and the reference, that the idealisation replaces nothing, and
  that kernel and reference agree over the reals in all seven results (`Proof/Final.lean`).
-/
module

public import proofs.«01_k».proof.Defs
public import proofs.«01_k».proof.Proof.Gen.RefIdeal.Frame
public import proofs.«01_k».proof.Proof.Frame
public import proofs.«01_k».proof.Proof.Final

@[expose] public section

noncomputable section

namespace Cert.Proof

open Idealize.ShloMosaic Idealize.SL.Sem

/-- Every claim. -/
theorem claim : Cert.Claim :=
  ⟨Cert.Kernel.Gen.facts, Cert.KernelIdeal.Gen.facts, Cert.RefIdeal.Gen.facts,
    quiescent_bits, fun m ρ _ => Cert.KernelIdeal.Whole.frame m ρ, fun m ρ _ => Cert.RefIdeal.Gen.frame m ρ, trivial, algebraic⟩

end Cert.Proof

end
